-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4)
      ∧ r.2.mem ((c.tc : Thread Cert.Kernel13.nD Cert.Kernel13.τ).loc Cert.Kernel13.main_arg5) = m ((c.tc : Thread Cert.Kernel13.nD Cert.Kernel13.τ).loc Cert.Kernel13.main_arg5))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4)
      ∧ r.2.mem ((c.tc : Thread Cert.Kernel14.nD Cert.Kernel14.τ).loc Cert.Kernel14.main_arg5) = m ((c.tc : Thread Cert.Kernel14.nD Cert.Kernel14.τ).loc Cert.Kernel14.main_arg5)
      ∧ r.2.mem ((c.tc : Thread Cert.Kernel14.nD Cert.Kernel14.τ).loc Cert.Kernel14.main_arg6) = m ((c.tc : Thread Cert.Kernel14.nD Cert.Kernel14.τ).loc Cert.Kernel14.main_arg6))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
      ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5)
      ∧ r.2.mem ((c.tc : Thread Cert.Reference14Ideal.nD Cert.Reference14Ideal.τ).loc Cert.Reference14Ideal.main_arg6) = m ((c.tc : Thread Cert.Reference14Ideal.nD Cert.Reference14Ideal.τ).loc Cert.Reference14Ideal.main_arg6))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3)
      ∧ r.2.mem ((c.tc : Thread Cert.Kernel18.nD Cert.Kernel18.τ).loc Cert.Kernel18.main_arg4) = m ((c.tc : Thread Cert.Kernel18.nD Cert.Kernel18.τ).loc Cert.Kernel18.main_arg4)
      ∧ r.2.mem ((c.tc : Thread Cert.Kernel18.nD Cert.Kernel18.τ).loc Cert.Kernel18.main_arg5) = m ((c.tc : Thread Cert.Kernel18.nD Cert.Kernel18.τ).loc Cert.Kernel18.main_arg5))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
      ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
      ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3)
      ∧ r.2.mem ((c.tc : Thread Cert.Reference18Ideal.nD Cert.Reference18Ideal.τ).loc Cert.Reference18Ideal.main_arg4) = m ((c.tc : Thread Cert.Reference18Ideal.nD Cert.Reference18Ideal.τ).loc Cert.Reference18Ideal.main_arg4)
      ∧ r.2.mem ((c.tc : Thread Cert.Reference18Ideal.nD Cert.Reference18Ideal.τ).loc Cert.Reference18Ideal.main_arg5) = m ((c.tc : Thread Cert.Reference18Ideal.nD Cert.Reference18Ideal.τ).loc Cert.Reference18Ideal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v24_0)) (v1 : (c : Dev Cert.KernelIdeal.nD) → Buf (Elt Ideal) ((c.tc : Thread Cert.KernelIdeal.nD Cert.KernelIdeal.τ).loc Cert.KernelIdeal.main_v24_1)) (v2 : (c : Dev Cert.KernelIdeal.nD) → Buf (Elt Ideal) ((c.tc : Thread Cert.KernelIdeal.nD Cert.KernelIdeal.τ).loc Cert.KernelIdeal.main_v24_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24_0) = v0 c
          ∧ r.2.mem ((c.tc : Thread Cert.KernelIdeal.nD Cert.KernelIdeal.τ).loc Cert.KernelIdeal.main_v24_1) = v1 c
          ∧ r.2.mem ((c.tc : Thread Cert.KernelIdeal.nD Cert.KernelIdeal.τ).loc Cert.KernelIdeal.main_v24_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_v82) = v1 c
          ∧ r.2.mem ((c.tc : Thread Cert.ReferenceIdeal.nD Cert.ReferenceIdeal.τ).loc Cert.ReferenceIdeal.main_v83) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v18)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v18) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v20) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v43)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v43) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v31) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v17)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v17) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v17) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v21)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v21) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v17) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v21)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v21) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v17) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v21)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v21) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v17) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v21)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v21) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v17) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v3) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)) →
    ∃ (v0 : (c : Dev Cert.Kernel11Ideal.nD) → Buf (Elt Ideal) ((c.tc : Thread Cert.Kernel11Ideal.nD Cert.Kernel11Ideal.τ).loc Cert.Kernel11Ideal.main_v3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v3) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v4) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v17)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v17) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v16) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)
      ∧ m' ((c.tc : Thread Cert.Reference13Ideal.nD Cert.Reference13Ideal.τ).loc Cert.Reference13Ideal.main_arg5) = m ((c.tc : Thread Cert.Kernel13Ideal.nD Cert.Kernel13Ideal.τ).loc Cert.Kernel13Ideal.main_arg5)) →
    ∃ (v0 : (c : Dev Cert.Kernel13Ideal.nD) → Buf (Elt Ideal) ((c.tc : Thread Cert.Kernel13Ideal.nD Cert.Kernel13Ideal.τ).loc Cert.Kernel13Ideal.main_v22_0)) (v1 : (c : Dev Cert.Kernel13Ideal.nD) → Buf (Elt Ideal) ((c.tc : Thread Cert.Kernel13Ideal.nD Cert.Kernel13Ideal.τ).loc Cert.Kernel13Ideal.main_v22_1)) (v2 : (c : Dev Cert.Kernel13Ideal.nD) → Buf (Elt Ideal) ((c.tc : Thread Cert.Kernel13Ideal.nD Cert.Kernel13Ideal.τ).loc Cert.Kernel13Ideal.main_v22_2)) (v3 : (c : Dev Cert.Kernel13Ideal.nD) → Buf (Elt Ideal) ((c.tc : Thread Cert.Kernel13Ideal.nD Cert.Kernel13Ideal.τ).loc Cert.Kernel13Ideal.main_v22_3)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v22_0) = v0 c
          ∧ r.2.mem ((c.tc : Thread Cert.Kernel13Ideal.nD Cert.Kernel13Ideal.τ).loc Cert.Kernel13Ideal.main_v22_1) = v1 c
          ∧ r.2.mem ((c.tc : Thread Cert.Kernel13Ideal.nD Cert.Kernel13Ideal.τ).loc Cert.Kernel13Ideal.main_v22_2) = v2 c
          ∧ r.2.mem ((c.tc : Thread Cert.Kernel13Ideal.nD Cert.Kernel13Ideal.τ).loc Cert.Kernel13Ideal.main_v22_3) = v3 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
          ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v86) = v0 c
          ∧ r.2.mem ((c.tc : Thread Cert.Reference13Ideal.nD Cert.Reference13Ideal.τ).loc Cert.Reference13Ideal.main_v87) = v1 c
          ∧ r.2.mem ((c.tc : Thread Cert.Reference13Ideal.nD Cert.Reference13Ideal.τ).loc Cert.Reference13Ideal.main_v88) = v2 c
          ∧ r.2.mem ((c.tc : Thread Cert.Reference13Ideal.nD Cert.Reference13Ideal.τ).loc Cert.Reference13Ideal.main_v89) = v3 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4)
          ∧ r.2.mem ((c.tc : Thread Cert.Reference13Ideal.nD Cert.Reference13Ideal.τ).loc Cert.Reference13Ideal.main_arg5) = m' ((c.tc : Thread Cert.Reference13Ideal.nD Cert.Reference13Ideal.τ).loc Cert.Reference13Ideal.main_arg5))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)
      ∧ m' ((c.tc : Thread Cert.Reference14Ideal.nD Cert.Reference14Ideal.τ).loc Cert.Reference14Ideal.main_arg5) = m ((c.tc : Thread Cert.Kernel14Ideal.nD Cert.Kernel14Ideal.τ).loc Cert.Kernel14Ideal.main_arg5)
      ∧ m' ((c.tc : Thread Cert.Reference14Ideal.nD Cert.Reference14Ideal.τ).loc Cert.Reference14Ideal.main_arg6) = m ((c.tc : Thread Cert.Kernel14Ideal.nD Cert.Kernel14Ideal.τ).loc Cert.Kernel14Ideal.main_arg6)) →
    ∃ (v0 : (c : Dev Cert.Kernel14Ideal.nD) → Buf (Elt Ideal) ((c.tc : Thread Cert.Kernel14Ideal.nD Cert.Kernel14Ideal.τ).loc Cert.Kernel14Ideal.main_v21_0)) (v1 : (c : Dev Cert.Kernel14Ideal.nD) → Buf (Elt Ideal) ((c.tc : Thread Cert.Kernel14Ideal.nD Cert.Kernel14Ideal.τ).loc Cert.Kernel14Ideal.main_v21_1)) (v2 : (c : Dev Cert.Kernel14Ideal.nD) → Buf (Elt Ideal) ((c.tc : Thread Cert.Kernel14Ideal.nD Cert.Kernel14Ideal.τ).loc Cert.Kernel14Ideal.main_v21_2)) (v3 : (c : Dev Cert.Kernel14Ideal.nD) → Buf (Elt Ideal) ((c.tc : Thread Cert.Kernel14Ideal.nD Cert.Kernel14Ideal.τ).loc Cert.Kernel14Ideal.main_v21_3)) (v4 : (c : Dev Cert.Kernel14Ideal.nD) → Buf (Elt Ideal) ((c.tc : Thread Cert.Kernel14Ideal.nD Cert.Kernel14Ideal.τ).loc Cert.Kernel14Ideal.main_v21_4)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v21_0) = v0 c
          ∧ r.2.mem ((c.tc : Thread Cert.Kernel14Ideal.nD Cert.Kernel14Ideal.τ).loc Cert.Kernel14Ideal.main_v21_1) = v1 c
          ∧ r.2.mem ((c.tc : Thread Cert.Kernel14Ideal.nD Cert.Kernel14Ideal.τ).loc Cert.Kernel14Ideal.main_v21_2) = v2 c
          ∧ r.2.mem ((c.tc : Thread Cert.Kernel14Ideal.nD Cert.Kernel14Ideal.τ).loc Cert.Kernel14Ideal.main_v21_3) = v3 c
          ∧ r.2.mem ((c.tc : Thread Cert.Kernel14Ideal.nD Cert.Kernel14Ideal.τ).loc Cert.Kernel14Ideal.main_v21_4) = v4 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
          ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
          ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v41) = v0 c
          ∧ r.2.mem ((c.tc : Thread Cert.Reference14Ideal.nD Cert.Reference14Ideal.τ).loc Cert.Reference14Ideal.main_v42) = v1 c
          ∧ r.2.mem ((c.tc : Thread Cert.Reference14Ideal.nD Cert.Reference14Ideal.τ).loc Cert.Reference14Ideal.main_v44) = v2 c
          ∧ r.2.mem ((c.tc : Thread Cert.Reference14Ideal.nD Cert.Reference14Ideal.τ).loc Cert.Reference14Ideal.main_v46) = v3 c
          ∧ r.2.mem ((c.tc : Thread Cert.Reference14Ideal.nD Cert.Reference14Ideal.τ).loc Cert.Reference14Ideal.main_v47) = v4 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4)
          ∧ r.2.mem ((c.tc : Thread Cert.Reference14Ideal.nD Cert.Reference14Ideal.τ).loc Cert.Reference14Ideal.main_arg5) = m' ((c.tc : Thread Cert.Reference14Ideal.nD Cert.Reference14Ideal.τ).loc Cert.Reference14Ideal.main_arg5)
          ∧ r.2.mem ((c.tc : Thread Cert.Reference14Ideal.nD Cert.Reference14Ideal.τ).loc Cert.Reference14Ideal.main_arg6) = m' ((c.tc : Thread Cert.Reference14Ideal.nD Cert.Reference14Ideal.τ).loc Cert.Reference14Ideal.main_arg6))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v4)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v4) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v3) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)) →
    ∃ (v0 : (c : Dev Cert.Kernel16Ideal.nD) → Buf (Elt Ideal) ((c.tc : Thread Cert.Kernel16Ideal.nD Cert.Kernel16Ideal.τ).loc Cert.Kernel16Ideal.main_v4)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v4) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v3) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)) →
    ∃ (v0 : (c : Dev Cert.Kernel17Ideal.nD) → Buf (Elt Ideal) ((c.tc : Thread Cert.Kernel17Ideal.nD Cert.Kernel17Ideal.τ).loc Cert.Kernel17Ideal.main_v5)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v5) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v12) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)
      ∧ m' ((c.tc : Thread Cert.Reference18Ideal.nD Cert.Reference18Ideal.τ).loc Cert.Reference18Ideal.main_arg4) = m ((c.tc : Thread Cert.Kernel18Ideal.nD Cert.Kernel18Ideal.τ).loc Cert.Kernel18Ideal.main_arg4)
      ∧ m' ((c.tc : Thread Cert.Reference18Ideal.nD Cert.Reference18Ideal.τ).loc Cert.Reference18Ideal.main_arg5) = m ((c.tc : Thread Cert.Kernel18Ideal.nD Cert.Kernel18Ideal.τ).loc Cert.Kernel18Ideal.main_arg5)) →
    ∃ (v0 : (c : Dev Cert.Kernel18Ideal.nD) → Buf (Elt Ideal) ((c.tc : Thread Cert.Kernel18Ideal.nD Cert.Kernel18Ideal.τ).loc Cert.Kernel18Ideal.main_v8_0)) (v1 : (c : Dev Cert.Kernel18Ideal.nD) → Buf (Elt Ideal) ((c.tc : Thread Cert.Kernel18Ideal.nD Cert.Kernel18Ideal.τ).loc Cert.Kernel18Ideal.main_v8_1)) (v2 : (c : Dev Cert.Kernel18Ideal.nD) → Buf (Elt Ideal) ((c.tc : Thread Cert.Kernel18Ideal.nD Cert.Kernel18Ideal.τ).loc Cert.Kernel18Ideal.main_v8_2)) (v3 : (c : Dev Cert.Kernel18Ideal.nD) → Buf (Elt Ideal) ((c.tc : Thread Cert.Kernel18Ideal.nD Cert.Kernel18Ideal.τ).loc Cert.Kernel18Ideal.main_v8_3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v8_0) = v0 c
          ∧ r.2.mem ((c.tc : Thread Cert.Kernel18Ideal.nD Cert.Kernel18Ideal.τ).loc Cert.Kernel18Ideal.main_v8_1) = v1 c
          ∧ r.2.mem ((c.tc : Thread Cert.Kernel18Ideal.nD Cert.Kernel18Ideal.τ).loc Cert.Kernel18Ideal.main_v8_2) = v2 c
          ∧ r.2.mem ((c.tc : Thread Cert.Kernel18Ideal.nD Cert.Kernel18Ideal.τ).loc Cert.Kernel18Ideal.main_v8_3) = v3 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3)
          ∧ r.2.mem ((c.tc : Thread Cert.Kernel18Ideal.nD Cert.Kernel18Ideal.τ).loc Cert.Kernel18Ideal.main_arg4) = m ((c.tc : Thread Cert.Kernel18Ideal.nD Cert.Kernel18Ideal.τ).loc Cert.Kernel18Ideal.main_arg4)
          ∧ r.2.mem ((c.tc : Thread Cert.Kernel18Ideal.nD Cert.Kernel18Ideal.τ).loc Cert.Kernel18Ideal.main_arg5) = m ((c.tc : Thread Cert.Kernel18Ideal.nD Cert.Kernel18Ideal.τ).loc Cert.Kernel18Ideal.main_arg5))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v29) = v0 c
          ∧ r.2.mem ((c.tc : Thread Cert.Reference18Ideal.nD Cert.Reference18Ideal.τ).loc Cert.Reference18Ideal.main_v31) = v1 c
          ∧ r.2.mem ((c.tc : Thread Cert.Reference18Ideal.nD Cert.Reference18Ideal.τ).loc Cert.Reference18Ideal.main_v32) = v2 c
          ∧ r.2.mem ((c.tc : Thread Cert.Reference18Ideal.nD Cert.Reference18Ideal.τ).loc Cert.Reference18Ideal.main_v47) = v3 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3)
          ∧ r.2.mem ((c.tc : Thread Cert.Reference18Ideal.nD Cert.Reference18Ideal.τ).loc Cert.Reference18Ideal.main_arg4) = m' ((c.tc : Thread Cert.Reference18Ideal.nD Cert.Reference18Ideal.τ).loc Cert.Reference18Ideal.main_arg4)
          ∧ r.2.mem ((c.tc : Thread Cert.Reference18Ideal.nD Cert.Reference18Ideal.τ).loc Cert.Reference18Ideal.main_arg5) = m' ((c.tc : Thread Cert.Reference18Ideal.nD Cert.Reference18Ideal.τ).loc Cert.Reference18Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
-- ==== Kernel.lean ====
abbrev S1x8192x1024 : Shape := ⟨3, ![1, 8192, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S1x8192 : Shape := ⟨2, ![1, 8192]⟩
abbrev S1x8192x1 : Shape := ⟨3, ![1, 8192, 1]⟩
abbrev S1x1x1024 : Shape := ⟨3, ![1, 1, 1024]⟩
abbrev S1x8192x4096 : Shape := ⟨3, ![1, 8192, 4096]⟩
abbrev S8192x1024 : Shape := ⟨2, ![8192, 1024]⟩
abbrev S8192x4096 : Shape := ⟨2, ![8192, 4096]⟩
abbrev S1024x8x512 : Shape := ⟨3, ![1024, 8, 512]⟩
abbrev S8x1024x512 : Shape := ⟨3, ![8, 1024, 512]⟩
abbrev S1x1024 : Shape := ⟨2, ![1, 1024]⟩
abbrev S512x1024 : Shape := ⟨2, ![512, 1024]⟩
abbrev S512x2048 : Shape := ⟨2, ![512, 2048]⟩
abbrev S4x1024x512 : Shape := ⟨3, ![4, 1024, 512]⟩
abbrev S2048x1024 : Shape := ⟨2, ![2048, 1024]⟩
abbrev S512x512 : Shape := ⟨2, ![512, 512]⟩
abbrev S1x1024x512 : Shape := ⟨3, ![1, 1024, 512]⟩
abbrev S1024x512 : Shape := ⟨2, ![1024, 512]⟩
abbrev S512 : Shape := ⟨1, ![512]⟩
abbrev S512x1 : Shape := ⟨2, ![512, 1]⟩

abbrev nBuf : Space → Nat
  | .hbm => 37
  | .vmem => 17
  | .smem => 0
  | _ => 0

abbrev bufTy : (tb : Table) → Fin (tcTables nBuf tb) → BufTy
  | .hbm, ⟨0, _⟩ => ⟨S1x8192x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1x8192x1024, .f32⟩
  | .hbm, ⟨5, _⟩ => ⟨S1x8192x1024, .f32⟩
  | .hbm, ⟨6, _⟩ => ⟨S_, .f32⟩
  | .hbm, ⟨7, _⟩ => ⟨S1x8192, .f32⟩
  | .hbm, ⟨8, _⟩ => ⟨S1x8192x1, .f32⟩
  | .hbm, ⟨9, _⟩ => ⟨S_, .f32⟩
  | .hbm, ⟨10, _⟩ => ⟨S1x8192x1, .f32⟩
  | .hbm, ⟨11, _⟩ => ⟨S1x8192x1, .f32⟩
  | .hbm, ⟨12, _⟩ => ⟨S_, .f32⟩
  | .hbm, ⟨13, _⟩ => ⟨S1x8192x1, .f32⟩
  | .hbm, ⟨14, _⟩ => ⟨S1x8192x1, .f32⟩
  | .hbm, ⟨15, _⟩ => ⟨S1x8192x1, .f32⟩
  | .hbm, ⟨16, _⟩ => ⟨S1x8192x1024, .f32⟩
  | .hbm, ⟨17, _⟩ => ⟨S1x8192x1024, .f32⟩
  | .hbm, ⟨18, _⟩ => ⟨S1x1x1024, .f32⟩
  | .hbm, ⟨19, _⟩ => ⟨S1x8192x1024, .f32⟩
  | .hbm, ⟨20, _⟩ => ⟨S1x8192x1024, .f32⟩
  | .hbm, ⟨21, _⟩ => ⟨S1x8192x4096, .f32⟩
  | .hbm, ⟨22, _⟩ => ⟨S_, .f32⟩
  | .hbm, ⟨23, _⟩ => ⟨S1x8192x4096, .f32⟩
  | .hbm, ⟨24, _⟩ => ⟨S1x8192x4096, .f32⟩
  | .hbm, ⟨25, _⟩ => ⟨S1x8192x4096, .bf16⟩
  | .hbm, ⟨26, _⟩ => ⟨S8192x1024, .f32⟩
  | .hbm, ⟨27, _⟩ => ⟨S8192x4096, .bf16⟩
  | .hbm, ⟨28, _⟩ => ⟨S1024x8x512, .f32⟩
  | .hbm, ⟨29, _⟩ => ⟨S8x1024x512, .f32⟩
  | .hbm, ⟨30, _⟩ => ⟨S8x1024x512, .bf16⟩
  | .hbm, ⟨31, _⟩ => ⟨S4096x1024, .bf16⟩
  | .hbm, ⟨32, _⟩ => ⟨S8192x1024, .f32⟩
  | .hbm, ⟨33, _⟩ => ⟨S1x1024, .f32⟩
  | .hbm, ⟨34, _⟩ => ⟨S8192x4096, .bf16⟩
  | .hbm, ⟨35, _⟩ => ⟨S8192x1024, .f32⟩
  | .hbm, ⟨36, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x2048, .bf16⟩
  | .local _ .vmem, ⟨3, _⟩ => ⟨S512x2048, .bf16⟩
  | .local _ .vmem, ⟨4, _⟩ => ⟨S4x1024x512, .bf16⟩
  | .local _ .vmem, ⟨5, _⟩ => ⟨S4x1024x512, .bf16⟩
  | .local _ .vmem, ⟨6, _⟩ => ⟨S2048x1024, .bf16⟩
  | .local _ .vmem, ⟨7, _⟩ => ⟨S2048x1024, .bf16⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S512x2048, .bf16⟩
  | .local _ .vmem, ⟨12, _⟩ => ⟨S512x2048, .bf16⟩
  | .local _ .vmem, ⟨13, _⟩ => ⟨S512x1024, .f32⟩
  | .local _ .vmem, ⟨14, _⟩ => ⟨S512x1024, .f32⟩
  | .local _ .vmem, ⟨15, _⟩ => ⟨S1x1024, .f32⟩
  | .local _ .vmem, ⟨16, _⟩ => ⟨S512x1024, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24_0 : Ref sig .tc := ⟨.hbm, 34, rfl⟩
abbrev main_v24_1 : Ref sig .tc := ⟨.hbm, 35, rfl⟩
abbrev main_v24_2 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15

abbrev nD : Nat := 1
abbrev τ : Topo := Topo.v7x

variable {F : FTy → Type} [FloatOps F]

abbrev grid0 : Pipeline.Grid := ⟨2, ![16, 2], ![false, false]⟩

def k0_cond4 (i : grid0.Coords) : BitVec 1 :=
  let arg1 : BitVec 32 := BitVec.ofNat 32 (i 1).val
  let c1_i32 : BitVec 32 := 1#32
  let v73 : BitVec 1 := Scalar.cmpi .eq arg1 c1_i32
  let v74 : BitVec 32 := Scalar.extui v73
  let c0_i32_48 : BitVec 32 := 0#32
  let v75 : BitVec 1 := Scalar.cmpi .ne v74 c0_i32_48
  v75

def k0_cond3 (i : grid0.Coords) : BitVec 1 :=
  let arg0 : BitVec 32 := BitVec.ofNat 32 (i 0).val
  let c0_i32_45 : BitVec 32 := 0#32
  let v68 : BitVec 1 := Scalar.cmpi .eq arg0 c0_i32_45
  let arg1 : BitVec 32 := BitVec.ofNat 32 (i 1).val
  let c0_i32_46 : BitVec 32 := 0#32
  let v69 : BitVec 1 := Scalar.cmpi .eq arg1 c0_i32_46
  let v70 : BitVec 1 := Scalar.andi v68 v69
  let v71 : BitVec 32 := Scalar.extui v70
  let c0_i32_47 : BitVec 32 := 0#32
  let v72 : BitVec 1 := Scalar.cmpi .ne v71 c0_i32_47
  v72

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]
-- ==== ReferenceIdeal.lean ====
abbrev S1x8192x1024 : Shape := ⟨3, ![1, 8192, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S1x8192 : Shape := ⟨2, ![1, 8192]⟩
abbrev S1x8192x1 : Shape := ⟨3, ![1, 8192, 1]⟩
abbrev S1x1x1024 : Shape := ⟨3, ![1, 1, 1024]⟩
abbrev S1x8192x4096 : Shape := ⟨3, ![1, 8192, 4096]⟩
abbrev S1x1024 : Shape := ⟨2, ![1, 1024]⟩
abbrev S8192 : Shape := ⟨1, ![8192]⟩
abbrev S8192x4096 : Shape := ⟨2, ![8192, 4096]⟩
abbrev S8192x1024 : Shape := ⟨2, ![8192, 1024]⟩

abbrev nBuf : Space → Nat
  | .hbm => 111
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1x8192x1024, .f32⟩
  | .hbm, ⟨5, _⟩ => ⟨S1x8192x1024, .f32⟩
  | .hbm, ⟨6, _⟩ => ⟨S_, .f32⟩
  | .hbm, ⟨7, _⟩ => ⟨S1x8192, .f32⟩
  | .hbm, ⟨8, _⟩ => ⟨S1x8192x1, .f32⟩
  | .hbm, ⟨9, _⟩ => ⟨S_, .f32⟩
  | .hbm, ⟨10, _⟩ => ⟨S1x8192x1, .f32⟩
  | .hbm, ⟨11, _⟩ => ⟨S1x8192x1, .f32⟩
  | .hbm, ⟨12, _⟩ => ⟨S_, .f32⟩
  | .hbm, ⟨13, _⟩ => ⟨S1x8192x1, .f32⟩
  | .hbm, ⟨14, _⟩ => ⟨S1x8192x1, .f32⟩
  | .hbm, ⟨15, _⟩ => ⟨S1x8192x1, .f32⟩
  | .hbm, ⟨16, _⟩ => ⟨S1x8192x1024, .f32⟩
  | .hbm, ⟨17, _⟩ => ⟨S1x8192x1024, .f32⟩
  | .hbm, ⟨18, _⟩ => ⟨S1x1x1024, .f32⟩
  | .hbm, ⟨19, _⟩ => ⟨S1x8192x1024, .f32⟩
  | .hbm, ⟨20, _⟩ => ⟨S1x8192x1024, .f32⟩
  | .hbm, ⟨21, _⟩ => ⟨S1x8192x4096, .f32⟩
  | .hbm, ⟨22, _⟩ => ⟨S_, .f32⟩
  | .hbm, ⟨23, _⟩ => ⟨S1x8192x4096, .f32⟩
  | .hbm, ⟨24, _⟩ => ⟨S1x8192x4096, .f32⟩
  | .hbm, ⟨25, _⟩ => ⟨S_, .f32⟩
  | .hbm, ⟨26, _⟩ => ⟨S1x8192x4096, .f32⟩
  | .hbm, ⟨27, _⟩ => ⟨S1x8192x4096, .i1⟩
  | .hbm, ⟨28, _⟩ => ⟨S_, .f32⟩
  | .hbm, ⟨29, _⟩ => ⟨S1x8192x4096, .f32⟩
  | .hbm, ⟨30, _⟩ => ⟨S1x8192x4096, .f32⟩
  | .hbm, ⟨31, _⟩ => ⟨S1x8192x1024, .f32⟩
  | .hbm, ⟨32, _⟩ => ⟨S1x8192x4096, .f32⟩
  | .hbm, ⟨33, _⟩ => ⟨S1x8192x4096, .f32⟩
  | .hbm, ⟨34, _⟩ => ⟨S1x8192x4096, .f32⟩
  | .hbm, ⟨35, _⟩ => ⟨S1x8192x4096, .f32⟩
  | .hbm, ⟨36, _⟩ => ⟨S_, .f32⟩
  | .hbm, ⟨37, _⟩ => ⟨S1x8192x4096, .f32⟩
  | .hbm, ⟨38, _⟩ => ⟨S1x8192x4096, .f32⟩
  | .hbm, ⟨39, _⟩ => ⟨S1x8192x1024, .f32⟩
  | .hbm, ⟨40, _⟩ => ⟨S_, .f32⟩
  | .hbm, ⟨41, _⟩ => ⟨S1x8192, .f32⟩
  | .hbm, ⟨42, _⟩ => ⟨S1x8192x1, .f32⟩
  | .hbm, ⟨43, _⟩ => ⟨S_, .f32⟩
  | .hbm, ⟨44, _⟩ => ⟨S1x8192x1, .f32⟩
  | .hbm, ⟨45, _⟩ => ⟨S1x8192x1, .f32⟩
  | .hbm, ⟨46, _⟩ => ⟨S_, .f32⟩
  | .hbm, ⟨47, _⟩ => ⟨S1x8192x1, .f32⟩
  | .hbm, ⟨48, _⟩ => ⟨S1x8192x1, .f32⟩
  | .hbm, ⟨49, _⟩ => ⟨S1x8192x1, .f32⟩
  | .hbm, ⟨50, _⟩ => ⟨S1x8192x1, .f32⟩
  | .hbm, ⟨51, _⟩ => ⟨S_, .f32⟩
  | .hbm, ⟨52, _⟩ => ⟨S1x8192x1, .f32⟩
  | .hbm, ⟨53, _⟩ => ⟨S1x8192x1, .f32⟩
  | .hbm, ⟨54, _⟩ => ⟨S1x8192x1024, .f32⟩
  | .hbm, ⟨55, _⟩ => ⟨S1x8192x1024, .f32⟩
  | .hbm, ⟨56, _⟩ => ⟨S1x1x1024, .f32⟩
  | .hbm, ⟨57, _⟩ => ⟨S1x8192x1024, .f32⟩
  | .hbm, ⟨58, _⟩ => ⟨S1x8192x1024, .f32⟩
  | .hbm, ⟨59, _⟩ => ⟨S1x8192x4096, .f32⟩
  | .hbm, ⟨60, _⟩ => ⟨S_, .f32⟩
  | .hbm, ⟨61, _⟩ => ⟨S1x8192x4096, .f32⟩
  | .hbm, ⟨62, _⟩ => ⟨S1x8192x4096, .f32⟩
  | .hbm, ⟨63, _⟩ => ⟨S_, .f32⟩
  | .hbm, ⟨64, _⟩ => ⟨S1x8192x4096, .f32⟩
  | .hbm, ⟨65, _⟩ => ⟨S1x8192x4096, .i1⟩
  | .hbm, ⟨66, _⟩ => ⟨S_, .f32⟩
  | .hbm, ⟨67, _⟩ => ⟨S1x8192x4096, .f32⟩
  | .hbm, ⟨68, _⟩ => ⟨S1x8192x4096, .f32⟩
  | .hbm, ⟨69, _⟩ => ⟨S1x8192x1024, .f32⟩
  | .hbm, ⟨70, _⟩ => ⟨S1x8192x1024, .f32⟩
  | .hbm, ⟨71, _⟩ => ⟨S1x8192x1024, .f32⟩
  | .hbm, ⟨72, _⟩ => ⟨S1x8192x4096, .f32⟩
  | .hbm, ⟨73, _⟩ => ⟨S1x8192x4096, .f32⟩
  | .hbm, ⟨74, _⟩ => ⟨S1x8192x4096, .f32⟩
  | .hbm, ⟨75, _⟩ => ⟨S1x8192x4096, .f32⟩
  | .hbm, ⟨76, _⟩ => ⟨S_, .f32⟩
  | .hbm, ⟨77, _⟩ => ⟨S1x8192x4096, .f32⟩
  | .hbm, ⟨78, _⟩ => ⟨S1x8192x4096, .f32⟩
  | .hbm, ⟨79, _⟩ => ⟨S1x8192x1024, .f32⟩
  | .hbm, ⟨80, _⟩ => ⟨S1x8192x1024, .f32⟩
  | .hbm, ⟨81, _⟩ => ⟨S_, .f32⟩
  | .hbm, ⟨82, _⟩ => ⟨S1x1024, .f32⟩
  | .hbm, ⟨83, _⟩ => ⟨S1x1x1024, .f32⟩
  | .hbm, ⟨84, _⟩ => ⟨S1x8192x1024, .f32⟩
  | .hbm, ⟨85, _⟩ => ⟨S1x8192x1024, .f32⟩
  | .hbm, ⟨86, _⟩ => ⟨S_, .f32⟩
  | .hbm, ⟨87, _⟩ => ⟨S1024, .f32⟩
  | .hbm, ⟨88, _⟩ => ⟨S1x8192x1024, .f32⟩
  | .hbm, ⟨89, _⟩ => ⟨S_, .f32⟩
  | .hbm, ⟨90, _⟩ => ⟨S1x8192, .f32⟩
  | .hbm, ⟨91, _⟩ => ⟨S1x8192x1, .f32⟩
  | .hbm, ⟨92, _⟩ => ⟨S1x8192x1024, .f32⟩
  | .hbm, ⟨93, _⟩ => ⟨S1x8192x1024, .f32⟩
  | .hbm, ⟨94, _⟩ => ⟨S1x8192x1024, .f32⟩
  | .hbm, ⟨95, _⟩ => ⟨S1x8192x1, .f32⟩
  | .hbm, ⟨96, _⟩ => ⟨S_, .f32⟩
  | .hbm, ⟨97, _⟩ => ⟨S1x8192x1, .f32⟩
  | .hbm, ⟨98, _⟩ => ⟨S1x8192x1, .f32⟩
  | .hbm, ⟨99, _⟩ => ⟨S_, .f32⟩
  | .hbm, ⟨100, _⟩ => ⟨S8192, .f32⟩
  | .hbm, ⟨101, _⟩ => ⟨S1x8192, .f32⟩
  | .hbm, ⟨102, _⟩ => ⟨S1x8192x1024, .f32⟩
  | .hbm, ⟨103, _⟩ => ⟨S1x8192x1024, .f32⟩
  | .hbm, ⟨104, _⟩ => ⟨S1x8192x1024, .f32⟩
  | .hbm, ⟨105, _⟩ => ⟨S1x8192x1024, .f32⟩
  | .hbm, ⟨106, _⟩ => ⟨S1x8192x1024, .f32⟩
  | .hbm, ⟨107, _⟩ => ⟨S8192x4096, .f32⟩
  | .hbm, ⟨108, _⟩ => ⟨S8192x4096, .bf16⟩
  | .hbm, ⟨109, _⟩ => ⟨S8192x1024, .f32⟩
  | .hbm, ⟨110, _⟩ => ⟨S1x1024, .f32⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_cst_6 : Ref sig .tc := ⟨.hbm, 43, rfl⟩
abbrev main_v29 : Ref sig .tc := ⟨.hbm, 44, rfl⟩
abbrev main_v30 : Ref sig .tc := ⟨.hbm, 45, rfl⟩
abbrev main_cst_7 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_8 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_call1_cst : Ref sig .tc := ⟨.hbm, 60, rfl⟩
abbrev main_call1_v0 : Ref sig .tc := ⟨.hbm, 61, rfl⟩
abbrev main_v43 : Ref sig .tc := ⟨.hbm, 62, rfl⟩
abbrev main_cst_9 : Ref sig .tc := ⟨.hbm, 63, rfl⟩
abbrev main_v44 : Ref sig .tc := ⟨.hbm, 64, rfl⟩
abbrev main_v45 : Ref sig .tc := ⟨.hbm, 65, rfl⟩
abbrev main_cst_10 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_11 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_12 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_cst_13 : Ref sig .tc := ⟨.hbm, 86, rfl⟩
abbrev main_v63 : Ref sig .tc := ⟨.hbm, 87, rfl⟩
abbrev main_v64 : Ref sig .tc := ⟨.hbm, 88, rfl⟩
abbrev main_cst_14 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_cst_15 : Ref sig .tc := ⟨.hbm, 96, rfl⟩
abbrev main_v71 : Ref sig .tc := ⟨.hbm, 97, rfl⟩
abbrev main_v72 : Ref sig .tc := ⟨.hbm, 98, rfl⟩
abbrev main_cst_16 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩

abbrev nD : Nat := 1
abbrev τ : Topo := Topo.v7x

variable {F : FTy → Type} [FloatOps F]
-- ==== Kernel2.lean ====
abbrev S1x8192x1024 : Shape := ⟨3, ![1, 8192, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S1x8192 : Shape := ⟨2, ![1, 8192]⟩
abbrev S1x8192x1 : Shape := ⟨3, ![1, 8192, 1]⟩
abbrev S1x1x1024 : Shape := ⟨3, ![1, 1, 1024]⟩
abbrev S1x8192x4096 : Shape := ⟨3, ![1, 8192, 4096]⟩
abbrev S8192x4096 : Shape := ⟨2, ![8192, 4096]⟩
abbrev S8192x1024 : Shape := ⟨2, ![8192, 1024]⟩
abbrev S2048x1024 : Shape := ⟨2, ![2048, 1024]⟩
abbrev S1024x1024 : Shape := ⟨2, ![1024, 1024]⟩

abbrev nBuf : Space → Nat
  | .hbm => 29
  | .vmem => 7
  | .smem => 0
  | _ => 0

abbrev bufTy : (tb : Table) → Fin (tcTables nBuf tb) → BufTy
  | .hbm, ⟨0, _⟩ => ⟨S1x8192x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1x8192x1024, .f32⟩
  | .hbm, ⟨5, _⟩ => ⟨S1x8192x1024, .f32⟩
  | .hbm, ⟨6, _⟩ => ⟨S_, .f32⟩
  | .hbm, ⟨7, _⟩ => ⟨S1x8192, .f32⟩
  | .hbm, ⟨8, _⟩ => ⟨S1x8192x1, .f32⟩
  | .hbm, ⟨9, _⟩ => ⟨S_, .f32⟩
  | .hbm, ⟨10, _⟩ => ⟨S1x8192x1, .f32⟩
  | .hbm, ⟨11, _⟩ => ⟨S1x8192x1, .f32⟩
  | .hbm, ⟨12, _⟩ => ⟨S_, .f32⟩
  | .hbm, ⟨13, _⟩ => ⟨S1x8192x1, .f32⟩
  | .hbm, ⟨14, _⟩ => ⟨S1x8192x1, .f32⟩
  | .hbm, ⟨15, _⟩ => ⟨S1x8192x1, .f32⟩
  | .hbm, ⟨16, _⟩ => ⟨S1x8192x1024, .f32⟩
  | .hbm, ⟨17, _⟩ => ⟨S1x8192x1024, .f32⟩
  | .hbm, ⟨18, _⟩ => ⟨S1x1x1024, .f32⟩
  | .hbm, ⟨19, _⟩ => ⟨S1x8192x1024, .f32⟩
  | .hbm, ⟨20, _⟩ => ⟨S1x8192x1024, .f32⟩
  | .hbm, ⟨21, _⟩ => ⟨S1x8192x4096, .f32⟩
  | .hbm, ⟨22, _⟩ => ⟨S_, .f32⟩
  | .hbm, ⟨23, _⟩ => ⟨S1x8192x4096, .f32⟩
  | .hbm, ⟨24, _⟩ => ⟨S1x8192x4096, .f32⟩
  | .hbm, ⟨25, _⟩ => ⟨S1x8192x4096, .bf16⟩
  | .hbm, ⟨26, _⟩ => ⟨S8192x4096, .bf16⟩
  | .hbm, ⟨27, _⟩ => ⟨S8192x1024, .f32⟩
  | .hbm, ⟨28, _⟩ => ⟨S4096x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_6 : BitVec 32 := 0#32
  let v15 : BitVec 1 := Scalar.cmpi .ne v14 c0_i32_6
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference2Ideal.lean ====
abbrev S1x8192x1024 : Shape := ⟨3, ![1, 8192, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S1x8192 : Shape := ⟨2, ![1, 8192]⟩
abbrev S1x8192x1 : Shape := ⟨3, ![1, 8192, 1]⟩
abbrev S1x1x1024 : Shape := ⟨3, ![1, 1, 1024]⟩
abbrev S1x8192x4096 : Shape := ⟨3, ![1, 8192, 4096]⟩

abbrev nBuf : Space → Nat
  | .hbm => 31
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1x8192x1024, .f32⟩
  | .hbm, ⟨5, _⟩ => ⟨S1x8192x1024, .f32⟩
  | .hbm, ⟨6, _⟩ => ⟨S_, .f32⟩
  | .hbm, ⟨7, _⟩ => ⟨S1x8192, .f32⟩
  | .hbm, ⟨8, _⟩ => ⟨S1x8192x1, .f32⟩
  | .hbm, ⟨9, _⟩ => ⟨S_, .f32⟩
  | .hbm, ⟨10, _⟩ => ⟨S1x8192x1, .f32⟩
  | .hbm, ⟨11, _⟩ => ⟨S1x8192x1, .f32⟩
  | .hbm, ⟨12, _⟩ => ⟨S_, .f32⟩
  | .hbm, ⟨13, _⟩ => ⟨S1x8192x1, .f32⟩
  | .hbm, ⟨14, _⟩ => ⟨S1x8192x1, .f32⟩
  | .hbm, ⟨15, _⟩ => ⟨S1x8192x1, .f32⟩
  | .hbm, ⟨16, _⟩ => ⟨S1x8192x1024, .f32⟩
  | .hbm, ⟨17, _⟩ => ⟨S1x8192x1024, .f32⟩
  | .hbm, ⟨18, _⟩ => ⟨S1x1x1024, .f32⟩
  | .hbm, ⟨19, _⟩ => ⟨S1x8192x1024, .f32⟩
  | .hbm, ⟨20, _⟩ => ⟨S1x8192x1024, .f32⟩
  | .hbm, ⟨21, _⟩ => ⟨S1x8192x4096, .f32⟩
  | .hbm, ⟨22, _⟩ => ⟨S_, .f32⟩
  | .hbm, ⟨23, _⟩ => ⟨S1x8192x4096, .f32⟩
  | .hbm, ⟨24, _⟩ => ⟨S1x8192x4096, .f32⟩
  | .hbm, ⟨25, _⟩ => ⟨S1x8192x4096, .f32⟩
  | .hbm, ⟨26, _⟩ => ⟨S1x8192x1024, .f32⟩
  | .hbm, ⟨27, _⟩ => ⟨S1x8192x1024, .f32⟩
  | .hbm, ⟨28, _⟩ => ⟨S1024x4096, .f32⟩
  | .hbm, ⟨29, _⟩ => ⟨S4096x1024, .f32⟩
  | .hbm, ⟨30, _⟩ => ⟨S4096x1024, .bf16⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩

abbrev nD : Nat := 1
abbrev τ : Topo := Topo.v7x

variable {F : FTy → Type} [FloatOps F]
-- ==== Kernel3.lean ====
abbrev S1x8192x1024 : Shape := ⟨3, ![1, 8192, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S1x8192 : Shape := ⟨2, ![1, 8192]⟩
abbrev S1x8192x1 : Shape := ⟨3, ![1, 8192, 1]⟩
abbrev S1x1x1024 : Shape := ⟨3, ![1, 1, 1024]⟩
abbrev S1x8192x4096 : Shape := ⟨3, ![1, 8192, 4096]⟩
abbrev S8192x1024 : Shape := ⟨2, ![8192, 1024]⟩
abbrev S8192x4096 : Shape := ⟨2, ![8192, 4096]⟩
abbrev S8x1024x512 : Shape := ⟨3, ![8, 1024, 512]⟩
abbrev S2048x1024 : Shape := ⟨2, ![2048, 1024]⟩
abbrev S2x1024x512 : Shape := ⟨3, ![2, 1024, 512]⟩
abbrev S1024x1024 : Shape := ⟨2, ![1024, 1024]⟩
abbrev S1024x512 : Shape := ⟨2, ![1024, 512]⟩
abbrev S1x1024x512 : Shape := ⟨3, ![1, 1024, 512]⟩

abbrev nBuf : Space → Nat
  | .hbm => 60
  | .vmem => 7
  | .smem => 0
  | _ => 0

abbrev bufTy : (tb : Table) → Fin (tcTables nBuf tb) → BufTy
  | .hbm, ⟨0, _⟩ => ⟨S1x8192x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1x8192x1024, .f32⟩
  | .hbm, ⟨5, _⟩ => ⟨S1x8192x1024, .f32⟩
  | .hbm, ⟨6, _⟩ => ⟨S_, .f32⟩
  | .hbm, ⟨7, _⟩ => ⟨S1x8192, .f32⟩
  | .hbm, ⟨8, _⟩ => ⟨S1x8192x1, .f32⟩
  | .hbm, ⟨9, _⟩ => ⟨S_, .f32⟩
  | .hbm, ⟨10, _⟩ => ⟨S1x8192x1, .f32⟩
  | .hbm, ⟨11, _⟩ => ⟨S1x8192x1, .f32⟩
  | .hbm, ⟨12, _⟩ => ⟨S_, .f32⟩
  | .hbm, ⟨13, _⟩ => ⟨S1x8192x1, .f32⟩
  | .hbm, ⟨14, _⟩ => ⟨S1x8192x1, .f32⟩
  | .hbm, ⟨15, _⟩ => ⟨S1x8192x1, .f32⟩
  | .hbm, ⟨16, _⟩ => ⟨S1x8192x1024, .f32⟩
  | .hbm, ⟨17, _⟩ => ⟨S1x8192x1024, .f32⟩
  | .hbm, ⟨18, _⟩ => ⟨S1x1x1024, .f32⟩
  | .hbm, ⟨19, _⟩ => ⟨S1x8192x1024, .f32⟩
  | .hbm, ⟨20, _⟩ => ⟨S1x8192x1024, .f32⟩
  | .hbm, ⟨21, _⟩ => ⟨S1x8192x4096, .f32⟩
  | .hbm, ⟨22, _⟩ => ⟨S_, .f32⟩
  | .hbm, ⟨23, _⟩ => ⟨S1x8192x4096, .f32⟩
  | .hbm, ⟨24, _⟩ => ⟨S1x8192x4096, .f32⟩
  | .hbm, ⟨25, _⟩ => ⟨S_, .f32⟩
  | .hbm, ⟨26, _⟩ => ⟨S1x8192x4096, .f32⟩
  | .hbm, ⟨27, _⟩ => ⟨S1x8192x4096, .i1⟩
  | .hbm, ⟨28, _⟩ => ⟨S_, .f32⟩
  | .hbm, ⟨29, _⟩ => ⟨S1x8192x4096, .f32⟩
  | .hbm, ⟨30, _⟩ => ⟨S1x8192x4096, .f32⟩
  | .hbm, ⟨31, _⟩ => ⟨S1x8192x1024, .f32⟩
  | .hbm, ⟨32, _⟩ => ⟨S1x8192x4096, .f32⟩
  | .hbm, ⟨33, _⟩ => ⟨S1x8192x4096, .f32⟩
  | .hbm, ⟨34, _⟩ => ⟨S1x8192x4096, .f32⟩
  | .hbm, ⟨35, _⟩ => ⟨S1x8192x4096, .f32⟩
  | .hbm, ⟨36, _⟩ => ⟨S_, .f32⟩
  | .hbm, ⟨37, _⟩ => ⟨S1x8192x4096, .f32⟩
  | .hbm, ⟨38, _⟩ => ⟨S1x8192x4096, .f32⟩
  | .hbm, ⟨39, _⟩ => ⟨S1x8192x1024, .f32⟩
  | .hbm, ⟨40, _⟩ => ⟨S_, .f32⟩
  | .hbm, ⟨41, _⟩ => ⟨S1x8192, .f32⟩
  | .hbm, ⟨42, _⟩ => ⟨S1x8192x1, .f32⟩
  | .hbm, ⟨43, _⟩ => ⟨S_, .f32⟩
  | .hbm, ⟨44, _⟩ => ⟨S1x8192x1, .f32⟩
  | .hbm, ⟨45, _⟩ => ⟨S1x8192x1, .f32⟩
  | .hbm, ⟨46, _⟩ => ⟨S_, .f32⟩
  | .hbm, ⟨47, _⟩ => ⟨S1x8192x1, .f32⟩
  | .hbm, ⟨48, _⟩ => ⟨S1x8192x1, .f32⟩
  | .hbm, ⟨49, _⟩ => ⟨S1x8192x1, .f32⟩
  | .hbm, ⟨50, _⟩ => ⟨S1x8192x1024, .f32⟩
  | .hbm, ⟨51, _⟩ => ⟨S1x8192x1024, .f32⟩
  | .hbm, ⟨52, _⟩ => ⟨S1x1x1024, .f32⟩
  | .hbm, ⟨53, _⟩ => ⟨S1x8192x1024, .f32⟩
  | .hbm, ⟨54, _⟩ => ⟨S1x8192x1024, .f32⟩
  | .hbm, ⟨55, _⟩ => ⟨S8192x1024, .f32⟩
  | .hbm, ⟨56, _⟩ => ⟨S8192x1024, .bf16⟩
  | .hbm, ⟨57, _⟩ => ⟨S8192x4096, .f32⟩
  | .hbm, ⟨58, _⟩ => ⟨S8192x4096, .bf16⟩
  | .hbm, ⟨59, _⟩ => ⟨S8x1024x512, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S2x1024x512, .bf16⟩
  | .local _ .vmem, ⟨5, _⟩ => ⟨S2x1024x512, .bf16⟩
  | .local _ .vmem, ⟨6, _⟩ => ⟨S1024x1024, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_5 : Ref sig .tc := ⟨.hbm, 40, rfl⟩
abbrev main_v27 : Ref sig .tc := ⟨.hbm, 41, rfl⟩
abbrev main_v28 : Ref sig .tc := ⟨.hbm, 42, rfl⟩
abbrev main_cst_6 : Ref sig .tc := ⟨.hbm, 43, rfl⟩
abbrev main_v29 : Ref sig .tc := ⟨.hbm, 44, rfl⟩
abbrev main_v30 : Ref sig .tc := ⟨.hbm, 45, rfl⟩
abbrev main_cst_7 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S1x8192x1024 : Shape := ⟨3, ![1, 8192, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S1x8192 : Shape := ⟨2, ![1, 8192]⟩
abbrev S1x8192x1 : Shape := ⟨3, ![1, 8192, 1]⟩
abbrev S1x1x1024 : Shape := ⟨3, ![1, 1, 1024]⟩
abbrev S1x8192x4096 : Shape := ⟨3, ![1, 8192, 4096]⟩
abbrev S1024x8x512 : Shape := ⟨3, ![1024, 8, 512]⟩
abbrev S8x1024x512 : Shape := ⟨3, ![8, 1024, 512]⟩

abbrev nBuf : Space → Nat
  | .hbm => 45
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1x8192x1024, .f32⟩
  | .hbm, ⟨5, _⟩ => ⟨S1x8192x1024, .f32⟩
  | .hbm, ⟨6, _⟩ => ⟨S_, .f32⟩
  | .hbm, ⟨7, _⟩ => ⟨S1x8192, .f32⟩
  | .hbm, ⟨8, _⟩ => ⟨S1x8192x1, .f32⟩
  | .hbm, ⟨9, _⟩ => ⟨S_, .f32⟩
  | .hbm, ⟨10, _⟩ => ⟨S1x8192x1, .f32⟩
  | .hbm, ⟨11, _⟩ => ⟨S1x8192x1, .f32⟩
  | .hbm, ⟨12, _⟩ => ⟨S_, .f32⟩
  | .hbm, ⟨13, _⟩ => ⟨S1x8192x1, .f32⟩
  | .hbm, ⟨14, _⟩ => ⟨S1x8192x1, .f32⟩
  | .hbm, ⟨15, _⟩ => ⟨S1x8192x1, .f32⟩
  | .hbm, ⟨16, _⟩ => ⟨S1x8192x1024, .f32⟩
  | .hbm, ⟨17, _⟩ => ⟨S1x8192x1024, .f32⟩
  | .hbm, ⟨18, _⟩ => ⟨S1x1x1024, .f32⟩
  | .hbm, ⟨19, _⟩ => ⟨S1x8192x1024, .f32⟩
  | .hbm, ⟨20, _⟩ => ⟨S1x8192x1024, .f32⟩
  | .hbm, ⟨21, _⟩ => ⟨S1x8192x4096, .f32⟩
  | .hbm, ⟨22, _⟩ => ⟨S_, .f32⟩
  | .hbm, ⟨23, _⟩ => ⟨S1x8192x4096, .f32⟩
  | .hbm, ⟨24, _⟩ => ⟨S1x8192x4096, .f32⟩
  | .hbm, ⟨25, _⟩ => ⟨S_, .f32⟩
  | .hbm, ⟨26, _⟩ => ⟨S1x8192x4096, .f32⟩
  | .hbm, ⟨27, _⟩ => ⟨S1x8192x4096, .i1⟩
  | .hbm, ⟨28, _⟩ => ⟨S_, .f32⟩
  | .hbm, ⟨29, _⟩ => ⟨S1x8192x4096, .f32⟩
  | .hbm, ⟨30, _⟩ => ⟨S1x8192x4096, .f32⟩
  | .hbm, ⟨31, _⟩ => ⟨S1x8192x1024, .f32⟩
  | .hbm, ⟨32, _⟩ => ⟨S1x8192x1024, .f32⟩
  | .hbm, ⟨33, _⟩ => ⟨S1x8192x4096, .f32⟩
  | .hbm, ⟨34, _⟩ => ⟨S1x8192x4096, .f32⟩
  | .hbm, ⟨35, _⟩ => ⟨S1x8192x4096, .f32⟩
  | .hbm, ⟨36, _⟩ => ⟨S1x8192x4096, .f32⟩
  | .hbm, ⟨37, _⟩ => ⟨S_, .f32⟩
  | .hbm, ⟨38, _⟩ => ⟨S1x8192x4096, .f32⟩
  | .hbm, ⟨39, _⟩ => ⟨S1x8192x4096, .f32⟩
  | .hbm, ⟨40, _⟩ => ⟨S4096x1024, .f32⟩
  | .hbm, ⟨41, _⟩ => ⟨S1024x4096, .f32⟩
  | .hbm, ⟨42, _⟩ => ⟨S1024x8x512, .f32⟩
  | .hbm, ⟨43, _⟩ => ⟨S8x1024x512, .f32⟩
  | .hbm, ⟨44, _⟩ => ⟨S8x1024x512, .bf16⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩

abbrev nD : Nat := 1
abbrev τ : Topo := Topo.v7x

variable {F : FTy → Type} [FloatOps F]
-- ==== Kernel4.lean ====
abbrev S1x8192x8x64 : Shape := ⟨4, ![1, 8192, 8, 64]⟩
abbrev S1x8192 : Shape := ⟨2, ![1, 8192]⟩
abbrev S1x8192x8 : Shape := ⟨3, ![1, 8192, 8]⟩
abbrev S2 : Shape := ⟨1, ![2]⟩
abbrev S32 : Shape := ⟨1, ![32]⟩
abbrev S_ : Shape := ⟨0, ![]⟩
abbrev S1x8192x1 : Shape := ⟨3, ![1, 8192, 1]⟩
abbrev S1x1x32 : Shape := ⟨3, ![1, 1, 32]⟩
abbrev S1x8192x32 : Shape := ⟨3, ![1, 8192, 32]⟩
abbrev S1x8192x1x32 : Shape := ⟨4, ![1, 8192, 1, 32]⟩
abbrev S1x8192x8x32 : Shape := ⟨4, ![1, 8192, 8, 32]⟩
abbrev S1x512x16x8x64 : Shape := ⟨5, ![1, 512, 16, 8, 64]⟩
abbrev S1x16x512x8x64 : Shape := ⟨5, ![1, 16, 512, 8, 64]⟩
abbrev S16x512x8x64 : Shape := ⟨4, ![16, 512, 8, 64]⟩
abbrev S16x512x8x1x64 : Shape := ⟨5, ![16, 512, 8, 1, 64]⟩
abbrev S16x4x128x8x1x64 : Shape := ⟨6, ![16, 4, 128, 8, 1, 64]⟩
abbrev S16x4x128x8x64 : Shape := ⟨5, ![16, 4, 128, 8, 64]⟩
abbrev S16x1x128x8x64 : Shape := ⟨5, ![16, 1, 128, 8, 64]⟩
abbrev S16x3x128x8x64 : Shape := ⟨5, ![16, 3, 128, 8, 64]⟩
abbrev S16x4x256x8x64 : Shape := ⟨5, ![16, 4, 256, 8, 64]⟩
abbrev S16x4x8x256x128x1 : Shape := ⟨6, ![16, 4, 8, 256, 128, 1]⟩
abbrev S16x4x8x1x128x256 : Shape := ⟨6, ![16, 4, 8, 1, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S4 : Shape := ⟨1, ![4]⟩
abbrev S4x1x1 : Shape := ⟨3, ![4, 1, 1]⟩
abbrev S1x1x256 : Shape := ⟨3, ![1, 1, 256]⟩
abbrev S4x1x256 : Shape := ⟨3, ![4, 1, 256]⟩
abbrev S1x128x256 : Shape := ⟨3, ![1, 128, 256]⟩
abbrev S4x128x256 : Shape := ⟨3, ![4, 128, 256]⟩
abbrev S1x4x1x1x128x256 : Shape := ⟨6, ![1, 4, 1, 1, 128, 256]⟩
abbrev S16x4x8x1x128 : Shape := ⟨5, ![16, 4, 8, 1, 128]⟩
abbrev S16x4x8x1x128x1 : Shape := ⟨6, ![16, 4, 8, 1, 128, 1]⟩
abbrev S16x4x8x64x1x128 : Shape := ⟨6, ![16, 4, 8, 64, 1, 128]⟩
abbrev S16x4x128x8x1 : Shape := ⟨5, ![16, 4, 128, 8, 1]⟩
abbrev S16x512x8x1 : Shape := ⟨4, ![16, 512, 8, 1]⟩
abbrev S1x16x512x8x1 : Shape := ⟨5, ![1, 16, 512, 8, 1]⟩
abbrev S1x512x16x8x1 : Shape := ⟨5, ![1, 512, 16, 8, 1]⟩
abbrev S1x8192x8x1 : Shape := ⟨4, ![1, 8192, 8, 1]⟩
abbrev S16x512x4x2x64 : Shape := ⟨5, ![16, 512, 4, 2, 64]⟩
abbrev S16x512x4x2x2x32 : Shape := ⟨6, ![16, 512, 4, 2, 2, 32]⟩
abbrev S16x512x4x1x128 : Shape := ⟨5, ![16, 512, 4, 1, 128]⟩
abbrev S16x512x4x3x128 : Shape := ⟨5, ![16, 512, 4, 3, 128]⟩
abbrev S16x512x1536 : Shape := ⟨3, ![16, 512, 1536]⟩
abbrev S16x512x512 : Shape := ⟨3, ![16, 512, 512]⟩
abbrev S8192 : Shape := ⟨1, ![8192]⟩
abbrev S8192x1 : Shape := ⟨2, ![8192, 1]⟩
abbrev S1x32 : Shape := ⟨2, ![1, 32]⟩
abbrev S4x32 : Shape := ⟨2, ![4, 32]⟩
abbrev S1x128 : Shape := ⟨2, ![1, 128]⟩
abbrev S8192x128 : Shape := ⟨2, ![8192, 128]⟩
abbrev S2x64 : Shape := ⟨2, ![2, 64]⟩
abbrev S512x16x8 : Shape := ⟨3, ![512, 16, 8]⟩
abbrev S16x512x8 : Shape := ⟨3, ![16, 512, 8]⟩
abbrev S16x512x2x4 : Shape := ⟨4, ![16, 512, 2, 4]⟩
abbrev S16x512x2x128 : Shape := ⟨4, ![16, 512, 2, 128]⟩
abbrev S16x512x256 : Shape := ⟨3, ![16, 512, 256]⟩
abbrev S512x16x128 : Shape := ⟨3, ![512, 16, 128]⟩
abbrev S16x512x128 : Shape := ⟨3, ![16, 512, 128]⟩
abbrev S1x512x768 : Shape := ⟨3, ![1, 512, 768]⟩
abbrev S1x128x768 : Shape := ⟨3, ![1, 128, 768]⟩
abbrev S1x512x256 : Shape := ⟨3, ![1, 512, 256]⟩
abbrev S1x512x128 : Shape := ⟨3, ![1, 512, 128]⟩
abbrev S640x768 : Shape := ⟨2, ![640, 768]⟩
abbrev S128x768 : Shape := ⟨2, ![128, 768]⟩
abbrev S4x128x640 : Shape := ⟨3, ![4, 128, 640]⟩
abbrev S128x128 : Shape := ⟨2, ![128, 128]⟩
abbrev S256x256 : Shape := ⟨2, ![256, 256]⟩
abbrev S1x128x128 : Shape := ⟨3, ![1, 128, 128]⟩
abbrev S256x128 : Shape := ⟨2, ![256, 128]⟩
abbrev S1x128x1 : Shape := ⟨3, ![1, 128, 1]⟩
abbrev S256x1 : Shape := ⟨2, ![256, 1]⟩
abbrev S1x256x128 : Shape := ⟨3, ![1, 256, 128]⟩
abbrev S640x128 : Shape := ⟨2, ![640, 128]⟩
abbrev S1x128x640 : Shape := ⟨3, ![1, 128, 640]⟩
abbrev S128x640 : Shape := ⟨2, ![128, 640]⟩
abbrev S384x768 : Shape := ⟨2, ![384, 768]⟩
abbrev S512x768 : Shape := ⟨2, ![512, 768]⟩
abbrev S512x128 : Shape := ⟨2, ![512, 128]⟩

abbrev nBuf : Space → Nat
  | .hbm => 242
  | .vmem => 19
  | .smem => 0
  | _ => 0

abbrev hbmTy0_0 (i : Nat) : BufTy := match i % 128 with
  | 0 => ⟨S1x8192x8x64, .f32⟩
  | 1 => ⟨S1x8192x8x64, .f32⟩
  | 2 => ⟨S1x8192x8x64, .f32⟩
  | 3 => ⟨S1x8192, .i32⟩
  | 4 => ⟨S1x8192x8x64, .f32⟩
  | 5 => ⟨S1x8192x8, .f32⟩
  | 6 => ⟨S2, .f32⟩
  | 7 => ⟨S32, .f32⟩
  | 8 => ⟨S32, .f32⟩
  | 9 => ⟨S_, .f32⟩
  | 10 => ⟨S32, .f32⟩
  | 11 => ⟨S32, .f32⟩
  | 12 => ⟨S_, .f32⟩
  | 13 => ⟨S32, .f32⟩
  | 14 => ⟨S32, .f32⟩
  | 15 => ⟨S1x8192, .f32⟩
  | 16 => ⟨S1x8192x1, .f32⟩
  | 17 => ⟨S1x1x32, .f32⟩
  | 18 => ⟨S1x8192x32, .f32⟩
  | 19 => ⟨S1x8192x32, .f32⟩
  | 20 => ⟨S1x8192x32, .f32⟩
  | 21 => ⟨S1x8192x32, .f32⟩
  | 22 => ⟨S1x8192x1x32, .f32⟩
  | 23 => ⟨S1x8192x32, .f32⟩
  | 24 => ⟨S1x8192x1x32, .f32⟩
  | 25 => ⟨S1x8192x8x32, .f32⟩
  | 26 => ⟨S1x8192x8x32, .f32⟩
  | 27 => ⟨S1x8192x8x32, .f32⟩
  | 28 => ⟨S1x8192x8x32, .f32⟩
  | 29 => ⟨S1x8192x8x32, .f32⟩
  | 30 => ⟨S1x8192x8x32, .f32⟩
  | 31 => ⟨S1x8192x8x32, .f32⟩
  | 32 => ⟨S1x8192x8x32, .f32⟩
  | 33 => ⟨S1x8192x8x32, .f32⟩
  | 34 => ⟨S1x8192x8x32, .f32⟩
  | 35 => ⟨S1x8192x8x32, .f32⟩
  | 36 => ⟨S1x8192x8x32, .f32⟩
  | 37 => ⟨S1x8192x8x64, .f32⟩
  | 38 => ⟨S32, .f32⟩
  | 39 => ⟨S32, .f32⟩
  | 40 => ⟨S_, .f32⟩
  | 41 => ⟨S32, .f32⟩
  | 42 => ⟨S32, .f32⟩
  | 43 => ⟨S_, .f32⟩
  | 44 => ⟨S32, .f32⟩
  | 45 => ⟨S32, .f32⟩
  | 46 => ⟨S1x8192, .f32⟩
  | 47 => ⟨S1x8192x1, .f32⟩
  | 48 => ⟨S1x1x32, .f32⟩
  | 49 => ⟨S1x8192x32, .f32⟩
  | 50 => ⟨S1x8192x32, .f32⟩
  | 51 => ⟨S1x8192x32, .f32⟩
  | 52 => ⟨S1x8192x32, .f32⟩
  | 53 => ⟨S1x8192x1x32, .f32⟩
  | 54 => ⟨S1x8192x32, .f32⟩
  | 55 => ⟨S1x8192x1x32, .f32⟩
  | 56 => ⟨S1x8192x8x32, .f32⟩
  | 57 => ⟨S1x8192x8x32, .f32⟩
  | 58 => ⟨S1x8192x8x32, .f32⟩
  | 59 => ⟨S1x8192x8x32, .f32⟩
  | 60 => ⟨S1x8192x8x32, .f32⟩
  | 61 => ⟨S1x8192x8x32, .f32⟩
  | 62 => ⟨S1x8192x8x32, .f32⟩
  | 63 => ⟨S1x8192x8x32, .f32⟩
  | 64 => ⟨S1x8192x8x32, .f32⟩
  | 65 => ⟨S1x8192x8x32, .f32⟩
  | 66 => ⟨S1x8192x8x32, .f32⟩
  | 67 => ⟨S1x8192x8x32, .f32⟩
  | 68 => ⟨S1x8192x8x64, .f32⟩
  | 69 => ⟨S1x512x16x8x64, .f32⟩
  | 70 => ⟨S1x16x512x8x64, .f32⟩
  | 71 => ⟨S16x512x8x64, .f32⟩
  | 72 => ⟨S16x512x8x1x64, .f32⟩
  | 73 => ⟨S1x512x16x8x64, .f32⟩
  | 74 => ⟨S1x16x512x8x64, .f32⟩
  | 75 => ⟨S16x512x8x64, .f32⟩
  | 76 => ⟨S1x512x16x8x64, .f32⟩
  | 77 => ⟨S1x16x512x8x64, .f32⟩
  | 78 => ⟨S16x512x8x64, .f32⟩
  | 79 => ⟨S16x4x128x8x1x64, .f32⟩
  | 80 => ⟨S16x4x128x8x64, .f32⟩
  | 81 => ⟨S16x4x128x8x64, .f32⟩
  | 82 => ⟨S_, .f32⟩
  | 83 => ⟨S16x1x128x8x64, .f32⟩
  | 84 => ⟨S16x3x128x8x64, .f32⟩
  | 85 => ⟨S16x4x128x8x64, .f32⟩
  | 86 => ⟨S16x4x256x8x64, .f32⟩
  | 87 => ⟨S16x3x128x8x64, .f32⟩
  | 88 => ⟨S16x4x128x8x64, .f32⟩
  | 89 => ⟨S16x4x256x8x64, .f32⟩
  | 90 => ⟨S16x4x8x256x128x1, .f32⟩
  | 91 => ⟨S16x4x8x1x128x256, .f32⟩
  | 92 => ⟨S_, .f32⟩
  | 93 => ⟨S16x4x8x1x128x256, .f32⟩
  | 94 => ⟨S16x4x8x1x128x256, .f32⟩
  | 95 => ⟨S128, .i32⟩
  | 96 => ⟨S128x1, .i32⟩
  | 97 => ⟨S_, .i32⟩
  | 98 => ⟨S128x1, .i32⟩
  | 99 => ⟨S128x1, .i32⟩
  | 100 => ⟨S256, .i32⟩
  | 101 => ⟨S1x256, .i32⟩
  | 102 => ⟨S128x256, .i32⟩
  | 103 => ⟨S128x256, .i32⟩
  | 104 => ⟨S128x256, .i32⟩
  | 105 => ⟨S4, .i32⟩
  | 106 => ⟨S4x1x1, .i32⟩
  | 107 => ⟨S_, .i32⟩
  | 108 => ⟨S4x1x1, .i32⟩
  | 109 => ⟨S4x1x1, .i32⟩
  | 110 => ⟨S_, .i32⟩
  | 111 => ⟨S4x1x1, .i32⟩
  | 112 => ⟨S4x1x1, .i32⟩
  | 113 => ⟨S1x1x256, .i32⟩
  | 114 => ⟨S4x1x256, .i32⟩
  | 115 => ⟨S4x1x256, .i32⟩
  | 116 => ⟨S4x1x256, .i32⟩
  | 117 => ⟨S_, .i32⟩
  | 118 => ⟨S128x256, .i32⟩
  | 119 => ⟨S128x256, .i1⟩
  | 120 => ⟨S_, .i32⟩
  | 121 => ⟨S128x256, .i32⟩
  | 122 => ⟨S128x256, .i1⟩
  | 123 => ⟨S128x256, .i1⟩
  | 124 => ⟨S1x128x256, .i1⟩
  | 125 => ⟨S_, .i32⟩
  | 126 => ⟨S4x1x256, .i32⟩
  | 127 => ⟨S4x1x256, .i1⟩
  | _ => ⟨S1x8192x8x64, .f32⟩

abbrev hbmTy0_1 (i : Nat) : BufTy := match i % 128 with
  | 0 => ⟨S4x128x256, .i1⟩
  | 1 => ⟨S4x128x256, .i1⟩
  | 2 => ⟨S4x128x256, .i1⟩
  | 3 => ⟨S1x4x1x1x128x256, .i1⟩
  | 4 => ⟨S_, .f32⟩
  | 5 => ⟨S_, .f32⟩
  | 6 => ⟨S16x4x8x1x128x256, .i1⟩
  | 7 => ⟨S16x4x8x1x128x256, .f32⟩
  | 8 => ⟨S16x4x8x1x128x256, .f32⟩
  | 9 => ⟨S_, .f32⟩
  | 10 => ⟨S16x4x8x1x128, .f32⟩
  | 11 => ⟨S16x4x8x1x128x1, .f32⟩
  | 12 => ⟨S16x4x8x1x128x256, .f32⟩
  | 13 => ⟨S16x4x8x1x128x256, .f32⟩
  | 14 => ⟨S16x4x8x1x128x256, .f32⟩
  | 15 => ⟨S_, .f32⟩
  | 16 => ⟨S16x4x8x1x128, .f32⟩
  | 17 => ⟨S16x4x8x1x128x1, .f32⟩
  | 18 => ⟨S16x4x8x1x128x1, .f32⟩
  | 19 => ⟨S16x4x8x1x128x1, .f32⟩
  | 20 => ⟨S16x4x8x1x128, .f32⟩
  | 21 => ⟨S16x4x8x1x128x256, .f32⟩
  | 22 => ⟨S16x4x8x1x128x256, .f32⟩
  | 23 => ⟨S16x4x8x64x1x128, .f32⟩
  | 24 => ⟨S16x4x128x8x1x64, .f32⟩
  | 25 => ⟨S16x512x8x1x64, .f32⟩
  | 26 => ⟨S16x4x128x8x1, .f32⟩
  | 27 => ⟨S16x512x8x1, .f32⟩
  | 28 => ⟨S16x512x8x64, .f32⟩
  | 29 => ⟨S1x16x512x8x64, .f32⟩
  | 30 => ⟨S1x512x16x8x64, .f32⟩
  | 31 => ⟨S1x8192x8x64, .f32⟩
  | 32 => ⟨S1x16x512x8x1, .f32⟩
  | 33 => ⟨S1x512x16x8x1, .f32⟩
  | 34 => ⟨S1x8192x8x1, .f32⟩
  | 35 => ⟨S1x8192x8, .f32⟩
  | 36 => ⟨S1x8192x8x64, .f32⟩
  | 37 => ⟨S_, .f32⟩
  | 38 => ⟨S1x8192x8, .f32⟩
  | 39 => ⟨S1x8192x8, .f32⟩
  | 40 => ⟨S_, .f32⟩
  | 41 => ⟨S1x8192x8x64, .f32⟩
  | 42 => ⟨S1x8192x8x64, .f32⟩
  | 43 => ⟨S1x512x16x8x64, .f32⟩
  | 44 => ⟨S1x16x512x8x64, .f32⟩
  | 45 => ⟨S16x512x8x64, .f32⟩
  | 46 => ⟨S16x512x4x2x64, .f32⟩
  | 47 => ⟨S16x512x4x2x2x32, .f32⟩
  | 48 => ⟨S16x512x4x2x2x32, .f32⟩
  | 49 => ⟨S16x512x4x1x128, .f32⟩
  | 50 => ⟨S1x512x16x8x64, .f32⟩
  | 51 => ⟨S1x16x512x8x64, .f32⟩
  | 52 => ⟨S16x512x8x64, .f32⟩
  | 53 => ⟨S16x512x4x2x64, .f32⟩
  | 54 => ⟨S16x512x4x2x2x32, .f32⟩
  | 55 => ⟨S16x512x4x2x2x32, .f32⟩
  | 56 => ⟨S16x512x4x1x128, .f32⟩
  | 57 => ⟨S1x512x16x8x64, .f32⟩
  | 58 => ⟨S1x16x512x8x64, .f32⟩
  | 59 => ⟨S16x512x8x64, .f32⟩
  | 60 => ⟨S16x512x4x2x64, .f32⟩
  | 61 => ⟨S16x512x4x1x128, .f32⟩
  | 62 => ⟨S16x512x4x3x128, .f32⟩
  | 63 => ⟨S16x512x1536, .f32⟩
  | 64 => ⟨S16x512x1536, .bf16⟩
  | 65 => ⟨S1x512x16x8x64, .f32⟩
  | 66 => ⟨S1x16x512x8x64, .f32⟩
  | 67 => ⟨S16x512x8x64, .f32⟩
  | 68 => ⟨S16x512x512, .f32⟩
  | 69 => ⟨S16x512x512, .bf16⟩
  | 70 => ⟨S8192, .i32⟩
  | 71 => ⟨S32, .f32⟩
  | 72 => ⟨S32, .f32⟩
  | 73 => ⟨S_, .f32⟩
  | 74 => ⟨S32, .f32⟩
  | 75 => ⟨S32, .f32⟩
  | 76 => ⟨S_, .f32⟩
  | 77 => ⟨S32, .f32⟩
  | 78 => ⟨S32, .f32⟩
  | 79 => ⟨S8192, .f32⟩
  | 80 => ⟨S8192x1, .f32⟩
  | 81 => ⟨S1x32, .f32⟩
  | 82 => ⟨S4x32, .f32⟩
  | 83 => ⟨S128, .f32⟩
  | 84 => ⟨S1x128, .f32⟩
  | 85 => ⟨S8192x128, .f32⟩
  | 86 => ⟨S8192x128, .f32⟩
  | 87 => ⟨S8192x128, .f32⟩
  | 88 => ⟨S2x64, .f32⟩
  | 89 => ⟨S128, .f32⟩
  | 90 => ⟨S8192x128, .f32⟩
  | 91 => ⟨S8192x128, .f32⟩
  | 92 => ⟨S1x128, .f32⟩
  | 93 => ⟨S8192x128, .f32⟩
  | 94 => ⟨S8192x128, .f32⟩
  | 95 => ⟨S512x16x8, .f32⟩
  | 96 => ⟨S16x512x8, .f32⟩
  | 97 => ⟨S16x512x2x4, .f32⟩
  | 98 => ⟨S_, .i32⟩
  | 99 => ⟨S_, .f32⟩
  | 100 => ⟨S16x512x2x128, .f32⟩
  | 101 => ⟨S16x512x256, .f32⟩
  | 102 => ⟨S512x16x8, .f32⟩
  | 103 => ⟨S16x512x8, .f32⟩
  | 104 => ⟨S16x512x2x4, .f32⟩
  | 105 => ⟨S_, .i32⟩
  | 106 => ⟨S_, .f32⟩
  | 107 => ⟨S16x512x2x128, .f32⟩
  | 108 => ⟨S16x512x256, .f32⟩
  | 109 => ⟨S512x16x128, .f32⟩
  | 110 => ⟨S16x512x128, .f32⟩
  | 111 => ⟨S512x16x128, .f32⟩
  | 112 => ⟨S16x512x128, .f32⟩
  | 113 => ⟨S16x512x1536, .bf16⟩
  | _ => ⟨S1x8192x8x64, .f32⟩

abbrev hbmTy (i : Nat) : BufTy := match i / 128 with
  | 0 => hbmTy0_0 i
  | 1 => hbmTy0_1 i
  | _ => ⟨S1x8192x8x64, .f32⟩

abbrev bufTy : (tb : Table) → Fin (tcTables nBuf tb) → BufTy
  | .hbm, ⟨i, _⟩ => hbmTy i
  | .local _ .vmem, ⟨0, _⟩ => ⟨S1x512x768, .bf16⟩
  | .local _ .vmem, ⟨1, _⟩ => ⟨S1x512x768, .bf16⟩
  | .local _ .vmem, ⟨2, _⟩ => ⟨S1x128x768, .bf16⟩
  | .local _ .vmem, ⟨3, _⟩ => ⟨S1x128x768, .bf16⟩
  | .local _ .vmem, ⟨4, _⟩ => ⟨S1x512x256, .bf16⟩
  | .local _ .vmem, ⟨5, _⟩ => ⟨S1x512x256, .bf16⟩
  | .local _ .vmem, ⟨6, _⟩ => ⟨S1x512x128, .f32⟩
  | .local _ .vmem, ⟨7, _⟩ => ⟨S1x512x128, .f32⟩
  | .local _ .vmem, ⟨8, _⟩ => ⟨S1x512x128, .f32⟩
  | .local _ .vmem, ⟨9, _⟩ => ⟨S1x512x128, .f32⟩
  | .local _ .vmem, ⟨10, _⟩ => ⟨S1x512x128, .f32⟩
  | .local _ .vmem, ⟨11, _⟩ => ⟨S1x512x128, .f32⟩
  | .local _ .vmem, ⟨12, _⟩ => ⟨S1x512x128, .f32⟩
  | .local _ .vmem, ⟨13, _⟩ => ⟨S1x512x128, .f32⟩
  | .local _ .vmem, ⟨14, _⟩ => ⟨S1x512x768, .bf16⟩
  | .local _ .vmem, ⟨15, _⟩ => ⟨S1x512x768, .bf16⟩
  | .local _ .vmem, ⟨16, _⟩ => ⟨S640x768, .f32⟩
  | .local _ .vmem, ⟨17, _⟩ => ⟨S128x768, .f32⟩
  | .local _ .vmem, ⟨18, _⟩ => ⟨S4x128x640, .f32⟩
  | _, _ => ⟨S1x8192x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_2 : Ref sig .tc := ⟨.hbm, 40, rfl⟩
abbrev main_v31 : Ref sig .tc := ⟨.hbm, 41, rfl⟩
abbrev main_v32 : Ref sig .tc := ⟨.hbm, 42, rfl⟩
abbrev main_cst_3 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_cst_4 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_cst_5 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_c : Ref sig .tc := ⟨.hbm, 97, rfl⟩
abbrev main_v84 : Ref sig .tc := ⟨.hbm, 98, rfl⟩
abbrev main_v85 : Ref sig .tc := ⟨.hbm, 99, rfl⟩
abbrev main_v86 : Ref sig .tc := ⟨.hbm, 100, rfl⟩
abbrev main_v87 : Ref sig .tc := ⟨.hbm, 101, rfl⟩
abbrev main_v88 : Ref sig .tc := ⟨.hbm, 102, rfl⟩
abbrev main_v89 : Ref sig .tc := ⟨.hbm, 103, rfl⟩
abbrev main_v90 : Ref sig .tc := ⟨.hbm, 104, rfl⟩
abbrev main_v91 : Ref sig .tc := ⟨.hbm, 105, rfl⟩
abbrev main_v92 : Ref sig .tc := ⟨.hbm, 106, rfl⟩
abbrev main_c_6 : Ref sig .tc := ⟨.hbm, 107, rfl⟩
abbrev main_v93 : Ref sig .tc := ⟨.hbm, 108, rfl⟩
abbrev main_v94 : Ref sig .tc := ⟨.hbm, 109, rfl⟩
abbrev main_c_7 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_c_8 : Ref sig .tc := ⟨.hbm, 117, rfl⟩
abbrev main_v101 : Ref sig .tc := ⟨.hbm, 118, rfl⟩
abbrev main_v102 : Ref sig .tc := ⟨.hbm, 119, rfl⟩
abbrev main_c_9 : Ref sig .tc := ⟨.hbm, 120, rfl⟩
abbrev main_v103 : Ref sig .tc := ⟨.hbm, 121, rfl⟩
abbrev main_v104 : Ref sig .tc := ⟨.hbm, 122, rfl⟩
abbrev main_v105 : Ref sig .tc := ⟨.hbm, 123, rfl⟩
abbrev main_v106 : Ref sig .tc := ⟨.hbm, 124, rfl⟩
abbrev main_c_10 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_cst_11 : Ref sig .tc := ⟨.hbm, 132, rfl⟩
abbrev main_call0_v0 : Ref sig .tc := ⟨.hbm, 133, rfl⟩
abbrev main_call0_v1 : Ref sig .tc := ⟨.hbm, 134, rfl⟩
abbrev main_call0_v2 : Ref sig .tc := ⟨.hbm, 135, rfl⟩
abbrev main_v113 : Ref sig .tc := ⟨.hbm, 136, rfl⟩
abbrev main_cst_12 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_cst_13 : Ref sig .tc := ⟨.hbm, 143, rfl⟩
abbrev main_v119 : Ref sig .tc := ⟨.hbm, 144, rfl⟩
abbrev main_v120 : Ref sig .tc := ⟨.hbm, 145, rfl⟩
abbrev main_v121 : Ref sig .tc := ⟨.hbm, 146, rfl⟩
abbrev main_v122 : Ref sig .tc := ⟨.hbm, 147, rfl⟩
abbrev main_v123 : Ref sig .tc := ⟨.hbm, 148, rfl⟩
abbrev main_v124 : Ref sig .tc := ⟨.hbm, 149, rfl⟩
abbrev main_v125 : Ref sig .tc := ⟨.hbm, 150, rfl⟩
abbrev main_v126 : Ref sig .tc := ⟨.hbm, 151, rfl⟩
abbrev main_v127 : Ref sig .tc := ⟨.hbm, 152, rfl⟩
abbrev main_v128 : Ref sig .tc := ⟨.hbm, 153, rfl⟩
abbrev main_v129 : Ref sig .tc := ⟨.hbm, 154, rfl⟩
abbrev main_v130 : Ref sig .tc := ⟨.hbm, 155, rfl⟩
abbrev main_v131 : Ref sig .tc := ⟨.hbm, 156, rfl⟩
abbrev main_v132 : Ref sig .tc := ⟨.hbm, 157, rfl⟩
abbrev main_v133 : Ref sig .tc := ⟨.hbm, 158, rfl⟩
abbrev main_v134 : Ref sig .tc := ⟨.hbm, 159, rfl⟩
abbrev main_v135 : Ref sig .tc := ⟨.hbm, 160, rfl⟩
abbrev main_v136 : Ref sig .tc := ⟨.hbm, 161, rfl⟩
abbrev main_v137 : Ref sig .tc := ⟨.hbm, 162, rfl⟩
abbrev main_v138 : Ref sig .tc := ⟨.hbm, 163, rfl⟩
abbrev main_v139 : Ref sig .tc := ⟨.hbm, 164, rfl⟩
abbrev main_cst_14 : Ref sig .tc := ⟨.hbm, 165, rfl⟩
abbrev main_v140 : Ref sig .tc := ⟨.hbm, 166, rfl⟩
abbrev main_v141 : Ref sig .tc := ⟨.hbm, 167, rfl⟩
abbrev main_cst_15 : Ref sig .tc := ⟨.hbm, 168, rfl⟩
abbrev main_v142 : Ref sig .tc := ⟨.hbm, 169, rfl⟩
abbrev main_v143 : Ref sig .tc := ⟨.hbm, 170, rfl⟩
abbrev main_v144 : Ref sig .tc := ⟨.hbm, 171, rfl⟩
abbrev main_v145 : Ref sig .tc := ⟨.hbm, 172, rfl⟩
abbrev main_v146 : Ref sig .tc := ⟨.hbm, 173, rfl⟩
abbrev main_v147 : Ref sig .tc := ⟨.hbm, 174, rfl⟩
abbrev main_v148 : Ref sig .tc := ⟨.hbm, 175, rfl⟩
abbrev main_v149 : Ref sig .tc := ⟨.hbm, 176, rfl⟩
abbrev main_v150 : Ref sig .tc := ⟨.hbm, 177, rfl⟩
abbrev main_v151 : Ref sig .tc := ⟨.hbm, 178, rfl⟩
abbrev main_v152 : Ref sig .tc := ⟨.hbm, 179, rfl⟩
abbrev main_v153 : Ref sig .tc := ⟨.hbm, 180, rfl⟩
abbrev main_v154 : Ref sig .tc := ⟨.hbm, 181, rfl⟩
abbrev main_v155 : Ref sig .tc := ⟨.hbm, 182, rfl⟩
abbrev main_v156 : Ref sig .tc := ⟨.hbm, 183, rfl⟩
abbrev main_v157 : Ref sig .tc := ⟨.hbm, 184, rfl⟩
abbrev main_v158 : Ref sig .tc := ⟨.hbm, 185, rfl⟩
abbrev main_v159 : Ref sig .tc := ⟨.hbm, 186, rfl⟩
abbrev main_v160 : Ref sig .tc := ⟨.hbm, 187, rfl⟩
abbrev main_v161 : Ref sig .tc := ⟨.hbm, 188, rfl⟩
abbrev main_v162 : Ref sig .tc := ⟨.hbm, 189, rfl⟩
abbrev main_v163 : Ref sig .tc := ⟨.hbm, 190, rfl⟩
abbrev main_v164 : Ref sig .tc := ⟨.hbm, 191, rfl⟩
abbrev main_v165 : Ref sig .tc := ⟨.hbm, 192, rfl⟩
abbrev main_v166 : Ref sig .tc := ⟨.hbm, 193, rfl⟩
abbrev main_v167 : Ref sig .tc := ⟨.hbm, 194, rfl⟩
abbrev main_v168 : Ref sig .tc := ⟨.hbm, 195, rfl⟩
abbrev main_v169 : Ref sig .tc := ⟨.hbm, 196, rfl⟩
abbrev main_v170 : Ref sig .tc := ⟨.hbm, 197, rfl⟩
abbrev main_v171 : Ref sig .tc := ⟨.hbm, 198, rfl⟩
abbrev main_v172 : Ref sig .tc := ⟨.hbm, 199, rfl⟩
abbrev main_v173 : Ref sig .tc := ⟨.hbm, 200, rfl⟩
abbrev main_cst_16 : Ref sig .tc := ⟨.hbm, 201, rfl⟩
abbrev main_v174 : Ref sig .tc := ⟨.hbm, 202, rfl⟩
abbrev main_v175 : Ref sig .tc := ⟨.hbm, 203, rfl⟩
abbrev main_cst_17 : Ref sig .tc := ⟨.hbm, 204, rfl⟩
abbrev main_v176 : Ref sig .tc := ⟨.hbm, 205, rfl⟩
abbrev main_v177 : Ref sig .tc := ⟨.hbm, 206, rfl⟩
abbrev main_v178 : Ref sig .tc := ⟨.hbm, 207, rfl⟩
abbrev main_v179 : Ref sig .tc := ⟨.hbm, 208, rfl⟩
abbrev main_v180 : Ref sig .tc := ⟨.hbm, 209, rfl⟩
abbrev main_v181 : Ref sig .tc := ⟨.hbm, 210, rfl⟩
abbrev main_v182 : Ref sig .tc := ⟨.hbm, 211, rfl⟩
abbrev main_v183 : Ref sig .tc := ⟨.hbm, 212, rfl⟩
abbrev main_v184 : Ref sig .tc := ⟨.hbm, 213, rfl⟩
abbrev main_v185 : Ref sig .tc := ⟨.hbm, 214, rfl⟩
abbrev main_v186 : Ref sig .tc := ⟨.hbm, 215, rfl⟩
abbrev main_v187 : Ref sig .tc := ⟨.hbm, 216, rfl⟩
abbrev main_v188 : Ref sig .tc := ⟨.hbm, 217, rfl⟩
abbrev main_v189 : Ref sig .tc := ⟨.hbm, 218, rfl⟩
abbrev main_v190 : Ref sig .tc := ⟨.hbm, 219, rfl⟩
abbrev main_v191 : Ref sig .tc := ⟨.hbm, 220, rfl⟩
abbrev main_v192 : Ref sig .tc := ⟨.hbm, 221, rfl⟩
abbrev main_v193 : Ref sig .tc := ⟨.hbm, 222, rfl⟩
abbrev main_v194 : Ref sig .tc := ⟨.hbm, 223, rfl⟩
abbrev main_v195 : Ref sig .tc := ⟨.hbm, 224, rfl⟩
abbrev main_v196 : Ref sig .tc := ⟨.hbm, 225, rfl⟩
abbrev main_c_18 : Ref sig .tc := ⟨.hbm, 226, rfl⟩
abbrev main_call1_v0 : Ref sig .tc := ⟨.hbm, 227, rfl⟩
abbrev main_v197 : Ref sig .tc := ⟨.hbm, 228, rfl⟩
abbrev main_v198 : Ref sig .tc := ⟨.hbm, 229, rfl⟩
abbrev main_v199 : Ref sig .tc := ⟨.hbm, 230, rfl⟩
abbrev main_v200 : Ref sig .tc := ⟨.hbm, 231, rfl⟩
abbrev main_v201 : Ref sig .tc := ⟨.hbm, 232, rfl⟩
abbrev main_c_19 : Ref sig .tc := ⟨.hbm, 233, rfl⟩
abbrev main_call2_v0 : Ref sig .tc := ⟨.hbm, 234, rfl⟩
abbrev main_v202 : Ref sig .tc := ⟨.hbm, 235, rfl⟩
abbrev main_v203 : Ref sig .tc := ⟨.hbm, 236, rfl⟩
abbrev main_v204 : Ref sig .tc := ⟨.hbm, 237, rfl⟩
abbrev main_v205 : Ref sig .tc := ⟨.hbm, 238, rfl⟩
abbrev main_v206 : Ref sig .tc := ⟨.hbm, 239, rfl⟩
abbrev main_v207 : Ref sig .tc := ⟨.hbm, 240, rfl⟩
abbrev main_v208 : Ref sig .tc := ⟨.hbm, 241, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨3, ![16, 2, 1], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi c0_i32 arg2
  let c0_i32_0 : BitVec 32 := 0#32
  ![arg0.toNat, v0.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi c0_i32 arg2
  let c4_i32 : BitVec 32 := 4#32
  let v1 : BitVec 32 := Scalar.muli v0 c4_i32
  let c1_i32 : BitVec 32 := 1#32
  let v2 : BitVec 32 := Scalar.subi v1 c1_i32
  let c0_i32_0 : BitVec 32 := 0#32
  let v3 : BitVec 32 := Scalar.maxsi v2 c0_i32_0
  let c0_i32_1 : BitVec 32 := 0#32
  ![arg0.toNat, v3.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi c0_i32 arg2
  let c0_i32_0 : BitVec 32 := 0#32
  ![arg0.toNat, v0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi c0_i32 arg2
  let c0_i32_0 : BitVec 32 := 0#32
  ![arg0.toNat, v0.toNat, arg1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi c0_i32 arg2
  let c0_i32_0 : BitVec 32 := 0#32
  ![arg0.toNat, v0.toNat, arg1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi c0_i32 arg2
  let c0_i32_0 : BitVec 32 := 0#32
  let c0_i32_1 : BitVec 32 := 0#32
  ![arg0.toNat, v0.toNat, c0_i32_0.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi c0_i32 arg2
  let c0_i32_0 : BitVec 32 := 0#32
  let c0_i32_1 : BitVec 32 := 0#32
  ![arg0.toNat, v0.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.subi c0_i32 arg2
  let c0_i32_0 : BitVec 32 := 0#32
  ![arg0.toNat, v0.toNat, arg1.toNat]

abbrev stage0_0 : Fin 2 → Memref sig .tc .vmem S1x512x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x128x768 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, true]

abbrev stage0_6 : Fin 2 → Memref sig .tc .vmem S1x512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, true]

abbrev stage0_7 : Fin 2 → Memref sig .tc .vmem S1x512x768 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== Kernel5.lean ====
abbrev S1x8192x1024 : Shape := ⟨3, ![1, 8192, 1024]⟩
abbrev S1024 : Shape := ⟨1, ![1024]⟩
abbrev S1024x2048 : Shape := ⟨2, ![1024, 2048]⟩
abbrev S1x8192x2048 : Shape := ⟨3, ![1, 8192, 2048]⟩
abbrev S8192x2048 : Shape := ⟨2, ![8192, 2048]⟩
abbrev S_ : Shape := ⟨0, ![]⟩
abbrev S1x8192 : Shape := ⟨2, ![1, 8192]⟩
abbrev S1x8192x1 : Shape := ⟨3, ![1, 8192, 1]⟩
abbrev S1x1x1024 : Shape := ⟨3, ![1, 1, 1024]⟩
abbrev S8192x1024 : Shape := ⟨2, ![8192, 1024]⟩
abbrev S2048x1024 : Shape := ⟨2, ![2048, 1024]⟩
abbrev S1024x1024 : Shape := ⟨2, ![1024, 1024]⟩

abbrev nBuf : Space → Nat
  | .hbm => 25
  | .vmem => 7
  | .smem => 0
  | _ => 0

abbrev bufTy : (tb : Table) → Fin (tcTables nBuf tb) → BufTy
  | .hbm, ⟨0, _⟩ => ⟨S1x8192x1024, .f32⟩
  | .hbm, ⟨1, _⟩ => ⟨S1024, .f32⟩
  | .hbm, ⟨2, _⟩ => ⟨S1024x2048, .f32⟩
  | .hbm, ⟨3, _⟩ => ⟨S1x8192x2048, .f32⟩
  | .hbm, ⟨4, _⟩ => ⟨S8192x2048, .f32⟩
  | .hbm, ⟨5, _⟩ => ⟨S8192x2048, .bf16⟩
  | .hbm, ⟨6, _⟩ => ⟨S1x8192x1024, .f32⟩
  | .hbm, ⟨7, _⟩ => ⟨S_, .f32⟩
  | .hbm, ⟨8, _⟩ => ⟨S1x8192, .f32⟩
  | .hbm, ⟨9, _⟩ => ⟨S1x8192x1, .f32⟩
  | .hbm, ⟨10, _⟩ => ⟨S_, .f32⟩
  | .hbm, ⟨11, _⟩ => ⟨S1x8192x1, .f32⟩
  | .hbm, ⟨12, _⟩ => ⟨S1x8192x1, .f32⟩
  | .hbm, ⟨13, _⟩ => ⟨S_, .f32⟩
  | .hbm, ⟨14, _⟩ => ⟨S1x8192x1, .f32⟩
  | .hbm, ⟨15, _⟩ => ⟨S1x8192x1, .f32⟩
  | .hbm, ⟨16, _⟩ => ⟨S1x8192x1, .f32⟩
  | .hbm, ⟨17, _⟩ => ⟨S1x8192x1024, .f32⟩
  | .hbm, ⟨18, _⟩ => ⟨S1x8192x1024, .f32⟩
  | .hbm, ⟨19, _⟩ => ⟨S1x1x1024, .f32⟩
  | .hbm, ⟨20, _⟩ => ⟨S1x8192x1024, .f32⟩
  | .hbm, ⟨21, _⟩ => ⟨S1x8192x1024, .f32⟩
  | .hbm, ⟨22, _⟩ => ⟨S8192x1024, .f32⟩
  | .hbm, ⟨23, _⟩ => ⟨S8192x1024, .bf16⟩
  | .hbm, ⟨24, _⟩ => ⟨S2048x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S1x8192x1024 : Shape := ⟨3, ![1, 8192, 1024]⟩
abbrev S1024 : Shape := ⟨1, ![1024]⟩
abbrev S1024x2048 : Shape := ⟨2, ![1024, 2048]⟩
abbrev S1x8192x2048 : Shape := ⟨3, ![1, 8192, 2048]⟩
abbrev S_ : Shape := ⟨0, ![]⟩
abbrev S1x8192 : Shape := ⟨2, ![1, 8192]⟩
abbrev S1x8192x1 : Shape := ⟨3, ![1, 8192, 1]⟩
abbrev S1x1x1024 : Shape := ⟨3, ![1, 1, 1024]⟩
abbrev S2048x1024 : Shape := ⟨2, ![2048, 1024]⟩

abbrev nBuf : Space → Nat
  | .hbm => 25
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1024, .f32⟩
  | .hbm, ⟨2, _⟩ => ⟨S1024x2048, .f32⟩
  | .hbm, ⟨3, _⟩ => ⟨S1x8192x2048, .f32⟩
  | .hbm, ⟨4, _⟩ => ⟨S1x8192x1024, .f32⟩
  | .hbm, ⟨5, _⟩ => ⟨S_, .f32⟩
  | .hbm, ⟨6, _⟩ => ⟨S1x8192, .f32⟩
  | .hbm, ⟨7, _⟩ => ⟨S1x8192x1, .f32⟩
  | .hbm, ⟨8, _⟩ => ⟨S_, .f32⟩
  | .hbm, ⟨9, _⟩ => ⟨S1x8192x1, .f32⟩
  | .hbm, ⟨10, _⟩ => ⟨S1x8192x1, .f32⟩
  | .hbm, ⟨11, _⟩ => ⟨S_, .f32⟩
  | .hbm, ⟨12, _⟩ => ⟨S1x8192x1, .f32⟩
  | .hbm, ⟨13, _⟩ => ⟨S1x8192x1, .f32⟩
  | .hbm, ⟨14, _⟩ => ⟨S1x8192x1, .f32⟩
  | .hbm, ⟨15, _⟩ => ⟨S1x8192x1024, .f32⟩
  | .hbm, ⟨16, _⟩ => ⟨S1x8192x1024, .f32⟩
  | .hbm, ⟨17, _⟩ => ⟨S1x1x1024, .f32⟩
  | .hbm, ⟨18, _⟩ => ⟨S1x8192x1024, .f32⟩
  | .hbm, ⟨19, _⟩ => ⟨S1x8192x1024, .f32⟩
  | .hbm, ⟨20, _⟩ => ⟨S1x8192x2048, .f32⟩
  | .hbm, ⟨21, _⟩ => ⟨S2048x1024, .f32⟩
  | .hbm, ⟨22, _⟩ => ⟨S1024x2048, .f32⟩
  | .hbm, ⟨23, _⟩ => ⟨S2048x1024, .f32⟩
  | .hbm, ⟨24, _⟩ => ⟨S2048x1024, .bf16⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Kernel6.lean ====
abbrev S1x8192x1024 : Shape := ⟨3, ![1, 8192, 1024]⟩
abbrev S1024 : Shape := ⟨1, ![1024]⟩
abbrev S1024x1536 : Shape := ⟨2, ![1024, 1536]⟩
abbrev S1x8192x1536 : Shape := ⟨3, ![1, 8192, 1536]⟩
abbrev S8192x1x1536 : Shape := ⟨3, ![8192, 1, 1536]⟩
abbrev S8192x1536 : Shape := ⟨2, ![8192, 1536]⟩
abbrev S_ : Shape := ⟨0, ![]⟩
abbrev S1x8192 : Shape := ⟨2, ![1, 8192]⟩
abbrev S1x8192x1 : Shape := ⟨3, ![1, 8192, 1]⟩
abbrev S1x1x1024 : Shape := ⟨3, ![1, 1, 1024]⟩
abbrev S8192x1x1024 : Shape := ⟨3, ![8192, 1, 1024]⟩
abbrev S8192x1024 : Shape := ⟨2, ![8192, 1024]⟩
abbrev S1536x1024 : Shape := ⟨2, ![1536, 1024]⟩
abbrev S2048x768 : Shape := ⟨2, ![2048, 768]⟩
abbrev S2048x1024 : Shape := ⟨2, ![2048, 1024]⟩
abbrev S768x1024 : Shape := ⟨2, ![768, 1024]⟩

abbrev nBuf : Space → Nat
  | .hbm => 29
  | .vmem => 7
  | .smem => 0
  | _ => 0

abbrev bufTy : (tb : Table) → Fin (tcTables nBuf tb) → BufTy
  | .hbm, ⟨0, _⟩ => ⟨S1x8192x1024, .f32⟩
  | .hbm, ⟨1, _⟩ => ⟨S1024, .f32⟩
  | .hbm, ⟨2, _⟩ => ⟨S1024x1536, .f32⟩
  | .hbm, ⟨3, _⟩ => ⟨S1x8192x1536, .f32⟩
  | .hbm, ⟨4, _⟩ => ⟨S8192x1x1536, .f32⟩
  | .hbm, ⟨5, _⟩ => ⟨S1x8192x1536, .f32⟩
  | .hbm, ⟨6, _⟩ => ⟨S8192x1536, .f32⟩
  | .hbm, ⟨7, _⟩ => ⟨S8192x1536, .bf16⟩
  | .hbm, ⟨8, _⟩ => ⟨S1x8192x1024, .f32⟩
  | .hbm, ⟨9, _⟩ => ⟨S_, .f32⟩
  | .hbm, ⟨10, _⟩ => ⟨S1x8192, .f32⟩
  | .hbm, ⟨11, _⟩ => ⟨S1x8192x1, .f32⟩
  | .hbm, ⟨12, _⟩ => ⟨S_, .f32⟩
  | .hbm, ⟨13, _⟩ => ⟨S1x8192x1, .f32⟩
  | .hbm, ⟨14, _⟩ => ⟨S1x8192x1, .f32⟩
  | .hbm, ⟨15, _⟩ => ⟨S_, .f32⟩
  | .hbm, ⟨16, _⟩ => ⟨S1x8192x1, .f32⟩
  | .hbm, ⟨17, _⟩ => ⟨S1x8192x1, .f32⟩
  | .hbm, ⟨18, _⟩ => ⟨S1x8192x1, .f32⟩
  | .hbm, ⟨19, _⟩ => ⟨S1x8192x1024, .f32⟩
  | .hbm, ⟨20, _⟩ => ⟨S1x8192x1024, .f32⟩
  | .hbm, ⟨21, _⟩ => ⟨S1x1x1024, .f32⟩
  | .hbm, ⟨22, _⟩ => ⟨S1x8192x1024, .f32⟩
  | .hbm, ⟨23, _⟩ => ⟨S1x8192x1024, .f32⟩
  | .hbm, ⟨24, _⟩ => ⟨S8192x1x1024, .f32⟩
  | .hbm, ⟨25, _⟩ => ⟨S1x8192x1024, .f32⟩
  | .hbm, ⟨26, _⟩ => ⟨S8192x1024, .f32⟩
  | .hbm, ⟨27, _⟩ => ⟨S8192x1024, .bf16⟩
  | .hbm, ⟨28, _⟩ => ⟨S1536x1024, .bf16⟩
  | .local _ .vmem, ⟨0, _⟩ => ⟨S2048x768, .bf16⟩
  | .local _ .vmem, ⟨1, _⟩ => ⟨S2048x768, .bf16⟩
  | .local _ .vmem, ⟨2, _⟩ => ⟨S2048x1024, .bf16⟩
  | .local _ .vmem, ⟨3, _⟩ => ⟨S2048x1024, .bf16⟩
  | .local _ .vmem, ⟨4, _⟩ => ⟨S768x1024, .bf16⟩
  | .local _ .vmem, ⟨5, _⟩ => ⟨S768x1024, .bf16⟩
  | .local _ .vmem, ⟨6, _⟩ => ⟨S768x1024, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference6Ideal.lean ====
abbrev S1x8192x1024 : Shape := ⟨3, ![1, 8192, 1024]⟩
abbrev S1024 : Shape := ⟨1, ![1024]⟩
abbrev S1024x1536 : Shape := ⟨2, ![1024, 1536]⟩
abbrev S1x8192x1536 : Shape := ⟨3, ![1, 8192, 1536]⟩
abbrev S_ : Shape := ⟨0, ![]⟩
abbrev S1x8192 : Shape := ⟨2, ![1, 8192]⟩
abbrev S1x8192x1 : Shape := ⟨3, ![1, 8192, 1]⟩
abbrev S1x1x1024 : Shape := ⟨3, ![1, 1, 1024]⟩
abbrev S1536x1024 : Shape := ⟨2, ![1536, 1024]⟩

abbrev nBuf : Space → Nat
  | .hbm => 25
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1024, .f32⟩
  | .hbm, ⟨2, _⟩ => ⟨S1024x1536, .f32⟩
  | .hbm, ⟨3, _⟩ => ⟨S1x8192x1536, .f32⟩
  | .hbm, ⟨4, _⟩ => ⟨S1x8192x1024, .f32⟩
  | .hbm, ⟨5, _⟩ => ⟨S_, .f32⟩
  | .hbm, ⟨6, _⟩ => ⟨S1x8192, .f32⟩
  | .hbm, ⟨7, _⟩ => ⟨S1x8192x1, .f32⟩
  | .hbm, ⟨8, _⟩ => ⟨S_, .f32⟩
  | .hbm, ⟨9, _⟩ => ⟨S1x8192x1, .f32⟩
  | .hbm, ⟨10, _⟩ => ⟨S1x8192x1, .f32⟩
  | .hbm, ⟨11, _⟩ => ⟨S_, .f32⟩
  | .hbm, ⟨12, _⟩ => ⟨S1x8192x1, .f32⟩
  | .hbm, ⟨13, _⟩ => ⟨S1x8192x1, .f32⟩
  | .hbm, ⟨14, _⟩ => ⟨S1x8192x1, .f32⟩
  | .hbm, ⟨15, _⟩ => ⟨S1x8192x1024, .f32⟩
  | .hbm, ⟨16, _⟩ => ⟨S1x8192x1024, .f32⟩
  | .hbm, ⟨17, _⟩ => ⟨S1x1x1024, .f32⟩
  | .hbm, ⟨18, _⟩ => ⟨S1x8192x1024, .f32⟩
  | .hbm, ⟨19, _⟩ => ⟨S1x8192x1024, .f32⟩
  | .hbm, ⟨20, _⟩ => ⟨S1x8192x1536, .f32⟩
  | .hbm, ⟨21, _⟩ => ⟨S1536x1024, .f32⟩
  | .hbm, ⟨22, _⟩ => ⟨S1024x1536, .f32⟩
  | .hbm, ⟨23, _⟩ => ⟨S1536x1024, .f32⟩
  | .hbm, ⟨24, _⟩ => ⟨S1536x1024, .bf16⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Kernel7.lean ====
abbrev S1x8192x1024 : Shape := ⟨3, ![1, 8192, 1024]⟩
abbrev S1024 : Shape := ⟨1, ![1024]⟩
abbrev S1024x1536 : Shape := ⟨2, ![1024, 1536]⟩
abbrev S1x8192x1536 : Shape := ⟨3, ![1, 8192, 1536]⟩
abbrev S2048x4x1536 : Shape := ⟨3, ![2048, 4, 1536]⟩
abbrev S4x2048x1536 : Shape := ⟨3, ![4, 2048, 1536]⟩
abbrev S8192x1536 : Shape := ⟨2, ![8192, 1536]⟩
abbrev S_ : Shape := ⟨0, ![]⟩
abbrev S1x8192 : Shape := ⟨2, ![1, 8192]⟩
abbrev S1x8192x1 : Shape := ⟨3, ![1, 8192, 1]⟩
abbrev S1x1x1024 : Shape := ⟨3, ![1, 1, 1024]⟩
abbrev S2048x4x1024 : Shape := ⟨3, ![2048, 4, 1024]⟩
abbrev S4x2048x1024 : Shape := ⟨3, ![4, 2048, 1024]⟩
abbrev S8192x1024 : Shape := ⟨2, ![8192, 1024]⟩
abbrev S1536x1024 : Shape := ⟨2, ![1536, 1024]⟩
abbrev S2048x768 : Shape := ⟨2, ![2048, 768]⟩
abbrev S2048x1024 : Shape := ⟨2, ![2048, 1024]⟩
abbrev S768x1024 : Shape := ⟨2, ![768, 1024]⟩

abbrev nBuf : Space → Nat
  | .hbm => 29
  | .vmem => 7
  | .smem => 0
  | _ => 0

abbrev bufTy : (tb : Table) → Fin (tcTables nBuf tb) → BufTy
  | .hbm, ⟨0, _⟩ => ⟨S1x8192x1024, .f32⟩
  | .hbm, ⟨1, _⟩ => ⟨S1024, .f32⟩
  | .hbm, ⟨2, _⟩ => ⟨S1024x1536, .f32⟩
  | .hbm, ⟨3, _⟩ => ⟨S1x8192x1536, .f32⟩
  | .hbm, ⟨4, _⟩ => ⟨S2048x4x1536, .f32⟩
  | .hbm, ⟨5, _⟩ => ⟨S4x2048x1536, .f32⟩
  | .hbm, ⟨6, _⟩ => ⟨S8192x1536, .f32⟩
  | .hbm, ⟨7, _⟩ => ⟨S8192x1536, .bf16⟩
  | .hbm, ⟨8, _⟩ => ⟨S1x8192x1024, .f32⟩
  | .hbm, ⟨9, _⟩ => ⟨S_, .f32⟩
  | .hbm, ⟨10, _⟩ => ⟨S1x8192, .f32⟩
  | .hbm, ⟨11, _⟩ => ⟨S1x8192x1, .f32⟩
  | .hbm, ⟨12, _⟩ => ⟨S_, .f32⟩
  | .hbm, ⟨13, _⟩ => ⟨S1x8192x1, .f32⟩
  | .hbm, ⟨14, _⟩ => ⟨S1x8192x1, .f32⟩
  | .hbm, ⟨15, _⟩ => ⟨S_, .f32⟩
  | .hbm, ⟨16, _⟩ => ⟨S1x8192x1, .f32⟩
  | .hbm, ⟨17, _⟩ => ⟨S1x8192x1, .f32⟩
  | .hbm, ⟨18, _⟩ => ⟨S1x8192x1, .f32⟩
  | .hbm, ⟨19, _⟩ => ⟨S1x8192x1024, .f32⟩
  | .hbm, ⟨20, _⟩ => ⟨S1x8192x1024, .f32⟩
  | .hbm, ⟨21, _⟩ => ⟨S1x1x1024, .f32⟩
  | .hbm, ⟨22, _⟩ => ⟨S1x8192x1024, .f32⟩
  | .hbm, ⟨23, _⟩ => ⟨S1x8192x1024, .f32⟩
  | .hbm, ⟨24, _⟩ => ⟨S2048x4x1024, .f32⟩
  | .hbm, ⟨25, _⟩ => ⟨S4x2048x1024, .f32⟩
  | .hbm, ⟨26, _⟩ => ⟨S8192x1024, .f32⟩
  | .hbm, ⟨27, _⟩ => ⟨S8192x1024, .bf16⟩
  | .hbm, ⟨28, _⟩ => ⟨S1536x1024, .bf16⟩
  | .local _ .vmem, ⟨0, _⟩ => ⟨S2048x768, .bf16⟩
  | .local _ .vmem, ⟨1, _⟩ => ⟨S2048x768, .bf16⟩
  | .local _ .vmem, ⟨2, _⟩ => ⟨S2048x1024, .bf16⟩
  | .local _ .vmem, ⟨3, _⟩ => ⟨S2048x1024, .bf16⟩
  | .local _ .vmem, ⟨4, _⟩ => ⟨S768x1024, .bf16⟩
  | .local _ .vmem, ⟨5, _⟩ => ⟨S768x1024, .bf16⟩
  | .local _ .vmem, ⟨6, _⟩ => ⟨S768x1024, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S1x8192x1024 : Shape := ⟨3, ![1, 8192, 1024]⟩
abbrev S1024 : Shape := ⟨1, ![1024]⟩
abbrev S1024x1536 : Shape := ⟨2, ![1024, 1536]⟩
abbrev S1x8192x1536 : Shape := ⟨3, ![1, 8192, 1536]⟩
abbrev S_ : Shape := ⟨0, ![]⟩
abbrev S1x8192 : Shape := ⟨2, ![1, 8192]⟩
abbrev S1x8192x1 : Shape := ⟨3, ![1, 8192, 1]⟩
abbrev S1x1x1024 : Shape := ⟨3, ![1, 1, 1024]⟩
abbrev S1536x1024 : Shape := ⟨2, ![1536, 1024]⟩

abbrev nBuf : Space → Nat
  | .hbm => 25
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1024, .f32⟩
  | .hbm, ⟨2, _⟩ => ⟨S1024x1536, .f32⟩
  | .hbm, ⟨3, _⟩ => ⟨S1x8192x1536, .f32⟩
  | .hbm, ⟨4, _⟩ => ⟨S1x8192x1024, .f32⟩
  | .hbm, ⟨5, _⟩ => ⟨S_, .f32⟩
  | .hbm, ⟨6, _⟩ => ⟨S1x8192, .f32⟩
  | .hbm, ⟨7, _⟩ => ⟨S1x8192x1, .f32⟩
  | .hbm, ⟨8, _⟩ => ⟨S_, .f32⟩
  | .hbm, ⟨9, _⟩ => ⟨S1x8192x1, .f32⟩
  | .hbm, ⟨10, _⟩ => ⟨S1x8192x1, .f32⟩
  | .hbm, ⟨11, _⟩ => ⟨S_, .f32⟩
  | .hbm, ⟨12, _⟩ => ⟨S1x8192x1, .f32⟩
  | .hbm, ⟨13, _⟩ => ⟨S1x8192x1, .f32⟩
  | .hbm, ⟨14, _⟩ => ⟨S1x8192x1, .f32⟩
  | .hbm, ⟨15, _⟩ => ⟨S1x8192x1024, .f32⟩
  | .hbm, ⟨16, _⟩ => ⟨S1x8192x1024, .f32⟩
  | .hbm, ⟨17, _⟩ => ⟨S1x1x1024, .f32⟩
  | .hbm, ⟨18, _⟩ => ⟨S1x8192x1024, .f32⟩
  | .hbm, ⟨19, _⟩ => ⟨S1x8192x1024, .f32⟩
  | .hbm, ⟨20, _⟩ => ⟨S1x8192x1536, .f32⟩
  | .hbm, ⟨21, _⟩ => ⟨S1536x1024, .f32⟩
  | .hbm, ⟨22, _⟩ => ⟨S1024x1536, .f32⟩
  | .hbm, ⟨23, _⟩ => ⟨S1536x1024, .f32⟩
  | .hbm, ⟨24, _⟩ => ⟨S1536x1024, .bf16⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Kernel8.lean ====
abbrev S1x8192x1024 : Shape := ⟨3, ![1, 8192, 1024]⟩
abbrev S1024 : Shape := ⟨1, ![1024]⟩
abbrev S1024x1536 : Shape := ⟨2, ![1024, 1536]⟩
abbrev S1x8192x1536 : Shape := ⟨3, ![1, 8192, 1536]⟩
abbrev S512x16x1536 : Shape := ⟨3, ![512, 16, 1536]⟩
abbrev S16x512x1536 : Shape := ⟨3, ![16, 512, 1536]⟩
abbrev S8192x1536 : Shape := ⟨2, ![8192, 1536]⟩
abbrev S_ : Shape := ⟨0, ![]⟩
abbrev S1x8192 : Shape := ⟨2, ![1, 8192]⟩
abbrev S1x8192x1 : Shape := ⟨3, ![1, 8192, 1]⟩
abbrev S1x1x1024 : Shape := ⟨3, ![1, 1, 1024]⟩
abbrev S512x16x1024 : Shape := ⟨3, ![512, 16, 1024]⟩
abbrev S16x512x1024 : Shape := ⟨3, ![16, 512, 1024]⟩
abbrev S8192x1024 : Shape := ⟨2, ![8192, 1024]⟩
abbrev S1536x1024 : Shape := ⟨2, ![1536, 1024]⟩
abbrev S2048x768 : Shape := ⟨2, ![2048, 768]⟩
abbrev S2048x1024 : Shape := ⟨2, ![2048, 1024]⟩
abbrev S768x1024 : Shape := ⟨2, ![768, 1024]⟩

abbrev nBuf : Space → Nat
  | .hbm => 29
  | .vmem => 7
  | .smem => 0
  | _ => 0

abbrev bufTy : (tb : Table) → Fin (tcTables nBuf tb) → BufTy
  | .hbm, ⟨0, _⟩ => ⟨S1x8192x1024, .f32⟩
  | .hbm, ⟨1, _⟩ => ⟨S1024, .f32⟩
  | .hbm, ⟨2, _⟩ => ⟨S1024x1536, .f32⟩
  | .hbm, ⟨3, _⟩ => ⟨S1x8192x1536, .f32⟩
  | .hbm, ⟨4, _⟩ => ⟨S512x16x1536, .f32⟩
  | .hbm, ⟨5, _⟩ => ⟨S16x512x1536, .f32⟩
  | .hbm, ⟨6, _⟩ => ⟨S8192x1536, .f32⟩
  | .hbm, ⟨7, _⟩ => ⟨S8192x1536, .bf16⟩
  | .hbm, ⟨8, _⟩ => ⟨S1x8192x1024, .f32⟩
  | .hbm, ⟨9, _⟩ => ⟨S_, .f32⟩
  | .hbm, ⟨10, _⟩ => ⟨S1x8192, .f32⟩
  | .hbm, ⟨11, _⟩ => ⟨S1x8192x1, .f32⟩
  | .hbm, ⟨12, _⟩ => ⟨S_, .f32⟩
  | .hbm, ⟨13, _⟩ => ⟨S1x8192x1, .f32⟩
  | .hbm, ⟨14, _⟩ => ⟨S1x8192x1, .f32⟩
  | .hbm, ⟨15, _⟩ => ⟨S_, .f32⟩
  | .hbm, ⟨16, _⟩ => ⟨S1x8192x1, .f32⟩
  | .hbm, ⟨17, _⟩ => ⟨S1x8192x1, .f32⟩
  | .hbm, ⟨18, _⟩ => ⟨S1x8192x1, .f32⟩
  | .hbm, ⟨19, _⟩ => ⟨S1x8192x1024, .f32⟩
  | .hbm, ⟨20, _⟩ => ⟨S1x8192x1024, .f32⟩
  | .hbm, ⟨21, _⟩ => ⟨S1x1x1024, .f32⟩
  | .hbm, ⟨22, _⟩ => ⟨S1x8192x1024, .f32⟩
  | .hbm, ⟨23, _⟩ => ⟨S1x8192x1024, .f32⟩
  | .hbm, ⟨24, _⟩ => ⟨S512x16x1024, .f32⟩
  | .hbm, ⟨25, _⟩ => ⟨S16x512x1024, .f32⟩
  | .hbm, ⟨26, _⟩ => ⟨S8192x1024, .f32⟩
  | .hbm, ⟨27, _⟩ => ⟨S8192x1024, .bf16⟩
  | .hbm, ⟨28, _⟩ => ⟨S1536x1024, .bf16⟩
  | .local _ .vmem, ⟨0, _⟩ => ⟨S2048x768, .bf16⟩
  | .local _ .vmem, ⟨1, _⟩ => ⟨S2048x768, .bf16⟩
  | .local _ .vmem, ⟨2, _⟩ => ⟨S2048x1024, .bf16⟩
  | .local _ .vmem, ⟨3, _⟩ => ⟨S2048x1024, .bf16⟩
  | .local _ .vmem, ⟨4, _⟩ => ⟨S768x1024, .bf16⟩
  | .local _ .vmem, ⟨5, _⟩ => ⟨S768x1024, .bf16⟩
  | .local _ .vmem, ⟨6, _⟩ => ⟨S768x1024, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S768x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S1x8192x1024 : Shape := ⟨3, ![1, 8192, 1024]⟩
abbrev S1024 : Shape := ⟨1, ![1024]⟩
abbrev S1024x1536 : Shape := ⟨2, ![1024, 1536]⟩
abbrev S1x8192x1536 : Shape := ⟨3, ![1, 8192, 1536]⟩
abbrev S_ : Shape := ⟨0, ![]⟩
abbrev S1x8192 : Shape := ⟨2, ![1, 8192]⟩
abbrev S1x8192x1 : Shape := ⟨3, ![1, 8192, 1]⟩
abbrev S1x1x1024 : Shape := ⟨3, ![1, 1, 1024]⟩
abbrev S1536x1024 : Shape := ⟨2, ![1536, 1024]⟩

abbrev nBuf : Space → Nat
  | .hbm => 25
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1024, .f32⟩
  | .hbm, ⟨2, _⟩ => ⟨S1024x1536, .f32⟩
  | .hbm, ⟨3, _⟩ => ⟨S1x8192x1536, .f32⟩
  | .hbm, ⟨4, _⟩ => ⟨S1x8192x1024, .f32⟩
  | .hbm, ⟨5, _⟩ => ⟨S_, .f32⟩
  | .hbm, ⟨6, _⟩ => ⟨S1x8192, .f32⟩
  | .hbm, ⟨7, _⟩ => ⟨S1x8192x1, .f32⟩
  | .hbm, ⟨8, _⟩ => ⟨S_, .f32⟩
  | .hbm, ⟨9, _⟩ => ⟨S1x8192x1, .f32⟩
  | .hbm, ⟨10, _⟩ => ⟨S1x8192x1, .f32⟩
  | .hbm, ⟨11, _⟩ => ⟨S_, .f32⟩
  | .hbm, ⟨12, _⟩ => ⟨S1x8192x1, .f32⟩
  | .hbm, ⟨13, _⟩ => ⟨S1x8192x1, .f32⟩
  | .hbm, ⟨14, _⟩ => ⟨S1x8192x1, .f32⟩
  | .hbm, ⟨15, _⟩ => ⟨S1x8192x1024, .f32⟩
  | .hbm, ⟨16, _⟩ => ⟨S1x8192x1024, .f32⟩
  | .hbm, ⟨17, _⟩ => ⟨S1x1x1024, .f32⟩
  | .hbm, ⟨18, _⟩ => ⟨S1x8192x1024, .f32⟩
  | .hbm, ⟨19, _⟩ => ⟨S1x8192x1024, .f32⟩
  | .hbm, ⟨20, _⟩ => ⟨S1x8192x1536, .f32⟩
  | .hbm, ⟨21, _⟩ => ⟨S1536x1024, .f32⟩
  | .hbm, ⟨22, _⟩ => ⟨S1024x1536, .f32⟩
  | .hbm, ⟨23, _⟩ => ⟨S1536x1024, .f32⟩
  | .hbm, ⟨24, _⟩ => ⟨S1536x1024, .bf16⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Kernel9.lean ====
abbrev S1x8192x1024 : Shape := ⟨3, ![1, 8192, 1024]⟩
abbrev S1024 : Shape := ⟨1, ![1024]⟩
abbrev S1024x768 : Shape := ⟨2, ![1024, 768]⟩
abbrev S1x8192x768 : Shape := ⟨3, ![1, 8192, 768]⟩
abbrev S8192x1x768 : Shape := ⟨3, ![8192, 1, 768]⟩
abbrev S8192x768 : Shape := ⟨2, ![8192, 768]⟩
abbrev S_ : Shape := ⟨0, ![]⟩
abbrev S1x8192 : Shape := ⟨2, ![1, 8192]⟩
abbrev S1x8192x1 : Shape := ⟨3, ![1, 8192, 1]⟩
abbrev S1x1x1024 : Shape := ⟨3, ![1, 1, 1024]⟩
abbrev S8192x1x1024 : Shape := ⟨3, ![8192, 1, 1024]⟩
abbrev S8192x1024 : Shape := ⟨2, ![8192, 1024]⟩
abbrev S768x1024 : Shape := ⟨2, ![768, 1024]⟩
abbrev S2048x768 : Shape := ⟨2, ![2048, 768]⟩
abbrev S2048x1024 : Shape := ⟨2, ![2048, 1024]⟩

abbrev nBuf : Space → Nat
  | .hbm => 29
  | .vmem => 6
  | .smem => 0
  | _ => 0

abbrev bufTy : (tb : Table) → Fin (tcTables nBuf tb) → BufTy
  | .hbm, ⟨0, _⟩ => ⟨S1x8192x1024, .f32⟩
  | .hbm, ⟨1, _⟩ => ⟨S1024, .f32⟩
  | .hbm, ⟨2, _⟩ => ⟨S1024x768, .f32⟩
  | .hbm, ⟨3, _⟩ => ⟨S1x8192x768, .f32⟩
  | .hbm, ⟨4, _⟩ => ⟨S8192x1x768, .f32⟩
  | .hbm, ⟨5, _⟩ => ⟨S1x8192x768, .f32⟩
  | .hbm, ⟨6, _⟩ => ⟨S8192x768, .f32⟩
  | .hbm, ⟨7, _⟩ => ⟨S8192x768, .bf16⟩
  | .hbm, ⟨8, _⟩ => ⟨S1x8192x1024, .f32⟩
  | .hbm, ⟨9, _⟩ => ⟨S_, .f32⟩
  | .hbm, ⟨10, _⟩ => ⟨S1x8192, .f32⟩
  | .hbm, ⟨11, _⟩ => ⟨S1x8192x1, .f32⟩
  | .hbm, ⟨12, _⟩ => ⟨S_, .f32⟩
  | .hbm, ⟨13, _⟩ => ⟨S1x8192x1, .f32⟩
  | .hbm, ⟨14, _⟩ => ⟨S1x8192x1, .f32⟩
  | .hbm, ⟨15, _⟩ => ⟨S_, .f32⟩
  | .hbm, ⟨16, _⟩ => ⟨S1x8192x1, .f32⟩
  | .hbm, ⟨17, _⟩ => ⟨S1x8192x1, .f32⟩
  | .hbm, ⟨18, _⟩ => ⟨S1x8192x1, .f32⟩
  | .hbm, ⟨19, _⟩ => ⟨S1x8192x1024, .f32⟩
  | .hbm, ⟨20, _⟩ => ⟨S1x8192x1024, .f32⟩
  | .hbm, ⟨21, _⟩ => ⟨S1x1x1024, .f32⟩
  | .hbm, ⟨22, _⟩ => ⟨S1x8192x1024, .f32⟩
  | .hbm, ⟨23, _⟩ => ⟨S1x8192x1024, .f32⟩
  | .hbm, ⟨24, _⟩ => ⟨S8192x1x1024, .f32⟩
  | .hbm, ⟨25, _⟩ => ⟨S1x8192x1024, .f32⟩
  | .hbm, ⟨26, _⟩ => ⟨S8192x1024, .f32⟩
  | .hbm, ⟨27, _⟩ => ⟨S8192x1024, .bf16⟩
  | .hbm, ⟨28, _⟩ => ⟨S768x1024, .bf16⟩
  | .local _ .vmem, ⟨0, _⟩ => ⟨S2048x768, .bf16⟩
  | .local _ .vmem, ⟨1, _⟩ => ⟨S2048x768, .bf16⟩
  | .local _ .vmem, ⟨2, _⟩ => ⟨S2048x1024, .bf16⟩
  | .local _ .vmem, ⟨3, _⟩ => ⟨S2048x1024, .bf16⟩
  | .local _ .vmem, ⟨4, _⟩ => ⟨S768x1024, .bf16⟩
  | .local _ .vmem, ⟨5, _⟩ => ⟨S768x1024, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S768x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference9Ideal.lean ====
abbrev S1x8192x1024 : Shape := ⟨3, ![1, 8192, 1024]⟩
abbrev S1024 : Shape := ⟨1, ![1024]⟩
abbrev S1024x768 : Shape := ⟨2, ![1024, 768]⟩
abbrev S1x8192x768 : Shape := ⟨3, ![1, 8192, 768]⟩
abbrev S_ : Shape := ⟨0, ![]⟩
abbrev S1x8192 : Shape := ⟨2, ![1, 8192]⟩
abbrev S1x8192x1 : Shape := ⟨3, ![1, 8192, 1]⟩
abbrev S1x1x1024 : Shape := ⟨3, ![1, 1, 1024]⟩
abbrev S768x1024 : Shape := ⟨2, ![768, 1024]⟩

abbrev nBuf : Space → Nat
  | .hbm => 25
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1024, .f32⟩
  | .hbm, ⟨2, _⟩ => ⟨S1024x768, .f32⟩
  | .hbm, ⟨3, _⟩ => ⟨S1x8192x768, .f32⟩
  | .hbm, ⟨4, _⟩ => ⟨S1x8192x1024, .f32⟩
  | .hbm, ⟨5, _⟩ => ⟨S_, .f32⟩
  | .hbm, ⟨6, _⟩ => ⟨S1x8192, .f32⟩
  | .hbm, ⟨7, _⟩ => ⟨S1x8192x1, .f32⟩
  | .hbm, ⟨8, _⟩ => ⟨S_, .f32⟩
  | .hbm, ⟨9, _⟩ => ⟨S1x8192x1, .f32⟩
  | .hbm, ⟨10, _⟩ => ⟨S1x8192x1, .f32⟩
  | .hbm, ⟨11, _⟩ => ⟨S_, .f32⟩
  | .hbm, ⟨12, _⟩ => ⟨S1x8192x1, .f32⟩
  | .hbm, ⟨13, _⟩ => ⟨S1x8192x1, .f32⟩
  | .hbm, ⟨14, _⟩ => ⟨S1x8192x1, .f32⟩
  | .hbm, ⟨15, _⟩ => ⟨S1x8192x1024, .f32⟩
  | .hbm, ⟨16, _⟩ => ⟨S1x8192x1024, .f32⟩
  | .hbm, ⟨17, _⟩ => ⟨S1x1x1024, .f32⟩
  | .hbm, ⟨18, _⟩ => ⟨S1x8192x1024, .f32⟩
  | .hbm, ⟨19, _⟩ => ⟨S1x8192x1024, .f32⟩
  | .hbm, ⟨20, _⟩ => ⟨S1x8192x768, .f32⟩
  | .hbm, ⟨21, _⟩ => ⟨S768x1024, .f32⟩
  | .hbm, ⟨22, _⟩ => ⟨S1024x768, .f32⟩
  | .hbm, ⟨23, _⟩ => ⟨S768x1024, .f32⟩
  | .hbm, ⟨24, _⟩ => ⟨S768x1024, .bf16⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩

abbrev nD : Nat := 1
abbrev τ : Topo := Topo.v7x

variable {F : FTy → Type} [FloatOps F]
-- ==== Kernel10.lean ====
abbrev S1x8192x1024 : Shape := ⟨3, ![1, 8192, 1024]⟩
abbrev S1024x1024 : Shape := ⟨2, ![1024, 1024]⟩
abbrev S8192x1024 : Shape := ⟨2, ![8192, 1024]⟩
abbrev S2048x1024 : Shape := ⟨2, ![2048, 1024]⟩

abbrev nBuf : Space → Nat
  | .hbm => 8
  | .vmem => 6
  | .smem => 0
  | _ => 0

abbrev bufTy : (tb : Table) → Fin (tcTables nBuf tb) → BufTy
  | .hbm, ⟨0, _⟩ => ⟨S1x8192x1024, .f32⟩
  | .hbm, ⟨1, _⟩ => ⟨S1024x1024, .f32⟩
  | .hbm, ⟨2, _⟩ => ⟨S1x8192x1024, .f32⟩
  | .hbm, ⟨3, _⟩ => ⟨S1x8192x1024, .f32⟩
  | .hbm, ⟨4, _⟩ => ⟨S8192x1024, .f32⟩
  | .hbm, ⟨5, _⟩ => ⟨S8192x1024, .bf16⟩
  | .hbm, ⟨6, _⟩ => ⟨S8192x1024, .f32⟩
  | .hbm, ⟨7, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .bf16⟩
  | .local _ .vmem, ⟨5, _⟩ => ⟨S1024x1024, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_6 : BitVec 32 := 0#32
  let v14 : BitVec 1 := Scalar.cmpi .ne v13 c0_i32_6
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference10Ideal.lean ====
abbrev S1x8192x1024 : Shape := ⟨3, ![1, 8192, 1024]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1024x1024, .f32⟩
  | .hbm, ⟨2, _⟩ => ⟨S1x8192x1024, .f32⟩
  | .hbm, ⟨3, _⟩ => ⟨S1x8192x1024, .f32⟩
  | .hbm, ⟨4, _⟩ => ⟨S1x8192x1024, .f32⟩
  | .hbm, ⟨5, _⟩ => ⟨S1x8192x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel11.lean ====
abbrev S1x8192x1024 : Shape := ⟨3, ![1, 8192, 1024]⟩
abbrev S1024x1024 : Shape := ⟨2, ![1024, 1024]⟩
abbrev S8192x1024 : Shape := ⟨2, ![8192, 1024]⟩
abbrev S2048x1024 : Shape := ⟨2, ![2048, 1024]⟩

abbrev nBuf : Space → Nat
  | .hbm => 8
  | .vmem => 6
  | .smem => 0
  | _ => 0

abbrev bufTy : (tb : Table) → Fin (tcTables nBuf tb) → BufTy
  | .hbm, ⟨0, _⟩ => ⟨S1x8192x1024, .f32⟩
  | .hbm, ⟨1, _⟩ => ⟨S1024x1024, .f32⟩
  | .hbm, ⟨2, _⟩ => ⟨S1x8192x1024, .f32⟩
  | .hbm, ⟨3, _⟩ => ⟨S1x8192x1024, .f32⟩
  | .hbm, ⟨4, _⟩ => ⟨S8192x1024, .f32⟩
  | .hbm, ⟨5, _⟩ => ⟨S8192x1024, .bf16⟩
  | .hbm, ⟨6, _⟩ => ⟨S8192x1024, .f32⟩
  | .hbm, ⟨7, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S2048x1024, .f32⟩
  | .local _ .vmem, ⟨4, _⟩ => ⟨S1024x1024, .bf16⟩
  | .local _ .vmem, ⟨5, _⟩ => ⟨S1024x1024, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_6 : BitVec 32 := 0#32
  let v14 : BitVec 1 := Scalar.cmpi .ne v13 c0_i32_6
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference11Ideal.lean ====
abbrev S1x8192x1024 : Shape := ⟨3, ![1, 8192, 1024]⟩
abbrev S1024x1024 : Shape := ⟨2, ![1024, 1024]⟩

abbrev nBuf : Space → Nat
  | .hbm => 9
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1024x1024, .f32⟩
  | .hbm, ⟨2, _⟩ => ⟨S1x8192x1024, .f32⟩
  | .hbm, ⟨3, _⟩ => ⟨S1x8192x1024, .f32⟩
  | .hbm, ⟨4, _⟩ => ⟨S1x8192x1024, .f32⟩
  | .hbm, ⟨5, _⟩ => ⟨S1x8192x1024, .f32⟩
  | .hbm, ⟨6, _⟩ => ⟨S1024x1024, .f32⟩
  | .hbm, ⟨7, _⟩ => ⟨S1024x1024, .f32⟩
  | .hbm, ⟨8, _⟩ => ⟨S1024x1024, .bf16⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel12.lean ====
abbrev S1x8192x1024 : Shape := ⟨3, ![1, 8192, 1024]⟩
abbrev S1024 : Shape := ⟨1, ![1024]⟩
abbrev S1024x1024 : Shape := ⟨2, ![1024, 1024]⟩
abbrev S_ : Shape := ⟨0, ![]⟩
abbrev S1x8192 : Shape := ⟨2, ![1, 8192]⟩
abbrev S1x8192x1 : Shape := ⟨3, ![1, 8192, 1]⟩
abbrev S1x1x1024 : Shape := ⟨3, ![1, 1, 1024]⟩
abbrev S8192x1024 : Shape := ⟨2, ![8192, 1024]⟩
abbrev S2048x1024 : Shape := ⟨2, ![2048, 1024]⟩

abbrev nBuf : Space → Nat
  | .hbm => 25
  | .vmem => 6
  | .smem => 0
  | _ => 0

abbrev bufTy : (tb : Table) → Fin (tcTables nBuf tb) → BufTy
  | .hbm, ⟨0, _⟩ => ⟨S1x8192x1024, .f32⟩
  | .hbm, ⟨1, _⟩ => ⟨S1024, .f32⟩
  | .hbm, ⟨2, _⟩ => ⟨S1024x1024, .f32⟩
  | .hbm, ⟨3, _⟩ => ⟨S1x8192x1024, .f32⟩
  | .hbm, ⟨4, _⟩ => ⟨S1x8192x1024, .f32⟩
  | .hbm, ⟨5, _⟩ => ⟨S_, .f32⟩
  | .hbm, ⟨6, _⟩ => ⟨S1x8192, .f32⟩
  | .hbm, ⟨7, _⟩ => ⟨S1x8192x1, .f32⟩
  | .hbm, ⟨8, _⟩ => ⟨S_, .f32⟩
  | .hbm, ⟨9, _⟩ => ⟨S1x8192x1, .f32⟩
  | .hbm, ⟨10, _⟩ => ⟨S1x8192x1, .f32⟩
  | .hbm, ⟨11, _⟩ => ⟨S_, .f32⟩
  | .hbm, ⟨12, _⟩ => ⟨S1x8192x1, .f32⟩
  | .hbm, ⟨13, _⟩ => ⟨S1x8192x1, .f32⟩
  | .hbm, ⟨14, _⟩ => ⟨S1x8192x1, .f32⟩
  | .hbm, ⟨15, _⟩ => ⟨S1x8192x1024, .f32⟩
  | .hbm, ⟨16, _⟩ => ⟨S1x8192x1024, .f32⟩
  | .hbm, ⟨17, _⟩ => ⟨S1x1x1024, .f32⟩
  | .hbm, ⟨18, _⟩ => ⟨S1x8192x1024, .f32⟩
  | .hbm, ⟨19, _⟩ => ⟨S1x8192x1024, .f32⟩
  | .hbm, ⟨20, _⟩ => ⟨S8192x1024, .f32⟩
  | .hbm, ⟨21, _⟩ => ⟨S8192x1024, .bf16⟩
  | .hbm, ⟨22, _⟩ => ⟨S8192x1024, .f32⟩
  | .hbm, ⟨23, _⟩ => ⟨S8192x1024, .bf16⟩
  | .hbm, ⟨24, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .bf16⟩
  | .local _ .vmem, ⟨5, _⟩ => ⟨S1024x1024, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference12Ideal.lean ====
abbrev S1x8192x1024 : Shape := ⟨3, ![1, 8192, 1024]⟩
abbrev S1024 : Shape := ⟨1, ![1024]⟩
abbrev S1024x1024 : Shape := ⟨2, ![1024, 1024]⟩
abbrev S_ : Shape := ⟨0, ![]⟩
abbrev S1x8192 : Shape := ⟨2, ![1, 8192]⟩
abbrev S1x8192x1 : Shape := ⟨3, ![1, 8192, 1]⟩
abbrev S1x1x1024 : Shape := ⟨3, ![1, 1, 1024]⟩

abbrev nBuf : Space → Nat
  | .hbm => 24
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1024, .f32⟩
  | .hbm, ⟨2, _⟩ => ⟨S1024x1024, .f32⟩
  | .hbm, ⟨3, _⟩ => ⟨S1x8192x1024, .f32⟩
  | .hbm, ⟨4, _⟩ => ⟨S1x8192x1024, .f32⟩
  | .hbm, ⟨5, _⟩ => ⟨S_, .f32⟩
  | .hbm, ⟨6, _⟩ => ⟨S1x8192, .f32⟩
  | .hbm, ⟨7, _⟩ => ⟨S1x8192x1, .f32⟩
  | .hbm, ⟨8, _⟩ => ⟨S_, .f32⟩
  | .hbm, ⟨9, _⟩ => ⟨S1x8192x1, .f32⟩
  | .hbm, ⟨10, _⟩ => ⟨S1x8192x1, .f32⟩
  | .hbm, ⟨11, _⟩ => ⟨S_, .f32⟩
  | .hbm, ⟨12, _⟩ => ⟨S1x8192x1, .f32⟩
  | .hbm, ⟨13, _⟩ => ⟨S1x8192x1, .f32⟩
  | .hbm, ⟨14, _⟩ => ⟨S1x8192x1, .f32⟩
  | .hbm, ⟨15, _⟩ => ⟨S1x8192x1024, .f32⟩
  | .hbm, ⟨16, _⟩ => ⟨S1x8192x1024, .f32⟩
  | .hbm, ⟨17, _⟩ => ⟨S1x1x1024, .f32⟩
  | .hbm, ⟨18, _⟩ => ⟨S1x8192x1024, .f32⟩
  | .hbm, ⟨19, _⟩ => ⟨S1x8192x1024, .f32⟩
  | .hbm, ⟨20, _⟩ => ⟨S1x8192x1024, .f32⟩
  | .hbm, ⟨21, _⟩ => ⟨S1024x1024, .f32⟩
  | .hbm, ⟨22, _⟩ => ⟨S1024x1024, .f32⟩
  | .hbm, ⟨23, _⟩ => ⟨S1024x1024, .bf16⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== Kernel13.lean ====
abbrev S1x8192x1024 : Shape := ⟨3, ![1, 8192, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S1x8192 : Shape := ⟨2, ![1, 8192]⟩
abbrev S1x8192x1 : Shape := ⟨3, ![1, 8192, 1]⟩
abbrev S1x1x1024 : Shape := ⟨3, ![1, 1, 1024]⟩
abbrev S8192x1024 : Shape := ⟨2, ![8192, 1024]⟩
abbrev S1024x8x512 : Shape := ⟨3, ![1024, 8, 512]⟩
abbrev S8x1024x512 : Shape := ⟨3, ![8, 1024, 512]⟩
abbrev S1x1024 : Shape := ⟨2, ![1, 1024]⟩
abbrev S8192x4096 : Shape := ⟨2, ![8192, 4096]⟩
abbrev S1x128 : Shape := ⟨2, ![1, 128]⟩
abbrev S512x1024 : Shape := ⟨2, ![512, 1024]⟩
abbrev S4x1024x512 : Shape := ⟨3, ![4, 1024, 512]⟩
abbrev S2048x1024 : Shape := ⟨2, ![2048, 1024]⟩
abbrev S512x2048 : Shape := ⟨2, ![512, 2048]⟩
abbrev S1x1024x512 : Shape := ⟨3, ![1, 1024, 512]⟩
abbrev S1024x512 : Shape := ⟨2, ![1024, 512]⟩
abbrev S512x512 : Shape := ⟨2, ![512, 512]⟩
abbrev S512 : Shape := ⟨1, ![512]⟩
abbrev S512x1 : Shape := ⟨2, ![512, 1]⟩
abbrev S1x512x1 : Shape := ⟨3, ![1, 512, 1]⟩
abbrev S1 : Shape := ⟨1, ![1]⟩
abbrev S1x1x1 : Shape := ⟨3, ![1, 1, 1]⟩

abbrev nBuf : Space → Nat
  | .hbm => 35
  | .vmem => 18
  | .smem => 0
  | _ => 0

abbrev bufTy : (tb : Table) → Fin (tcTables nBuf tb) → BufTy
  | .hbm, ⟨0, _⟩ => ⟨S1x8192x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S1x8192x1024, .f32⟩
  | .hbm, ⟨6, _⟩ => ⟨S1x8192x1024, .f32⟩
  | .hbm, ⟨7, _⟩ => ⟨S_, .f32⟩
  | .hbm, ⟨8, _⟩ => ⟨S1x8192, .f32⟩
  | .hbm, ⟨9, _⟩ => ⟨S1x8192x1, .f32⟩
  | .hbm, ⟨10, _⟩ => ⟨S_, .f32⟩
  | .hbm, ⟨11, _⟩ => ⟨S1x8192x1, .f32⟩
  | .hbm, ⟨12, _⟩ => ⟨S1x8192x1, .f32⟩
  | .hbm, ⟨13, _⟩ => ⟨S_, .f32⟩
  | .hbm, ⟨14, _⟩ => ⟨S1x8192x1, .f32⟩
  | .hbm, ⟨15, _⟩ => ⟨S1x8192x1, .f32⟩
  | .hbm, ⟨16, _⟩ => ⟨S1x8192x1, .f32⟩
  | .hbm, ⟨17, _⟩ => ⟨S1x8192x1024, .f32⟩
  | .hbm, ⟨18, _⟩ => ⟨S1x8192x1024, .f32⟩
  | .hbm, ⟨19, _⟩ => ⟨S1x1x1024, .f32⟩
  | .hbm, ⟨20, _⟩ => ⟨S1x8192x1024, .f32⟩
  | .hbm, ⟨21, _⟩ => ⟨S1x8192x1024, .f32⟩
  | .hbm, ⟨22, _⟩ => ⟨S8192x1024, .f32⟩
  | .hbm, ⟨23, _⟩ => ⟨S8192x1024, .bf16⟩
  | .hbm, ⟨24, _⟩ => ⟨S8192x1024, .f32⟩
  | .hbm, ⟨25, _⟩ => ⟨S1024x8x512, .f32⟩
  | .hbm, ⟨26, _⟩ => ⟨S8x1024x512, .f32⟩
  | .hbm, ⟨27, _⟩ => ⟨S8x1024x512, .bf16⟩
  | .hbm, ⟨28, _⟩ => ⟨S4096x1024, .bf16⟩
  | .hbm, ⟨29, _⟩ => ⟨S1x1024, .f32⟩
  | .hbm, ⟨30, _⟩ => ⟨S8192x1024, .f32⟩
  | .hbm, ⟨31, _⟩ => ⟨S8192x4096, .bf16⟩
  | .hbm, ⟨32, _⟩ => ⟨S8192x1024, .f32⟩
  | .hbm, ⟨33, _⟩ => ⟨S1x128, .f32⟩
  | .hbm, ⟨34, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S4x1024x512, .bf16⟩
  | .local _ .vmem, ⟨5, _⟩ => ⟨S4x1024x512, .bf16⟩
  | .local _ .vmem, ⟨6, _⟩ => ⟨S2048x1024, .bf16⟩
  | .local _ .vmem, ⟨7, _⟩ => ⟨S2048x1024, .bf16⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x2048, .bf16⟩
  | .local _ .vmem, ⟨12, _⟩ => ⟨S512x2048, .bf16⟩
  | .local _ .vmem, ⟨13, _⟩ => ⟨S512x1024, .f32⟩
  | .local _ .vmem, ⟨14, _⟩ => ⟨S512x1024, .f32⟩
  | .local _ .vmem, ⟨15, _⟩ => ⟨S1x128, .f32⟩
  | .local _ .vmem, ⟨16, _⟩ => ⟨S1x1024, .f32⟩
  | .local _ .vmem, ⟨17, _⟩ => ⟨S512x1024, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22_0 : Ref sig .tc := ⟨.hbm, 31, rfl⟩
abbrev main_v22_1 : Ref sig .tc := ⟨.hbm, 32, rfl⟩
abbrev main_v22_2 : Ref sig .tc := ⟨.hbm, 33, rfl⟩
abbrev main_v22_3 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg9_0 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem9_0 : DmaSem sig := 16

abbrev nD : Nat := 1
abbrev τ : Topo := Topo.v7x

variable {F : FTy → Type} [FloatOps F]

abbrev grid0 : Pipeline.Grid := ⟨2, ![16, 2], ![false, false]⟩

def k0_cond4 (i : grid0.Coords) : BitVec 1 :=
  let arg1 : BitVec 32 := BitVec.ofNat 32 (i 1).val
  let c1_i32 : BitVec 32 := 1#32
  let v60 : BitVec 1 := Scalar.cmpi .eq arg1 c1_i32
  let v61 : BitVec 32 := Scalar.extui v60
  let c0_i32_40 : BitVec 32 := 0#32
  let v62 : BitVec 1 := Scalar.cmpi .ne v61 c0_i32_40
  v62

def k0_cond3 (i : grid0.Coords) : BitVec 1 :=
  let arg0 : BitVec 32 := BitVec.ofNat 32 (i 0).val
  let c0_i32_37 : BitVec 32 := 0#32
  let v55 : BitVec 1 := Scalar.cmpi .eq arg0 c0_i32_37
  let arg1 : BitVec 32 := BitVec.ofNat 32 (i 1).val
  let c0_i32_38 : BitVec 32 := 0#32
  let v56 : BitVec 1 := Scalar.cmpi .eq arg1 c0_i32_38
  let v57 : BitVec 1 := Scalar.andi v55 v56
  let v58 : BitVec 32 := Scalar.extui v57
  let c0_i32_39 : BitVec 32 := 0#32
  let v59 : BitVec 1 := Scalar.cmpi .ne v58 c0_i32_39
  v59

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]
-- ==== Reference13Ideal.lean ====
abbrev S1x8192x1024 : Shape := ⟨3, ![1, 8192, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S1x8192 : Shape := ⟨2, ![1, 8192]⟩
abbrev S1x8192x1 : Shape := ⟨3, ![1, 8192, 1]⟩
abbrev S1x1x1024 : Shape := ⟨3, ![1, 1, 1024]⟩
abbrev S1x8192x4096 : Shape := ⟨3, ![1, 8192, 4096]⟩
abbrev S1x1024 : Shape := ⟨2, ![1, 1024]⟩
abbrev S8192 : Shape := ⟨1, ![8192]⟩
abbrev S8192x4096 : Shape := ⟨2, ![8192, 4096]⟩
abbrev S8192x1024 : Shape := ⟨2, ![8192, 1024]⟩
abbrev S1x128 : Shape := ⟨2, ![1, 128]⟩

abbrev nBuf : Space → Nat
  | .hbm => 123
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S1x8192x1024, .f32⟩
  | .hbm, ⟨6, _⟩ => ⟨S1x8192x1024, .f32⟩
  | .hbm, ⟨7, _⟩ => ⟨S_, .f32⟩
  | .hbm, ⟨8, _⟩ => ⟨S1x8192, .f32⟩
  | .hbm, ⟨9, _⟩ => ⟨S1x8192x1, .f32⟩
  | .hbm, ⟨10, _⟩ => ⟨S_, .f32⟩
  | .hbm, ⟨11, _⟩ => ⟨S1x8192x1, .f32⟩
  | .hbm, ⟨12, _⟩ => ⟨S1x8192x1, .f32⟩
  | .hbm, ⟨13, _⟩ => ⟨S_, .f32⟩
  | .hbm, ⟨14, _⟩ => ⟨S1x8192x1, .f32⟩
  | .hbm, ⟨15, _⟩ => ⟨S1x8192x1, .f32⟩
  | .hbm, ⟨16, _⟩ => ⟨S1x8192x1, .f32⟩
  | .hbm, ⟨17, _⟩ => ⟨S1x8192x1024, .f32⟩
  | .hbm, ⟨18, _⟩ => ⟨S1x8192x1024, .f32⟩
  | .hbm, ⟨19, _⟩ => ⟨S1x1x1024, .f32⟩
  | .hbm, ⟨20, _⟩ => ⟨S1x8192x1024, .f32⟩
  | .hbm, ⟨21, _⟩ => ⟨S1x8192x1024, .f32⟩
  | .hbm, ⟨22, _⟩ => ⟨S1x8192x4096, .f32⟩
  | .hbm, ⟨23, _⟩ => ⟨S_, .f32⟩
  | .hbm, ⟨24, _⟩ => ⟨S1x8192x4096, .f32⟩
  | .hbm, ⟨25, _⟩ => ⟨S1x8192x4096, .f32⟩
  | .hbm, ⟨26, _⟩ => ⟨S1x8192x1024, .f32⟩
  | .hbm, ⟨27, _⟩ => ⟨S_, .f32⟩
  | .hbm, ⟨28, _⟩ => ⟨S1x8192, .f32⟩
  | .hbm, ⟨29, _⟩ => ⟨S1x8192x1, .f32⟩
  | .hbm, ⟨30, _⟩ => ⟨S_, .f32⟩
  | .hbm, ⟨31, _⟩ => ⟨S1x8192x1, .f32⟩
  | .hbm, ⟨32, _⟩ => ⟨S1x8192x1, .f32⟩
  | .hbm, ⟨33, _⟩ => ⟨S_, .f32⟩
  | .hbm, ⟨34, _⟩ => ⟨S1x8192x1, .f32⟩
  | .hbm, ⟨35, _⟩ => ⟨S1x8192x1, .f32⟩
  | .hbm, ⟨36, _⟩ => ⟨S1x8192x1, .f32⟩
  | .hbm, ⟨37, _⟩ => ⟨S1x8192x1024, .f32⟩
  | .hbm, ⟨38, _⟩ => ⟨S1x8192x1024, .f32⟩
  | .hbm, ⟨39, _⟩ => ⟨S1x1x1024, .f32⟩
  | .hbm, ⟨40, _⟩ => ⟨S1x8192x1024, .f32⟩
  | .hbm, ⟨41, _⟩ => ⟨S1x8192x1024, .f32⟩
  | .hbm, ⟨42, _⟩ => ⟨S1x8192x4096, .f32⟩
  | .hbm, ⟨43, _⟩ => ⟨S_, .f32⟩
  | .hbm, ⟨44, _⟩ => ⟨S1x8192x4096, .f32⟩
  | .hbm, ⟨45, _⟩ => ⟨S1x8192x4096, .f32⟩
  | .hbm, ⟨46, _⟩ => ⟨S1x8192x4096, .f32⟩
  | .hbm, ⟨47, _⟩ => ⟨S1x8192x1024, .f32⟩
  | .hbm, ⟨48, _⟩ => ⟨S1x8192x1024, .f32⟩
  | .hbm, ⟨49, _⟩ => ⟨S1x8192x1024, .f32⟩
  | .hbm, ⟨50, _⟩ => ⟨S_, .f32⟩
  | .hbm, ⟨51, _⟩ => ⟨S1x8192, .f32⟩
  | .hbm, ⟨52, _⟩ => ⟨S1x8192x1, .f32⟩
  | .hbm, ⟨53, _⟩ => ⟨S_, .f32⟩
  | .hbm, ⟨54, _⟩ => ⟨S1x8192x1, .f32⟩
  | .hbm, ⟨55, _⟩ => ⟨S1x8192x1, .f32⟩
  | .hbm, ⟨56, _⟩ => ⟨S_, .f32⟩
  | .hbm, ⟨57, _⟩ => ⟨S1x8192x1, .f32⟩
  | .hbm, ⟨58, _⟩ => ⟨S1x8192x1, .f32⟩
  | .hbm, ⟨59, _⟩ => ⟨S1x8192x1, .f32⟩
  | .hbm, ⟨60, _⟩ => ⟨S1x8192x1, .f32⟩
  | .hbm, ⟨61, _⟩ => ⟨S_, .f32⟩
  | .hbm, ⟨62, _⟩ => ⟨S1x8192x1, .f32⟩
  | .hbm, ⟨63, _⟩ => ⟨S1x8192x1, .f32⟩
  | .hbm, ⟨64, _⟩ => ⟨S1x8192x1024, .f32⟩
  | .hbm, ⟨65, _⟩ => ⟨S1x8192x1024, .f32⟩
  | .hbm, ⟨66, _⟩ => ⟨S1x1x1024, .f32⟩
  | .hbm, ⟨67, _⟩ => ⟨S1x8192x1024, .f32⟩
  | .hbm, ⟨68, _⟩ => ⟨S1x8192x1024, .f32⟩
  | .hbm, ⟨69, _⟩ => ⟨S1x8192x1024, .f32⟩
  | .hbm, ⟨70, _⟩ => ⟨S1x8192x1024, .f32⟩
  | .hbm, ⟨71, _⟩ => ⟨S_, .f32⟩
  | .hbm, ⟨72, _⟩ => ⟨S1x8192x1024, .f32⟩
  | .hbm, ⟨73, _⟩ => ⟨S1x8192x1024, .f32⟩
  | .hbm, ⟨74, _⟩ => ⟨S_, .f32⟩
  | .hbm, ⟨75, _⟩ => ⟨S1x8192, .f32⟩
  | .hbm, ⟨76, _⟩ => ⟨S_, .f32⟩
  | .hbm, ⟨77, _⟩ => ⟨S1x8192, .f32⟩
  | .hbm, ⟨78, _⟩ => ⟨S1x8192, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S1x8192, .f32⟩
  | .hbm, ⟨87, _⟩ => ⟨S_, .f32⟩
  | .hbm, ⟨88, _⟩ => ⟨S1x8192, .f32⟩
  | .hbm, ⟨89, _⟩ => ⟨S1x8192, .f32⟩
  | .hbm, ⟨90, _⟩ => ⟨S1x8192x1024, .f32⟩
  | .hbm, ⟨91, _⟩ => ⟨S1x8192x1024, .f32⟩
  | .hbm, ⟨92, _⟩ => ⟨S1x8192x1024, .f32⟩
  | .hbm, ⟨93, _⟩ => ⟨S_, .f32⟩
  | .hbm, ⟨94, _⟩ => ⟨S1x1024, .f32⟩
  | .hbm, ⟨95, _⟩ => ⟨S1x1x1024, .f32⟩
  | .hbm, ⟨96, _⟩ => ⟨S1x8192x1024, .f32⟩
  | .hbm, ⟨97, _⟩ => ⟨S1x8192x1024, .f32⟩
  | .hbm, ⟨98, _⟩ => ⟨S_, .f32⟩
  | .hbm, ⟨99, _⟩ => ⟨S1024, .f32⟩
  | .hbm, ⟨100, _⟩ => ⟨S1x8192x1024, .f32⟩
  | .hbm, ⟨101, _⟩ => ⟨S_, .f32⟩
  | .hbm, ⟨102, _⟩ => ⟨S1x8192, .f32⟩
  | .hbm, ⟨103, _⟩ => ⟨S1x8192x1, .f32⟩
  | .hbm, ⟨104, _⟩ => ⟨S1x8192x1024, .f32⟩
  | .hbm, ⟨105, _⟩ => ⟨S1x8192x1024, .f32⟩
  | .hbm, ⟨106, _⟩ => ⟨S1x8192x1, .f32⟩
  | .hbm, ⟨107, _⟩ => ⟨S_, .f32⟩
  | .hbm, ⟨108, _⟩ => ⟨S1x8192x1, .f32⟩
  | .hbm, ⟨109, _⟩ => ⟨S1x8192x1, .f32⟩
  | .hbm, ⟨110, _⟩ => ⟨S_, .f32⟩
  | .hbm, ⟨111, _⟩ => ⟨S8192, .f32⟩
  | .hbm, ⟨112, _⟩ => ⟨S1x8192, .f32⟩
  | .hbm, ⟨113, _⟩ => ⟨S1x8192x1024, .f32⟩
  | .hbm, ⟨114, _⟩ => ⟨S1x8192x1024, .f32⟩
  | .hbm, ⟨115, _⟩ => ⟨S1x8192x1024, .f32⟩
  | .hbm, ⟨116, _⟩ => ⟨S1x8192x1024, .f32⟩
  | .hbm, ⟨117, _⟩ => ⟨S1x8192x1024, .f32⟩
  | .hbm, ⟨118, _⟩ => ⟨S8192x4096, .f32⟩
  | .hbm, ⟨119, _⟩ => ⟨S8192x4096, .bf16⟩
  | .hbm, ⟨120, _⟩ => ⟨S8192x1024, .f32⟩
  | .hbm, ⟨121, _⟩ => ⟨S1x128, .f32⟩
  | .hbm, ⟨122, _⟩ => ⟨S1x1024, .f32⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_call0_cst : Ref sig .tc := ⟨.hbm, 23, rfl⟩
abbrev main_call0_v0 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call1_cst : Ref sig .tc := ⟨.hbm, 43, rfl⟩
abbrev main_call1_v0 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_5 : Ref sig .tc := ⟨.hbm, 50, rfl⟩
abbrev main_v34 : Ref sig .tc := ⟨.hbm, 51, rfl⟩
abbrev main_v35 : Ref sig .tc := ⟨.hbm, 52, rfl⟩
abbrev main_cst_6 : Ref sig .tc := ⟨.hbm, 53, rfl⟩
abbrev main_v36 : Ref sig .tc := ⟨.hbm, 54, rfl⟩
abbrev main_v37 : Ref sig .tc := ⟨.hbm, 55, rfl⟩
abbrev main_cst_7 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_8 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_9 : Ref sig .tc := ⟨.hbm, 71, rfl⟩
abbrev main_v51 : Ref sig .tc := ⟨.hbm, 72, rfl⟩
abbrev main_v52 : Ref sig .tc := ⟨.hbm, 73, rfl⟩
abbrev main_cst_10 : Ref sig .tc := ⟨.hbm, 74, rfl⟩
abbrev main_v53 : Ref sig .tc := ⟨.hbm, 75, rfl⟩
abbrev main_cst_11 : Ref sig .tc := ⟨.hbm, 76, rfl⟩
abbrev main_v54 : Ref sig .tc := ⟨.hbm, 77, rfl⟩
abbrev main_v55 : Ref sig .tc := ⟨.hbm, 78, rfl⟩
abbrev main_cst_12 : Ref sig .tc := ⟨.hbm, 79, rfl⟩
abbrev main_v56 : Ref sig .tc := ⟨.hbm, 80, rfl⟩
abbrev main_cst_13 : Ref sig .tc := ⟨.hbm, 81, rfl⟩
abbrev main_v57 : Ref sig .tc := ⟨.hbm, 82, rfl⟩
abbrev main_cst_14 : Ref sig .tc := ⟨.hbm, 83, rfl⟩
abbrev main_cst_15 : Ref sig .tc := ⟨.hbm, 84, rfl⟩
abbrev main_v58 : Ref sig .tc := ⟨.hbm, 85, rfl⟩
abbrev main_v59 : Ref sig .tc := ⟨.hbm, 86, rfl⟩
abbrev main_cst_16 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_cst_17 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_cst_18 : Ref sig .tc := ⟨.hbm, 98, rfl⟩
abbrev main_v69 : Ref sig .tc := ⟨.hbm, 99, rfl⟩
abbrev main_v70 : Ref sig .tc := ⟨.hbm, 100, rfl⟩
abbrev main_cst_19 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_cst_20 : Ref sig .tc := ⟨.hbm, 107, rfl⟩
abbrev main_v76 : Ref sig .tc := ⟨.hbm, 108, rfl⟩
abbrev main_v77 : Ref sig .tc := ⟨.hbm, 109, rfl⟩
abbrev main_cst_21 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩

abbrev nD : Nat := 1
abbrev τ : Topo := Topo.v7x

variable {F : FTy → Type} [FloatOps F]
-- ==== Kernel14.lean ====
abbrev S1x8192x1024 : Shape := ⟨3, ![1, 8192, 1024]⟩
abbrev S1024x2048 : Shape := ⟨2, ![1024, 2048]⟩
abbrev S2x1024 : Shape := ⟨2, ![2, 1024]⟩
abbrev S1024x1024 : Shape := ⟨2, ![1024, 1024]⟩
abbrev S1x8192x2048 : Shape := ⟨3, ![1, 8192, 2048]⟩
abbrev S2048 : Shape := ⟨1, ![2048]⟩
abbrev S1x1x2048 : Shape := ⟨3, ![1, 1, 2048]⟩
abbrev S_ : Shape := ⟨0, ![]⟩
abbrev S8192x2048 : Shape := ⟨2, ![8192, 2048]⟩
abbrev S8192x1024 : Shape := ⟨2, ![8192, 1024]⟩
abbrev S2048x1024 : Shape := ⟨2, ![2048, 1024]⟩
abbrev S1x2048 : Shape := ⟨2, ![1, 2048]⟩
abbrev S512x1024 : Shape := ⟨2, ![512, 1024]⟩
abbrev S512x2048 : Shape := ⟨2, ![512, 2048]⟩

abbrev nBuf : Space → Nat
  | .hbm => 35
  | .vmem => 19
  | .smem => 0
  | _ => 0

abbrev bufTy : (tb : Table) → Fin (tcTables nBuf tb) → BufTy
  | .hbm, ⟨0, _⟩ => ⟨S1x8192x1024, .f32⟩
  | .hbm, ⟨1, _⟩ => ⟨S1024x2048, .f32⟩
  | .hbm, ⟨2, _⟩ => ⟨S2x1024, .f32⟩
  | .hbm, ⟨3, _⟩ => ⟨S1x8192x1024, .f32⟩
  | .hbm, ⟨4, _⟩ => ⟨S1x8192x1024, .f32⟩
  | .hbm, ⟨5, _⟩ => ⟨S1024x1024, .f32⟩
  | .hbm, ⟨6, _⟩ => ⟨S1x8192x1024, .f32⟩
  | .hbm, ⟨7, _⟩ => ⟨S1x8192x2048, .f32⟩
  | .hbm, ⟨8, _⟩ => ⟨S2048, .f32⟩
  | .hbm, ⟨9, _⟩ => ⟨S1x1x2048, .f32⟩
  | .hbm, ⟨10, _⟩ => ⟨S1x8192x2048, .f32⟩
  | .hbm, ⟨11, _⟩ => ⟨S1x8192x2048, .f32⟩
  | .hbm, ⟨12, _⟩ => ⟨S1x8192x2048, .f32⟩
  | .hbm, ⟨13, _⟩ => ⟨S1x8192x2048, .f32⟩
  | .hbm, ⟨14, _⟩ => ⟨S_, .f32⟩
  | .hbm, ⟨15, _⟩ => ⟨S1x8192x2048, .f32⟩
  | .hbm, ⟨16, _⟩ => ⟨S1x8192x2048, .f32⟩
  | .hbm, ⟨17, _⟩ => ⟨S_, .f32⟩
  | .hbm, ⟨18, _⟩ => ⟨S1x8192x2048, .f32⟩
  | .hbm, ⟨19, _⟩ => ⟨S1x8192x2048, .f32⟩
  | .hbm, ⟨20, _⟩ => ⟨S8192x2048, .f32⟩
  | .hbm, ⟨21, _⟩ => ⟨S8192x2048, .bf16⟩
  | .hbm, ⟨22, _⟩ => ⟨S8192x1024, .f32⟩
  | .hbm, ⟨23, _⟩ => ⟨S8192x1024, .f32⟩
  | .hbm, ⟨24, _⟩ => ⟨S8192x1024, .bf16⟩
  | .hbm, ⟨25, _⟩ => ⟨S8192x1024, .f32⟩
  | .hbm, ⟨26, _⟩ => ⟨S8192x1024, .bf16⟩
  | .hbm, ⟨27, _⟩ => ⟨S1024x1024, .bf16⟩
  | .hbm, ⟨28, _⟩ => ⟨S2048x1024, .f32⟩
  | .hbm, ⟨29, _⟩ => ⟨S2048x1024, .bf16⟩
  | .hbm, ⟨30, _⟩ => ⟨S8192x2048, .bf16⟩
  | .hbm, ⟨31, _⟩ => ⟨S8192x1024, .f32⟩
  | .hbm, ⟨32, _⟩ => ⟨S8192x1024, .bf16⟩
  | .hbm, ⟨33, _⟩ => ⟨S8192x1024, .bf16⟩
  | .hbm, ⟨34, _⟩ => ⟨S1x2048, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x2048, .bf16⟩
  | .local _ .vmem, ⟨7, _⟩ => ⟨S512x2048, .bf16⟩
  | .local _ .vmem, ⟨8, _⟩ => ⟨S1024x1024, .bf16⟩
  | .local _ .vmem, ⟨9, _⟩ => ⟨S2048x1024, .bf16⟩
  | .local _ .vmem, ⟨10, _⟩ => ⟨S512x2048, .bf16⟩
  | .local _ .vmem, ⟨11, _⟩ => ⟨S512x2048, .bf16⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S1x2048, .f32⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21_0 : Ref sig .tc := ⟨.hbm, 30, rfl⟩
abbrev main_v21_1 : Ref sig .tc := ⟨.hbm, 31, rfl⟩
abbrev main_v21_2 : Ref sig .tc := ⟨.hbm, 32, rfl⟩
abbrev main_v21_3 : Ref sig .tc := ⟨.hbm, 33, rfl⟩
abbrev main_v21_4 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference14Ideal.lean ====
abbrev S1x8192x1024 : Shape := ⟨3, ![1, 8192, 1024]⟩
abbrev S1024x2048 : Shape := ⟨2, ![1024, 2048]⟩
abbrev S2x1024 : Shape := ⟨2, ![2, 1024]⟩
abbrev S1024x1024 : Shape := ⟨2, ![1024, 1024]⟩
abbrev S1x8192x2048 : Shape := ⟨3, ![1, 8192, 2048]⟩
abbrev S2048 : Shape := ⟨1, ![2048]⟩
abbrev S1x1x2048 : Shape := ⟨3, ![1, 1, 2048]⟩
abbrev S_ : Shape := ⟨0, ![]⟩
abbrev S1x8192x2x1024 : Shape := ⟨4, ![1, 8192, 2, 1024]⟩
abbrev S1x8192x1x1024 : Shape := ⟨4, ![1, 8192, 1, 1024]⟩
abbrev S1x2048 : Shape := ⟨2, ![1, 2048]⟩
abbrev S8192x2048 : Shape := ⟨2, ![8192, 2048]⟩
abbrev S8192x1024 : Shape := ⟨2, ![8192, 1024]⟩

abbrev nBuf : Space → Nat
  | .hbm => 62
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1024x2048, .f32⟩
  | .hbm, ⟨2, _⟩ => ⟨S2x1024, .f32⟩
  | .hbm, ⟨3, _⟩ => ⟨S1x8192x1024, .f32⟩
  | .hbm, ⟨4, _⟩ => ⟨S1x8192x1024, .f32⟩
  | .hbm, ⟨5, _⟩ => ⟨S1024x1024, .f32⟩
  | .hbm, ⟨6, _⟩ => ⟨S1x8192x1024, .f32⟩
  | .hbm, ⟨7, _⟩ => ⟨S1x8192x2048, .f32⟩
  | .hbm, ⟨8, _⟩ => ⟨S2048, .f32⟩
  | .hbm, ⟨9, _⟩ => ⟨S1x1x2048, .f32⟩
  | .hbm, ⟨10, _⟩ => ⟨S1x8192x2048, .f32⟩
  | .hbm, ⟨11, _⟩ => ⟨S1x8192x2048, .f32⟩
  | .hbm, ⟨12, _⟩ => ⟨S1x8192x2048, .f32⟩
  | .hbm, ⟨13, _⟩ => ⟨S1x8192x2048, .f32⟩
  | .hbm, ⟨14, _⟩ => ⟨S_, .f32⟩
  | .hbm, ⟨15, _⟩ => ⟨S1x8192x2048, .f32⟩
  | .hbm, ⟨16, _⟩ => ⟨S1x8192x2048, .f32⟩
  | .hbm, ⟨17, _⟩ => ⟨S_, .f32⟩
  | .hbm, ⟨18, _⟩ => ⟨S1x8192x2048, .f32⟩
  | .hbm, ⟨19, _⟩ => ⟨S1x8192x2048, .f32⟩
  | .hbm, ⟨20, _⟩ => ⟨S_, .f32⟩
  | .hbm, ⟨21, _⟩ => ⟨S1x8192x2048, .f32⟩
  | .hbm, ⟨22, _⟩ => ⟨S1x8192x2048, .f32⟩
  | .hbm, ⟨23, _⟩ => ⟨S1x8192x2048, .f32⟩
  | .hbm, ⟨24, _⟩ => ⟨S1x8192x2x1024, .f32⟩
  | .hbm, ⟨25, _⟩ => ⟨S1x8192x1x1024, .f32⟩
  | .hbm, ⟨26, _⟩ => ⟨S1x8192x1024, .f32⟩
  | .hbm, ⟨27, _⟩ => ⟨S1x8192x1024, .f32⟩
  | .hbm, ⟨28, _⟩ => ⟨S1x8192x1x1024, .f32⟩
  | .hbm, ⟨29, _⟩ => ⟨S1x8192x1024, .f32⟩
  | .hbm, ⟨30, _⟩ => ⟨S1x8192x1024, .f32⟩
  | .hbm, ⟨31, _⟩ => ⟨S1x8192x1024, .f32⟩
  | .hbm, ⟨32, _⟩ => ⟨S1x8192x1024, .f32⟩
  | .hbm, ⟨33, _⟩ => ⟨S1x8192x1024, .f32⟩
  | .hbm, ⟨34, _⟩ => ⟨S1x8192x1024, .f32⟩
  | .hbm, ⟨35, _⟩ => ⟨S1x8192x1024, .f32⟩
  | .hbm, ⟨36, _⟩ => ⟨S1x8192x1x1024, .f32⟩
  | .hbm, ⟨37, _⟩ => ⟨S_, .f32⟩
  | .hbm, ⟨38, _⟩ => ⟨S1x8192x2x1024, .f32⟩
  | .hbm, ⟨39, _⟩ => ⟨S1x8192x1024, .f32⟩
  | .hbm, ⟨40, _⟩ => ⟨S1x8192x1024, .f32⟩
  | .hbm, ⟨41, _⟩ => ⟨S1x8192x1x1024, .f32⟩
  | .hbm, ⟨42, _⟩ => ⟨S_, .f32⟩
  | .hbm, ⟨43, _⟩ => ⟨S1x8192x2x1024, .f32⟩
  | .hbm, ⟨44, _⟩ => ⟨S1x8192x2x1024, .f32⟩
  | .hbm, ⟨45, _⟩ => ⟨S1x8192x2048, .f32⟩
  | .hbm, ⟨46, _⟩ => ⟨S1x8192x2048, .f32⟩
  | .hbm, ⟨47, _⟩ => ⟨S_, .f32⟩
  | .hbm, ⟨48, _⟩ => ⟨S1x2048, .f32⟩
  | .hbm, ⟨49, _⟩ => ⟨S1x1x2048, .f32⟩
  | .hbm, ⟨50, _⟩ => ⟨S_, .f32⟩
  | .hbm, ⟨51, _⟩ => ⟨S2048, .f32⟩
  | .hbm, ⟨52, _⟩ => ⟨S2x1024, .f32⟩
  | .hbm, ⟨53, _⟩ => ⟨S1x8192x1024, .f32⟩
  | .hbm, ⟨54, _⟩ => ⟨S8192x2048, .f32⟩
  | .hbm, ⟨55, _⟩ => ⟨S8192x2048, .bf16⟩
  | .hbm, ⟨56, _⟩ => ⟨S8192x1024, .f32⟩
  | .hbm, ⟨57, _⟩ => ⟨S8192x1024, .f32⟩
  | .hbm, ⟨58, _⟩ => ⟨S8192x1024, .bf16⟩
  | .hbm, ⟨59, _⟩ => ⟨S8192x1024, .f32⟩
  | .hbm, ⟨60, _⟩ => ⟨S8192x1024, .bf16⟩
  | .hbm, ⟨61, _⟩ => ⟨S1x2048, .f32⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_2 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_3 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_4 : Ref sig .tc := ⟨.hbm, 47, rfl⟩
abbrev main_v35 : Ref sig .tc := ⟨.hbm, 48, rfl⟩
abbrev main_v36 : Ref sig .tc := ⟨.hbm, 49, rfl⟩
abbrev main_cst_5 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩

abbrev nD : Nat := 1
abbrev τ : Topo := Topo.v7x

variable {F : FTy → Type} [FloatOps F]
-- ==== Kernel15.lean ====
abbrev S1x8192x512 : Shape := ⟨3, ![1, 8192, 512]⟩
abbrev S512x1024 : Shape := ⟨2, ![512, 1024]⟩
abbrev S1x8192x1024 : Shape := ⟨3, ![1, 8192, 1024]⟩
abbrev S8192x512 : Shape := ⟨2, ![8192, 512]⟩
abbrev S8192x1024 : Shape := ⟨2, ![8192, 1024]⟩
abbrev S2048x512 : Shape := ⟨2, ![2048, 512]⟩
abbrev S2048x1024 : Shape := ⟨2, ![2048, 1024]⟩

abbrev nBuf : Space → Nat
  | .hbm => 8
  | .vmem => 6
  | .smem => 0
  | _ => 0

abbrev bufTy : (tb : Table) → Fin (tcTables nBuf tb) → BufTy
  | .hbm, ⟨0, _⟩ => ⟨S1x8192x512, .f32⟩
  | .hbm, ⟨1, _⟩ => ⟨S512x1024, .f32⟩
  | .hbm, ⟨2, _⟩ => ⟨S1x8192x1024, .f32⟩
  | .hbm, ⟨3, _⟩ => ⟨S8192x512, .f32⟩
  | .hbm, ⟨4, _⟩ => ⟨S8192x512, .bf16⟩
  | .hbm, ⟨5, _⟩ => ⟨S8192x1024, .f32⟩
  | .hbm, ⟨6, _⟩ => ⟨S8192x1024, .bf16⟩
  | .hbm, ⟨7, _⟩ => ⟨S512x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .f32⟩
  | _, _ => ⟨S1x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference15Ideal.lean ====
abbrev S1x8192x512 : Shape := ⟨3, ![1, 8192, 512]⟩
abbrev S512x1024 : Shape := ⟨2, ![512, 1024]⟩
abbrev S1x8192x1024 : Shape := ⟨3, ![1, 8192, 1024]⟩
abbrev S1024x512 : Shape := ⟨2, ![1024, 512]⟩

abbrev nBuf : Space → Nat
  | .hbm => 7
  | .vmem => 0
  | .smem => 0
  | _ => 0

abbrev bufTy : (tb : Table) → Fin (tcTables nBuf tb) → BufTy
  | .hbm, ⟨0, _⟩ => ⟨S1x8192x512, .f32⟩
  | .hbm, ⟨1, _⟩ => ⟨S512x1024, .f32⟩
  | .hbm, ⟨2, _⟩ => ⟨S1x8192x1024, .f32⟩
  | .hbm, ⟨3, _⟩ => ⟨S1x8192x1024, .f32⟩
  | .hbm, ⟨4, _⟩ => ⟨S1024x512, .f32⟩
  | .hbm, ⟨5, _⟩ => ⟨S512x1024, .f32⟩
  | .hbm, ⟨6, _⟩ => ⟨S512x1024, .bf16⟩
  | _, _ => ⟨S1x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel16.lean ====
abbrev S1x8192x512 : Shape := ⟨3, ![1, 8192, 512]⟩
abbrev S512x1024 : Shape := ⟨2, ![512, 1024]⟩
abbrev S1x8192x1024 : Shape := ⟨3, ![1, 8192, 1024]⟩
abbrev S8192x512 : Shape := ⟨2, ![8192, 512]⟩
abbrev S8192x1024 : Shape := ⟨2, ![8192, 1024]⟩
abbrev S2048x512 : Shape := ⟨2, ![2048, 512]⟩
abbrev S2048x1024 : Shape := ⟨2, ![2048, 1024]⟩

abbrev nBuf : Space → Nat
  | .hbm => 8
  | .vmem => 6
  | .smem => 0
  | _ => 0

abbrev bufTy : (tb : Table) → Fin (tcTables nBuf tb) → BufTy
  | .hbm, ⟨0, _⟩ => ⟨S1x8192x512, .f32⟩
  | .hbm, ⟨1, _⟩ => ⟨S512x1024, .f32⟩
  | .hbm, ⟨2, _⟩ => ⟨S1x8192x1024, .f32⟩
  | .hbm, ⟨3, _⟩ => ⟨S8192x512, .f32⟩
  | .hbm, ⟨4, _⟩ => ⟨S8192x512, .bf16⟩
  | .hbm, ⟨5, _⟩ => ⟨S8192x1024, .f32⟩
  | .hbm, ⟨6, _⟩ => ⟨S8192x1024, .bf16⟩
  | .hbm, ⟨7, _⟩ => ⟨S512x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S2048x1024, .bf16⟩
  | .local _ .vmem, ⟨4, _⟩ => ⟨S512x1024, .bf16⟩
  | .local _ .vmem, ⟨5, _⟩ => ⟨S512x1024, .f32⟩
  | _, _ => ⟨S1x8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference16Ideal.lean ====
abbrev S1x8192x512 : Shape := ⟨3, ![1, 8192, 512]⟩
abbrev S512x1024 : Shape := ⟨2, ![512, 1024]⟩
abbrev S1x8192x1024 : Shape := ⟨3, ![1, 8192, 1024]⟩
abbrev S1024x512 : Shape := ⟨2, ![1024, 512]⟩

abbrev nBuf : Space → Nat
  | .hbm => 7
  | .vmem => 0
  | .smem => 0
  | _ => 0

abbrev bufTy : (tb : Table) → Fin (tcTables nBuf tb) → BufTy
  | .hbm, ⟨0, _⟩ => ⟨S1x8192x512, .f32⟩
  | .hbm, ⟨1, _⟩ => ⟨S512x1024, .f32⟩
  | .hbm, ⟨2, _⟩ => ⟨S1x8192x1024, .f32⟩
  | .hbm, ⟨3, _⟩ => ⟨S1x8192x1024, .f32⟩
  | .hbm, ⟨4, _⟩ => ⟨S1024x512, .f32⟩
  | .hbm, ⟨5, _⟩ => ⟨S512x1024, .f32⟩
  | .hbm, ⟨6, _⟩ => ⟨S512x1024, .bf16⟩
  | _, _ => ⟨S1x8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel17.lean ====
abbrev S1x8192x1024 : Shape := ⟨3, ![1, 8192, 1024]⟩
abbrev S1024x2048 : Shape := ⟨2, ![1024, 2048]⟩
abbrev S2x1024 : Shape := ⟨2, ![2, 1024]⟩
abbrev S8192x1024 : Shape := ⟨2, ![8192, 1024]⟩
abbrev S2048x1024 : Shape := ⟨2, ![2048, 1024]⟩
abbrev S1x2048 : Shape := ⟨2, ![1, 2048]⟩
abbrev S8192x2048 : Shape := ⟨2, ![8192, 2048]⟩
abbrev S1024x1024 : Shape := ⟨2, ![1024, 1024]⟩
abbrev S1x1024 : Shape := ⟨2, ![1, 1024]⟩

abbrev nBuf : Space → Nat
  | .hbm => 9
  | .vmem => 8
  | .smem => 0
  | _ => 0

abbrev bufTy : (tb : Table) → Fin (tcTables nBuf tb) → BufTy
  | .hbm, ⟨0, _⟩ => ⟨S1x8192x1024, .f32⟩
  | .hbm, ⟨1, _⟩ => ⟨S1024x2048, .f32⟩
  | .hbm, ⟨2, _⟩ => ⟨S2x1024, .f32⟩
  | .hbm, ⟨3, _⟩ => ⟨S8192x1024, .f32⟩
  | .hbm, ⟨4, _⟩ => ⟨S8192x1024, .bf16⟩
  | .hbm, ⟨5, _⟩ => ⟨S2048x1024, .f32⟩
  | .hbm, ⟨6, _⟩ => ⟨S2048x1024, .bf16⟩
  | .hbm, ⟨7, _⟩ => ⟨S1x2048, .f32⟩
  | .hbm, ⟨8, _⟩ => ⟨S8192x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1x1024, .f32⟩
  | .local _ .vmem, ⟨5, _⟩ => ⟨S1x1024, .f32⟩
  | .local _ .vmem, ⟨6, _⟩ => ⟨S1024x1024, .bf16⟩
  | .local _ .vmem, ⟨7, _⟩ => ⟨S1024x1024, .bf16⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference17Ideal.lean ====
abbrev S1x8192x1024 : Shape := ⟨3, ![1, 8192, 1024]⟩
abbrev S1024x2048 : Shape := ⟨2, ![1024, 2048]⟩
abbrev S2x1024 : Shape := ⟨2, ![2, 1024]⟩
abbrev S1x8192x2048 : Shape := ⟨3, ![1, 8192, 2048]⟩
abbrev S2048 : Shape := ⟨1, ![2048]⟩
abbrev S1x1x2048 : Shape := ⟨3, ![1, 1, 2048]⟩
abbrev S_ : Shape := ⟨0, ![]⟩
abbrev S8192x2048 : Shape := ⟨2, ![8192, 2048]⟩

abbrev nBuf : Space → Nat
  | .hbm => 18
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1024x2048, .f32⟩
  | .hbm, ⟨2, _⟩ => ⟨S2x1024, .f32⟩
  | .hbm, ⟨3, _⟩ => ⟨S1x8192x2048, .f32⟩
  | .hbm, ⟨4, _⟩ => ⟨S2048, .f32⟩
  | .hbm, ⟨5, _⟩ => ⟨S1x1x2048, .f32⟩
  | .hbm, ⟨6, _⟩ => ⟨S1x8192x2048, .f32⟩
  | .hbm, ⟨7, _⟩ => ⟨S1x8192x2048, .f32⟩
  | .hbm, ⟨8, _⟩ => ⟨S1x8192x2048, .f32⟩
  | .hbm, ⟨9, _⟩ => ⟨S1x8192x2048, .f32⟩
  | .hbm, ⟨10, _⟩ => ⟨S_, .f32⟩
  | .hbm, ⟨11, _⟩ => ⟨S1x8192x2048, .f32⟩
  | .hbm, ⟨12, _⟩ => ⟨S1x8192x2048, .f32⟩
  | .hbm, ⟨13, _⟩ => ⟨S_, .f32⟩
  | .hbm, ⟨14, _⟩ => ⟨S1x8192x2048, .f32⟩
  | .hbm, ⟨15, _⟩ => ⟨S1x8192x2048, .f32⟩
  | .hbm, ⟨16, _⟩ => ⟨S8192x2048, .f32⟩
  | .hbm, ⟨17, _⟩ => ⟨S8192x2048, .bf16⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel18.lean ====
abbrev S1x8192x1024 : Shape := ⟨3, ![1, 8192, 1024]⟩
abbrev S1x256x2048 : Shape := ⟨3, ![1, 256, 2048]⟩
abbrev S1024x1024 : Shape := ⟨2, ![1024, 1024]⟩
abbrev S1024 : Shape := ⟨1, ![1024]⟩
abbrev S8192x1024 : Shape := ⟨2, ![8192, 1024]⟩
abbrev S256x2048 : Shape := ⟨2, ![256, 2048]⟩
abbrev S1x1024 : Shape := ⟨2, ![1, 1024]⟩
abbrev S512x1024 : Shape := ⟨2, ![512, 1024]⟩
abbrev S256x256 : Shape := ⟨2, ![256, 256]⟩
abbrev S512x256 : Shape := ⟨2, ![512, 256]⟩
abbrev S512 : Shape := ⟨1, ![512]⟩
abbrev S512x1 : Shape := ⟨2, ![512, 1]⟩

abbrev nBuf : Space → Nat
  | .hbm => 18
  | .vmem => 16
  | .smem => 0
  | _ => 0

abbrev bufTy : (tb : Table) → Fin (tcTables nBuf tb) → BufTy
  | .hbm, ⟨0, _⟩ => ⟨S1x8192x1024, .f32⟩
  | .hbm, ⟨1, _⟩ => ⟨S1x8192x1024, .f32⟩
  | .hbm, ⟨2, _⟩ => ⟨S1x256x2048, .f32⟩
  | .hbm, ⟨3, _⟩ => ⟨S1024x1024, .f32⟩
  | .hbm, ⟨4, _⟩ => ⟨S1024x1024, .f32⟩
  | .hbm, ⟨5, _⟩ => ⟨S1024, .f32⟩
  | .hbm, ⟨6, _⟩ => ⟨S8192x1024, .f32⟩
  | .hbm, ⟨7, _⟩ => ⟨S8192x1024, .bf16⟩
  | .hbm, ⟨8, _⟩ => ⟨S8192x1024, .f32⟩
  | .hbm, ⟨9, _⟩ => ⟨S256x2048, .f32⟩
  | .hbm, ⟨10, _⟩ => ⟨S256x2048, .bf16⟩
  | .hbm, ⟨11, _⟩ => ⟨S1024x1024, .bf16⟩
  | .hbm, ⟨12, _⟩ => ⟨S1024x1024, .bf16⟩
  | .hbm, ⟨13, _⟩ => ⟨S1x1024, .f32⟩
  | .hbm, ⟨14, _⟩ => ⟨S8192x1024, .bf16⟩
  | .hbm, ⟨15, _⟩ => ⟨S8192x1024, .bf16⟩
  | .hbm, ⟨16, _⟩ => ⟨S8192x1024, .f32⟩
  | .hbm, ⟨17, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S256x2048, .bf16⟩
  | .local _ .vmem, ⟨5, _⟩ => ⟨S1024x1024, .bf16⟩
  | .local _ .vmem, ⟨6, _⟩ => ⟨S1024x1024, .bf16⟩
  | .local _ .vmem, ⟨7, _⟩ => ⟨S1x1024, .f32⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | _, _ => ⟨S1x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev main_v8_2 : Ref sig .tc := ⟨.hbm, 16, rfl⟩
abbrev main_v8_3 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference18Ideal.lean ====
abbrev S1x8192x1024 : Shape := ⟨3, ![1, 8192, 1024]⟩
abbrev S1x256x2048 : Shape := ⟨3, ![1, 256, 2048]⟩
abbrev S1024x1024 : Shape := ⟨2, ![1024, 1024]⟩
abbrev S1024 : Shape := ⟨1, ![1024]⟩
abbrev S1x8192x4x256 : Shape := ⟨4, ![1, 8192, 4, 256]⟩
abbrev S1x256x1024 : Shape := ⟨3, ![1, 256, 1024]⟩
abbrev S1x256x4x256 : Shape := ⟨4, ![1, 256, 4, 256]⟩
abbrev S1x4x8192x256 : Shape := ⟨4, ![1, 4, 8192, 256]⟩
abbrev S_ : Shape := ⟨0, ![]⟩
abbrev S1x4x8192 : Shape := ⟨3, ![1, 4, 8192]⟩
abbrev S1x4x8192x1 : Shape := ⟨4, ![1, 4, 8192, 1]⟩
abbrev S1x4x256x8192 : Shape := ⟨4, ![1, 4, 256, 8192]⟩
abbrev S8192x1024 : Shape := ⟨2, ![8192, 1024]⟩
abbrev S1x8192 : Shape := ⟨2, ![1, 8192]⟩
abbrev S1x8192x1 : Shape := ⟨3, ![1, 8192, 1]⟩
abbrev S1x1x1024 : Shape := ⟨3, ![1, 1, 1024]⟩

abbrev nBuf : Space → Nat
  | .hbm => 62
  | .vmem => 0
  | .smem => 0
  | _ => 0

abbrev bufTy : (tb : Table) → Fin (tcTables nBuf tb) → BufTy
  | .hbm, ⟨0, _⟩ => ⟨S1x8192x1024, .f32⟩
  | .hbm, ⟨1, _⟩ => ⟨S1x8192x1024, .f32⟩
  | .hbm, ⟨2, _⟩ => ⟨S1x256x2048, .f32⟩
  | .hbm, ⟨3, _⟩ => ⟨S1024x1024, .f32⟩
  | .hbm, ⟨4, _⟩ => ⟨S1024x1024, .f32⟩
  | .hbm, ⟨5, _⟩ => ⟨S1024, .f32⟩
  | .hbm, ⟨6, _⟩ => ⟨S1x8192x1024, .f32⟩
  | .hbm, ⟨7, _⟩ => ⟨S1x8192x4x256, .f32⟩
  | .hbm, ⟨8, _⟩ => ⟨S1x256x1024, .f32⟩
  | .hbm, ⟨9, _⟩ => ⟨S1x256x1024, .f32⟩
  | .hbm, ⟨10, _⟩ => ⟨S1x256x4x256, .f32⟩
  | .hbm, ⟨11, _⟩ => ⟨S1x256x4x256, .f32⟩
  | .hbm, ⟨12, _⟩ => ⟨S1x4x8192x256, .f32⟩
  | .hbm, ⟨13, _⟩ => ⟨S_, .f32⟩
  | .hbm, ⟨14, _⟩ => ⟨S1x4x8192x256, .f32⟩
  | .hbm, ⟨15, _⟩ => ⟨S1x4x8192x256, .f32⟩
  | .hbm, ⟨16, _⟩ => ⟨S_, .f32⟩
  | .hbm, ⟨17, _⟩ => ⟨S1x4x8192, .f32⟩
  | .hbm, ⟨18, _⟩ => ⟨S_, .f32⟩
  | .hbm, ⟨19, _⟩ => ⟨S1x4x8192, .f32⟩
  | .hbm, ⟨20, _⟩ => ⟨S1x4x8192, .f32⟩
  | .hbm, ⟨21, _⟩ => ⟨S1x4x8192x1, .f32⟩
  | .hbm, ⟨22, _⟩ => ⟨S1x4x8192x256, .f32⟩
  | .hbm, ⟨23, _⟩ => ⟨S1x4x8192x256, .f32⟩
  | .hbm, ⟨24, _⟩ => ⟨S1x4x8192x256, .f32⟩
  | .hbm, ⟨25, _⟩ => ⟨S_, .f32⟩
  | .hbm, ⟨26, _⟩ => ⟨S1x4x8192, .f32⟩
  | .hbm, ⟨27, _⟩ => ⟨S1x4x8192x1, .f32⟩
  | .hbm, ⟨28, _⟩ => ⟨S1x4x8192x256, .f32⟩
  | .hbm, ⟨29, _⟩ => ⟨S1x4x8192x256, .f32⟩
  | .hbm, ⟨30, _⟩ => ⟨S1x4x256x8192, .f32⟩
  | .hbm, ⟨31, _⟩ => ⟨S1x8192x4x256, .f32⟩
  | .hbm, ⟨32, _⟩ => ⟨S1x8192x1024, .f32⟩
  | .hbm, ⟨33, _⟩ => ⟨S1x8192x1024, .f32⟩
  | .hbm, ⟨34, _⟩ => ⟨S1x8192x1024, .f32⟩
  | .hbm, ⟨35, _⟩ => ⟨S1x8192x1024, .f32⟩
  | .hbm, ⟨36, _⟩ => ⟨S_, .f32⟩
  | .hbm, ⟨37, _⟩ => ⟨S1x8192x1024, .f32⟩
  | .hbm, ⟨38, _⟩ => ⟨S1x8192x1024, .f32⟩
  | .hbm, ⟨39, _⟩ => ⟨S8192x1024, .f32⟩
  | .hbm, ⟨40, _⟩ => ⟨S8192x1024, .bf16⟩
  | .hbm, ⟨41, _⟩ => ⟨S8192x1024, .f32⟩
  | .hbm, ⟨42, _⟩ => ⟨S8192x1024, .bf16⟩
  | .hbm, ⟨43, _⟩ => ⟨S8192x1024, .f32⟩
  | .hbm, ⟨44, _⟩ => ⟨S1x8192x1024, .f32⟩
  | .hbm, ⟨45, _⟩ => ⟨S_, .f32⟩
  | .hbm, ⟨46, _⟩ => ⟨S1x8192, .f32⟩
  | .hbm, ⟨47, _⟩ => ⟨S1x8192x1, .f32⟩
  | .hbm, ⟨48, _⟩ => ⟨S_, .f32⟩
  | .hbm, ⟨49, _⟩ => ⟨S1x8192x1, .f32⟩
  | .hbm, ⟨50, _⟩ => ⟨S1x8192x1, .f32⟩
  | .hbm, ⟨51, _⟩ => ⟨S_, .f32⟩
  | .hbm, ⟨52, _⟩ => ⟨S1x8192x1, .f32⟩
  | .hbm, ⟨53, _⟩ => ⟨S1x8192x1, .f32⟩
  | .hbm, ⟨54, _⟩ => ⟨S1x8192x1, .f32⟩
  | .hbm, ⟨55, _⟩ => ⟨S1x8192x1024, .f32⟩
  | .hbm, ⟨56, _⟩ => ⟨S1x8192x1024, .f32⟩
  | .hbm, ⟨57, _⟩ => ⟨S1x1x1024, .f32⟩
  | .hbm, ⟨58, _⟩ => ⟨S1x8192x1024, .f32⟩
  | .hbm, ⟨59, _⟩ => ⟨S1x8192x1024, .f32⟩
  | .hbm, ⟨60, _⟩ => ⟨S8192x1024, .f32⟩
  | .hbm, ⟨61, _⟩ => ⟨S8192x1024, .bf16⟩
  | _, _ => ⟨S1x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_cst_3 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_4 : Ref sig .tc := ⟨.hbm, 45, rfl⟩
abbrev main_v34 : Ref sig .tc := ⟨.hbm, 46, rfl⟩
abbrev main_v35 : Ref sig .tc := ⟨.hbm, 47, rfl⟩
abbrev main_cst_5 : Ref sig .tc := ⟨.hbm, 48, rfl⟩
abbrev main_v36 : Ref sig .tc := ⟨.hbm, 49, rfl⟩
abbrev main_v37 : Ref sig .tc := ⟨.hbm, 50, rfl⟩
abbrev main_cst_6 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩

abbrev nD : Nat := 1
abbrev τ : Topo := Topo.v7x

variable {F : FTy → Type} [FloatOps F]
-- ==== Proof.Frames.lean ====
/- The runs of the kernel calls and of their references: each ends with its arguments unchanged and every semaphore at
   zero. A program and its idealization have one text, so one run serves both. -/
module

public import proofs.«01_k».proof.Defs
public import proofs.«01_k».proof.Proof.Gen.Kernel
public import proofs.«01_k».proof.Proof.Gen.Kernel2
public import proofs.«01_k».proof.Proof.Gen.Kernel3
public import proofs.«01_k».proof.Proof.Gen.Kernel4
public import proofs.«01_k».proof.Proof.Gen.KernelIdeal.Frame
public import proofs.«01_k».proof.Proof.Gen.Kernel2Ideal.Frame
public import proofs.«01_k».proof.Proof.Gen.Kernel3Ideal.Frame
public import proofs.«01_k».proof.Proof.Gen.Kernel4Ideal.Frame
public import proofs.«01_k».proof.Proof.Gen.ReferenceIdeal.Run
public import proofs.«01_k».proof.Proof.Gen.Reference2Ideal.Run
public import proofs.«01_k».proof.Proof.Gen.Reference3Ideal.Run

@[expose] public section

set_option maxRecDepth 16384
set_option maxHeartbeats 2000000

noncomputable section

namespace Cert.Proof

open Idealize.ShloMosaic Idealize.SL.Sem

/-- The body table of `Kernel` is its idealization's. -/
theorem defs_kernel : @Cert.Kernel.defs Bits _ _ = @Cert.KernelIdeal.defs Bits _ _ :=
  congrArg (Pipeline.defs _) (congrArg Defs.onTc (funext fun l => funext fun x => match l with
    | ⟨0, _⟩ => rfl
    | ⟨_ + 1, h⟩ => absurd h (Nat.not_lt.2 (Nat.le_add_left _ _))))

/-- The MLP backward runs, leaves its arguments unchanged and every semaphore at zero. -/
theorem frame_kernel : Cert.quiescent_Kernel := fun m ρ _ => by
  rw [defs_kernel]
  exact Cert.KernelIdeal.Gen.frame (F := Bits) m ρ

/-- The same of its idealization. -/
theorem frame_kernelIdeal : Cert.quiescent_KernelIdeal := fun m ρ _ => Cert.KernelIdeal.Gen.frame m ρ

/-- Its reference runs and leaves its arguments unchanged. -/
theorem frame_reference : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

/-- The body table of `Kernel2` is its idealization's. -/
theorem defs_kernel2 : @Cert.Kernel2.defs Bits _ _ = @Cert.Kernel2Ideal.defs Bits _ _ :=
  congrArg (Pipeline.defs _) (congrArg Defs.onTc (funext fun l => funext fun x => match l with
    | ⟨0, _⟩ => rfl
    | ⟨_ + 1, h⟩ => absurd h (Nat.not_lt.2 (Nat.le_add_left _ _))))

/-- The down-projection's weight gradient runs, leaves its arguments unchanged and every semaphore at zero. -/
theorem frame_kernel2 : Cert.quiescent_Kernel2 := fun m ρ _ => by
  rw [defs_kernel2]
  exact Cert.Kernel2Ideal.Gen.frame (F := Bits) m ρ

/-- The same of its idealization. -/
theorem frame_kernel2Ideal : Cert.quiescent_Kernel2Ideal := fun m ρ _ => Cert.Kernel2Ideal.Gen.frame m ρ

/-- Its reference runs and leaves its arguments unchanged. -/
theorem frame_reference2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The body table of `Kernel3` is its idealization's. -/
theorem defs_kernel3 : @Cert.Kernel3.defs Bits _ _ = @Cert.Kernel3Ideal.defs Bits _ _ :=
  congrArg (Pipeline.defs _) (congrArg Defs.onTc (funext fun l => funext fun x => match l with
    | ⟨0, _⟩ => rfl
    | ⟨_ + 1, h⟩ => absurd h (Nat.not_lt.2 (Nat.le_add_left _ _))))

/-- The up-projection's weight gradient runs, leaves its arguments unchanged and every semaphore at zero. -/
theorem frame_kernel3 : Cert.quiescent_Kernel3 := fun m ρ _ => by
  rw [defs_kernel3]
  exact Cert.Kernel3Ideal.Gen.frame (F := Bits) m ρ

/-- The same of its idealization. -/
theorem frame_kernel3Ideal : Cert.quiescent_Kernel3Ideal := fun m ρ _ => Cert.Kernel3Ideal.Gen.frame m ρ

/-- Its reference runs and leaves its arguments unchanged. -/
theorem frame_reference3 : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- The body table of `Kernel4` is its idealization's. -/
theorem defs_kernel4 : @Cert.Kernel4.defs Bits _ _ = @Cert.Kernel4Ideal.defs Bits _ _ :=
  congrArg (Pipeline.defs _) (congrArg Defs.onTc (funext fun l => funext fun x => match l with
    | ⟨0, _⟩ => rfl
    | ⟨_ + 1, h⟩ => absurd h (Nat.not_lt.2 (Nat.le_add_left _ _))))

/-- The attention backward runs, leaves its arguments unchanged and every semaphore at zero. -/
theorem frame_kernel4 : Cert.quiescent_Kernel4 := fun m ρ _ => by
  rw [defs_kernel4]
  exact Cert.Kernel4Ideal.Gen.frame (F := Bits) m ρ

/-- The same of its idealization. -/
theorem frame_kernel4Ideal : Cert.quiescent_Kernel4Ideal := fun m ρ _ => Cert.Kernel4Ideal.Gen.frame m ρ

end Cert.Proof

end
-- ==== Proof.FramesIn.lean ====
/- The runs of further kernel calls and of their references: each ends with its arguments unchanged and every semaphore
   at zero. A program and its idealization have one text, so one run serves both. -/
module

public import proofs.«01_k».proof.Defs
public import proofs.«01_k».proof.Proof.Gen.Kernel5
public import proofs.«01_k».proof.Proof.Gen.Kernel5Ideal.Frame
public import proofs.«01_k».proof.Proof.Gen.Reference5Ideal.Run
public import proofs.«01_k».proof.Proof.Gen.Kernel6
public import proofs.«01_k».proof.Proof.Gen.Kernel6Ideal.Frame
public import proofs.«01_k».proof.Proof.Gen.Reference6Ideal.Run
public import proofs.«01_k».proof.Proof.Gen.Kernel7
public import proofs.«01_k».proof.Proof.Gen.Kernel7Ideal.Frame
public import proofs.«01_k».proof.Proof.Gen.Reference7Ideal.Run
public import proofs.«01_k».proof.Proof.Gen.Kernel8
public import proofs.«01_k».proof.Proof.Gen.Kernel8Ideal.Frame
public import proofs.«01_k».proof.Proof.Gen.Reference8Ideal.Run
public import proofs.«01_k».proof.Proof.Gen.Kernel9
public import proofs.«01_k».proof.Proof.Gen.Kernel9Ideal.Frame
public import proofs.«01_k».proof.Proof.Gen.Reference9Ideal.Run

@[expose] public section

set_option maxRecDepth 16384
set_option maxHeartbeats 2000000

noncomputable section

namespace Cert.Proof

open Idealize.ShloMosaic Idealize.SL.Sem

/-- The body table of `Kernel5` is its idealization's. -/
theorem defs_kernel5 : @Cert.Kernel5.defs Bits _ _ = @Cert.Kernel5Ideal.defs Bits _ _ :=
  congrArg (Pipeline.defs _) (congrArg Defs.onTc (funext fun l => funext fun x => match l with
    | ⟨0, _⟩ => rfl
    | ⟨_ + 1, h⟩ => absurd h (Nat.not_lt.2 (Nat.le_add_left _ _))))

/-- The gate projection's weight gradient runs, leaves its arguments unchanged and every semaphore at zero. -/
theorem frame_kernel5 : Cert.quiescent_Kernel5 := fun m ρ _ => by
  rw [defs_kernel5]
  exact Cert.Kernel5Ideal.Gen.frame (F := Bits) m ρ

/-- The same of its idealization. -/
theorem frame_kernel5Ideal : Cert.quiescent_Kernel5Ideal := fun m ρ _ => Cert.Kernel5Ideal.Gen.frame m ρ

/-- Its reference runs and leaves its arguments unchanged. -/
theorem frame_reference5 : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- The body table of `Kernel6` is its idealization's. -/
theorem defs_kernel6 : @Cert.Kernel6.defs Bits _ _ = @Cert.Kernel6Ideal.defs Bits _ _ :=
  congrArg (Pipeline.defs _) (congrArg Defs.onTc (funext fun l => funext fun x => match l with
    | ⟨0, _⟩ => rfl
    | ⟨_ + 1, h⟩ => absurd h (Nat.not_lt.2 (Nat.le_add_left _ _))))

/-- The first dilation group's projection weight gradient runs, leaves its arguments unchanged and every semaphore at zero. -/
theorem frame_kernel6 : Cert.quiescent_Kernel6 := fun m ρ _ => by
  rw [defs_kernel6]
  exact Cert.Kernel6Ideal.Gen.frame (F := Bits) m ρ

/-- The same of its idealization. -/
theorem frame_kernel6Ideal : Cert.quiescent_Kernel6Ideal := fun m ρ _ => Cert.Kernel6Ideal.Gen.frame m ρ

/-- Its reference runs and leaves its arguments unchanged. -/
theorem frame_reference6 : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

/-- The body table of `Kernel7` is its idealization's. -/
theorem defs_kernel7 : @Cert.Kernel7.defs Bits _ _ = @Cert.Kernel7Ideal.defs Bits _ _ :=
  congrArg (Pipeline.defs _) (congrArg Defs.onTc (funext fun l => funext fun x => match l with
    | ⟨0, _⟩ => rfl
    | ⟨_ + 1, h⟩ => absurd h (Nat.not_lt.2 (Nat.le_add_left _ _))))

/-- The second dilation group's projection weight gradient runs, leaves its arguments unchanged and every semaphore at zero. -/
theorem frame_kernel7 : Cert.quiescent_Kernel7 := fun m ρ _ => by
  rw [defs_kernel7]
  exact Cert.Kernel7Ideal.Gen.frame (F := Bits) m ρ

/-- The same of its idealization. -/
theorem frame_kernel7Ideal : Cert.quiescent_Kernel7Ideal := fun m ρ _ => Cert.Kernel7Ideal.Gen.frame m ρ

/-- Its reference runs and leaves its arguments unchanged. -/
theorem frame_reference7 : Cert.quiescent_Reference7Ideal := fun m ρ _ =>
  (θ_run Cert.Reference7Ideal.defs _ _).mono (fun r h => ⟨fun c => (h c).2, sem_eq_zero_of_no_sems (by decide) r.2⟩)
    (Cert.Reference7Ideal.Value.run (F := Ideal) m ρ)

/-- The body table of `Kernel8` is its idealization's. -/
theorem defs_kernel8 : @Cert.Kernel8.defs Bits _ _ = @Cert.Kernel8Ideal.defs Bits _ _ :=
  congrArg (Pipeline.defs _) (congrArg Defs.onTc (funext fun l => funext fun x => match l with
    | ⟨0, _⟩ => rfl
    | ⟨_ + 1, h⟩ => absurd h (Nat.not_lt.2 (Nat.le_add_left _ _))))

/-- The third dilation group's projection weight gradient runs, leaves its arguments unchanged and every semaphore at zero. -/
theorem frame_kernel8 : Cert.quiescent_Kernel8 := fun m ρ _ => by
  rw [defs_kernel8]
  exact Cert.Kernel8Ideal.Gen.frame (F := Bits) m ρ

/-- The same of its idealization. -/
theorem frame_kernel8Ideal : Cert.quiescent_Kernel8Ideal := fun m ρ _ => Cert.Kernel8Ideal.Gen.frame m ρ

/-- Its reference runs and leaves its arguments unchanged. -/
theorem frame_reference8 : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

/-- The body table of `Kernel9` is its idealization's. -/
theorem defs_kernel9 : @Cert.Kernel9.defs Bits _ _ = @Cert.Kernel9Ideal.defs Bits _ _ :=
  congrArg (Pipeline.defs _) (congrArg Defs.onTc (funext fun l => funext fun x => match l with
    | ⟨0, _⟩ => rfl
    | ⟨_ + 1, h⟩ => absurd h (Nat.not_lt.2 (Nat.le_add_left _ _))))

/-- The sliding-window group's projection weight gradient runs, leaves its arguments unchanged and every semaphore at zero. -/
theorem frame_kernel9 : Cert.quiescent_Kernel9 := fun m ρ _ => by
  rw [defs_kernel9]
  exact Cert.Kernel9Ideal.Gen.frame (F := Bits) m ρ

/-- The same of its idealization. -/
theorem frame_kernel9Ideal : Cert.quiescent_Kernel9Ideal := fun m ρ _ => Cert.Kernel9Ideal.Gen.frame m ρ

/-- Its reference runs and leaves its arguments unchanged. -/
theorem frame_reference9 : Cert.quiescent_Reference9Ideal := fun m ρ _ =>
  (θ_run Cert.Reference9Ideal.defs _ _).mono (fun r h => ⟨fun c => (h c).2, sem_eq_zero_of_no_sems (by decide) r.2⟩)
    (Cert.Reference9Ideal.Value.run (F := Ideal) m ρ)

end Cert.Proof

end
-- ==== Proof.FramesOut.lean ====
/- The runs of further kernel calls and of their references: each ends with its arguments unchanged and every semaphore
   at zero. A program and its idealization have one text, so one run serves both. -/
module

public import proofs.«01_k».proof.Defs
public import proofs.«01_k».proof.Proof.Gen.Kernel10
public import proofs.«01_k».proof.Proof.Gen.Kernel10Ideal.Frame
public import proofs.«01_k».proof.Proof.Gen.Reference10Ideal.Run
public import proofs.«01_k».proof.Proof.Gen.Kernel11
public import proofs.«01_k».proof.Proof.Gen.Kernel11Ideal.Frame
public import proofs.«01_k».proof.Proof.Gen.Reference11Ideal.Run
public import proofs.«01_k».proof.Proof.Gen.Kernel12
public import proofs.«01_k».proof.Proof.Gen.Kernel12Ideal.Frame
public import proofs.«01_k».proof.Proof.Gen.Reference12Ideal.Run

@[expose] public section

set_option maxRecDepth 16384
set_option maxHeartbeats 2000000

noncomputable section

namespace Cert.Proof

open Idealize.ShloMosaic Idealize.SL.Sem

/-- The body table of `Kernel10` is its idealization's. -/
theorem defs_kernel10 : @Cert.Kernel10.defs Bits _ _ = @Cert.Kernel10Ideal.defs Bits _ _ :=
  congrArg (Pipeline.defs _) (congrArg Defs.onTc (funext fun l => funext fun x => match l with
    | ⟨0, _⟩ => rfl
    | ⟨_ + 1, h⟩ => absurd h (Nat.not_lt.2 (Nat.le_add_left _ _))))

/-- The output projection's weight gradient runs, leaves its arguments unchanged and every semaphore at zero. -/
theorem frame_kernel10 : Cert.quiescent_Kernel10 := fun m ρ _ => by
  rw [defs_kernel10]
  exact Cert.Kernel10Ideal.Gen.frame (F := Bits) m ρ

/-- The same of its idealization. -/
theorem frame_kernel10Ideal : Cert.quiescent_Kernel10Ideal := fun m ρ _ => Cert.Kernel10Ideal.Gen.frame m ρ

/-- Its reference runs and leaves its arguments unchanged. -/
theorem frame_reference10 : Cert.quiescent_Reference10Ideal := fun m ρ _ =>
  (θ_run Cert.Reference10Ideal.defs _ _).mono (fun r h => ⟨fun c => (h c).2, sem_eq_zero_of_no_sems (by decide) r.2⟩)
    (Cert.Reference10Ideal.Value.run (F := Ideal) m ρ)

/-- The body table of `Kernel11` is its idealization's. -/
theorem defs_kernel11 : @Cert.Kernel11.defs Bits _ _ = @Cert.Kernel11Ideal.defs Bits _ _ :=
  congrArg (Pipeline.defs _) (congrArg Defs.onTc (funext fun l => funext fun x => match l with
    | ⟨0, _⟩ => rfl
    | ⟨_ + 1, h⟩ => absurd h (Nat.not_lt.2 (Nat.le_add_left _ _))))

/-- The cross attention's output weight gradient runs, leaves its arguments unchanged and every semaphore at zero. -/
theorem frame_kernel11 : Cert.quiescent_Kernel11 := fun m ρ _ => by
  rw [defs_kernel11]
  exact Cert.Kernel11Ideal.Gen.frame (F := Bits) m ρ

/-- The same of its idealization. -/
theorem frame_kernel11Ideal : Cert.quiescent_Kernel11Ideal := fun m ρ _ => Cert.Kernel11Ideal.Gen.frame m ρ

/-- Its reference runs and leaves its arguments unchanged. -/
theorem frame_reference11 : Cert.quiescent_Reference11Ideal := fun m ρ _ =>
  (θ_run Cert.Reference11Ideal.defs _ _).mono (fun r h => ⟨fun c => (h c).2, sem_eq_zero_of_no_sems (by decide) r.2⟩)
    (Cert.Reference11Ideal.Value.run (F := Ideal) m ρ)

/-- The body table of `Kernel12` is its idealization's. -/
theorem defs_kernel12 : @Cert.Kernel12.defs Bits _ _ = @Cert.Kernel12Ideal.defs Bits _ _ :=
  congrArg (Pipeline.defs _) (congrArg Defs.onTc (funext fun l => funext fun x => match l with
    | ⟨0, _⟩ => rfl
    | ⟨_ + 1, h⟩ => absurd h (Nat.not_lt.2 (Nat.le_add_left _ _))))

/-- The cross attention's query weight gradient runs, leaves its arguments unchanged and every semaphore at zero. -/
theorem frame_kernel12 : Cert.quiescent_Kernel12 := fun m ρ _ => by
  rw [defs_kernel12]
  exact Cert.Kernel12Ideal.Gen.frame (F := Bits) m ρ

/-- The same of its idealization. -/
theorem frame_kernel12Ideal : Cert.quiescent_Kernel12Ideal := fun m ρ _ => Cert.Kernel12Ideal.Gen.frame m ρ

/-- Its reference runs and leaves its arguments unchanged. -/
theorem frame_reference12 : Cert.quiescent_Reference12Ideal := fun m ρ _ =>
  (θ_run Cert.Reference12Ideal.defs _ _).mono (fun r h => ⟨fun c => (h c).2, sem_eq_zero_of_no_sems (by decide) r.2⟩)
    (Cert.Reference12Ideal.Value.run (F := Ideal) m ρ)

end Cert.Proof

end
-- ==== Proof.FramesMlp.lean ====
/- The runs of further kernel calls and of their references: each ends with its arguments unchanged and every semaphore
   at zero. A program and its idealization have one text, so one run serves both. -/
module

public import proofs.«01_k».proof.Defs
public import proofs.«01_k».proof.Proof.Gen.Kernel13
public import proofs.«01_k».proof.Proof.Gen.Kernel13Ideal.Frame
public import proofs.«01_k».proof.Proof.Gen.Reference13Ideal.Run
public import proofs.«01_k».proof.Proof.Gen.Kernel14
public import proofs.«01_k».proof.Proof.Gen.Kernel14Ideal.Frame
public import proofs.«01_k».proof.Proof.Gen.Reference14Ideal.Run

@[expose] public section

set_option maxRecDepth 16384
set_option maxHeartbeats 2000000

noncomputable section

namespace Cert.Proof

open Idealize.ShloMosaic Idealize.SL.Sem

/-- The body table of `Kernel13` is its idealization's. -/
theorem defs_kernel13 : @Cert.Kernel13.defs Bits _ _ = @Cert.Kernel13Ideal.defs Bits _ _ :=
  congrArg (Pipeline.defs _) (congrArg Defs.onTc (funext fun l => funext fun x => match l with
    | ⟨0, _⟩ => rfl
    | ⟨_ + 1, h⟩ => absurd h (Nat.not_lt.2 (Nat.le_add_left _ _))))

/-- The MLP's forward call runs, leaves its arguments unchanged and every semaphore at zero. -/
theorem frame_kernel13 : Cert.quiescent_Kernel13 := fun m ρ _ => by
  rw [defs_kernel13]
  exact Cert.Kernel13Ideal.Gen.frame (F := Bits) m ρ

/-- The same of its idealization. -/
theorem frame_kernel13Ideal : Cert.quiescent_Kernel13Ideal := fun m ρ _ => Cert.Kernel13Ideal.Gen.frame m ρ

/-- Its reference runs and leaves its arguments unchanged. -/
theorem frame_reference13 : Cert.quiescent_Reference13Ideal := fun m ρ _ =>
  (θ_run Cert.Reference13Ideal.defs _ _).mono (fun r h => ⟨fun c => (h c).2.2.2.2, sem_eq_zero_of_no_sems (by decide) r.2⟩)
    (Cert.Reference13Ideal.Value.run (F := Ideal) m ρ)

/-- The body table of `Kernel14` is its idealization's. -/
theorem defs_kernel14 : @Cert.Kernel14.defs Bits _ _ = @Cert.Kernel14Ideal.defs Bits _ _ :=
  congrArg (Pipeline.defs _) (congrArg Defs.onTc (funext fun l => funext fun x => match l with
    | ⟨0, _⟩ => rfl
    | ⟨_ + 1, h⟩ => absurd h (Nat.not_lt.2 (Nat.le_add_left _ _))))

/-- The merge's backward call runs, leaves its arguments unchanged and every semaphore at zero. -/
theorem frame_kernel14 : Cert.quiescent_Kernel14 := fun m ρ _ => by
  rw [defs_kernel14]
  exact Cert.Kernel14Ideal.Gen.frame (F := Bits) m ρ

/-- The same of its idealization. -/
theorem frame_kernel14Ideal : Cert.quiescent_Kernel14Ideal := fun m ρ _ => Cert.Kernel14Ideal.Gen.frame m ρ

/-- Its reference runs and leaves its arguments unchanged. -/
theorem frame_reference14 : Cert.quiescent_Reference14Ideal := fun m ρ _ =>
  (θ_run Cert.Reference14Ideal.defs _ _).mono (fun r h => ⟨fun c => (h c).2.2.2.2.2, sem_eq_zero_of_no_sems (by decide) r.2⟩)
    (Cert.Reference14Ideal.Value.run (F := Ideal) m ρ)

end Cert.Proof

end
-- ==== Proof.FramesFwd.lean ====
/- The runs of further kernel calls and of their references: each ends with its arguments unchanged and every semaphore
   at zero. A program and its idealization have one text, so one run serves both. -/
module

public import proofs.«01_k».proof.Defs
public import proofs.«01_k».proof.Proof.Gen.Kernel15
public import proofs.«01_k».proof.Proof.Gen.Kernel15Ideal.Frame
public import proofs.«01_k».proof.Proof.Gen.Reference15Ideal.Run
public import proofs.«01_k».proof.Proof.Gen.Kernel16
public import proofs.«01_k».proof.Proof.Gen.Kernel16Ideal.Frame
public import proofs.«01_k».proof.Proof.Gen.Reference16Ideal.Run
public import proofs.«01_k».proof.Proof.Gen.Kernel17
public import proofs.«01_k».proof.Proof.Gen.Kernel17Ideal.Frame
public import proofs.«01_k».proof.Proof.Gen.Reference17Ideal.Run
public import proofs.«01_k».proof.Proof.Gen.Kernel18
public import proofs.«01_k».proof.Proof.Gen.Kernel18Ideal.Frame
public import proofs.«01_k».proof.Proof.Gen.Reference18Ideal.Run

@[expose] public section

set_option maxRecDepth 16384
set_option maxHeartbeats 2000000

noncomputable section

namespace Cert.Proof

open Idealize.ShloMosaic Idealize.SL.Sem

/-- The body table of `Kernel15` is its idealization's. -/
theorem defs_kernel15 : @Cert.Kernel15.defs Bits _ _ = @Cert.Kernel15Ideal.defs Bits _ _ :=
  congrArg (Pipeline.defs _) (congrArg Defs.onTc (funext fun l => funext fun x => match l with
    | ⟨0, _⟩ => rfl
    | ⟨_ + 1, h⟩ => absurd h (Nat.not_lt.2 (Nat.le_add_left _ _))))

/-- The first branch's weight gradient runs, leaves its arguments unchanged and every semaphore at zero. -/
theorem frame_kernel15 : Cert.quiescent_Kernel15 := fun m ρ _ => by
  rw [defs_kernel15]
  exact Cert.Kernel15Ideal.Gen.frame (F := Bits) m ρ

/-- The same of its idealization. -/
theorem frame_kernel15Ideal : Cert.quiescent_Kernel15Ideal := fun m ρ _ => Cert.Kernel15Ideal.Gen.frame m ρ

/-- Its reference runs and leaves its arguments unchanged. -/
theorem frame_reference15 : Cert.quiescent_Reference15Ideal := fun m ρ _ =>
  (θ_run Cert.Reference15Ideal.defs _ _).mono (fun r h => ⟨fun c => (h c).2, sem_eq_zero_of_no_sems (by decide) r.2⟩)
    (Cert.Reference15Ideal.Value.run (F := Ideal) m ρ)

/-- The body table of `Kernel16` is its idealization's. -/
theorem defs_kernel16 : @Cert.Kernel16.defs Bits _ _ = @Cert.Kernel16Ideal.defs Bits _ _ :=
  congrArg (Pipeline.defs _) (congrArg Defs.onTc (funext fun l => funext fun x => match l with
    | ⟨0, _⟩ => rfl
    | ⟨_ + 1, h⟩ => absurd h (Nat.not_lt.2 (Nat.le_add_left _ _))))

/-- The second branch's weight gradient runs, leaves its arguments unchanged and every semaphore at zero. -/
theorem frame_kernel16 : Cert.quiescent_Kernel16 := fun m ρ _ => by
  rw [defs_kernel16]
  exact Cert.Kernel16Ideal.Gen.frame (F := Bits) m ρ

/-- The same of its idealization. -/
theorem frame_kernel16Ideal : Cert.quiescent_Kernel16Ideal := fun m ρ _ => Cert.Kernel16Ideal.Gen.frame m ρ

/-- Its reference runs and leaves its arguments unchanged. -/
theorem frame_reference16 : Cert.quiescent_Reference16Ideal := fun m ρ _ =>
  (θ_run Cert.Reference16Ideal.defs _ _).mono (fun r h => ⟨fun c => (h c).2, sem_eq_zero_of_no_sems (by decide) r.2⟩)
    (Cert.Reference16Ideal.Value.run (F := Ideal) m ρ)

/-- The body table of `Kernel17` is its idealization's. -/
theorem defs_kernel17 : @Cert.Kernel17.defs Bits _ _ = @Cert.Kernel17Ideal.defs Bits _ _ :=
  congrArg (Pipeline.defs _) (congrArg Defs.onTc (funext fun l => funext fun x => match l with
    | ⟨0, _⟩ => rfl
    | ⟨_ + 1, h⟩ => absurd h (Nat.not_lt.2 (Nat.le_add_left _ _))))

/-- The gates' forward call runs, leaves its arguments unchanged and every semaphore at zero. -/
theorem frame_kernel17 : Cert.quiescent_Kernel17 := fun m ρ _ => by
  rw [defs_kernel17]
  exact Cert.Kernel17Ideal.Gen.frame (F := Bits) m ρ

/-- The same of its idealization. -/
theorem frame_kernel17Ideal : Cert.quiescent_Kernel17Ideal := fun m ρ _ => Cert.Kernel17Ideal.Gen.frame m ρ

/-- Its reference runs and leaves its arguments unchanged. -/
theorem frame_reference17 : Cert.quiescent_Reference17Ideal := fun m ρ _ =>
  (θ_run Cert.Reference17Ideal.defs _ _).mono (fun r h => ⟨fun c => (h c).2, sem_eq_zero_of_no_sems (by decide) r.2⟩)
    (Cert.Reference17Ideal.Value.run (F := Ideal) m ρ)

/-- The body table of `Kernel18` is its idealization's. -/
theorem defs_kernel18 : @Cert.Kernel18.defs Bits _ _ = @Cert.Kernel18Ideal.defs Bits _ _ :=
  congrArg (Pipeline.defs _) (congrArg Defs.onTc (funext fun l => funext fun x => match l with
    | ⟨0, _⟩ => rfl
    | ⟨_ + 1, h⟩ => absurd h (Nat.not_lt.2 (Nat.le_add_left _ _))))

/-- The cross attention's forward call runs, leaves its arguments unchanged and every semaphore at zero. -/
theorem frame_kernel18 : Cert.quiescent_Kernel18 := fun m ρ _ => by
  rw [defs_kernel18]
  exact Cert.Kernel18Ideal.Gen.frame (F := Bits) m ρ

/-- The same of its idealization. -/
theorem frame_kernel18Ideal : Cert.quiescent_Kernel18Ideal := fun m ρ _ => Cert.Kernel18Ideal.Gen.frame m ρ

/-- Its reference runs and leaves its arguments unchanged. -/
theorem frame_reference18 : Cert.quiescent_Reference18Ideal := fun m ρ _ =>
  (θ_run Cert.Reference18Ideal.defs _ _).mono (fun r h => ⟨fun c => (h c).2.2.2.2, sem_eq_zero_of_no_sems (by decide) r.2⟩)
    (Cert.Reference18Ideal.Value.run (F := Ideal) m ρ)

end Cert.Proof

end
-- ==== Proof.Dw1.lean ====
/- The value of the up-projection's weight gradient `Cert.Kernel3Ideal` over the extended reals: its result array is the
   reference's contraction of the normalised input with the pre-activation's gradient over all 8192 rows, in eight column
   shards. -/
module

public import proofs.«01_k».proof.Proof.Gen.Kernel3Ideal.Value
public import proofs.«01_k».proof.Proof.Gen.Kernel3Ideal.Frame
public import proofs.«01_k».proof.Proof.Gen.Reference3Ideal.Run
public import proofs.«01_k».proof.Proof.Gen.Reference3Ideal.Read
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel3Ideal.Dw

open Cert.Kernel3Ideal Cert.Kernel3Ideal.Gen

variable (m : (ℓ : Loc nD τ sig) → Buf (Elt Ideal) ℓ)

/-- Each window's block index at each grid point: row block `t % 4`, column block `t / 4`. -/
theorem idx : ∀ t : Fin cfg0.N, win0_0.index t = ![t.val % 4, 0]
    ∧ win0_1.index t = ![t.val % 4, t.val / 4]
    ∧ win0_2.index t = ![t.val / 4, 0, 0] :=
  (by decide +kernel : ∀ t : Fin grid0.N, _)

/-- The product of one row block at a cell: the normalised input's column times the gradient's column. -/
theorem pay1_at (v0 : FVec Ideal S2048x1024 .bf16) (v3 : FVec Ideal S2048x1024 .bf16) (j : S1024x1024.Idx) :
    k0_pay1 (F := Ideal) v0 v3 j
      = ∑ k : Fin 2048, (v0 (ix2 k (j 0)) : EReal) * v3 (ix2 k (j 1)) := by
  pointwise [k0_pay1]

/-- The first point's store is its product. -/
theorem pay2_at (v0 : FVec Ideal S2048x1024 .bf16) (v3 : FVec Ideal S2048x1024 .bf16) (j : S1024x1024.Idx) :
    k0_pay2 (F := Ideal) v0 v3 j = k0_pay1 (F := Ideal) v0 v3 j := by
  pointwise [k0_pay2, k0_pay1]

/-- A later point's store adds its product to what was there. -/
theorem pay3_at (v0 : FVec Ideal S2048x1024 .bf16) (v3 : FVec Ideal S2048x1024 .bf16) (v16 : FVec Ideal S1024x1024 .f32)
    (j : S1024x1024.Idx) : k0_pay3 (F := Ideal) v0 v3 v16 j = (v16 j + k0_pay1 (F := Ideal) v0 v3 j : EReal) := by
  pointwise [k0_pay3, k0_pay1]

/-- What the first point of a run leaves in the accumulator. -/
theorem acc_first (c : Dev nD) (t : Fin cfg0.N) (h : t.val % 4 = 0) (j : S1024x1024.Idx) :
    (outsAt0 m c t.val t.isLt).2 j = (0 + k0_pay1 (F := Ideal) (iblk m c 0 t) (iblk m c 1 t) j : EReal) := by
  rw [outsAt0_A m c t h (by omega) (by omega)]
  frame_out
  rw [pay2_at, zero_add]

/-- What a later point of a run leaves in the accumulator. -/
theorem acc_next (c : Dev nD) (t : Fin cfg0.N) (h : ¬ t.val % 4 = 0) (j : S1024x1024.Idx) :
    (outsAt0 m c t.val t.isLt).2 j
      = ((outsAt0 m c (t.val - 1) (Nat.lt_of_le_of_lt (Nat.sub_le _ _) t.isLt)).2 j
          + k0_pay1 (F := Ideal) (iblk m c 0 t) (iblk m c 1 t) j : EReal) := by
  by_cases h3 : t.val % 4 = 3
  · rw [outsAt0_C m c t h (by omega) h3]
    frame_out
    rw [read_unread_whole, pay3_at]
  · rw [outsAt0_B m c t h (by omega) h3]
    frame_out
    rw [read_unread_whole, pay3_at]

/-- The last point of a run writes out its accumulator, its left half of columns first and its right half second. -/
theorem out_last (c : Dev nD) (t : Fin cfg0.N) (h3 : t.val % 4 = 3) (y : S2x1024x512.Idx) (j : S1024x1024.Idx)
    (h0 : (j 0 : ℕ) = y 1) (h1 : (j 1 : ℕ) = (y 0 : ℕ) * 512 + y 2) :
    (outsAt0 m c t.val t.isLt).1 y = ((outsAt0 m c t.val t.isLt).2 j : EReal) := by
  rw [outsAt0_C m c t (by omega) (by omega) h3]
  frame_out
  rw [read_unread_whole]
  generalize k0_pay3 (F := Ideal) (iblk m c 0 t) (iblk m c 1 t)
    (outsAt0 m c (t.val - 1) (Nat.lt_of_le_of_lt (Nat.sub_le _ _) t.isLt)).2 = Z
  have hz : ∀ a : Fin S1024x1024.rank, (![0, 0] : Fin S1024x1024.rank → ℕ) a = 0 := by decide
  rw [View.readCov_fill (s := S1024x1024) (off := ![0, 0]) _ _ _ _ _ hz, View.readCov_fill (s := S1024x1024) (off := ![0, 0]) _ _ _ _ _ hz]
  canon_tiles x hx
  all_goals (open_payloads; pointwise; blk_ext)

/-- The normalised input of the reference over the kernel's arguments. -/
abbrev norm (c : Dev nD) : FVec Ideal Cert.Reference3Ideal.S1x8192x1024 .f32 :=
  Cert.Reference3Ideal.Read.val_main_v12 (F := Ideal)
    (m ((c : Thread nD τ).loc main_arg0)) (m ((c : Thread nD τ).loc main_arg1))

/-- The pre-activation's gradient of the reference over the kernel's arguments. -/
abbrev grad (c : Dev nD) : FVec Ideal Cert.Reference3Ideal.S1x8192x4096 .f32 :=
  Cert.Reference3Ideal.Read.val_main_v26 (F := Ideal)
    (m ((c : Thread nD τ).loc main_arg0)) (m ((c : Thread nD τ).loc main_arg1)) (m ((c : Thread nD τ).loc main_arg2))
    (m ((c : Thread nD τ).loc main_arg3)) (m ((c : Thread nD τ).loc main_arg4))

/-- The first operand of the call: the normalised input, its leading axis of size one dropped. -/
theorem lhs_eq (c : Dev nD) : V m c main_v40
    = truncf (F := Ideal) .bf16 (shapeCast S8192x1024 (norm m c) shapeCasts_S1x8192x1024_S8192x1024) bitsLt_bf16_f32 := by
  rfl

/-- The second operand of the call: the pre-activation's gradient, its leading axis of size one dropped. -/
theorem rhs_eq (c : Dev nD) : V m c main_v42
    = truncf (F := Ideal) .bf16 (shapeCast S8192x4096 (grad m c) shapeCasts_S1x8192x4096_S8192x4096) bitsLt_bf16_f32 := by
  rfl

/-- Dropping the leading axis of the normalised input keeps the other two coordinates. -/
theorem drop_lhs (X : FVec Ideal Cert.Reference3Ideal.S1x8192x1024 .f32) (i : S8192x1024.Idx)
    (j : Cert.Reference3Ideal.S1x8192x1024.Idx) (h1 : (j 1 : ℕ) = i 0) (h2 : (j 2 : ℕ) = i 1) :
    (truncf (F := Ideal) .bf16 (shapeCast S8192x1024 X shapeCasts_S1x8192x1024_S8192x1024) bitsLt_bf16_f32 i : EReal)
      = X j := by
  pointwise
  blk_ext

/-- Dropping the leading axis of the gradient keeps the other two coordinates. -/
theorem drop_rhs (A : FVec Ideal Cert.Reference3Ideal.S1x8192x4096 .f32) (i : S8192x4096.Idx)
    (j : Cert.Reference3Ideal.S1x8192x4096.Idx) (h1 : (j 1 : ℕ) = i 0) (h2 : (j 2 : ℕ) = i 1) :
    (truncf (F := Ideal) .bf16 (shapeCast S8192x4096 A shapeCasts_S1x8192x4096_S8192x4096) bitsLt_bf16_f32 i : EReal)
      = A j := by
  pointwise
  blk_ext

/-- A block of the first operand, read at its place in the normalised input. -/
theorem lhs_blk (c : Dev nD) (t : Fin cfg0.N) (x : S2048x1024.Idx) (i : Cert.Reference3Ideal.S1x8192x1024.Idx)
    (h1 : (i 1 : ℕ) = t.val % 4 * 2048 + x 0) (h2 : (i 2 : ℕ) = x 1) :
    (iblk m c 0 t x : EReal) = norm m c i := by
  blk_simp [iblk]
  rw [lhs_eq]
  exact drop_lhs _ _ i (by blk_simp [idx t]; omega) (by blk_simp [idx t]; omega)

/-- A block of the second operand, read at its place in the gradient. -/
theorem rhs_blk (c : Dev nD) (t : Fin cfg0.N) (x : S2048x1024.Idx) (i : Cert.Reference3Ideal.S1x8192x4096.Idx)
    (h1 : (i 1 : ℕ) = t.val % 4 * 2048 + x 0) (h2 : (i 2 : ℕ) = t.val / 4 * 1024 + x 1) :
    (iblk m c 1 t x : EReal) = grad m c i := by
  blk_simp [iblk]
  rw [rhs_eq]
  exact drop_rhs _ _ i (by blk_simp [idx t]; omega) (by blk_simp [idx t]; omega)

/-- The reference's result over the normalised input `X` and the pre-activation's gradient `A`. -/
def ref (A : FVec Ideal Cert.Reference3Ideal.S1x8192x4096 .f32) (X : FVec Ideal Cert.Reference3Ideal.S1x8192x1024 .f32) :
    FVec Ideal Cert.Reference3Ideal.S8x1024x512 .bf16 :=
  truncf .bf16 (transpose Cert.Reference3Ideal.S8x1024x512 [1, 0, 2]
    (shapeCast Cert.Reference3Ideal.S1024x8x512
      (transpose Cert.Reference3Ideal.S1024x4096 [1, 0]
        (Host.dotGeneral Cert.Reference3Ideal.dot_S1x8192x4096_S1x8192x1024_S4096x1024_01_01_2_2_n_n none A X)
        Cert.Reference3Ideal.Gen.transposes_S4096x1024_S1024x4096_1_0)
      Cert.Reference3Ideal.Gen.shapeCasts_S1024x4096_S1024x8x512)
    Cert.Reference3Ideal.Gen.transposes_S1024x8x512_S8x1024x512_1_0_2) Cert.Reference3Ideal.Gen.bitsLt_bf16_f32

/-- The reference's result at a cell, as one sum over the rows. -/
theorem ref_at (A : FVec Ideal Cert.Reference3Ideal.S1x8192x4096 .f32) (X : FVec Ideal Cert.Reference3Ideal.S1x8192x1024 .f32)
    (i : Cert.Reference3Ideal.S8x1024x512.Idx) (n : Fin 4096) (hn : n.val = (i 0 : ℕ) * 512 + i 2) :
    ref A X i = ∑ l : Fin 8192, (X (ix3 0 l (i 1)) : EReal) * A (ix3 0 l n) := by
  pointwise [ref]
  rw [Fin.sum_univ_one]
  refine Finset.sum_congr rfl fun l _ => ?_
  rw [mul_comm]
  refine congrArg₂ (fun a b : EReal => a * b) ?_ ?_
  all_goals blk_ext

/-- The result array after the run is the reference's result over the same normalised input and gradient. -/
theorem final (c : Dev nD) : (dats m 0 c).arrAt 2 (cfgs 0).N = ref (grad m c) (norm m c) := by
  refine (dats m 0 c).arrAt_eq_of_covers 2 _ (by decide +kernel) fun t hf y => ?_
  blk_simp
  rw [after0_2]
  have ht : t.val % 4 = 3 := (flush0_2 t).mp hf
  have hN : t.val < 16 := lt_of_lt_of_eq t.isLt N_0
  obtain_idx j : S1024x1024 := [(y 1 : ℕ), (y 0 : ℕ) * 512 + (y 2 : ℕ)] with hj
  rw [out_last m c t ht y j hj0 hj1]
  rw [Pipeline.eq_sum_fin_of_reset_step_apply_of_flush (fun n h => (outsAt0 m c n h).2) 4 (fun _ => (0 : EReal)) _
    (acc_first m c) (acc_next m c) t ht _, zero_add]
  have hn : t.val / 4 * 1024 + (y 0 : ℕ) * 512 + (y 2 : ℕ) < 4096 := by idx_bounds; omega
  have hlane : ∀ a b : ℕ, t.val / 4 * 1024 + a * 512 + b = (t.val / 4 * 2 + a) * 512 + b := fun a b => by omega
  rw [ref_at _ _ _ ⟨_, hn⟩ (by blk_simp [idx t]; exact hlane _ _)]
  simp only [pay1_at]
  refine Fin.sum_mul_add_congr fun s k hl => ?_
  have hrow : s.val * 2048 + k.val = (4 * (t.val / 4) + s.val) % 4 * 2048 + k.val := by omega
  have e0 := lhs_blk m c ⟨4 * (t.val / 4) + s.val, Pipeline.run_point_lt_of_flush t ht s⟩ (ix2 k (j 0))
    (ix3 0 ⟨s.val * 2048 + k.val, hl⟩ (((cfg0.win 2).blk t).view.emb y 1)) hrow (by blk_simp [idx t]; exact hj0.symm)
  have e1 := rhs_blk m c ⟨4 * (t.val / 4) + s.val, Pipeline.run_point_lt_of_flush t ht s⟩ (ix2 k (j 1))
    (ix3 0 ⟨s.val * 2048 + k.val, hl⟩ ⟨_, hn⟩) hrow (by
      show t.val / 4 * 1024 + (y 0 : ℕ) * 512 + (y 2 : ℕ) = (4 * (t.val / 4) + s.val) / 4 * 1024 + (j 1 : ℕ)
      omega)
  exact congrArg₂ (fun a b : EReal => a * b) e0 e1

end Cert.Kernel3Ideal.Dw

end
-- ==== Proof.Dw2.lean ====
/- The value of the down-projection's weight gradient `Cert.Kernel2Ideal` over the extended reals: its result array is the
   reference's contraction of the squared activations with the incoming gradient over all 8192 rows. -/
module

public import proofs.«01_k».proof.Proof.Gen.Kernel2Ideal.Value
public import proofs.«01_k».proof.Proof.Gen.Kernel2Ideal.Frame
public import proofs.«01_k».proof.Proof.Gen.Reference2Ideal.Run
public import proofs.«01_k».proof.Proof.Gen.Reference2Ideal.Read
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel2Ideal.Dw

open Cert.Kernel2Ideal Cert.Kernel2Ideal.Gen

variable (m : (ℓ : Loc nD τ sig) → Buf (Elt Ideal) ℓ)

/-- Each window's block index at each grid point: row block `t % 4`, column block `t / 4`. -/
theorem idx : ∀ t : Fin cfg0.N, win0_0.index t = ![t.val % 4, t.val / 4]
    ∧ win0_1.index t = ![t.val % 4, 0]
    ∧ win0_2.index t = ![t.val / 4, 0] :=
  (by decide +kernel : ∀ t : Fin grid0.N, _)

/-- The product of one row block at a cell: the squared activations' column times the gradient's column. -/
theorem pay1_at (v0 : FVec Ideal S2048x1024 .bf16) (v3 : FVec Ideal S2048x1024 .f32) (j : S1024x1024.Idx) :
    k0_pay1 (F := Ideal) v0 v3 j
      = ∑ k : Fin 2048, (v0 (ix2 k (j 0)) * v0 (ix2 k (j 0)) : EReal) * v3 (ix2 k (j 1)) := by
  pointwise [k0_pay1]

/-- The first point's store is its product. -/
theorem pay2_at (v0 : FVec Ideal S2048x1024 .bf16) (v3 : FVec Ideal S2048x1024 .f32) (j : S1024x1024.Idx) :
    k0_pay2 (F := Ideal) v0 v3 j = k0_pay1 (F := Ideal) v0 v3 j := by
  pointwise [k0_pay2, k0_pay1]

/-- A later point's store adds its product to what was there. -/
theorem pay3_at (v0 : FVec Ideal S2048x1024 .bf16) (v3 : FVec Ideal S2048x1024 .f32) (v16 : FVec Ideal S1024x1024 .f32)
    (j : S1024x1024.Idx) : k0_pay3 (F := Ideal) v0 v3 v16 j = (v16 j + k0_pay1 (F := Ideal) v0 v3 j : EReal) := by
  pointwise [k0_pay3, k0_pay1]

/-- The last point's store is the accumulator. -/
theorem pay4_at (v16 : FVec Ideal S1024x1024 .f32) (j : S1024x1024.Idx) : k0_pay4 (F := Ideal) v16 j = v16 j := by
  pointwise [k0_pay4]

/-- What the first point of a run leaves in the accumulator. -/
theorem acc_first (c : Dev nD) (t : Fin cfg0.N) (h : t.val % 4 = 0) (j : S1024x1024.Idx) :
    (outsAt0 m c t.val t.isLt).2 j = (0 + k0_pay1 (F := Ideal) (iblk m c 0 t) (iblk m c 1 t) j : EReal) := by
  rw [outsAt0_A m c t h (by omega) (by omega)]
  frame_out
  rw [pay2_at, zero_add]

/-- What a later point of a run leaves in the accumulator. -/
theorem acc_next (c : Dev nD) (t : Fin cfg0.N) (h : ¬ t.val % 4 = 0) (j : S1024x1024.Idx) :
    (outsAt0 m c t.val t.isLt).2 j
      = ((outsAt0 m c (t.val - 1) (Nat.lt_of_le_of_lt (Nat.sub_le _ _) t.isLt)).2 j
          + k0_pay1 (F := Ideal) (iblk m c 0 t) (iblk m c 1 t) j : EReal) := by
  by_cases h3 : t.val % 4 = 3
  · rw [outsAt0_C m c t h (by omega) h3]
    frame_out
    rw [read_unread_whole, pay3_at]
  · rw [outsAt0_B m c t h (by omega) h3]
    frame_out
    rw [read_unread_whole, pay3_at]

/-- The last point of a run writes out its accumulator. -/
theorem out_last (c : Dev nD) (t : Fin cfg0.N) (h3 : t.val % 4 = 3) (j : S1024x1024.Idx) :
    (outsAt0 m c t.val t.isLt).1 j = ((outsAt0 m c t.val t.isLt).2 j : EReal) := by
  rw [outsAt0_C m c t (by omega) (by omega) h3]
  frame_out
  rw [pay4_at]

/-- The rectified pre-activation of the reference over the kernel's arguments. -/
abbrev act (c : Dev nD) : FVec Ideal Cert.Reference2Ideal.S1x8192x4096 .f32 :=
  Cert.Reference2Ideal.Read.val_main_v14 (F := Ideal)
    (m ((c : Thread nD τ).loc main_arg0)) (m ((c : Thread nD τ).loc main_arg1)) (m ((c : Thread nD τ).loc main_arg2))

/-- The first operand of the call: the rectified pre-activation, its leading axis of size one dropped. -/
theorem lhs_eq (c : Dev nD) : V m c main_v16
    = shapeCast S8192x4096 (truncf (F := Ideal) .bf16 (act m c) bitsLt_bf16_f32) shapeCasts_S1x8192x4096_S8192x4096 := by
  rfl

/-- The second operand of the call: the incoming gradient, its leading axis of size one dropped. -/
theorem rhs_eq (c : Dev nD) : V m c main_v17
    = shapeCast S8192x1024 (m ((c : Thread nD τ).loc main_arg4)) shapeCasts_S1x8192x1024_S8192x1024 := by
  rfl

/-- Dropping the leading axis of the activations keeps the other two coordinates. -/
theorem drop_lhs (A : FVec Ideal Cert.Reference2Ideal.S1x8192x4096 .f32) (i : S8192x4096.Idx)
    (j : Cert.Reference2Ideal.S1x8192x4096.Idx) (h1 : (j 1 : ℕ) = i 0) (h2 : (j 2 : ℕ) = i 1) :
    (shapeCast S8192x4096 (truncf (F := Ideal) .bf16 A bitsLt_bf16_f32) shapeCasts_S1x8192x4096_S8192x4096 i : EReal)
      = A j := by
  pointwise
  blk_ext

/-- Dropping the leading axis of the gradient keeps the other two coordinates. -/
theorem drop_rhs (X : FVec Ideal Cert.Reference2Ideal.S1x8192x1024 .f32) (i : S8192x1024.Idx)
    (j : Cert.Reference2Ideal.S1x8192x1024.Idx) (h1 : (j 1 : ℕ) = i 0) (h2 : (j 2 : ℕ) = i 1) :
    (shapeCast S8192x1024 X shapeCasts_S1x8192x1024_S8192x1024 i : EReal) = X j := by
  pointwise
  blk_ext

/-- A block of the first operand, read at its place in the activations. -/
theorem lhs_blk (c : Dev nD) (t : Fin cfg0.N) (x : S2048x1024.Idx) (i : Cert.Reference2Ideal.S1x8192x4096.Idx)
    (h1 : (i 1 : ℕ) = t.val % 4 * 2048 + x 0) (h2 : (i 2 : ℕ) = t.val / 4 * 1024 + x 1) :
    (iblk m c 0 t x : EReal) = act m c i := by
  blk_simp [iblk]
  rw [lhs_eq]
  exact drop_lhs _ _ i (by blk_simp [idx t]; omega) (by blk_simp [idx t]; omega)

/-- A block of the second operand, read at its place in the gradient. -/
theorem rhs_blk (c : Dev nD) (t : Fin cfg0.N) (x : S2048x1024.Idx) (i : Cert.Reference2Ideal.S1x8192x1024.Idx)
    (h1 : (i 1 : ℕ) = t.val % 4 * 2048 + x 0) (h2 : (i 2 : ℕ) = x 1) :
    (iblk m c 1 t x : EReal) = m ((c : Thread nD τ).loc main_arg4) i := by
  blk_simp [iblk]
  rw [rhs_eq]
  exact drop_rhs _ _ i (by blk_simp [idx t]; omega) (by blk_simp [idx t]; omega)

/-- The reference's result over the rectified pre-activation `A` and the incoming gradient `X`. -/
def ref (A : FVec Ideal Cert.Reference2Ideal.S1x8192x4096 .f32) (X : FVec Ideal Cert.Reference2Ideal.S1x8192x1024 .f32) :
    FVec Ideal Cert.Reference2Ideal.S4096x1024 .bf16 :=
  truncf .bf16 (transpose Cert.Reference2Ideal.S4096x1024 [1, 0]
    (Host.dotGeneral Cert.Reference2Ideal.dot_S1x8192x1024_S1x8192x4096_S1024x4096_01_01_2_2_n_n none X (mulf A A))
    Cert.Reference2Ideal.Gen.transposes_S1024x4096_S4096x1024_1_0) Cert.Reference2Ideal.Gen.bitsLt_bf16_f32

/-- The reference's result at a cell, as one sum over the rows. -/
theorem ref_at (A : FVec Ideal Cert.Reference2Ideal.S1x8192x4096 .f32) (X : FVec Ideal Cert.Reference2Ideal.S1x8192x1024 .f32)
    (i : Cert.Reference2Ideal.S4096x1024.Idx) :
    ref A X i = ∑ l : Fin 8192, (A (ix3 0 l (i 0)) * A (ix3 0 l (i 0)) : EReal) * X (ix3 0 l (i 1)) := by
  pointwise [ref]
  rw [Fin.sum_univ_one]
  exact Finset.sum_congr rfl fun l _ => mul_comm _ _

/-- The result array after the run is the reference's result over the same activations and gradient. -/
theorem final (c : Dev nD) : (dats m 0 c).arrAt 2 (cfgs 0).N
    = ref (Cert.Reference2Ideal.Read.val_main_v14 (F := Ideal)
        (m ((c : Thread nD τ).loc main_arg0)) (m ((c : Thread nD τ).loc main_arg1)) (m ((c : Thread nD τ).loc main_arg2)))
        (m ((c : Thread nD τ).loc main_arg4)) := by
  refine (dats m 0 c).arrAt_eq_of_covers 2 _ (by decide +kernel) fun t hf y => ?_
  blk_simp
  rw [after0_2]
  have ht : t.val % 4 = 3 := (flush0_2 t).mp hf
  rw [out_last m c t ht]
  rw [Pipeline.eq_sum_fin_of_reset_step_apply_of_flush (fun n h => (outsAt0 m c n h).2) 4 (fun _ => (0 : EReal)) _
    (acc_first m c) (acc_next m c) t ht _, zero_add]
  simp only [pay1_at, ref_at]
  refine Fin.sum_mul_add_congr fun s k hl => ?_
  have hrow : s.val * 2048 + k.val = (4 * (t.val / 4) + s.val) % 4 * 2048 + k.val := by omega
  have hcol : ∀ n : ℕ, t.val / 4 * 1024 + n = (4 * (t.val / 4) + s.val) / 4 * 1024 + n := fun n => by omega
  have e0 := lhs_blk m c ⟨4 * (t.val / 4) + s.val, Pipeline.run_point_lt_of_flush t ht s⟩ (ix2 k (y 0))
    (ix3 0 ⟨s.val * 2048 + k.val, hl⟩ (((cfg0.win 2).blk t).view.emb y 0)) (hrow) (by blk_simp [idx t]; exact hcol _)
  have e1 := rhs_blk m c ⟨4 * (t.val / 4) + s.val, Pipeline.run_point_lt_of_flush t ht s⟩ (ix2 k (y 1))
    (ix3 0 ⟨s.val * 2048 + k.val, hl⟩ (((cfg0.win 2).blk t).view.emb y 1)) (hrow) (by blk_simp [idx t])
  exact congrArg₂ (fun a b : EReal => a * a * b) e0 e1

end Cert.Kernel2Ideal.Dw

end
-- ==== Proof.MlpBody.lean ====
/- The value of the MLP's backward call `Cert.KernelIdeal` over the extended reals: the gradients of the pre-activation, of
   the input and of the gain, against the derivative of the reference's forward lines. -/
module

public import proofs.«01_k».proof.Proof.Gen.KernelIdeal.Value
public import proofs.«01_k».proof.Proof.Gen.KernelIdeal.Frame
public import proofs.«01_k».proof.Proof.Gen.ReferenceIdeal.Run
public import proofs.«01_k».proof.Proof.Gen.ReferenceIdeal.Read
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.KernelIdeal.Mlp

open Cert.KernelIdeal Cert.KernelIdeal.Gen

variable (m : (ℓ : Loc nD τ sig) → Buf (Elt Ideal) ℓ)

/-- Each window's block index at each grid point: row block `t / 2`, half of the hidden columns `t % 2`. -/
theorem idx : ∀ t : Fin cfg0.N, win0_0.index t = ![t.val / 2, 0]
    ∧ win0_1.index t = ![t.val / 2, t.val % 2]
    ∧ win0_2.index t = ![t.val % 2, 0, 0]
    ∧ win0_3.index t = ![t.val % 2, 0]
    ∧ win0_4.index t = ![t.val / 2, 0]
    ∧ win0_5.index t = ![0, 0]
    ∧ win0_6.index t = ![t.val / 2, t.val % 2]
    ∧ win0_7.index t = ![t.val / 2, 0]
    ∧ win0_8.index t = ![0, 0] :=
  (by decide +kernel : ∀ t : Fin grid0.N, _)

/-- The word of the factor two. -/
theorem two_word : Ideal.ofBits .f32 0x40000000#32 = ((2 : ℝ) : EReal) := by
  simp [Ideal.ofBits, Ideal.ieee, -EReal.coe_mul]; norm_num

/-- The word of the row's length. -/
theorem len_word : Ideal.ofBits .f32 0x44800000#32 = ((1024 : ℝ) : EReal) := by
  simp [Ideal.ofBits, Ideal.ieee, -EReal.coe_mul]; norm_num

/-- The word of minus one half. -/
theorem half_word : Ideal.ofBits .f32 0xBF000000#32 = ((-(1/2) : ℝ) : EReal) := by
  simp [Ideal.ofBits, Ideal.ieee, -EReal.coe_mul]; norm_num

/-- The word of the norm's small summand is a positive real. -/
theorem eps_word : ∃ e : ℝ, 0 < e ∧ Ideal.ofBits .f32 0x358637BD#32 = (e : EReal) := by
  refine ⟨8796093 * (2 : ℝ) ^ (-43 : ℤ), by positivity, ?_⟩
  simp [Ideal.ofBits, Ideal.ieee, -EReal.coe_mul]

/-- Twice an extended real is its sum with itself. -/
theorem twice (x : EReal) : ((2 : ℝ) : EReal) * x = x + x := by
  rw [show ((2 : ℝ) : EReal) = 1 + 1 from by rw [← EReal.coe_one, ← EReal.coe_add]; norm_num,
    EReal.right_distrib_of_nonneg zero_le_one zero_le_one, one_mul]

/-- The pre-activation's gradient at a cell: twice the activation times the incoming gradient's row against the second
    weight's row. -/
theorem pay10_at (v0 : FVec Ideal S512x1024 .f32) (v3 : FVec Ideal S512x1024 .bf16) (v6 : FVec Ideal S512x512 .bf16)
    (j : S512x512.Idx) :
    k0_pay10 (F := Ideal) v0 v3 v6 j
      = ((v6 j + v6 j) * ∑ k : Fin 1024, (v0 (ix2 (j 0) k) : EReal) * v3 (ix2 (j 1) k) : EReal) := by
  pointwise [k0_pay10, k0_pay9]
  rw [two_word, twice]

/-- The same of the second shard. -/
theorem pay12_at (v0 : FVec Ideal S512x1024 .f32) (v3 : FVec Ideal S512x1024 .bf16) (v6 : FVec Ideal S512x512 .bf16)
    (j : S512x512.Idx) :
    k0_pay12 (F := Ideal) v0 v3 v6 j
      = ((v6 j + v6 j) * ∑ k : Fin 1024, (v0 (ix2 (j 0) k) : EReal) * v3 (ix2 (j 1) k) : EReal) := by
  pointwise [k0_pay12, k0_pay9]
  rw [two_word, twice]

/-- The same of the third shard. -/
theorem pay14_at (v0 : FVec Ideal S512x1024 .f32) (v3 : FVec Ideal S512x1024 .bf16) (v6 : FVec Ideal S512x512 .bf16)
    (j : S512x512.Idx) :
    k0_pay14 (F := Ideal) (k0_pay9 (F := Ideal) v0) v3 v6 j
      = ((v6 j + v6 j) * ∑ k : Fin 1024, (v0 (ix2 (j 0) k) : EReal) * v3 (ix2 (j 1) k) : EReal) := by
  pointwise [k0_pay14, k0_pay9]
  rw [two_word, twice]

/-- The same of the fourth shard. -/
theorem pay15_at (v0 : FVec Ideal S512x1024 .f32) (v3 : FVec Ideal S512x1024 .bf16) (v6 : FVec Ideal S512x512 .bf16)
    (j : S512x512.Idx) :
    k0_pay15 (F := Ideal) (k0_pay9 (F := Ideal) v0) v3 v6 j
      = ((v6 j + v6 j) * ∑ k : Fin 1024, (v0 (ix2 (j 0) k) : EReal) * v3 (ix2 (j 1) k) : EReal) := by
  pointwise [k0_pay15, k0_pay9]
  rw [two_word, twice]

/-- One point's share of the input's gradient at a cell: the four shards' products. -/
theorem pay16_at (v2 : FVec Ideal S512x1024 .bf16) (v16 : FVec Ideal S512x1024 .f32) (v26 : FVec Ideal S512x512 .bf16)
    (v29 : FVec Ideal S1024x512 .bf16)
    (v32 : FVec Ideal S512x1024 .bf16) (v35 : FVec Ideal S512x512 .bf16) (v43 : FVec Ideal S1x1024x512 .bf16)
    (v47 : FVec Ideal S512x1024 .bf16)
    (v50 : FVec Ideal S512x512 .bf16) (v58 : FVec Ideal S1x1024x512 .bf16) (j : S512x1024.Idx) :
    k0_pay16 (F := Ideal) v2 v16 v26 v29 (constant S512x1024 .f32 0x00000000#32) v32 v35 v43 v47 v50 v58 j
      = (v16 j + ∑ k : Fin 512, (v26 (ix2 (j 0) k) : EReal) * v29 (ix2 (j 1) k)
         + ∑ k : Fin 512, (k0_pay14 (F := Ideal) v2 v32 v35 (ix2 (j 0) k) : EReal) * v43 (ix3 0 (j 1) k)
         + ∑ k : Fin 512, (k0_pay15 (F := Ideal) v2 v47 v50 (ix2 (j 0) k) : EReal) * v58 (ix3 0 (j 1) k) : EReal) := by
  pointwise [k0_pay16]

/-- The first shard's product at a cell. -/
theorem pay11_at (v0 : FVec Ideal S512x1024 .f32) (v3 : FVec Ideal S512x1024 .bf16) (v6 : FVec Ideal S512x512 .bf16)
    (v14 : FVec Ideal S1x1024x512 .bf16) (j : S512x1024.Idx) :
    k0_pay11 (F := Ideal) v0 v3 v6 v14 j
      = (∑ k : Fin 512, (k0_pay10 (F := Ideal) v0 v3 v6 (ix2 (j 0) k) : EReal) * v14 (ix3 0 (j 1) k) : EReal) := by
  pointwise [k0_pay11]

/-- A cell of the gradient of the pre-activation, from the incoming gradient, the activation and the second weight. -/
abbrev zc (x0 : FVec Ideal S512x1024 .f32) (x1 : FVec Ideal S512x2048 .bf16) (x3 : FVec Ideal S2048x1024 .bf16)
    (a : Fin 512) (b : Fin 2048) : EReal :=
  (x1 (ix2 a b) + x1 (ix2 a b) : EReal) * ∑ k : Fin 1024, (x0 (ix2 a k) : EReal) * x3 (ix2 b k)

/-- What a point leaves in the gradient of the pre-activation, from its blocks. -/
abbrev zcell (c : Dev nD) (t : Fin cfg0.N) (a : Fin 512) (b : Fin 2048) : EReal :=
  zc (iblk m c 0 t) (iblk m c 1 t) (iblk m c 3 t) a b

/-- Equal summands and equal factors give equal products of a double and a factor. -/
theorem mul_pieces {a b p q : EReal} (h : a = b) (h' : p = q) : (a + a) * p = (b + b) * q := by rw [h, h']

/-- The first shard's block of the gradient of the pre-activation, at its place in the point's block. -/
theorem tile0 (x0 : FVec Ideal S512x1024 .f32) (x1 : FVec Ideal S512x2048 .bf16) (x3 : FVec Ideal S2048x1024 .bf16)
    (x : S512x512.Idx) (y : S512x2048.Idx) (h0 : (y 0 : ℕ) = x 0) (h1 : (y 1 : ℕ) = x 1) :
    k0_pay10 (F := Ideal) x0
      (View.ld (Val := Elt Ideal) (e' := .bf16) x3 (Rect.unit ![0, 0] ![512, 1024] inb_S2048x1024_S512x1024_0_0))
      (View.ld (Val := Elt Ideal) (e' := .bf16) x1 (Rect.unit ![0, 0] ![512, 512] inb_S512x2048_S512x512_0_0)) x = zc x0 x1 x3 (y 0) (y 1) := by
  rw [pay10_at]
  refine mul_pieces ?_ (Finset.sum_congr rfl fun k _ => congrArg₂ (fun a b : EReal => a * b) ?_ ?_)
  all_goals (pointwise; blk_ext)

/-- The second shard's block of the gradient of the pre-activation, at its place in the point's block. -/
theorem tile1 (x0 : FVec Ideal S512x1024 .f32) (x1 : FVec Ideal S512x2048 .bf16) (x3 : FVec Ideal S2048x1024 .bf16)
    (x : S512x512.Idx) (y : S512x2048.Idx) (h0 : (y 0 : ℕ) = x 0) (h1 : (y 1 : ℕ) = 512 + x 1) :
    k0_pay12 (F := Ideal) x0
      (View.ld (Val := Elt Ideal) (e' := .bf16) x3 (Rect.unit ![512, 0] ![512, 1024] inb_S2048x1024_S512x1024_512_0))
      (View.ld (Val := Elt Ideal) (e' := .bf16) x1 (Rect.unit ![0, 512] ![512, 512] inb_S512x2048_S512x512_0_512)) x = zc x0 x1 x3 (y 0) (y 1) := by
  rw [pay12_at]
  refine mul_pieces ?_ (Finset.sum_congr rfl fun k _ => congrArg₂ (fun a b : EReal => a * b) ?_ ?_)
  all_goals (pointwise; blk_ext)

/-- The third shard's block of the gradient of the pre-activation, at its place in the point's block. -/
theorem tile2 (x0 : FVec Ideal S512x1024 .f32) (x1 : FVec Ideal S512x2048 .bf16) (x3 : FVec Ideal S2048x1024 .bf16)
    (x : S512x512.Idx) (y : S512x2048.Idx) (h0 : (y 0 : ℕ) = x 0) (h1 : (y 1 : ℕ) = 1024 + x 1) :
    k0_pay14 (F := Ideal) (k0_pay9 (F := Ideal) x0)
      (View.ld (Val := Elt Ideal) (e' := .bf16) x3 (Rect.unit ![1024, 0] ![512, 1024] inb_S2048x1024_S512x1024_1024_0))
      (View.ld (Val := Elt Ideal) (e' := .bf16) x1 (Rect.unit ![0, 1024] ![512, 512] inb_S512x2048_S512x512_0_1024)) x = zc x0 x1 x3 (y 0) (y 1) := by
  rw [pay14_at]
  refine mul_pieces ?_ (Finset.sum_congr rfl fun k _ => congrArg₂ (fun a b : EReal => a * b) ?_ ?_)
  all_goals (pointwise; blk_ext)

/-- The fourth shard's block of the gradient of the pre-activation, at its place in the point's block. -/
theorem tile3 (x0 : FVec Ideal S512x1024 .f32) (x1 : FVec Ideal S512x2048 .bf16) (x3 : FVec Ideal S2048x1024 .bf16)
    (x : S512x512.Idx) (y : S512x2048.Idx) (h0 : (y 0 : ℕ) = x 0) (h1 : (y 1 : ℕ) = 1536 + x 1) :
    k0_pay15 (F := Ideal) (k0_pay9 (F := Ideal) x0)
      (View.ld (Val := Elt Ideal) (e' := .bf16) x3 (Rect.unit ![1536, 0] ![512, 1024] inb_S2048x1024_S512x1024_1536_0))
      (View.ld (Val := Elt Ideal) (e' := .bf16) x1 (Rect.unit ![0, 1536] ![512, 512] inb_S512x2048_S512x512_0_1536)) x = zc x0 x1 x3 (y 0) (y 1) := by
  rw [pay15_at]
  refine mul_pieces ?_ (Finset.sum_congr rfl fun k _ => congrArg₂ (fun a b : EReal => a * b) ?_ ?_)
  all_goals (pointwise; blk_ext)

/-- Each point writes its block of the gradient of the pre-activation. -/
theorem dz_out (c : Dev nD) (t : Fin cfg0.N) (y : S512x2048.Idx) :
    (outsAt0 m c t.val t.isLt).1 y = zcell m c t (y 0) (y 1) := by
  have hN : t.val < 32 := lt_of_lt_of_eq t.isLt N_0
  by_cases h0 : t.val % 2 = 0
  · by_cases h2 : t.val % 32 = 0
    · rw [outsAt0_A m c t h0 (by omega) h2 (by omega)]
      frame_out
      canon_tiles x hx
      · exact tile3 _ _ _ x y hx0 hx1
      · exact tile2 _ _ _ x y hx0 hx1
      · exact tile1 _ _ _ x y hx0 hx1
      · exact tile0 _ _ _ x y hx0 hx1
    · rw [outsAt0_C m c t h0 (by omega) h2 (by omega)]
      frame_out
      canon_tiles x hx
      · exact tile3 _ _ _ x y hx0 hx1
      · exact tile2 _ _ _ x y hx0 hx1
      · exact tile1 _ _ _ x y hx0 hx1
      · exact tile0 _ _ _ x y hx0 hx1
  · rw [outsAt0_B m c t h0 (by omega) (by omega) (by omega)]
    frame_out
    canon_tiles x hx
    · exact tile3 _ _ _ x y hx0 hx1
    · exact tile2 _ _ _ x y hx0 hx1
    · exact tile1 _ _ _ x y hx0 hx1
    · exact tile0 _ _ _ x y hx0 hx1

/-- One point's share of the input's gradient before the norm, as its body computes it. -/
abbrev part (c : Dev nD) (t : Fin cfg0.N) : FVec Ideal S512x1024 .f32 :=
  k0_pay16 (F := Ideal) (k0_pay9 (iblk m c 0 t))
          (k0_pay11 (iblk m c 0 t)
            (View.ld (iblk m c 3 t) (Rect.unit ![0, 0] ![512, 1024] inb_S2048x1024_S512x1024_0_0))
            (View.ld (iblk m c 1 t) (Rect.unit ![0, 0] ![512, 512] inb_S512x2048_S512x512_0_0))
            (View.ld (iblk m c 2 t) (Rect.unit ![0, 0, 0] ![1, 1024, 512] inb_S4x1024x512_S1x1024x512_0_0_0)))
          (k0_pay12 (iblk m c 0 t)
            (View.ld (iblk m c 3 t) (Rect.unit ![512, 0] ![512, 1024] inb_S2048x1024_S512x1024_512_0))
            (View.ld (iblk m c 1 t) (Rect.unit ![0, 512] ![512, 512] inb_S512x2048_S512x512_0_512)))
          (k0_pay13 (View.ld (iblk m c 2 t) (Rect.unit ![1, 0, 0] ![1, 1024, 512] inb_S4x1024x512_S1x1024x512_1_0_0)))
          (constant S512x1024 FTy.f32 0#32)
          (View.ld (iblk m c 3 t) (Rect.unit ![1024, 0] ![512, 1024] inb_S2048x1024_S512x1024_1024_0))
          (View.ld (iblk m c 1 t) (Rect.unit ![0, 1024] ![512, 512] inb_S512x2048_S512x512_0_1024))
          (View.ld (iblk m c 2 t) (Rect.unit ![2, 0, 0] ![1, 1024, 512] inb_S4x1024x512_S1x1024x512_2_0_0))
          (View.ld (iblk m c 3 t) (Rect.unit ![1536, 0] ![512, 1024] inb_S2048x1024_S512x1024_1536_0))
          (View.ld (iblk m c 1 t) (Rect.unit ![0, 1536] ![512, 512] inb_S512x2048_S512x512_0_1536))
          (View.ld (iblk m c 2 t) (Rect.unit ![3, 0, 0] ![1, 1024, 512] inb_S4x1024x512_S1x1024x512_3_0_0))

/-- A point's share at a cell is the sum over the four shards of the pre-activation's gradient against the first weight. -/
theorem part_at (c : Dev nD) (t : Fin cfg0.N) (j : S512x1024.Idx) :
    part m c t j = (∑ s : Fin 4, ∑ k : Fin 512,
      zcell m c t (j 0) ⟨s.val * 512 + k.val, by omega⟩ * (iblk m c 2 t : FVec Ideal S4x1024x512 .bf16) (ix3 s (j 1) k) : EReal) := by
  unfold part
  rw [pay16_at, pay11_at, Fin.sum_univ_four]
  simp only [pay10_at, pay12_at, pay14_at, pay15_at]
  refine congrArg₂ (· + ·) (congrArg₂ (· + ·) (congrArg₂ (· + ·) ?_ ?_) ?_) ?_
  all_goals refine Finset.sum_congr rfl fun k _ => congrArg₂ (fun a b : EReal => a * b) ?_ ?_
  all_goals (pointwise [k0_pay13]; blk_ext)

/-- The first of a row block's two points leaves its share in the accumulator. -/
theorem acc_even (c : Dev nD) (t : Fin cfg0.N) (h0 : t.val % 2 = 0) (j : S512x1024.Idx) :
    (outsAt0 m c t.val t.isLt).2.2.2 j = part m c t j := by
  by_cases h2 : t.val % 32 = 0
  · rw [outsAt0_A m c t h0 (by omega) h2 (by omega)]
    frame_out
    pointwise [k0_pay1]
    rfl
  · rw [outsAt0_C m c t h0 (by omega) h2 (by omega)]
    frame_out
    pointwise [k0_pay1]
    rfl

/-- What the accumulator holds after the second of a row block's two points. -/
abbrev accum (c : Dev nD) (t : Fin cfg0.N) : FVec Ideal S512x1024 .f32 :=
  k0_pay2 (F := Ideal) (part m c t) (outsAt0 m c (t.val - 1) (Nat.lt_of_le_of_lt (Nat.sub_le _ _) t.isLt)).2.2.2

/-- The second of a row block's two points writes the input's gradient from the accumulator. -/
theorem dx_odd (c : Dev nD) (t : Fin cfg0.N) (h0 : t.val % 2 = 1) (j : S512x1024.Idx) :
    (outsAt0 m c t.val t.isLt).2.1 j
      = k0_pay7 (F := Ideal) (iblk m c 4 t) (accum m c t) (iblk m c 5 t) (iblk m c 0 t) j := by
  rw [outsAt0_B m c t (by omega) h0 (by omega) h0]
  frame_out
  rw [read_unread_whole]
  rfl

/-- The gain's gradient after a row block's second point: what was there and the row block's share. -/
theorem dg_odd (c : Dev nD) (t : Fin cfg0.N) (h0 : t.val % 2 = 1) (j : S1x1024.Idx) :
    (outsAt0 m c t.val t.isLt).2.2.1 j
      = k0_pay8 (F := Ideal) (iblk m c 4 t) (accum m c t)
          (outsAt0 m c (t.val - 1) (Nat.lt_of_le_of_lt (Nat.sub_le _ _) t.isLt)).2.2.1 j := by
  rw [outsAt0_B m c t (by omega) h0 (by omega) h0]
  frame_out
  rw [read_unread_whole]
  rfl

/-- The gain's gradient after the first point of all is zero. -/
theorem dg_start (c : Dev nD) (t : Fin cfg0.N) (h0 : t.val % 2 = 0) (h2 : t.val % 32 = 0) (j : S1x1024.Idx) :
    (outsAt0 m c t.val t.isLt).2.2.1 j = (0 : EReal) := by
  rw [outsAt0_A m c t h0 (by omega) h2 (by omega)]
  frame_out
  pointwise [k0_pay3]

/-- A later row block's first point leaves the gain's gradient as it was. -/
theorem dg_even (c : Dev nD) (t : Fin cfg0.N) (h0 : t.val % 2 = 0) (h2 : ¬ t.val % 32 = 0) (j : S1x1024.Idx) :
    (outsAt0 m c t.val t.isLt).2.2.1 j
      = (outsAt0 m c (t.val - 1) (Nat.lt_of_le_of_lt (Nat.sub_le _ _) t.isLt)).2.2.1 j := by
  rw [outsAt0_C m c t h0 (by omega) h2 (by omega)]
  rfl

end Cert.KernelIdeal.Mlp

end
-- ==== Proof.Real.lean ====
/- Sums and products of extended reals by real factors, and the gradient of a root mean square norm over them. -/
module

public import Idealize.ShloMosaic.PureOps.Ideal

@[expose] public section

noncomputable section

namespace Cert.Real

open Idealize.ShloMosaic

/-- A sum of products by one nonnegative real is the product of the sum. -/
theorem sum_mul_real {n : ℕ} (f : Fin n → EReal) (r : ℝ) (hr : 0 ≤ r) : (∑ k, f k * (r : EReal)) = (∑ k, f k) * (r : EReal) := by
  induction n with
  | zero => simp
  | succ n ih =>
    rw [Fin.sum_univ_succ, Fin.sum_univ_succ, ih,
      EReal.right_distrib_of_nonneg_of_ne_top (EReal.coe_nonneg.2 hr) (EReal.coe_ne_top r)]

/-- A finite sum of reals is the real sum. -/
theorem coe_sum {n : ℕ} (f : Fin n → ℝ) : (∑ k, (f k : EReal)) = ((∑ k, f k : ℝ) : EReal) := by
  induction n with
  | zero => simp
  | succ n ih => rw [Fin.sum_univ_succ, Fin.sum_univ_succ, ih, EReal.coe_add]

/-- An extended real times itself is not negative. -/
theorem sq_nonneg (z : EReal) : 0 ≤ z * z := by
  induction z with
  | bot => simp
  | top => simp
  | coe r => rw [← EReal.coe_mul]; exact EReal.coe_nonneg.2 (mul_self_nonneg r)

/-- The sum of a row's squares is the top as soon as one entry is infinite. -/
theorem sum_sq_top {n : ℕ} (X : Fin n → EReal) (l : Fin n) (h : X l = ⊤ ∨ X l = ⊥) : (∑ k, X k * X k) = ⊤ := by
  refine top_le_iff.1 (le_trans (le_of_eq ?_) (Finset.single_le_sum (f := fun k => X k * X k) (fun k _ => sq_nonneg (X k)) (Finset.mem_univ l)))
  rcases h with h | h <;> simp [h]

/-- The reciprocal root of a row's mean square and a positive summand is the real one. -/
theorem rsqrt_mean (x : Fin 1024 → ℝ) (e : ℝ) (he : 0 < e) :
    Ideal.rsqrt (Ideal.div (∑ k : Fin 1024, (x k : EReal) * (x k : EReal)) ((1024 : ℝ) : EReal) + (e : EReal))
      = (((Real.sqrt ((∑ k, x k * x k) * (1 / 1024) + e))⁻¹ : ℝ) : EReal) := by
  simp only [← EReal.coe_mul]
  rw [coe_sum, Ideal.div_coe (by norm_num), ← EReal.coe_mul, ← EReal.coe_add, Ideal.rsqrt_coe]
  have hs : 0 ≤ ∑ k, x k * x k := Finset.sum_nonneg fun k _ => mul_self_nonneg (x k)
  have hu : 0 < (∑ k, x k * x k) * (1 / 1024) + e := by positivity
  rw [if_neg (not_lt.2 hu.le), if_neg hu.ne']

/-- The gradient of a root mean square norm of a real row, the incoming gradient's sum any extended real: the form with
    the factor outside the difference equals the two halves of the derivative of the square. -/
theorem norm_ext (x r u : ℝ) (hr : 0 < r) (hu : 1 / u = r * r) (p S : EReal) :
    (r : EReal) * (p - (x : EReal) * (r : EReal) * (S * (r : EReal) * ((1 / 1024 : ℝ) : EReal)))
      = p * (r : EReal) + (x : EReal) * (S * (((-(1 / 2) : ℝ) : EReal) * ((r : EReal) * ((1 / u : ℝ) : EReal))) * ((1 / 1024 : ℝ) : EReal))
        + S * (((-(1 / 2) : ℝ) : EReal) * ((r : EReal) * ((1 / u : ℝ) : EReal))) * ((1 / 1024 : ℝ) : EReal) * (x : EReal) := by
  have h1 : (x : EReal) * (S * (((-(1 / 2) : ℝ) : EReal) * ((r : EReal) * ((1 / u : ℝ) : EReal))) * ((1 / 1024 : ℝ) : EReal))
      = ((x * (-(1 / 2) * (r * (r * r)) * (1 / 1024)) : ℝ) : EReal) * S := by
    rw [hu]
    simp only [EReal.coe_mul]
    ac_rfl
  have h2 : (x : EReal) * (r : EReal) * (S * (r : EReal) * ((1 / 1024 : ℝ) : EReal))
      = ((x * r * (r * (1 / 1024)) : ℝ) : EReal) * S := by
    simp only [EReal.coe_mul]
    ac_rfl
  have h3 : ∀ c : ℝ, (c : EReal) * S + (c : EReal) * S = ((2 * c : ℝ) : EReal) * S := by
    intro c
    rw [EReal.coe_mul, mul_assoc, show ((2 : ℝ) : EReal) = 1 + 1 from by rw [← EReal.coe_one, ← EReal.coe_add]; norm_num,
      EReal.right_distrib_of_nonneg zero_le_one zero_le_one, one_mul]
  rw [EReal.mul_sub_of_nonneg_of_ne_top (EReal.coe_nonneg.2 hr.le) (EReal.coe_ne_top r), mul_comm _ (x : EReal), h1, h2,
    add_assoc, h3, ← mul_assoc, ← EReal.coe_mul, sub_eq_add_neg, ← neg_mul, ← EReal.coe_neg, mul_comm (r : EReal) p]
  refine congrArg (fun c : ℝ => p * (r : EReal) + (c : EReal) * S) ?_
  ring

end Cert.Real

end
-- ==== Proof.Mlp.lean ====
/- The MLP's backward call `Cert.KernelIdeal` against its reference, array by array. -/
module

public import proofs.«01_k».proof.Proof.MlpBody
public import proofs.«01_k».proof.Proof.Real

@[expose] public section

set_option maxRecDepth 16384

noncomputable section

open Idealize.ShloMosaic Idealize.ShloMosaic.TcCoe Idealize.SL.Sem
open Idealize.ShloMosaic.Pipeline (Dat)

namespace Cert.KernelIdeal.Mlp

open Cert.KernelIdeal Cert.KernelIdeal.Gen
open Cert.ReferenceIdeal.Read Cert.Real

variable (m : (ℓ : Loc nD τ sig) → Buf (Elt Ideal) ℓ)

/-- The type of the layer's input and of the incoming gradient. -/
abbrev TX : Type := FVec Ideal Cert.ReferenceIdeal.S1x8192x1024 .f32
/-- The type of the gain. -/
abbrev TG : Type := FVec Ideal Cert.ReferenceIdeal.S1024 .f32
/-- The type of the first weight. -/
abbrev TW : Type := FVec Ideal Cert.ReferenceIdeal.S1024x4096 .f32
/-- The type of the second weight. -/
abbrev TU : Type := FVec Ideal Cert.ReferenceIdeal.S4096x1024 .f32

/-- The kernel's first argument, the layer's input. -/
abbrev a0 (c : Dev nD) : TX := m ((c : Thread nD τ).loc main_arg0)
/-- The kernel's second argument, the gain. -/
abbrev a1 (c : Dev nD) : TG := m ((c : Thread nD τ).loc main_arg1)
/-- The kernel's third argument, the first weight. -/
abbrev a2 (c : Dev nD) : TW := m ((c : Thread nD τ).loc main_arg2)
/-- The kernel's fourth argument, the second weight. -/
abbrev a3 (c : Dev nD) : TU := m ((c : Thread nD τ).loc main_arg3)
/-- The kernel's fifth argument, the incoming gradient. -/
abbrev a4 (c : Dev nD) : TX := m ((c : Thread nD τ).loc main_arg4)

/-- The rectified pre-activation over the kernel's arguments. -/
abbrev act (c : Dev nD) : FVec Ideal Cert.ReferenceIdeal.S1x8192x4096 .f32 :=
  val_main_v14 (F := Ideal) (a0 m c) (a1 m c) (a2 m c)

/-- The gradient of the pre-activation at a row and a hidden column, from the activation, the second weight and the
    incoming gradient. -/
abbrev dcell (A : FVec Ideal Cert.ReferenceIdeal.S1x8192x4096 .f32) (x3 : TU) (x4 : TX) (n : Fin 8192) (f : Fin 4096) : EReal :=
  (A (ix3 0 n f) + A (ix3 0 n f) : EReal) * ∑ k : Fin 1024, (x4 (ix3 0 n k) : EReal) * x3 (ix2 f k)

/-- A double of a rectified value times a factor, or zero where the value is not positive. -/
theorem relu_double (z d : EReal) :
    (Scalar.select (FloatOps.cmpf (F := Ideal) (φ := .f32) .ogt z (FloatOps.ofBits (F := Ideal) .f32 0x00000000#32))
      (FloatOps.addf (F := Ideal) (φ := .f32)
        (FloatOps.mulf (F := Ideal) (φ := .f32) (FloatOps.maximumf (F := Ideal) (φ := .f32) z (FloatOps.ofBits (F := Ideal) .f32 0x00000000#32)) d)
        (FloatOps.mulf (F := Ideal) (φ := .f32) d (FloatOps.maximumf (F := Ideal) (φ := .f32) z (FloatOps.ofBits (F := Ideal) .f32 0x00000000#32))))
      (FloatOps.ofBits (F := Ideal) .f32 0x00000000#32) : EReal)
      = (max z 0 + max z 0) * d := by
  have hz : (FloatOps.ofBits (F := Ideal) .f32 0x00000000#32 : EReal) = 0 := by
    show Ideal.ofBits .f32 0x00000000#32 = 0
    simp [Ideal.ofBits, Ideal.ieee]
  rw [hz]
  have e : (FloatOps.maximumf (F := Ideal) (φ := .f32) z 0 : EReal) = max z 0 := rfl
  rw [e]
  have hA : (0 : EReal) ≤ max z 0 := le_max_right _ _
  have hm : (FloatOps.addf (F := Ideal) (φ := .f32) (FloatOps.mulf (F := Ideal) (φ := .f32) (max z 0) d)
      (FloatOps.mulf (F := Ideal) (φ := .f32) d (max z 0)) : EReal) = (max z 0 + max z 0) * d := by
    show max z 0 * d + d * max z 0 = _
    rw [EReal.right_distrib_of_nonneg hA hA, mul_comm d]
  rw [hm]
  by_cases h : 0 < z
  · have hc : (FloatOps.cmpf (F := Ideal) (φ := .f32) .ogt z 0) = 1#1 := by
      show Ideal.cmp .ogt z 0 = _
      simp [Ideal.cmp, h]
    rw [hc]; rfl
  · have hc : (FloatOps.cmpf (F := Ideal) (φ := .f32) .ogt z 0) = 0#1 := by
      show Ideal.cmp .ogt z 0 = _
      simp [Ideal.cmp, h]
    rw [hc]
    show (0 : EReal) = _
    rw [max_eq_right (not_lt.1 h), add_zero, zero_mul]

/-- The reference's gradient of the pre-activation at a cell. -/
theorem ref_dz (x0 : TX) (x1 : TG) (x2 : TW) (x3 : TU) (x4 : TX) (i : Cert.ReferenceIdeal.S1x8192x4096.Idx) :
    val_main_v25 (F := Ideal) x0 x1 x2 x3 x4 i = dcell (val_main_v14 (F := Ideal) x0 x1 x2) x3 x4 (i 1) (i 2) := by
  have hz : (val_main_v14 (F := Ideal) x0 x1 x2 i : EReal) = max (val_main_v13 (F := Ideal) x0 x1 x2 i) 0 := by
    have h0 : (FloatOps.ofBits (F := Ideal) .f32 0x00000000#32 : EReal) = 0 := by
      show Ideal.ofBits .f32 0x00000000#32 = 0
      simp [Ideal.ofBits, Ideal.ieee]
    rw [← h0]; rfl
  refine (relu_double (val_main_v13 (F := Ideal) x0 x1 x2 i) (val_main_v20 (F := Ideal) x3 x4 i)).trans ?_
  rw [← hz, val_main_v20_apply]
  have hi : i = ix3 0 (i 1) (i 2) := by
    funext a
    match a with
    | ⟨0, _⟩ => exact Subsingleton.elim (α := Fin 1) _ _
    | ⟨1, _⟩ => rfl
    | ⟨2, _⟩ => rfl
  refine mul_pieces (congrArg _ hi) (Finset.sum_congr rfl fun k _ => congrArg₂ (fun a b : EReal => a * b) ?_ ?_)
  · blk_ext
  · blk_ext

/-- The reference computes the pre-activation's gradient twice, the same way. -/
theorem ref_dz' (x0 : TX) (x1 : TG) (x2 : TW) (x3 : TU) (x4 : TX) :
    val_main_v56 (F := Ideal) x0 x1 x2 x3 x4 = val_main_v25 (F := Ideal) x0 x1 x2 x3 x4 := by
  have e : val_main_v50 (F := Ideal) x4 = x4 := by
    funext i
    rw [val_main_v50_apply]
    blk_ext
  unfold val_main_v56 val_main_v54 val_main_v52 val_main_v53 val_main_v51
  rw [e]
  rfl

/-- The reference's gradient of the normalised input at a row and a column. -/
abbrev dh (A : FVec Ideal Cert.ReferenceIdeal.S1x8192x4096 .f32) (x2 : TW) (x3 : TU) (x4 : TX) (n : Fin 8192) (q : Fin 1024) : EReal :=
  ∑ f : Fin 4096, dcell A x3 x4 n f * (x2 (ix2 q f) : EReal)

/-- The reference's gradient of the normalised input at a cell. -/
theorem ref_dh (x0 : TX) (x1 : TG) (x2 : TW) (x3 : TU) (x4 : TX) (i : Cert.ReferenceIdeal.S1x8192x1024.Idx) :
    val_main_v57 (F := Ideal) x0 x1 x2 x3 x4 i = dh (val_main_v14 (F := Ideal) x0 x1 x2) x2 x3 x4 (i 1) (i 2) := by
  rw [val_main_v57_apply]
  refine Finset.sum_congr rfl fun f _ => congrArg₂ (fun a b : EReal => a * b) ?_ ?_
  · rw [ref_dz', ref_dz]; rfl
  · blk_ext

/-- The incoming gradient's block of a point, at its place. -/
theorem blk0 (c : Dev nD) (t : Fin cfg0.N) (x : S512x1024.Idx) (i : Cert.ReferenceIdeal.S1x8192x1024.Idx)
    (h1 : (i 1 : ℕ) = t.val / 2 * 512 + x 0) (h2 : (i 2 : ℕ) = x 1) :
    (iblk m c 0 t x : EReal) = a4 m c i := by
  have e : V m c main_v16 = shapeCast S8192x1024 (a4 m c) shapeCasts_S1x8192x1024_S8192x1024 := by rfl
  have d : ∀ (X : TX) (y : S8192x1024.Idx), (i 1 : ℕ) = y 0 → (i 2 : ℕ) = y 1 →
      (shapeCast S8192x1024 X shapeCasts_S1x8192x1024_S8192x1024 y : EReal) = X i := by
    intro X y g1 g2
    pointwise
    blk_ext
  blk_simp [iblk]
  rw [e]
  exact d _ _ (by blk_simp [idx t]; omega) (by blk_simp [idx t]; omega)

/-- The input's block of a point, at its place. -/
theorem blk4 (c : Dev nD) (t : Fin cfg0.N) (x : S512x1024.Idx) (i : Cert.ReferenceIdeal.S1x8192x1024.Idx)
    (h1 : (i 1 : ℕ) = t.val / 2 * 512 + x 0) (h2 : (i 2 : ℕ) = x 1) :
    (iblk m c 4 t x : EReal) = a0 m c i := by
  have e : V m c main_v22 = shapeCast S8192x1024 (a0 m c) shapeCasts_S1x8192x1024_S8192x1024 := by rfl
  have d : ∀ (X : TX) (y : S8192x1024.Idx), (i 1 : ℕ) = y 0 → (i 2 : ℕ) = y 1 →
      (shapeCast S8192x1024 X shapeCasts_S1x8192x1024_S8192x1024 y : EReal) = X i := by
    intro X y g1 g2
    pointwise
    blk_ext
  blk_simp [iblk]
  rw [e]
  exact d _ _ (by blk_simp [idx t]; omega) (by blk_simp [idx t]; omega)

/-- The activation's block of a point, at its place. -/
theorem blk1 (c : Dev nD) (t : Fin cfg0.N) (x : S512x2048.Idx) (i : Cert.ReferenceIdeal.S1x8192x4096.Idx)
    (h1 : (i 1 : ℕ) = t.val / 2 * 512 + x 0) (h2 : (i 2 : ℕ) = t.val % 2 * 2048 + x 1) :
    (iblk m c 1 t x : EReal) = act m c i := by
  have e : V m c main_v17
      = shapeCast S8192x4096 (truncf (F := Ideal) .bf16 (act m c) bitsLt_bf16_f32) shapeCasts_S1x8192x4096_S8192x4096 := by rfl
  have d : ∀ (X : FVec Ideal Cert.ReferenceIdeal.S1x8192x4096 .f32) (y : S8192x4096.Idx), (i 1 : ℕ) = y 0 → (i 2 : ℕ) = y 1 →
      (shapeCast S8192x4096 (truncf (F := Ideal) .bf16 X bitsLt_bf16_f32) shapeCasts_S1x8192x4096_S8192x4096 y : EReal) = X i := by
    intro X y g1 g2
    pointwise
    blk_ext
  blk_simp [iblk]
  rw [e]
  exact d _ _ (by blk_simp [idx t]; omega) (by blk_simp [idx t]; omega)

/-- The first weight's block of a point, at its place. -/
theorem blk2 (c : Dev nD) (t : Fin cfg0.N) (x : S4x1024x512.Idx) (i : Cert.ReferenceIdeal.S1024x4096.Idx)
    (h0 : (i 0 : ℕ) = x 1) (h1 : (i 1 : ℕ) = (t.val % 2 * 4 + x 0) * 512 + x 2) :
    (iblk m c 2 t x : EReal) = a2 m c i := by
  have e : V m c main_v20
      = truncf (F := Ideal) .bf16 (transpose S8x1024x512 [1, 0, 2] (shapeCast S1024x8x512 (a2 m c) shapeCasts_S1024x4096_S1024x8x512)
          transposes_S1024x8x512_S8x1024x512_1_0_2) bitsLt_bf16_f32 := by rfl
  have d : ∀ (X : TW) (y : S8x1024x512.Idx), (i 0 : ℕ) = y 1 → (i 1 : ℕ) = (y 0 : ℕ) * 512 + y 2 →
      (truncf (F := Ideal) .bf16 (transpose S8x1024x512 [1, 0, 2] (shapeCast S1024x8x512 X shapeCasts_S1024x4096_S1024x8x512)
          transposes_S1024x8x512_S8x1024x512_1_0_2) bitsLt_bf16_f32 y : EReal) = X i := by
    intro X y g1 g2
    pointwise
    blk_ext
  blk_simp [iblk]
  rw [e]
  exact d _ _ (by blk_simp [idx t]; omega) (by blk_simp [idx t]; omega)

/-- The second weight's block of a point, at its place. -/
theorem blk3 (c : Dev nD) (t : Fin cfg0.N) (x : S2048x1024.Idx) (i : Cert.ReferenceIdeal.S4096x1024.Idx)
    (h0 : (i 0 : ℕ) = t.val % 2 * 2048 + x 0) (h1 : (i 1 : ℕ) = x 1) :
    (iblk m c 3 t x : EReal) = a3 m c i := by
  have e : V m c main_v21 = truncf (F := Ideal) .bf16 (a3 m c) bitsLt_bf16_f32 := by rfl
  have d : ∀ (X : TU) (y : S4096x1024.Idx), (i 0 : ℕ) = y 0 → (i 1 : ℕ) = y 1 →
      (truncf (F := Ideal) .bf16 X bitsLt_bf16_f32 y : EReal) = X i := by
    intro X y g1 g2
    pointwise
    blk_ext
  blk_simp [iblk]
  rw [e]
  exact d _ _ (by blk_simp [idx t]; omega) (by blk_simp [idx t]; omega)

/-- The gain's block, at its place. -/
theorem blk5 (c : Dev nD) (t : Fin cfg0.N) (x : S1x1024.Idx) (i : Cert.ReferenceIdeal.S1024.Idx)
    (h0 : (i 0 : ℕ) = x 1) :
    (iblk m c 5 t x : EReal) = a1 m c i := by
  have e : V m c main_v23 = shapeCast S1x1024 (a1 m c) shapeCasts_S1024_S1x1024 := by rfl
  have d : ∀ (X : TG) (y : S1x1024.Idx), (i 0 : ℕ) = y 1 →
      (shapeCast S1x1024 X shapeCasts_S1024_S1x1024 y : EReal) = X i := by
    intro X y g1
    pointwise
    blk_ext
  blk_simp [iblk]
  rw [e]
  exact d _ _ (by blk_simp [idx t]; omega)

/-- One point's share of the input's gradient, as a part of the reference's sum over the hidden columns. -/
theorem part_ref (c : Dev nD) (t : Fin cfg0.N) (j : S512x1024.Idx) (n : Fin 8192) (hn : (n : ℕ) = t.val / 2 * 512 + j 0)
    (q : Fin 1024) (hq : (q : ℕ) = j 1) :
    part m c t j = ∑ l : Fin 2048, (dcell (act m c) (a3 m c) (a4 m c) n ⟨t.val % 2 * 2048 + l.val, by omega⟩
      * (a2 m c (ix2 q ⟨t.val % 2 * 2048 + l.val, by omega⟩) : EReal) : EReal) := by
  rw [part_at]
  refine Fin.sum_mul_add_congr (S := 4) (n := 512) (L := 2048) fun s k hl => ?_
  have hb : (s.val * 512 + k.val) < 2048 := hl
  refine congrArg₂ (fun a b : EReal => a * b) (mul_pieces ?_ (Finset.sum_congr rfl fun r _ =>
    congrArg₂ (fun a b : EReal => a * b) ?_ ?_)) ?_
  · exact blk1 m c t _ (ix3 0 n ⟨t.val % 2 * 2048 + (s.val * 512 + k.val), by omega⟩) hn rfl
  · exact blk0 m c t _ (ix3 0 n r) hn rfl
  · exact blk3 m c t _ (ix2 ⟨t.val % 2 * 2048 + (s.val * 512 + k.val), by omega⟩ r) rfl rfl
  · refine blk2 m c t _ (ix2 q ⟨t.val % 2 * 2048 + (s.val * 512 + k.val), by omega⟩) hq ?_
    show t.val % 2 * 2048 + (s.val * 512 + k.val) = (t.val % 2 * 4 + s.val) * 512 + k.val
    ring

/-- The accumulator's second store adds the point's share to what was there. -/
theorem pay2_at (p a : FVec Ideal S512x1024 .f32) (j : S512x1024.Idx) :
    k0_pay2 (F := Ideal) p a j = (a j + p j : EReal) := by
  pointwise [k0_pay2]

/-- A sum over the hidden columns is the sum over its two halves. -/
theorem two_halves (f : Fin 4096 → EReal) (p r : ℕ) (hp : p = 0) (hr : r = 1) (b0 : ∀ l : Fin 2048, p * 2048 + l.val < 4096)
    (b1 : ∀ l : Fin 2048, r * 2048 + l.val < 4096) :
    ((∑ l : Fin 2048, f ⟨p * 2048 + l.val, b0 l⟩) + ∑ l : Fin 2048, f ⟨r * 2048 + l.val, b1 l⟩ : EReal) = ∑ l : Fin 4096, f l := by
  subst hp hr
  rw [← Fin.sum_mul_add_congr (S := 2) (n := 2048) (L := 4096) (F := fun s k => f ⟨s.val * 2048 + k.val, by omega⟩) (f := f)
    (fun s k hl => rfl), Fin.sum_univ_two]
  rfl

/-- After a row block's second point the accumulator holds the gradient of the normalised input. -/
theorem accum_ref (c : Dev nD) (t : Fin cfg0.N) (h0 : t.val % 2 = 1) (j : S512x1024.Idx) (n : Fin 8192)
    (hn : (n : ℕ) = t.val / 2 * 512 + j 0) (q : Fin 1024) (hq : (q : ℕ) = j 1) :
    accum m c t j = dh (act m c) (a2 m c) (a3 m c) (a4 m c) n q := by
  unfold accum
  rw [pay2_at, acc_even m c ⟨t.val - 1, by omega⟩ (by show (t.val - 1) % 2 = 0; omega),
    part_ref m c ⟨t.val - 1, by omega⟩ j n (by show (n : ℕ) = (t.val - 1) / 2 * 512 + j 0; omega) q hq,
    part_ref m c t j n hn q hq]
  exact two_halves (fun f => dcell (act m c) (a3 m c) (a4 m c) n f * (a2 m c (ix2 q f) : EReal)) ((t.val - 1) % 2) (t.val % 2)
    (by omega) h0 (fun l => by omega) (fun l => by omega)

/-- The reciprocal root of a row's mean square and the small summand, over a row. -/
abbrev rms (x : Fin 1024 → EReal) : EReal :=
  Ideal.rsqrt (Ideal.div (∑ k : Fin 1024, x k * x k) (Ideal.ofBits .f32 0x44800000#32) + Ideal.ofBits .f32 0x358637BD#32)

/-- A row's reciprocal root at any column. -/
theorem pay5_at (v : FVec Ideal S512x1024 .f32) (i : S512x1.Idx) :
    k0_pay5 (F := Ideal) v i = rms (fun k => v (ix2 (i 0) k)) := by
  pointwise [k0_pay5, k0_pay4]

/-- A cell of the normalised input before the gain. -/
theorem pay6_at (v : FVec Ideal S512x1024 .f32) (j : S512x1024.Idx) :
    k0_pay6 (F := Ideal) v j = (v j * rms (fun k => v (ix2 (j 0) k)) : EReal) := by
  pointwise [k0_pay6, k0_pay4]
  rw [pay5_at]
  rfl

/-- The input's gradient at a cell, from the input's row, the gradient's row and the gain. -/
theorem pay7_at (v76 v78 : FVec Ideal S512x1024 .f32) (v87 : FVec Ideal S1x1024 .f32) (v106 : FVec Ideal S512x1024 .f32)
    (j : S512x1024.Idx) :
    k0_pay7 (F := Ideal) v76 v78 v87 v106 j
      = (v106 j + rms (fun k => v76 (ix2 (j 0) k)) * (v78 j * v87 (ix2 0 (j 1))
          - v76 j * rms (fun k => v76 (ix2 (j 0) k))
            * Ideal.div (∑ k : Fin 1024, (v78 (ix2 (j 0) k) * v87 (ix2 0 k) : EReal) * (v76 (ix2 (j 0) k) * rms (fun k => v76 (ix2 (j 0) k))))
                (Ideal.ofBits .f32 0x44800000#32)) : EReal) := by
  pointwise [k0_pay7]
  simp only [pay5_at, pay6_at]
  rfl

/-- The gain's gradient at a column: what was there and the row block's share. -/
theorem pay8_at (v76 v78 : FVec Ideal S512x1024 .f32) (v110 : FVec Ideal S1x1024 .f32) (j : S1x1024.Idx) :
    k0_pay8 (F := Ideal) v76 v78 v110 j
      = (v110 j + ∑ x : Fin 512, (v78 (ix2 x (j 1)) : EReal) * (v76 (ix2 x (j 1)) * rms (fun k => v76 (ix2 x k))) : EReal) := by
  pointwise [k0_pay8]
  simp only [pay6_at]
  rfl

/-- The row block's number of a point's row. -/
theorem row_lt (t : Fin cfg0.N) (x : Fin 512) : t.val / 2 * 512 + x.val < 8192 := by
  have hN : t.val < 32 := lt_of_lt_of_eq t.isLt N_0
  omega

/-- A row's reciprocal root over the reference's input. -/
abbrev rowrms (x0 : TX) (n : Fin 8192) : EReal := rms (fun k => x0 (ix3 0 n k))

/-- One row block's share of the gain's gradient at a column. -/
abbrev gshare (c : Dev nD) (b : ℕ) (hb : b < 16) (q : Fin 1024) : EReal :=
  ∑ x : Fin 512, dh (act m c) (a2 m c) (a3 m c) (a4 m c) ⟨b * 512 + x.val, by omega⟩ q
    * ((a0 m c (ix3 0 ⟨b * 512 + x.val, by omega⟩ q) : EReal) * rowrms (a0 m c) ⟨b * 512 + x.val, by omega⟩)

/-- The gain's gradient after a row block's second point: what was there and the row block's share. -/
theorem dg_step (c : Dev nD) (t : Fin cfg0.N) (h0 : t.val % 2 = 1) (b : ℕ) (hb : b < 16) (e : t.val / 2 = b) (j : S1x1024.Idx)
    (q : Fin 1024) (hq : (q : ℕ) = j 1) :
    (outsAt0 m c t.val t.isLt).2.2.1 j
      = ((outsAt0 m c (t.val - 1) (Nat.lt_of_le_of_lt (Nat.sub_le _ _) t.isLt)).2.2.1 j + gshare m c b hb q : EReal) := by
  subst e
  rw [dg_odd m c t h0, pay8_at]
  refine congrArg (fun z : EReal => _ + z) (Finset.sum_congr rfl fun x _ => congrArg₂ (fun a b : EReal => a * b) ?_
    (congrArg₂ (fun a b : EReal => a * b) ?_ (congrArg rms (funext fun k => ?_))))
  · exact accum_ref m c t h0 _ ⟨t.val / 2 * 512 + x.val, row_lt t x⟩ rfl q hq
  · exact blk4 m c t _ (ix3 0 ⟨t.val / 2 * 512 + x.val, row_lt t x⟩ q) rfl hq
  · exact blk4 m c t _ (ix3 0 ⟨t.val / 2 * 512 + x.val, row_lt t x⟩ k) rfl rfl

/-- The gain's gradient after a row block's second point is the sum of the shares so far. -/
theorem dg_sum (c : Dev nD) (j : S1x1024.Idx) (q : Fin 1024) (hq : (q : ℕ) = j 1) : ∀ (b : ℕ) (hb : b < 16)
    (ht : 2 * b + 1 < cfg0.N),
    (outsAt0 m c (2 * b + 1) ht).2.2.1 j = ∑ s : Fin (b + 1), gshare m c s.val (by omega) q
  | 0, hb, ht => by
    rw [dg_step m c ⟨2 * 0 + 1, ht⟩ (by rfl) 0 hb (by show (2 * 0 + 1) / 2 = 0; norm_num) j q hq]
    have e := dg_start m c ⟨0, by omega⟩ (by rfl) (by rfl) j
    exact ((congrArg (fun z : EReal => z + _) e).trans (zero_add _)).trans
      (Fin.sum_univ_one (fun s : Fin 1 => gshare m c s.val (by omega) q)).symm
  | b + 1, hb, ht => by
    rw [dg_step m c ⟨2 * (b + 1) + 1, ht⟩ (by show (2 * (b + 1) + 1) % 2 = 1; omega) (b + 1) hb
      (by show (2 * (b + 1) + 1) / 2 = b + 1; omega) j q hq, Fin.sum_univ_castSucc]
    have e := dg_even m c ⟨2 * (b + 1), by omega⟩ (by show (2 * (b + 1)) % 2 = 0; omega)
      (by show ¬ (2 * (b + 1)) % 32 = 0; omega) j
    exact congrArg (fun z : EReal => z + _) (e.trans (dg_sum c j q hq b (by omega) (by omega)))

/-- The reference's reciprocal root at a row. -/
theorem ref_rms (x0 : TX) (i : Cert.ReferenceIdeal.S1x8192x1.Idx) :
    (val_main_v33 (F := Ideal) x0 i : EReal) = rowrms x0 (i 1) := by
  have h0 : (FloatOps.ofBits (F := Ideal) .f32 0x00000000#32 : EReal) = 0 := by
    show Ideal.ofBits .f32 0x00000000#32 = 0
    simp [Ideal.ofBits, Ideal.ieee]
  have e : (val_main_v28 (F := Ideal) x0 i : EReal) = ∑ k : Fin 1024, (x0 (ix3 0 (i 1) k) * x0 (ix3 0 (i 1) k) : EReal) := by
    rw [val_main_v28_apply, val_main_v27_apply]
    refine (congrArg (fun z : EReal => z + _) h0).trans ((zero_add _).trans (Finset.sum_congr rfl fun k _ => ?_))
    have ei : idx_main_v27 (idx_main_v28 i) k = ix3 0 (i 1) k := by
      funext a
      match a with
      | ⟨0, _⟩ => rfl
      | ⟨1, _⟩ => rfl
      | ⟨2, _⟩ => rfl
    rw [ei]; rfl
  show Ideal.rsqrt (Ideal.div (val_main_v28 (F := Ideal) x0 i) _ + _) = _
  rw [e]
  rfl

/-- A host sum whose result index has one operand index above it is the initial value plus the operand there. -/
theorem reduce_one {s t : Shape} {axes : List (Fin s.rank)} (h' : s.ReducesTo axes t) (x : s.Idx → EReal) (init : EReal)
    (j : t.Idx) (i : s.Idx) (hd : ∀ k, h'.drop k = j → k = i) (hi : h'.drop i = j) :
    Ideal.hostReduceAdd h' x init j = init + x i := by
  unfold Ideal.hostReduceAdd
  have e : (Finset.univ.filter fun k => h'.drop k = j) = {i} := by
    ext k
    simp only [Finset.mem_filter, Finset.mem_univ, true_and, Finset.mem_singleton]
    exact ⟨hd k, fun e => e ▸ hi⟩
  rw [e, Finset.sum_singleton]

/-- The reference's gradient of the gain at a column. -/
theorem ref_dg (x0 : TX) (x1 : TG) (x2 : TW) (x3 : TU) (x4 : TX) (i : Cert.ReferenceIdeal.S1x1024.Idx) (q : Fin 1024)
    (hq : (q : ℕ) = i 1) :
    val_main_v83 (F := Ideal) x0 x1 x2 x3 x4 i = ∑ n : Fin 8192, (dh (val_main_v14 (F := Ideal) x0 x1 x2) x2 x3 x4 n q
      * ((x0 (ix3 0 n q) : EReal) * rowrms x0 n) : EReal) := by
  have h0 : (FloatOps.ofBits (F := Ideal) .f32 0x00000000#32 : EReal) = 0 := by
    show Ideal.ofBits .f32 0x00000000#32 = 0
    simp [Ideal.ofBits, Ideal.ieee]
  have e63 : ∀ (j : Cert.ReferenceIdeal.S1024.Idx), (val_main_v63 (F := Ideal) x0 x1 x2 x3 x4 j : EReal)
      = val_main_v60 (F := Ideal) x0 x1 x2 x3 x4 (ix3 0 0 (j 0)) := by
    intro j
    unfold val_main_v63 val_main_cst_13
    generalize val_main_v60 (F := Ideal) x0 x1 x2 x3 x4 = Y
    refine (reduce_one _ Y _ j (ix3 0 0 (j 0)) ?_ ?_).trans ((congrArg (fun z : EReal => z + _) h0).trans (zero_add _))
    · intro k hk
      have e2 : (k 2 : ℕ) = j 0 := congrArg (fun y : Cert.ReferenceIdeal.S1024.Idx => (y 0 : ℕ)) hk
      funext a
      match a with
      | ⟨0, _⟩ => exact Subsingleton.elim (α := Fin 1) _ _
      | ⟨1, _⟩ => exact Subsingleton.elim (α := Fin 1) _ _
      | ⟨2, _⟩ => exact Fin.ext e2
    · funext b
      match b with
      | ⟨0, _⟩ => rfl
  rw [val_main_v83_apply, e63, val_main_v60_apply, val_main_v59_apply]
  refine (congrArg (fun z : EReal => z + _) h0).trans ((zero_add _).trans (Finset.sum_congr rfl fun n _ => ?_))
  have ei : idx_main_v59 (idx_main_v60 (ix3 0 0 ((idx_main_v83 i) 0))) n = ix3 0 n q := by
    funext a
    match a with
    | ⟨0, _⟩ => rfl
    | ⟨1, _⟩ => rfl
    | ⟨2, _⟩ =>
      apply Fin.ext
      have hl : (i 1 : ℕ) < 1024 := (i 1).isLt
      show (((0 * 1 + 0) * 1024 + (i 1 : ℕ)) % 1024) = (q : ℕ)
      omega
  rw [ei, val_main_v58_apply, ref_dh, val_main_v38_apply, val_main_v37_apply, ref_rms]
  exact mul_comm _ _

/-- The gain's gradient after the run is the reference's. -/
theorem final_8 (c : Dev nD) : (dats m 0 c).arrAt 8 (cfgs 0).N
    = val_main_v83 (F := Ideal) (a0 m c) (a1 m c) (a2 m c) (a3 m c) (a4 m c) := by
  refine (dats m 0 c).arrAt_eq_of_covers 8 _ (by decide +kernel) fun t hf y => ?_
  blk_simp
  rw [after0_8]
  have ht : t.val % 32 = 31 := (flush0_8 t).mp hf
  have hN : t.val < 32 := lt_of_lt_of_eq t.isLt N_0
  have h31 : t = ⟨2 * 15 + 1, by rw [N_0]; decide⟩ := Fin.ext (by show t.val = 2 * 15 + 1; omega)
  subst h31
  refine (dg_sum m c y (y 1) rfl 15 (by decide) _).trans ?_
  rw [ref_dg _ _ _ _ _ _ (y 1) (by blk_simp [idx])]
  exact Fin.sum_mul_add_congr (S := 16) (n := 512) (L := 8192) fun s k hl => rfl

/-- The pre-activation's gradient after the run is the reference's. -/
theorem final_6 (c : Dev nD) : (dats m 0 c).arrAt 6 (cfgs 0).N
    = val_main_v81 (F := Ideal) (a0 m c) (a1 m c) (a2 m c) (a3 m c) (a4 m c) := by
  refine (dats m 0 c).arrAt_eq_of_covers 6 _ (by decide +kernel) fun t hf y => ?_
  blk_simp
  rw [after0_6, dz_out]
  have hN : t.val < 32 := lt_of_lt_of_eq t.isLt N_0
  have hy0 : (y 0 : ℕ) < 512 := (y 0).isLt
  have hy1 : (y 1 : ℕ) < 2048 := (y 1).isLt
  have hr : ∀ (i : Cert.ReferenceIdeal.S8192x4096.Idx) (n : Fin 8192) (f : Fin 4096), (i 0 : ℕ) = n → (i 1 : ℕ) = f →
      (val_main_v81 (F := Ideal) (a0 m c) (a1 m c) (a2 m c) (a3 m c) (a4 m c) i : EReal)
        = dcell (act m c) (a3 m c) (a4 m c) n f := by
    intro i n f e0 e1
    rw [val_main_v81_apply, val_main_v80_apply]
    refine (ref_dz _ _ _ _ _ _).trans ?_
    have hn := n.isLt
    have hf := f.isLt
    have en : (idx_main_v80 i) 1 = n := Fin.ext (by show ((i 0).val * 4096 + (i 1).val) / 4096 % 8192 = n.val; omega)
    have ef : (idx_main_v80 i) 2 = f := Fin.ext (by show ((i 0).val * 4096 + (i 1).val) % 4096 = f.val; omega)
    rw [en, ef]
  refine Eq.trans ?_ (hr _ ⟨t.val / 2 * 512 + y 0, row_lt t (y 0)⟩ ⟨t.val % 2 * 2048 + y 1, by omega⟩
    (by blk_simp [idx t]) (by blk_simp [idx t])).symm
  refine mul_pieces ?_ (Finset.sum_congr rfl fun r _ => congrArg₂ (fun a b : EReal => a * b) ?_ ?_)
  · exact blk1 m c t _ (ix3 0 _ _) rfl rfl
  · exact blk0 m c t _ (ix3 0 _ r) rfl rfl
  · exact blk3 m c t _ (ix2 _ r) rfl rfl

/-- The gradient of the norm: the kernel's form equals the reference's. -/
theorem norm_bwd (X P : Fin 1024 → EReal) (a : EReal) (k : Fin 1024) :
    a + rms X * (P k - X k * rms X * Ideal.div (∑ l : Fin 1024, P l * (X l * rms X)) (Ideal.ofBits .f32 0x44800000#32))
      = a + P k * rms X
        + X k * Ideal.div ((∑ l : Fin 1024, X l * P l) * (Ideal.ofBits .f32 0xBF000000#32 * Ideal.div (rms X)
            (Ideal.div (∑ k : Fin 1024, X k * X k) (Ideal.ofBits .f32 0x44800000#32) + Ideal.ofBits .f32 0x358637BD#32)))
            (Ideal.ofBits .f32 0x44800000#32)
        + Ideal.div ((∑ l : Fin 1024, X l * P l) * (Ideal.ofBits .f32 0xBF000000#32 * Ideal.div (rms X)
            (Ideal.div (∑ k : Fin 1024, X k * X k) (Ideal.ofBits .f32 0x44800000#32) + Ideal.ofBits .f32 0x358637BD#32)))
            (Ideal.ofBits .f32 0x44800000#32) * X k := by
  obtain ⟨e, he, hw⟩ := eps_word
  have h1024 : (1024 : ℝ) ≠ 0 := by norm_num
  have hd : rms X = Ideal.rsqrt (Ideal.div (∑ k : Fin 1024, X k * X k) ((1024 : ℝ) : EReal) + (e : EReal)) := by
    show Ideal.rsqrt (Ideal.div _ (Ideal.ofBits .f32 0x44800000#32) + Ideal.ofBits .f32 0x358637BD#32) = _
    rw [len_word, hw]
  by_cases hX : ∃ l, X l = ⊤ ∨ X l = ⊥
  · obtain ⟨l, hl⟩ := hX
    have ht : Ideal.div (∑ k : Fin 1024, X k * X k) ((1024 : ℝ) : EReal) + (e : EReal) = ⊤ := by
      rw [sum_sq_top X l hl, Ideal.div_coe h1024, EReal.top_mul_coe_of_pos (by norm_num), EReal.top_add_coe]
    have hr : rms X = 0 := by rw [hd, ht, Ideal.rsqrt_top]
    have hz : Ideal.div 0 ((1024 : ℝ) : EReal) = 0 := by rw [Ideal.div_coe h1024, zero_mul]
    have hz' : Ideal.div (0 : EReal) ⊤ = 0 := by simp [Ideal.div]
    rw [len_word, hw, ht, hr, hz']
    simp only [mul_zero, zero_mul, hz, add_zero]
  · have hx : ∀ k, X k = ((X k).toReal : EReal) := fun k =>
      (EReal.coe_toReal (fun h => hX ⟨k, Or.inl h⟩) (fun h => hX ⟨k, Or.inr h⟩)).symm
    obtain ⟨x, rfl⟩ : ∃ x : Fin 1024 → ℝ, X = fun k => (x k : EReal) := ⟨_, funext hx⟩
    have hs : 0 ≤ ∑ k, x k * x k := Finset.sum_nonneg fun k _ => mul_self_nonneg (x k)
    have hu : 0 < (∑ k, x k * x k) * (1 / 1024) + e := by positivity
    have hc : Ideal.div (∑ k : Fin 1024, (x k : EReal) * (x k : EReal)) ((1024 : ℝ) : EReal) + (e : EReal)
        = (((∑ k, x k * x k) * (1 / 1024) + e : ℝ) : EReal) := by
      simp only [← EReal.coe_mul]
      rw [coe_sum, Ideal.div_coe h1024, ← EReal.coe_mul, ← EReal.coe_add]
    rw [len_word, hw, half_word, hd, rsqrt_mean x e he, hc]
    generalize hue : (∑ k, x k * x k) * (1 / 1024) + e = u at hu ⊢
    have hsq : 0 < (Real.sqrt u)⁻¹ := inv_pos.2 (Real.sqrt_pos.2 hu)
    have hrr : 1 / u = (Real.sqrt u)⁻¹ * (Real.sqrt u)⁻¹ := by rw [← mul_inv, Real.mul_self_sqrt hu.le, one_div]
    generalize (Real.sqrt u)⁻¹ = r at hsq hrr ⊢
    have hsum : (∑ l : Fin 1024, P l * ((x l : EReal) * (r : EReal))) = (∑ l : Fin 1024, (x l : EReal) * P l) * (r : EReal) := by
      rw [← sum_mul_real _ r hsq.le]
      exact Finset.sum_congr rfl fun l _ => by rw [← mul_assoc, mul_comm (P l)]
    rw [hsum, Ideal.div_coe h1024, Ideal.div_coe hu.ne', Ideal.div_coe h1024, norm_ext (x k) r u hsq hrr, add_assoc, add_assoc, add_assoc]

/-- The reference's gradient of the norm's input at a cell. -/
theorem ref_dx (x0 : TX) (x1 : TG) (x2 : TW) (x3 : TU) (x4 : TX) (i : Cert.ReferenceIdeal.S8192x1024.Idx) (n : Fin 8192)
    (q : Fin 1024) (hn : (n : ℕ) = i 0) (hq : (q : ℕ) = i 1) (P : Fin 1024 → EReal)
    (hP : ∀ k, P k = dh (val_main_v14 (F := Ideal) x0 x1 x2) x2 x3 x4 n k * (x1 (ix1 k) : EReal))
    (X : Fin 1024 → EReal) (hX : ∀ k, X k = x0 (ix3 0 n k)) :
    val_main_v82 (F := Ideal) x0 x1 x2 x3 x4 i = (x4 (ix3 0 n q) + P q * rms X
        + X q * Ideal.div ((∑ l : Fin 1024, X l * P l) * (Ideal.ofBits .f32 0xBF000000#32 * Ideal.div (rms X)
            (Ideal.div (∑ k : Fin 1024, X k * X k) (Ideal.ofBits .f32 0x44800000#32) + Ideal.ofBits .f32 0x358637BD#32)))
            (Ideal.ofBits .f32 0x44800000#32)
        + Ideal.div ((∑ l : Fin 1024, X l * P l) * (Ideal.ofBits .f32 0xBF000000#32 * Ideal.div (rms X)
            (Ideal.div (∑ k : Fin 1024, X k * X k) (Ideal.ofBits .f32 0x44800000#32) + Ideal.ofBits .f32 0x358637BD#32)))
            (Ideal.ofBits .f32 0x44800000#32) * X q : EReal) := by
  obtain rfl : X = fun k => (x0 (ix3 0 n k) : EReal) := funext hX
  have h0 : (FloatOps.ofBits (F := Ideal) .f32 0x00000000#32 : EReal) = 0 := by
    show Ideal.ofBits .f32 0x00000000#32 = 0
    simp [Ideal.ofBits, Ideal.ieee]
  have hl0 := n.isLt
  have hl1 := q.isLt
  have ei : idx_main_v82 i = ix3 0 n q := by
    funext a
    match a with
    | ⟨0, _⟩ => rfl
    | ⟨1, _⟩ => exact Fin.ext (by show ((i 0).val * 1024 + (i 1).val) / 1024 % 8192 = n.val; omega)
    | ⟨2, _⟩ => exact Fin.ext (by show ((i 0).val * 1024 + (i 1).val) % 1024 = q.val; omega)
  have e62 : ∀ k, (val_main_v62 (F := Ideal) x0 x1 x2 x3 x4 (ix3 0 n k) : EReal) = P k := by
    intro k
    rw [val_main_v62_apply, ref_dh, val_main_v61_apply, val_main_v39_apply, hP]
    refine congrArg (fun z : EReal => _ * z) (congrArg x1 ?_)
    funext a
    match a with
    | ⟨0, _⟩ => rfl
  have e33 : (val_main_v33 (F := Ideal) x0 (ix3 0 n 0) : EReal) = rms (fun k => (x0 (ix3 0 n k) : EReal)) := ref_rms x0 (ix3 0 n 0)
  have e28 : (val_main_v28 (F := Ideal) x0 (ix3 0 n 0) : EReal) = ∑ k : Fin 1024, (x0 (ix3 0 n k) * x0 (ix3 0 n k) : EReal) := by
    rw [val_main_v28_apply, val_main_v27_apply]
    refine (congrArg (fun z : EReal => z + _) h0).trans ((zero_add _).trans (Finset.sum_congr rfl fun k _ => ?_))
    have ei : idx_main_v27 (idx_main_v28 (ix3 0 n 0)) k = ix3 0 n k := by
      funext a
      match a with
      | ⟨0, _⟩ => rfl
      | ⟨1, _⟩ => rfl
      | ⟨2, _⟩ => rfl
    rw [ei]; rfl
  have e66 : (val_main_v66 (F := Ideal) x0 x1 x2 x3 x4 (ix3 0 n 0) : EReal) = ∑ l : Fin 1024, (x0 (ix3 0 n l) : EReal) * P l := by
    rw [val_main_v66_apply, val_main_v65_apply]
    refine (congrArg (fun z : EReal => z + _) h0).trans ((zero_add _).trans (Finset.sum_congr rfl fun k _ => ?_))
    have ei : idx_main_v65 (idx_main_v66 (ix3 0 n 0)) k = ix3 0 n k := by
      funext a
      match a with
      | ⟨0, _⟩ => rfl
      | ⟨1, _⟩ => exact Fin.ext (by show ((0 * 8192 + n.val) * 1 + 0) % 8192 = n.val; omega)
      | ⟨2, _⟩ => rfl
    rw [ei, val_main_v64_apply, e62]
    rfl
  have e72 : (val_main_v72 (F := Ideal) x0 x1 x2 x3 x4 (ix3 0 n 0) : EReal)
      = Ideal.div ((∑ l : Fin 1024, (x0 (ix3 0 n l) : EReal) * P l) * (Ideal.ofBits .f32 0xBF000000#32
          * Ideal.div (rms (fun k => (x0 (ix3 0 n k) : EReal)))
            (Ideal.div (∑ k : Fin 1024, (x0 (ix3 0 n k) * x0 (ix3 0 n k) : EReal)) (Ideal.ofBits .f32 0x44800000#32)
              + Ideal.ofBits .f32 0x358637BD#32))) (Ideal.ofBits .f32 0x44800000#32) := by
    rw [← e66, ← e33, ← e28]
    rfl
  have e73 : ∀ (j : Cert.ReferenceIdeal.S8192.Idx), (j 0 : ℕ) = n → (val_main_v73 (F := Ideal) x0 x1 x2 x3 x4 j : EReal)
      = val_main_v72 (F := Ideal) x0 x1 x2 x3 x4 (ix3 0 n 0) := by
    intro j hj
    unfold val_main_v73 val_main_cst_16
    generalize val_main_v72 (F := Ideal) x0 x1 x2 x3 x4 = Y
    refine (reduce_one _ Y _ j (ix3 0 n 0) ?_ ?_).trans ((congrArg (fun z : EReal => z + _) h0).trans (zero_add _))
    · intro k hk
      have e2 : (k 1 : ℕ) = j 0 := congrArg (fun y : Cert.ReferenceIdeal.S8192.Idx => (y 0 : ℕ)) hk
      funext a
      match a with
      | ⟨0, _⟩ => exact Subsingleton.elim (α := Fin 1) _ _
      | ⟨1, _⟩ => exact Fin.ext (e2.trans hj)
      | ⟨2, _⟩ => exact Subsingleton.elim (α := Fin 1) _ _
    · funext b
      match b with
      | ⟨0, _⟩ => exact Fin.ext hj.symm
  have e75 : (val_main_v75 (F := Ideal) x0 x1 x2 x3 x4 (ix3 0 n q) : EReal) = val_main_v72 (F := Ideal) x0 x1 x2 x3 x4 (ix3 0 n 0) := by
    rw [val_main_v75_apply, val_main_v74_apply, e73 _ rfl]
  have e67 : (val_main_v67 (F := Ideal) x0 (ix3 0 n q) : EReal) = rms (fun k => (x0 (ix3 0 n k) : EReal)) := by
    rw [val_main_v67_apply]
    exact ref_rms x0 _
  rw [val_main_v82_apply, ei, val_main_v79_apply, val_main_v77_apply, val_main_v69_apply, val_main_v68_apply,
    val_main_v76_apply, val_main_v78_apply, e62, e67, e75, e72]
  rfl

/-- The input's gradient at a cell, over rows that hold the given values. -/
theorem pay7_eq (v76 v78 : FVec Ideal S512x1024 .f32) (v87 : FVec Ideal S1x1024 .f32) (v106 : FVec Ideal S512x1024 .f32)
    (j : S512x1024.Idx) (X P : Fin 1024 → EReal) (a : EReal) (q : Fin 1024)
    (hX : ∀ k, (v76 (ix2 (j 0) k) : EReal) = X k) (hX' : (v76 j : EReal) = X q)
    (hP : ∀ k, (v78 (ix2 (j 0) k) * v87 (ix2 0 k) : EReal) = P k) (hP' : (v78 j * v87 (ix2 0 (j 1)) : EReal) = P q)
    (ha : (v106 j : EReal) = a) :
    k0_pay7 (F := Ideal) v76 v78 v87 v106 j
      = (a + rms X * (P q - X q * rms X * Ideal.div (∑ l : Fin 1024, P l * (X l * rms X)) (Ideal.ofBits .f32 0x44800000#32)) : EReal) := by
  have hr : rms (fun k => v76 (ix2 (j 0) k)) = rms X := congrArg rms (funext hX)
  rw [pay7_at, hr, hX', hP', ha]
  refine congrArg (fun z : EReal => a + rms X * (P q - X q * rms X * Ideal.div z (Ideal.ofBits .f32 0x44800000#32)))
    (Finset.sum_congr rfl fun l _ => ?_)
  exact congrArg₂ (fun a b : EReal => a * (b * rms X)) (hP l) (hX l)

/-- The input's gradient at a cell of the last visit's block, in the values of the arguments. -/
theorem dx_cell (c : Dev nD) (t : Fin cfg0.N) (ht : t.val % 2 = 1) (y : S512x1024.Idx) (n : Fin 8192)
    (hn : n.val = t.val / 2 * 512 + y 0) :
    k0_pay7 (F := Ideal) (iblk m c 4 t) (accum m c t) (iblk m c 5 t) (iblk m c 0 t) y
      = (a4 m c (ix3 0 n (y 1)) + rms (fun k => a0 m c (ix3 0 n k))
          * (dh (act m c) (a2 m c) (a3 m c) (a4 m c) n (y 1) * a1 m c (ix1 (y 1))
            - a0 m c (ix3 0 n (y 1)) * rms (fun k => a0 m c (ix3 0 n k))
              * Ideal.div (∑ l : Fin 1024, dh (act m c) (a2 m c) (a3 m c) (a4 m c) n l * a1 m c (ix1 l)
                  * (a0 m c (ix3 0 n l) * rms (fun k => a0 m c (ix3 0 n k)))) (Ideal.ofBits .f32 0x44800000#32)) : EReal) :=
  pay7_eq _ _ _ _ y (fun k => a0 m c (ix3 0 n k))
    (fun k => dh (act m c) (a2 m c) (a3 m c) (a4 m c) n k * (a1 m c (ix1 k) : EReal)) _ (y 1)
    (fun k => blk4 m c t _ (ix3 0 n k) hn rfl) (blk4 m c t _ (ix3 0 n (y 1)) hn rfl)
    (fun k => congrArg₂ (fun a b : EReal => a * b) (accum_ref m c t ht (ix2 (y 0) k) n hn k rfl) (blk5 m c t _ (ix1 k) rfl))
    (congrArg₂ (fun a b : EReal => a * b) (accum_ref m c t ht _ n hn (y 1) rfl) (blk5 m c t _ (ix1 (y 1)) rfl))
    (blk0 m c t _ (ix3 0 n (y 1)) hn rfl)

/-- The reference's input gradient at a cell, in the same values. -/
theorem dx_ref (c : Dev nD)
    (i : Cert.ReferenceIdeal.S8192x1024.Idx) (n : Fin 8192) (q : Fin 1024) (hn : (i 0 : ℕ) = n) (hq : (i 1 : ℕ) = q) :
    (a4 m c (ix3 0 n q) + rms (fun k => a0 m c (ix3 0 n k))
          * (dh (act m c) (a2 m c) (a3 m c) (a4 m c) n q * a1 m c (ix1 q)
            - a0 m c (ix3 0 n q) * rms (fun k => a0 m c (ix3 0 n k))
              * Ideal.div (∑ l : Fin 1024, dh (act m c) (a2 m c) (a3 m c) (a4 m c) n l * a1 m c (ix1 l)
                  * (a0 m c (ix3 0 n l) * rms (fun k => a0 m c (ix3 0 n k)))) (Ideal.ofBits .f32 0x44800000#32)) : EReal)
      = val_main_v82 (F := Ideal) (a0 m c) (a1 m c) (a2 m c) (a3 m c) (a4 m c) i :=
  (norm_bwd (fun k => a0 m c (ix3 0 n k))
    (fun k => dh (act m c) (a2 m c) (a3 m c) (a4 m c) n k * (a1 m c (ix1 k) : EReal)) _ q).trans
    (ref_dx (a0 m c) (a1 m c) (a2 m c) (a3 m c) (a4 m c) i n q hn.symm hq.symm _ (fun k => rfl) _ (fun k => rfl)).symm

/-- The input's gradient after the run is the reference's. -/
theorem final_7 (c : Dev nD) :
    (dats m 0 c).arrAt 7 (cfgs 0).N
      = val_main_v82 (F := Ideal) (a0 m c) (a1 m c) (a2 m c) (a3 m c) (a4 m c) := by
  refine (dats m 0 c).arrAt_eq_of_covers 7 _ (by decide +kernel) fun t hf y => ?_
  blk_simp
  have ht : t.val % 2 = 1 := (flush0_7 t).mp hf
  rw [after0_7, dx_odd m c t ht]
  refine (dx_cell m c t ht y ⟨t.val / 2 * 512 + y 0, row_lt t (y 0)⟩ rfl).trans ?_
  exact dx_ref m c _ _ _ (by blk_simp [idx t]) (by blk_simp [idx t])

end Cert.KernelIdeal.Mlp

end
-- ==== Proof.Dw5.lean ====
/- The value of the gate projection's weight gradient `Cert.Kernel5Ideal` over the extended reals: its result array is the
   reference's contraction over all 8192 rows. -/
module

public import proofs.«01_k».proof.Proof.Gen.Kernel5Ideal.Value
public import proofs.«01_k».proof.Proof.Gen.Kernel5Ideal.Frame
public import proofs.«01_k».proof.Proof.Gen.Reference5Ideal.Run
public import proofs.«01_k».proof.Proof.Gen.Reference5Ideal.Read
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel5Ideal.Dw

open Cert.Kernel5Ideal Cert.Kernel5Ideal.Gen

variable (m : (ℓ : Loc nD τ sig) → Buf (Elt Ideal) ℓ)

/-- Each window's block index at each grid point. -/
theorem idx : ∀ t : Fin cfg0.N, win0_0.index t = ![t.val % 4, t.val / 4]
    ∧ win0_1.index t = ![t.val % 4, 0]
    ∧ win0_2.index t = ![t.val / 4, 0] :=
  (by decide +kernel : ∀ t : Fin grid0.N, _)

/-- The product of one row block at a cell: a column of the first operand times a column of the second. -/
theorem pay1_at (v0 : FVec Ideal S2048x1024 .bf16) (v2 : FVec Ideal S2048x1024 .bf16) (j : S1024x1024.Idx) :
    k0_pay1 (F := Ideal) v0 v2 j = ∑ k : Fin 2048, (v0 (ix2 k (j 0)) : EReal) * v2 (ix2 k (j 1)) := by
  pointwise [k0_pay1]

/-- The first point's store is its product. -/
theorem pay2_at (v0 : FVec Ideal S2048x1024 .bf16) (v2 : FVec Ideal S2048x1024 .bf16) (j : S1024x1024.Idx) :
    k0_pay2 (F := Ideal) v0 v2 j = k0_pay1 (F := Ideal) v0 v2 j := by
  pointwise [k0_pay2, k0_pay1]

/-- A later point's store adds its product to what was there. -/
theorem pay3_at (v0 : FVec Ideal S2048x1024 .bf16) (v2 : FVec Ideal S2048x1024 .bf16) (v14 : FVec Ideal S1024x1024 .f32)
    (j : S1024x1024.Idx) : k0_pay3 (F := Ideal) v0 v2 v14 j = (v14 j + k0_pay1 (F := Ideal) v0 v2 j : EReal) := by
  pointwise [k0_pay3, k0_pay1]

/-- The last point's store is the accumulator. -/
theorem pay4_at (v14 : FVec Ideal S1024x1024 .f32) (j : S1024x1024.Idx) : k0_pay4 (F := Ideal) v14 j = v14 j := by
  pointwise [k0_pay4]

/-- What the first point of a run leaves in the accumulator. -/
theorem acc_first (c : Dev nD) (t : Fin cfg0.N) (h : t.val % 4 = 0) (j : S1024x1024.Idx) :
    (outsAt0 m c t.val t.isLt).2 j = (0 + k0_pay1 (F := Ideal) (iblk m c 0 t) (iblk m c 1 t) j : EReal) := by
  have hN : t.val < 8 := lt_of_lt_of_eq t.isLt N_0
  rw [outsAt0_A m c t h (by omega) (by omega)]
  frame_out
  rw [pay2_at, zero_add]

/-- What a later point of a run leaves in the accumulator. -/
theorem acc_next (c : Dev nD) (t : Fin cfg0.N) (h : ¬ t.val % 4 = 0) (j : S1024x1024.Idx) :
    (outsAt0 m c t.val t.isLt).2 j
      = ((outsAt0 m c (t.val - 1) (Nat.lt_of_le_of_lt (Nat.sub_le _ _) t.isLt)).2 j
          + k0_pay1 (F := Ideal) (iblk m c 0 t) (iblk m c 1 t) j : EReal) := by
  by_cases h3 : t.val % 4 = 3
  · rw [outsAt0_C m c t h (by omega) h3]
    frame_out
    rw [read_unread_whole, pay3_at]
  · rw [outsAt0_B m c t h (by omega) h3]
    frame_out
    rw [read_unread_whole, pay3_at]

/-- The last point of a run writes out its accumulator. -/
theorem out_last (c : Dev nD) (t : Fin cfg0.N) (h3 : t.val % 4 = 3) (j : S1024x1024.Idx) :
    (outsAt0 m c t.val t.isLt).1 j = ((outsAt0 m c t.val t.isLt).2 j : EReal) := by
  rw [outsAt0_C m c t (by omega) (by omega) h3]
  frame_out
  rw [pay4_at]

/-- The first operand's array, over the kernel's arguments. -/
abbrev left (c : Dev nD) : FVec Ideal Cert.Reference5Ideal.S1x8192x2048 .f32 :=
  m ((c : Thread nD τ).loc main_arg3)

/-- The second operand's array, over the kernel's arguments. -/
abbrev right (c : Dev nD) : FVec Ideal Cert.Reference5Ideal.S1x8192x1024 .f32 :=
  Cert.Reference5Ideal.Read.val_main_v12 (F := Ideal) (m ((c : Thread nD τ).loc main_arg0)) (m ((c : Thread nD τ).loc main_arg1))

/-- The first operand of the call as its host operations make it. -/
theorem lhs_eq (c : Dev nD) : V m c main_v1 = truncf (F := Ideal) .bf16 (shapeCast S8192x2048 (left m c) shapeCasts_S1x8192x2048_S8192x2048) bitsLt_bf16_f32 := by
  rfl

/-- The second operand of the call as its host operations make it. -/
theorem rhs_eq (c : Dev nD) : V m c main_v16 = truncf (F := Ideal) .bf16 (shapeCast S8192x1024 (right m c) shapeCasts_S1x8192x1024_S8192x1024) bitsLt_bf16_f32 := by
  rfl

/-- The first operand's row, the leading axis of size one dropped. -/
theorem drop_lhs (X : FVec Ideal Cert.Reference5Ideal.S1x8192x2048 .f32) (i : S8192x2048.Idx)
    (j : Cert.Reference5Ideal.S1x8192x2048.Idx) (h1 : (j 1 : ℕ) = (i 0 : ℕ)) (h2 : (j 2 : ℕ) = i 1) :
    (truncf (F := Ideal) .bf16 (shapeCast S8192x2048 X shapeCasts_S1x8192x2048_S8192x2048) bitsLt_bf16_f32 i : EReal) = X j := by
  pointwise
  blk_ext

/-- The second operand's row, the leading axis of size one dropped. -/
theorem drop_rhs (X : FVec Ideal Cert.Reference5Ideal.S1x8192x1024 .f32) (i : S8192x1024.Idx)
    (j : Cert.Reference5Ideal.S1x8192x1024.Idx) (h1 : (j 1 : ℕ) = (i 0 : ℕ)) (h2 : (j 2 : ℕ) = i 1) :
    (truncf (F := Ideal) .bf16 (shapeCast S8192x1024 X shapeCasts_S1x8192x1024_S8192x1024) bitsLt_bf16_f32 i : EReal) = X j := by
  pointwise
  blk_ext

/-- A block of the first operand, read at its place in the array. -/
theorem lhs_blk (c : Dev nD) (t : Fin cfg0.N) (x : S2048x1024.Idx) (i : Cert.Reference5Ideal.S1x8192x2048.Idx)
    (h1 : (i 1 : ℕ) = t.val % 4 * 2048 + (x 0 : ℕ)) (h2 : (i 2 : ℕ) = t.val / 4 * 1024 + x 1) :
    (iblk m c 0 t x : EReal) = left m c i := by
  blk_simp [iblk]
  rw [lhs_eq]
  exact drop_lhs _ _ i (by blk_simp [idx t]; omega) (by blk_simp [idx t]; omega)

/-- A block of the second operand, read at its place in the array. -/
theorem rhs_blk (c : Dev nD) (t : Fin cfg0.N) (x : S2048x1024.Idx) (i : Cert.Reference5Ideal.S1x8192x1024.Idx)
    (h1 : (i 1 : ℕ) = t.val % 4 * 2048 + (x 0 : ℕ)) (h2 : (i 2 : ℕ) = x 1) :
    (iblk m c 1 t x : EReal) = right m c i := by
  blk_simp [iblk]
  rw [rhs_eq]
  exact drop_rhs _ _ i (by blk_simp [idx t]; omega) (by blk_simp [idx t]; omega)

/-- The reference's result over the two arrays. -/
def ref (A : FVec Ideal Cert.Reference5Ideal.S1x8192x2048 .f32) (X : FVec Ideal Cert.Reference5Ideal.S1x8192x1024 .f32) :
    FVec Ideal Cert.Reference5Ideal.S2048x1024 .bf16 :=
  truncf .bf16 (transpose Cert.Reference5Ideal.S2048x1024 [1, 0] (transpose Cert.Reference5Ideal.S1024x2048 [1, 0]
    (Host.dotGeneral Cert.Reference5Ideal.dot_S1x8192x2048_S1x8192x1024_S2048x1024_01_01_2_2_n_n none A X)
    Cert.Reference5Ideal.Gen.transposes_S2048x1024_S1024x2048_1_0) Cert.Reference5Ideal.Gen.transposes_S1024x2048_S2048x1024_1_0) Cert.Reference5Ideal.Gen.bitsLt_bf16_f32

/-- The reference's result at a cell, as one sum over the rows. -/
theorem ref_at (A : FVec Ideal Cert.Reference5Ideal.S1x8192x2048 .f32) (X : FVec Ideal Cert.Reference5Ideal.S1x8192x1024 .f32)
    (i : Cert.Reference5Ideal.S2048x1024.Idx) :
    ref A X i = ∑ l : Fin 8192, (A (ix3 0 l (i 0)) : EReal) * X (ix3 0 l (i 1)) := by
  pointwise [ref]
  rw [Fin.sum_univ_one]

set_option maxHeartbeats 1000000 in
/-- The result array after the run is the reference's result over the same two arrays. -/
theorem final (c : Dev nD) : (dats m 0 c).arrAt 2 (cfgs 0).N = ref (left m c) (right m c) := by
  refine (dats m 0 c).arrAt_eq_of_covers 2 _ (by decide +kernel) fun t hf y => ?_
  blk_simp
  rw [after0_2]
  have ht : t.val % 4 = 3 := (flush0_2 t).mp hf
  have hN : t.val < 8 := lt_of_lt_of_eq t.isLt N_0
  rw [out_last m c t ht]
  rw [Pipeline.eq_sum_fin_of_reset_step_apply_of_flush (fun n h => (outsAt0 m c n h).2) 4 (fun _ => (0 : EReal)) _
    (acc_first m c) (acc_next m c) t ht _, zero_add]
  simp only [pay1_at, ref_at]
  refine Fin.sum_mul_add_congr fun s k hl => ?_
  have hs := s.isLt
  have hrow : s.val * 2048 + k.val = (4 * (t.val / 4) + s.val) % 4 * 2048 + k.val := by omega
  have hcol : ∀ n : ℕ, t.val / 4 * 1024 + n = (4 * (t.val / 4) + s.val) / 4 * 1024 + n := fun n => by omega
  have e0 := lhs_blk m c ⟨4 * (t.val / 4) + s.val, Pipeline.run_point_lt_of_flush t ht s⟩ (ix2 k (y 0))
    (ix3 0 ⟨s.val * 2048 + k.val, hl⟩ (((cfg0.win 2).blk t).view.emb y 0)) hrow (by blk_simp [idx t]; exact hcol _)
  have e1 := rhs_blk m c ⟨4 * (t.val / 4) + s.val, Pipeline.run_point_lt_of_flush t ht s⟩ (ix2 k (y 1))
    (ix3 0 ⟨s.val * 2048 + k.val, hl⟩ (((cfg0.win 2).blk t).view.emb y 1)) hrow (by blk_simp [idx t])
  exact congrArg₂ (fun a b : EReal => a * b) e0 e1

end Cert.Kernel5Ideal.Dw

end
-- ==== Proof.Dw6.lean ====
/- The value of the first dilation group's projection weight gradient `Cert.Kernel6Ideal` over the extended reals: its result array is the
   reference's contraction over all 8192 rows. -/
module

public import proofs.«01_k».proof.Proof.Gen.Kernel6Ideal.Value
public import proofs.«01_k».proof.Proof.Gen.Kernel6Ideal.Frame
public import proofs.«01_k».proof.Proof.Gen.Reference6Ideal.Run
public import proofs.«01_k».proof.Proof.Gen.Reference6Ideal.Read
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel6Ideal.Dw

open Cert.Kernel6Ideal Cert.Kernel6Ideal.Gen

variable (m : (ℓ : Loc nD τ sig) → Buf (Elt Ideal) ℓ)

/-- Each window's block index at each grid point. -/
theorem idx : ∀ t : Fin cfg0.N, win0_0.index t = ![t.val % 4, t.val / 4]
    ∧ win0_1.index t = ![t.val % 4, 0]
    ∧ win0_2.index t = ![t.val / 4, 0] :=
  (by decide +kernel : ∀ t : Fin grid0.N, _)

/-- The product of one row block at a cell: a column of the first operand times a column of the second. -/
theorem pay1_at (v0 : FVec Ideal S2048x768 .bf16) (v2 : FVec Ideal S2048x1024 .bf16) (j : S768x1024.Idx) :
    k0_pay1 (F := Ideal) v0 v2 j = ∑ k : Fin 2048, (v0 (ix2 k (j 0)) : EReal) * v2 (ix2 k (j 1)) := by
  pointwise [k0_pay1]

/-- The first point's store is its product. -/
theorem pay2_at (v0 : FVec Ideal S2048x768 .bf16) (v2 : FVec Ideal S2048x1024 .bf16) (j : S768x1024.Idx) :
    k0_pay2 (F := Ideal) v0 v2 j = k0_pay1 (F := Ideal) v0 v2 j := by
  pointwise [k0_pay2, k0_pay1]

/-- A later point's store adds its product to what was there. -/
theorem pay3_at (v0 : FVec Ideal S2048x768 .bf16) (v2 : FVec Ideal S2048x1024 .bf16) (v14 : FVec Ideal S768x1024 .f32)
    (j : S768x1024.Idx) : k0_pay3 (F := Ideal) v0 v2 v14 j = (v14 j + k0_pay1 (F := Ideal) v0 v2 j : EReal) := by
  pointwise [k0_pay3, k0_pay1]

/-- The last point's store is the accumulator. -/
theorem pay4_at (v14 : FVec Ideal S768x1024 .f32) (j : S768x1024.Idx) : k0_pay4 (F := Ideal) v14 j = v14 j := by
  pointwise [k0_pay4]

/-- What the first point of a run leaves in the accumulator. -/
theorem acc_first (c : Dev nD) (t : Fin cfg0.N) (h : t.val % 4 = 0) (j : S768x1024.Idx) :
    (outsAt0 m c t.val t.isLt).2 j = (0 + k0_pay1 (F := Ideal) (iblk m c 0 t) (iblk m c 1 t) j : EReal) := by
  have hN : t.val < 8 := lt_of_lt_of_eq t.isLt N_0
  rw [outsAt0_A m c t h (by omega) (by omega)]
  frame_out
  rw [pay2_at, zero_add]

/-- What a later point of a run leaves in the accumulator. -/
theorem acc_next (c : Dev nD) (t : Fin cfg0.N) (h : ¬ t.val % 4 = 0) (j : S768x1024.Idx) :
    (outsAt0 m c t.val t.isLt).2 j
      = ((outsAt0 m c (t.val - 1) (Nat.lt_of_le_of_lt (Nat.sub_le _ _) t.isLt)).2 j
          + k0_pay1 (F := Ideal) (iblk m c 0 t) (iblk m c 1 t) j : EReal) := by
  by_cases h3 : t.val % 4 = 3
  · rw [outsAt0_C m c t h (by omega) h3]
    frame_out
    rw [read_unread_whole, pay3_at]
  · rw [outsAt0_B m c t h (by omega) h3]
    frame_out
    rw [read_unread_whole, pay3_at]

/-- The last point of a run writes out its accumulator. -/
theorem out_last (c : Dev nD) (t : Fin cfg0.N) (h3 : t.val % 4 = 3) (j : S768x1024.Idx) :
    (outsAt0 m c t.val t.isLt).1 j = ((outsAt0 m c t.val t.isLt).2 j : EReal) := by
  rw [outsAt0_C m c t (by omega) (by omega) h3]
  frame_out
  rw [pay4_at]

/-- The first operand's array, over the kernel's arguments. -/
abbrev left (c : Dev nD) : FVec Ideal Cert.Reference6Ideal.S1x8192x1536 .f32 :=
  m ((c : Thread nD τ).loc main_arg3)

/-- The second operand's array, over the kernel's arguments. -/
abbrev right (c : Dev nD) : FVec Ideal Cert.Reference6Ideal.S1x8192x1024 .f32 :=
  Cert.Reference6Ideal.Read.val_main_v12 (F := Ideal) (m ((c : Thread nD τ).loc main_arg0)) (m ((c : Thread nD τ).loc main_arg1))

/-- The first operand of the call as its host operations make it. -/
theorem lhs_eq (c : Dev nD) : V m c main_v3 = truncf (F := Ideal) .bf16 (shapeCast S8192x1536 (transpose S1x8192x1536 [1, 0, 2] (shapeCast S8192x1x1536 (left m c) shapeCasts_S1x8192x1536_S8192x1x1536)
      transposes_S8192x1x1536_S1x8192x1536_1_0_2) shapeCasts_S1x8192x1536_S8192x1536) bitsLt_bf16_f32 := by
  rfl

/-- The second operand of the call as its host operations make it. -/
theorem rhs_eq (c : Dev nD) : V m c main_v20 = truncf (F := Ideal) .bf16 (shapeCast S8192x1024 (transpose S1x8192x1024 [1, 0, 2] (shapeCast S8192x1x1024 (right m c) shapeCasts_S1x8192x1024_S8192x1x1024)
      transposes_S8192x1x1024_S1x8192x1024_1_0_2) shapeCasts_S1x8192x1024_S8192x1024) bitsLt_bf16_f32 := by
  rfl

/-- The first operand's row, the leading axis of size one dropped. -/
theorem drop_lhs (X : FVec Ideal Cert.Reference6Ideal.S1x8192x1536 .f32) (i : S8192x1536.Idx)
    (j : Cert.Reference6Ideal.S1x8192x1536.Idx) (h1 : (j 1 : ℕ) = (i 0 : ℕ)) (h2 : (j 2 : ℕ) = i 1) :
    (truncf (F := Ideal) .bf16 (shapeCast S8192x1536 (transpose S1x8192x1536 [1, 0, 2] (shapeCast S8192x1x1536 X shapeCasts_S1x8192x1536_S8192x1x1536)
      transposes_S8192x1x1536_S1x8192x1536_1_0_2) shapeCasts_S1x8192x1536_S8192x1536) bitsLt_bf16_f32 i : EReal) = X j := by
  pointwise
  blk_ext

/-- The second operand's row, the leading axis of size one dropped. -/
theorem drop_rhs (X : FVec Ideal Cert.Reference6Ideal.S1x8192x1024 .f32) (i : S8192x1024.Idx)
    (j : Cert.Reference6Ideal.S1x8192x1024.Idx) (h1 : (j 1 : ℕ) = (i 0 : ℕ)) (h2 : (j 2 : ℕ) = i 1) :
    (truncf (F := Ideal) .bf16 (shapeCast S8192x1024 (transpose S1x8192x1024 [1, 0, 2] (shapeCast S8192x1x1024 X shapeCasts_S1x8192x1024_S8192x1x1024)
      transposes_S8192x1x1024_S1x8192x1024_1_0_2) shapeCasts_S1x8192x1024_S8192x1024) bitsLt_bf16_f32 i : EReal) = X j := by
  pointwise
  blk_ext

/-- A block of the first operand, read at its place in the array. -/
theorem lhs_blk (c : Dev nD) (t : Fin cfg0.N) (x : S2048x768.Idx) (i : Cert.Reference6Ideal.S1x8192x1536.Idx)
    (h1 : (i 1 : ℕ) = t.val % 4 * 2048 + (x 0 : ℕ)) (h2 : (i 2 : ℕ) = t.val / 4 * 768 + x 1) :
    (iblk m c 0 t x : EReal) = left m c i := by
  blk_simp [iblk]
  rw [lhs_eq]
  exact drop_lhs _ _ i (by blk_simp [idx t]; omega) (by blk_simp [idx t]; omega)

/-- A block of the second operand, read at its place in the array. -/
theorem rhs_blk (c : Dev nD) (t : Fin cfg0.N) (x : S2048x1024.Idx) (i : Cert.Reference6Ideal.S1x8192x1024.Idx)
    (h1 : (i 1 : ℕ) = t.val % 4 * 2048 + (x 0 : ℕ)) (h2 : (i 2 : ℕ) = x 1) :
    (iblk m c 1 t x : EReal) = right m c i := by
  blk_simp [iblk]
  rw [rhs_eq]
  exact drop_rhs _ _ i (by blk_simp [idx t]; omega) (by blk_simp [idx t]; omega)

/-- The reference's result over the two arrays. -/
def ref (A : FVec Ideal Cert.Reference6Ideal.S1x8192x1536 .f32) (X : FVec Ideal Cert.Reference6Ideal.S1x8192x1024 .f32) :
    FVec Ideal Cert.Reference6Ideal.S1536x1024 .bf16 :=
  truncf .bf16 (transpose Cert.Reference6Ideal.S1536x1024 [1, 0] (transpose Cert.Reference6Ideal.S1024x1536 [1, 0]
    (Host.dotGeneral Cert.Reference6Ideal.dot_S1x8192x1536_S1x8192x1024_S1536x1024_01_01_2_2_n_n none A X)
    Cert.Reference6Ideal.Gen.transposes_S1536x1024_S1024x1536_1_0) Cert.Reference6Ideal.Gen.transposes_S1024x1536_S1536x1024_1_0) Cert.Reference6Ideal.Gen.bitsLt_bf16_f32

/-- The reference's result at a cell, as one sum over the rows. -/
theorem ref_at (A : FVec Ideal Cert.Reference6Ideal.S1x8192x1536 .f32) (X : FVec Ideal Cert.Reference6Ideal.S1x8192x1024 .f32)
    (i : Cert.Reference6Ideal.S1536x1024.Idx) :
    ref A X i = ∑ l : Fin 8192, (A (ix3 0 l (i 0)) : EReal) * X (ix3 0 l (i 1)) := by
  pointwise [ref]
  rw [Fin.sum_univ_one]

set_option maxHeartbeats 1000000 in
/-- The result array after the run is the reference's result over the same two arrays. -/
theorem final (c : Dev nD) : (dats m 0 c).arrAt 2 (cfgs 0).N = ref (left m c) (right m c) := by
  refine (dats m 0 c).arrAt_eq_of_covers 2 _ (by decide +kernel) fun t hf y => ?_
  blk_simp
  rw [after0_2]
  have ht : t.val % 4 = 3 := (flush0_2 t).mp hf
  have hN : t.val < 8 := lt_of_lt_of_eq t.isLt N_0
  rw [out_last m c t ht]
  rw [Pipeline.eq_sum_fin_of_reset_step_apply_of_flush (fun n h => (outsAt0 m c n h).2) 4 (fun _ => (0 : EReal)) _
    (acc_first m c) (acc_next m c) t ht _, zero_add]
  simp only [pay1_at, ref_at]
  refine Fin.sum_mul_add_congr fun s k hl => ?_
  have hs := s.isLt
  have hrow : s.val * 2048 + k.val = (4 * (t.val / 4) + s.val) % 4 * 2048 + k.val := by omega
  have hcol : ∀ n : ℕ, t.val / 4 * 768 + n = (4 * (t.val / 4) + s.val) / 4 * 768 + n := fun n => by omega
  have e0 := lhs_blk m c ⟨4 * (t.val / 4) + s.val, Pipeline.run_point_lt_of_flush t ht s⟩ (ix2 k (y 0))
    (ix3 0 ⟨s.val * 2048 + k.val, hl⟩ (((cfg0.win 2).blk t).view.emb y 0)) hrow (by blk_simp [idx t]; exact hcol _)
  have e1 := rhs_blk m c ⟨4 * (t.val / 4) + s.val, Pipeline.run_point_lt_of_flush t ht s⟩ (ix2 k (y 1))
    (ix3 0 ⟨s.val * 2048 + k.val, hl⟩ (((cfg0.win 2).blk t).view.emb y 1)) hrow (by blk_simp [idx t])
  exact congrArg₂ (fun a b : EReal => a * b) e0 e1

end Cert.Kernel6Ideal.Dw

end
-- ==== Proof.Dw7.lean ====
/- The value of the second dilation group's projection weight gradient `Cert.Kernel7Ideal` over the extended reals: its result array is the
   reference's contraction over all 8192 rows. -/
module

public import proofs.«01_k».proof.Proof.Gen.Kernel7Ideal.Value
public import proofs.«01_k».proof.Proof.Gen.Kernel7Ideal.Frame
public import proofs.«01_k».proof.Proof.Gen.Reference7Ideal.Run
public import proofs.«01_k».proof.Proof.Gen.Reference7Ideal.Read
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel7Ideal.Dw

open Cert.Kernel7Ideal Cert.Kernel7Ideal.Gen

variable (m : (ℓ : Loc nD τ sig) → Buf (Elt Ideal) ℓ)

/-- Each window's block index at each grid point. -/
theorem idx : ∀ t : Fin cfg0.N, win0_0.index t = ![t.val % 4, t.val / 4]
    ∧ win0_1.index t = ![t.val % 4, 0]
    ∧ win0_2.index t = ![t.val / 4, 0] :=
  (by decide +kernel : ∀ t : Fin grid0.N, _)

/-- The product of one row block at a cell: a column of the first operand times a column of the second. -/
theorem pay1_at (v0 : FVec Ideal S2048x768 .bf16) (v2 : FVec Ideal S2048x1024 .bf16) (j : S768x1024.Idx) :
    k0_pay1 (F := Ideal) v0 v2 j = ∑ k : Fin 2048, (v0 (ix2 k (j 0)) : EReal) * v2 (ix2 k (j 1)) := by
  pointwise [k0_pay1]

/-- The first point's store is its product. -/
theorem pay2_at (v0 : FVec Ideal S2048x768 .bf16) (v2 : FVec Ideal S2048x1024 .bf16) (j : S768x1024.Idx) :
    k0_pay2 (F := Ideal) v0 v2 j = k0_pay1 (F := Ideal) v0 v2 j := by
  pointwise [k0_pay2, k0_pay1]

/-- A later point's store adds its product to what was there. -/
theorem pay3_at (v0 : FVec Ideal S2048x768 .bf16) (v2 : FVec Ideal S2048x1024 .bf16) (v14 : FVec Ideal S768x1024 .f32)
    (j : S768x1024.Idx) : k0_pay3 (F := Ideal) v0 v2 v14 j = (v14 j + k0_pay1 (F := Ideal) v0 v2 j : EReal) := by
  pointwise [k0_pay3, k0_pay1]

/-- The last point's store is the accumulator. -/
theorem pay4_at (v14 : FVec Ideal S768x1024 .f32) (j : S768x1024.Idx) : k0_pay4 (F := Ideal) v14 j = v14 j := by
  pointwise [k0_pay4]

/-- What the first point of a run leaves in the accumulator. -/
theorem acc_first (c : Dev nD) (t : Fin cfg0.N) (h : t.val % 4 = 0) (j : S768x1024.Idx) :
    (outsAt0 m c t.val t.isLt).2 j = (0 + k0_pay1 (F := Ideal) (iblk m c 0 t) (iblk m c 1 t) j : EReal) := by
  have hN : t.val < 8 := lt_of_lt_of_eq t.isLt N_0
  rw [outsAt0_A m c t h (by omega) (by omega)]
  frame_out
  rw [pay2_at, zero_add]

/-- What a later point of a run leaves in the accumulator. -/
theorem acc_next (c : Dev nD) (t : Fin cfg0.N) (h : ¬ t.val % 4 = 0) (j : S768x1024.Idx) :
    (outsAt0 m c t.val t.isLt).2 j
      = ((outsAt0 m c (t.val - 1) (Nat.lt_of_le_of_lt (Nat.sub_le _ _) t.isLt)).2 j
          + k0_pay1 (F := Ideal) (iblk m c 0 t) (iblk m c 1 t) j : EReal) := by
  by_cases h3 : t.val % 4 = 3
  · rw [outsAt0_C m c t h (by omega) h3]
    frame_out
    rw [read_unread_whole, pay3_at]
  · rw [outsAt0_B m c t h (by omega) h3]
    frame_out
    rw [read_unread_whole, pay3_at]

/-- The last point of a run writes out its accumulator. -/
theorem out_last (c : Dev nD) (t : Fin cfg0.N) (h3 : t.val % 4 = 3) (j : S768x1024.Idx) :
    (outsAt0 m c t.val t.isLt).1 j = ((outsAt0 m c t.val t.isLt).2 j : EReal) := by
  rw [outsAt0_C m c t (by omega) (by omega) h3]
  frame_out
  rw [pay4_at]

/-- The first operand's array, over the kernel's arguments. -/
abbrev left (c : Dev nD) : FVec Ideal Cert.Reference7Ideal.S1x8192x1536 .f32 :=
  m ((c : Thread nD τ).loc main_arg3)

/-- The second operand's array, over the kernel's arguments. -/
abbrev right (c : Dev nD) : FVec Ideal Cert.Reference7Ideal.S1x8192x1024 .f32 :=
  Cert.Reference7Ideal.Read.val_main_v12 (F := Ideal) (m ((c : Thread nD τ).loc main_arg0)) (m ((c : Thread nD τ).loc main_arg1))

/-- The first operand of the call as its host operations make it. -/
theorem lhs_eq (c : Dev nD) : V m c main_v3 = truncf (F := Ideal) .bf16 (shapeCast S8192x1536 (transpose S4x2048x1536 [1, 0, 2] (shapeCast S2048x4x1536 (left m c) shapeCasts_S1x8192x1536_S2048x4x1536)
      transposes_S2048x4x1536_S4x2048x1536_1_0_2) shapeCasts_S4x2048x1536_S8192x1536) bitsLt_bf16_f32 := by
  rfl

/-- The second operand of the call as its host operations make it. -/
theorem rhs_eq (c : Dev nD) : V m c main_v20 = truncf (F := Ideal) .bf16 (shapeCast S8192x1024 (transpose S4x2048x1024 [1, 0, 2] (shapeCast S2048x4x1024 (right m c) shapeCasts_S1x8192x1024_S2048x4x1024)
      transposes_S2048x4x1024_S4x2048x1024_1_0_2) shapeCasts_S4x2048x1024_S8192x1024) bitsLt_bf16_f32 := by
  rfl

/-- The first operand's row, a token of the residue order. -/
theorem drop_lhs (X : FVec Ideal Cert.Reference7Ideal.S1x8192x1536 .f32) (i : S8192x1536.Idx)
    (j : Cert.Reference7Ideal.S1x8192x1536.Idx) (h1 : (j 1 : ℕ) = ((i 0 : ℕ)) % 2048 * 4 + ((i 0 : ℕ)) / 2048) (h2 : (j 2 : ℕ) = i 1) :
    (truncf (F := Ideal) .bf16 (shapeCast S8192x1536 (transpose S4x2048x1536 [1, 0, 2] (shapeCast S2048x4x1536 X shapeCasts_S1x8192x1536_S2048x4x1536)
      transposes_S2048x4x1536_S4x2048x1536_1_0_2) shapeCasts_S4x2048x1536_S8192x1536) bitsLt_bf16_f32 i : EReal) = X j := by
  pointwise
  blk_ext

/-- The second operand's row, a token of the residue order. -/
theorem drop_rhs (X : FVec Ideal Cert.Reference7Ideal.S1x8192x1024 .f32) (i : S8192x1024.Idx)
    (j : Cert.Reference7Ideal.S1x8192x1024.Idx) (h1 : (j 1 : ℕ) = ((i 0 : ℕ)) % 2048 * 4 + ((i 0 : ℕ)) / 2048) (h2 : (j 2 : ℕ) = i 1) :
    (truncf (F := Ideal) .bf16 (shapeCast S8192x1024 (transpose S4x2048x1024 [1, 0, 2] (shapeCast S2048x4x1024 X shapeCasts_S1x8192x1024_S2048x4x1024)
      transposes_S2048x4x1024_S4x2048x1024_1_0_2) shapeCasts_S4x2048x1024_S8192x1024) bitsLt_bf16_f32 i : EReal) = X j := by
  pointwise
  blk_ext

/-- A block of the first operand, read at its place in the array. -/
theorem lhs_blk (c : Dev nD) (t : Fin cfg0.N) (x : S2048x768.Idx) (i : Cert.Reference7Ideal.S1x8192x1536.Idx)
    (h1 : (i 1 : ℕ) = (t.val % 4 * 2048 + (x 0 : ℕ)) % 2048 * 4 + (t.val % 4 * 2048 + (x 0 : ℕ)) / 2048) (h2 : (i 2 : ℕ) = t.val / 4 * 768 + x 1) :
    (iblk m c 0 t x : EReal) = left m c i := by
  blk_simp [iblk]
  rw [lhs_eq]
  exact drop_lhs _ _ i (by blk_simp [idx t]; omega) (by blk_simp [idx t]; omega)

/-- A block of the second operand, read at its place in the array. -/
theorem rhs_blk (c : Dev nD) (t : Fin cfg0.N) (x : S2048x1024.Idx) (i : Cert.Reference7Ideal.S1x8192x1024.Idx)
    (h1 : (i 1 : ℕ) = (t.val % 4 * 2048 + (x 0 : ℕ)) % 2048 * 4 + (t.val % 4 * 2048 + (x 0 : ℕ)) / 2048) (h2 : (i 2 : ℕ) = x 1) :
    (iblk m c 1 t x : EReal) = right m c i := by
  blk_simp [iblk]
  rw [rhs_eq]
  exact drop_rhs _ _ i (by blk_simp [idx t]; omega) (by blk_simp [idx t]; omega)

/-- The reference's result over the two arrays. -/
def ref (A : FVec Ideal Cert.Reference7Ideal.S1x8192x1536 .f32) (X : FVec Ideal Cert.Reference7Ideal.S1x8192x1024 .f32) :
    FVec Ideal Cert.Reference7Ideal.S1536x1024 .bf16 :=
  truncf .bf16 (transpose Cert.Reference7Ideal.S1536x1024 [1, 0] (transpose Cert.Reference7Ideal.S1024x1536 [1, 0]
    (Host.dotGeneral Cert.Reference7Ideal.dot_S1x8192x1536_S1x8192x1024_S1536x1024_01_01_2_2_n_n none A X)
    Cert.Reference7Ideal.Gen.transposes_S1536x1024_S1024x1536_1_0) Cert.Reference7Ideal.Gen.transposes_S1024x1536_S1536x1024_1_0) Cert.Reference7Ideal.Gen.bitsLt_bf16_f32

/-- The token a row of the residue order holds. -/
def tok (l : Fin 8192) : Fin 8192 := ⟨l.val % 2048 * 4 + l.val / 2048, by omega⟩

/-- The residue order holds every token once. -/
theorem tok_bijective : Function.Bijective tok := by
  refine Function.bijective_iff_has_inverse.2 ⟨fun n => ⟨n.val % 4 * 2048 + n.val / 4, by omega⟩, fun l => ?_, fun l => ?_⟩
  · refine Fin.ext ?_
    show (l.val % 2048 * 4 + l.val / 2048) % 4 * 2048 + (l.val % 2048 * 4 + l.val / 2048) / 4 = l.val
    omega
  · refine Fin.ext ?_
    show (l.val % 4 * 2048 + l.val / 4) % 2048 * 4 + (l.val % 4 * 2048 + l.val / 4) / 2048 = l.val
    omega

/-- The reference's result at a cell, as one sum over the rows in the residue order. -/
theorem ref_at (A : FVec Ideal Cert.Reference7Ideal.S1x8192x1536 .f32) (X : FVec Ideal Cert.Reference7Ideal.S1x8192x1024 .f32)
    (i : Cert.Reference7Ideal.S1536x1024.Idx) :
    ref A X i = ∑ l : Fin 8192, (A (ix3 0 (tok l) (i 0)) : EReal) * X (ix3 0 (tok l) (i 1)) := by
  pointwise [ref]
  rw [Fin.sum_univ_one]
  exact (Fintype.sum_bijective tok tok_bijective _ _ fun l => rfl).symm

set_option maxHeartbeats 1000000 in
/-- The result array after the run is the reference's result over the same two arrays. -/
theorem final (c : Dev nD) : (dats m 0 c).arrAt 2 (cfgs 0).N = ref (left m c) (right m c) := by
  refine (dats m 0 c).arrAt_eq_of_covers 2 _ (by decide +kernel) fun t hf y => ?_
  blk_simp
  rw [after0_2]
  have ht : t.val % 4 = 3 := (flush0_2 t).mp hf
  have hN : t.val < 8 := lt_of_lt_of_eq t.isLt N_0
  rw [out_last m c t ht]
  rw [Pipeline.eq_sum_fin_of_reset_step_apply_of_flush (fun n h => (outsAt0 m c n h).2) 4 (fun _ => (0 : EReal)) _
    (acc_first m c) (acc_next m c) t ht _, zero_add]
  simp only [pay1_at, ref_at]
  refine Fin.sum_mul_add_congr fun s k hl => ?_
  have hs := s.isLt
  have hrow : (s.val * 2048 + k.val) % 2048 * 4 + (s.val * 2048 + k.val) / 2048 = ((4 * (t.val / 4) + s.val) % 4 * 2048 + k.val) % 2048 * 4 + ((4 * (t.val / 4) + s.val) % 4 * 2048 + k.val) / 2048 := by
    rw [show s.val * 2048 + k.val = (4 * (t.val / 4) + s.val) % 4 * 2048 + k.val from by omega]
  have hcol : ∀ n : ℕ, t.val / 4 * 768 + n = (4 * (t.val / 4) + s.val) / 4 * 768 + n := fun n => by omega
  have e0 := lhs_blk m c ⟨4 * (t.val / 4) + s.val, Pipeline.run_point_lt_of_flush t ht s⟩ (ix2 k (y 0))
    (ix3 0 (tok ⟨s.val * 2048 + k.val, hl⟩) (((cfg0.win 2).blk t).view.emb y 0)) hrow (by blk_simp [idx t]; exact hcol _)
  have e1 := rhs_blk m c ⟨4 * (t.val / 4) + s.val, Pipeline.run_point_lt_of_flush t ht s⟩ (ix2 k (y 1))
    (ix3 0 (tok ⟨s.val * 2048 + k.val, hl⟩) (((cfg0.win 2).blk t).view.emb y 1)) hrow (by blk_simp [idx t])
  exact congrArg₂ (fun a b : EReal => a * b) e0 e1

end Cert.Kernel7Ideal.Dw

end
-- ==== Proof.Dw8.lean ====
/- The value of the third dilation group's projection weight gradient `Cert.Kernel8Ideal` over the extended reals: its result array is the
   reference's contraction over all 8192 rows. -/
module

public import proofs.«01_k».proof.Proof.Gen.Kernel8Ideal.Value
public import proofs.«01_k».proof.Proof.Gen.Kernel8Ideal.Frame
public import proofs.«01_k».proof.Proof.Gen.Reference8Ideal.Run
public import proofs.«01_k».proof.Proof.Gen.Reference8Ideal.Read
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel8Ideal.Dw

open Cert.Kernel8Ideal Cert.Kernel8Ideal.Gen

variable (m : (ℓ : Loc nD τ sig) → Buf (Elt Ideal) ℓ)

/-- Each window's block index at each grid point. -/
theorem idx : ∀ t : Fin cfg0.N, win0_0.index t = ![t.val % 4, t.val / 4]
    ∧ win0_1.index t = ![t.val % 4, 0]
    ∧ win0_2.index t = ![t.val / 4, 0] :=
  (by decide +kernel : ∀ t : Fin grid0.N, _)

/-- The product of one row block at a cell: a column of the first operand times a column of the second. -/
theorem pay1_at (v0 : FVec Ideal S2048x768 .bf16) (v2 : FVec Ideal S2048x1024 .bf16) (j : S768x1024.Idx) :
    k0_pay1 (F := Ideal) v0 v2 j = ∑ k : Fin 2048, (v0 (ix2 k (j 0)) : EReal) * v2 (ix2 k (j 1)) := by
  pointwise [k0_pay1]

/-- The first point's store is its product. -/
theorem pay2_at (v0 : FVec Ideal S2048x768 .bf16) (v2 : FVec Ideal S2048x1024 .bf16) (j : S768x1024.Idx) :
    k0_pay2 (F := Ideal) v0 v2 j = k0_pay1 (F := Ideal) v0 v2 j := by
  pointwise [k0_pay2, k0_pay1]

/-- A later point's store adds its product to what was there. -/
theorem pay3_at (v0 : FVec Ideal S2048x768 .bf16) (v2 : FVec Ideal S2048x1024 .bf16) (v14 : FVec Ideal S768x1024 .f32)
    (j : S768x1024.Idx) : k0_pay3 (F := Ideal) v0 v2 v14 j = (v14 j + k0_pay1 (F := Ideal) v0 v2 j : EReal) := by
  pointwise [k0_pay3, k0_pay1]

/-- The last point's store is the accumulator. -/
theorem pay4_at (v14 : FVec Ideal S768x1024 .f32) (j : S768x1024.Idx) : k0_pay4 (F := Ideal) v14 j = v14 j := by
  pointwise [k0_pay4]

/-- What the first point of a run leaves in the accumulator. -/
theorem acc_first (c : Dev nD) (t : Fin cfg0.N) (h : t.val % 4 = 0) (j : S768x1024.Idx) :
    (outsAt0 m c t.val t.isLt).2 j = (0 + k0_pay1 (F := Ideal) (iblk m c 0 t) (iblk m c 1 t) j : EReal) := by
  have hN : t.val < 8 := lt_of_lt_of_eq t.isLt N_0
  rw [outsAt0_A m c t h (by omega) (by omega)]
  frame_out
  rw [pay2_at, zero_add]

/-- What a later point of a run leaves in the accumulator. -/
theorem acc_next (c : Dev nD) (t : Fin cfg0.N) (h : ¬ t.val % 4 = 0) (j : S768x1024.Idx) :
    (outsAt0 m c t.val t.isLt).2 j
      = ((outsAt0 m c (t.val - 1) (Nat.lt_of_le_of_lt (Nat.sub_le _ _) t.isLt)).2 j
          + k0_pay1 (F := Ideal) (iblk m c 0 t) (iblk m c 1 t) j : EReal) := by
  by_cases h3 : t.val % 4 = 3
  · rw [outsAt0_C m c t h (by omega) h3]
    frame_out
    rw [read_unread_whole, pay3_at]
  · rw [outsAt0_B m c t h (by omega) h3]
    frame_out
    rw [read_unread_whole, pay3_at]

/-- The last point of a run writes out its accumulator. -/
theorem out_last (c : Dev nD) (t : Fin cfg0.N) (h3 : t.val % 4 = 3) (j : S768x1024.Idx) :
    (outsAt0 m c t.val t.isLt).1 j = ((outsAt0 m c t.val t.isLt).2 j : EReal) := by
  rw [outsAt0_C m c t (by omega) (by omega) h3]
  frame_out
  rw [pay4_at]

/-- The first operand's array, over the kernel's arguments. -/
abbrev left (c : Dev nD) : FVec Ideal Cert.Reference8Ideal.S1x8192x1536 .f32 :=
  m ((c : Thread nD τ).loc main_arg3)

/-- The second operand's array, over the kernel's arguments. -/
abbrev right (c : Dev nD) : FVec Ideal Cert.Reference8Ideal.S1x8192x1024 .f32 :=
  Cert.Reference8Ideal.Read.val_main_v12 (F := Ideal) (m ((c : Thread nD τ).loc main_arg0)) (m ((c : Thread nD τ).loc main_arg1))

/-- The first operand of the call as its host operations make it. -/
theorem lhs_eq (c : Dev nD) : V m c main_v3 = truncf (F := Ideal) .bf16 (shapeCast S8192x1536 (transpose S16x512x1536 [1, 0, 2] (shapeCast S512x16x1536 (left m c) shapeCasts_S1x8192x1536_S512x16x1536)
      transposes_S512x16x1536_S16x512x1536_1_0_2) shapeCasts_S16x512x1536_S8192x1536) bitsLt_bf16_f32 := by
  rfl

/-- The second operand of the call as its host operations make it. -/
theorem rhs_eq (c : Dev nD) : V m c main_v20 = truncf (F := Ideal) .bf16 (shapeCast S8192x1024 (transpose S16x512x1024 [1, 0, 2] (shapeCast S512x16x1024 (right m c) shapeCasts_S1x8192x1024_S512x16x1024)
      transposes_S512x16x1024_S16x512x1024_1_0_2) shapeCasts_S16x512x1024_S8192x1024) bitsLt_bf16_f32 := by
  rfl

/-- The first operand's row, a token of the residue order. -/
theorem drop_lhs (X : FVec Ideal Cert.Reference8Ideal.S1x8192x1536 .f32) (i : S8192x1536.Idx)
    (j : Cert.Reference8Ideal.S1x8192x1536.Idx) (h1 : (j 1 : ℕ) = ((i 0 : ℕ)) % 512 * 16 + ((i 0 : ℕ)) / 512) (h2 : (j 2 : ℕ) = i 1) :
    (truncf (F := Ideal) .bf16 (shapeCast S8192x1536 (transpose S16x512x1536 [1, 0, 2] (shapeCast S512x16x1536 X shapeCasts_S1x8192x1536_S512x16x1536)
      transposes_S512x16x1536_S16x512x1536_1_0_2) shapeCasts_S16x512x1536_S8192x1536) bitsLt_bf16_f32 i : EReal) = X j := by
  pointwise
  blk_ext

/-- The second operand's row, a token of the residue order. -/
theorem drop_rhs (X : FVec Ideal Cert.Reference8Ideal.S1x8192x1024 .f32) (i : S8192x1024.Idx)
    (j : Cert.Reference8Ideal.S1x8192x1024.Idx) (h1 : (j 1 : ℕ) = ((i 0 : ℕ)) % 512 * 16 + ((i 0 : ℕ)) / 512) (h2 : (j 2 : ℕ) = i 1) :
    (truncf (F := Ideal) .bf16 (shapeCast S8192x1024 (transpose S16x512x1024 [1, 0, 2] (shapeCast S512x16x1024 X shapeCasts_S1x8192x1024_S512x16x1024)
      transposes_S512x16x1024_S16x512x1024_1_0_2) shapeCasts_S16x512x1024_S8192x1024) bitsLt_bf16_f32 i : EReal) = X j := by
  pointwise
  blk_ext

/-- A block of the first operand, read at its place in the array. -/
theorem lhs_blk (c : Dev nD) (t : Fin cfg0.N) (x : S2048x768.Idx) (i : Cert.Reference8Ideal.S1x8192x1536.Idx)
    (h1 : (i 1 : ℕ) = (t.val % 4 * 2048 + (x 0 : ℕ)) % 512 * 16 + (t.val % 4 * 2048 + (x 0 : ℕ)) / 512) (h2 : (i 2 : ℕ) = t.val / 4 * 768 + x 1) :
    (iblk m c 0 t x : EReal) = left m c i := by
  blk_simp [iblk]
  rw [lhs_eq]
  exact drop_lhs _ _ i (by blk_simp [idx t]; omega) (by blk_simp [idx t]; omega)

/-- A block of the second operand, read at its place in the array. -/
theorem rhs_blk (c : Dev nD) (t : Fin cfg0.N) (x : S2048x1024.Idx) (i : Cert.Reference8Ideal.S1x8192x1024.Idx)
    (h1 : (i 1 : ℕ) = (t.val % 4 * 2048 + (x 0 : ℕ)) % 512 * 16 + (t.val % 4 * 2048 + (x 0 : ℕ)) / 512) (h2 : (i 2 : ℕ) = x 1) :
    (iblk m c 1 t x : EReal) = right m c i := by
  blk_simp [iblk]
  rw [rhs_eq]
  exact drop_rhs _ _ i (by blk_simp [idx t]; omega) (by blk_simp [idx t]; omega)

/-- The reference's result over the two arrays. -/
def ref (A : FVec Ideal Cert.Reference8Ideal.S1x8192x1536 .f32) (X : FVec Ideal Cert.Reference8Ideal.S1x8192x1024 .f32) :
    FVec Ideal Cert.Reference8Ideal.S1536x1024 .bf16 :=
  truncf .bf16 (transpose Cert.Reference8Ideal.S1536x1024 [1, 0] (transpose Cert.Reference8Ideal.S1024x1536 [1, 0]
    (Host.dotGeneral Cert.Reference8Ideal.dot_S1x8192x1536_S1x8192x1024_S1536x1024_01_01_2_2_n_n none A X)
    Cert.Reference8Ideal.Gen.transposes_S1536x1024_S1024x1536_1_0) Cert.Reference8Ideal.Gen.transposes_S1024x1536_S1536x1024_1_0) Cert.Reference8Ideal.Gen.bitsLt_bf16_f32

/-- The token a row of the residue order holds. -/
def tok (l : Fin 8192) : Fin 8192 := ⟨l.val % 512 * 16 + l.val / 512, by omega⟩

/-- The residue order holds every token once. -/
theorem tok_bijective : Function.Bijective tok := by
  refine Function.bijective_iff_has_inverse.2 ⟨fun n => ⟨n.val % 16 * 512 + n.val / 16, by omega⟩, fun l => ?_, fun l => ?_⟩
  · refine Fin.ext ?_
    show (l.val % 512 * 16 + l.val / 512) % 16 * 512 + (l.val % 512 * 16 + l.val / 512) / 16 = l.val
    omega
  · refine Fin.ext ?_
    show (l.val % 16 * 512 + l.val / 16) % 512 * 16 + (l.val % 16 * 512 + l.val / 16) / 512 = l.val
    omega

/-- The reference's result at a cell, as one sum over the rows in the residue order. -/
theorem ref_at (A : FVec Ideal Cert.Reference8Ideal.S1x8192x1536 .f32) (X : FVec Ideal Cert.Reference8Ideal.S1x8192x1024 .f32)
    (i : Cert.Reference8Ideal.S1536x1024.Idx) :
    ref A X i = ∑ l : Fin 8192, (A (ix3 0 (tok l) (i 0)) : EReal) * X (ix3 0 (tok l) (i 1)) := by
  pointwise [ref]
  rw [Fin.sum_univ_one]
  exact (Fintype.sum_bijective tok tok_bijective _ _ fun l => rfl).symm

set_option maxHeartbeats 1000000 in
/-- The result array after the run is the reference's result over the same two arrays. -/
theorem final (c : Dev nD) : (dats m 0 c).arrAt 2 (cfgs 0).N = ref (left m c) (right m c) := by
  refine (dats m 0 c).arrAt_eq_of_covers 2 _ (by decide +kernel) fun t hf y => ?_
  blk_simp
  rw [after0_2]
  have ht : t.val % 4 = 3 := (flush0_2 t).mp hf
  have hN : t.val < 8 := lt_of_lt_of_eq t.isLt N_0
  rw [out_last m c t ht]
  rw [Pipeline.eq_sum_fin_of_reset_step_apply_of_flush (fun n h => (outsAt0 m c n h).2) 4 (fun _ => (0 : EReal)) _
    (acc_first m c) (acc_next m c) t ht _, zero_add]
  simp only [pay1_at, ref_at]
  refine Fin.sum_mul_add_congr fun s k hl => ?_
  have hs := s.isLt
  have hrow : (s.val * 2048 + k.val) % 512 * 16 + (s.val * 2048 + k.val) / 512 = ((4 * (t.val / 4) + s.val) % 4 * 2048 + k.val) % 512 * 16 + ((4 * (t.val / 4) + s.val) % 4 * 2048 + k.val) / 512 := by
    rw [show s.val * 2048 + k.val = (4 * (t.val / 4) + s.val) % 4 * 2048 + k.val from by omega]
  have hcol : ∀ n : ℕ, t.val / 4 * 768 + n = (4 * (t.val / 4) + s.val) / 4 * 768 + n := fun n => by omega
  have e0 := lhs_blk m c ⟨4 * (t.val / 4) + s.val, Pipeline.run_point_lt_of_flush t ht s⟩ (ix2 k (y 0))
    (ix3 0 (tok ⟨s.val * 2048 + k.val, hl⟩) (((cfg0.win 2).blk t).view.emb y 0)) hrow (by blk_simp [idx t]; exact hcol _)
  have e1 := rhs_blk m c ⟨4 * (t.val / 4) + s.val, Pipeline.run_point_lt_of_flush t ht s⟩ (ix2 k (y 1))
    (ix3 0 (tok ⟨s.val * 2048 + k.val, hl⟩) (((cfg0.win 2).blk t).view.emb y 1)) hrow (by blk_simp [idx t])
  exact congrArg₂ (fun a b : EReal => a * b) e0 e1

end Cert.Kernel8Ideal.Dw

end
-- ==== Proof.Dw9.lean ====
/- The value of the sliding-window group's projection weight gradient `Cert.Kernel9Ideal` over the extended reals: its result array is the
   reference's contraction over all 8192 rows. -/
module

public import proofs.«01_k».proof.Proof.Gen.Kernel9Ideal.Value
public import proofs.«01_k».proof.Proof.Gen.Kernel9Ideal.Frame
public import proofs.«01_k».proof.Proof.Gen.Reference9Ideal.Run
public import proofs.«01_k».proof.Proof.Gen.Reference9Ideal.Read
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel9Ideal.Dw

open Cert.Kernel9Ideal Cert.Kernel9Ideal.Gen

variable (m : (ℓ : Loc nD τ sig) → Buf (Elt Ideal) ℓ)

/-- Each window's block index at each grid point. -/
theorem idx : ∀ t : Fin cfg0.N, win0_0.index t = ![t.val, 0]
    ∧ win0_1.index t = ![t.val, 0]
    ∧ win0_2.index t = ![0, 0] :=
  (by decide +kernel : ∀ t : Fin grid0.N, _)

/-- The product of one row block at a cell: a column of the first operand times a column of the second. -/
theorem pay1_at (v0 : FVec Ideal S2048x768 .bf16) (v2 : FVec Ideal S2048x1024 .bf16) (j : S768x1024.Idx) :
    k0_pay1 (F := Ideal) v0 v2 j = ∑ k : Fin 2048, (v0 (ix2 k (j 0)) : EReal) * v2 (ix2 k (j 1)) := by
  pointwise [k0_pay1]

/-- The first point's store is its product. -/
theorem pay2_at (v0 : FVec Ideal S2048x768 .bf16) (v2 : FVec Ideal S2048x1024 .bf16) (j : S768x1024.Idx) :
    k0_pay2 (F := Ideal) v0 v2 j = k0_pay1 (F := Ideal) v0 v2 j := by
  pointwise [k0_pay2, k0_pay1]

/-- A later point's store adds its product to what was there. -/
theorem pay3_at (v0 : FVec Ideal S2048x768 .bf16) (v2 : FVec Ideal S2048x1024 .bf16) (v14 : FVec Ideal S768x1024 .f32)
    (j : S768x1024.Idx) : k0_pay3 (F := Ideal) v0 v2 v14 j = (v14 j + k0_pay1 (F := Ideal) v0 v2 j : EReal) := by
  pointwise [k0_pay3, k0_pay1]

/-- The last point's store is the accumulator. -/
theorem pay4_at (v14 : FVec Ideal S768x1024 .f32) (j : S768x1024.Idx) : k0_pay4 (F := Ideal) v14 j = v14 j := by
  pointwise [k0_pay4]

/-- What the first point of a run leaves in the accumulator. -/
theorem acc_first (c : Dev nD) (t : Fin cfg0.N) (h : t.val % 4 = 0) (j : S768x1024.Idx) :
    (outsAt0 m c t.val t.isLt).2 j = (0 + k0_pay1 (F := Ideal) (iblk m c 0 t) (iblk m c 1 t) j : EReal) := by
  have hN : t.val < 4 := lt_of_lt_of_eq t.isLt N_0
  rw [outsAt0_A m c t h (by omega) (by omega)]
  frame_out
  rw [pay2_at, zero_add]

/-- What a later point of a run leaves in the accumulator. -/
theorem acc_next (c : Dev nD) (t : Fin cfg0.N) (h : ¬ t.val % 4 = 0) (j : S768x1024.Idx) :
    (outsAt0 m c t.val t.isLt).2 j
      = ((outsAt0 m c (t.val - 1) (Nat.lt_of_le_of_lt (Nat.sub_le _ _) t.isLt)).2 j
          + k0_pay1 (F := Ideal) (iblk m c 0 t) (iblk m c 1 t) j : EReal) := by
  by_cases h3 : t.val % 4 = 3
  · rw [outsAt0_C m c t h (by omega) h3]
    frame_out
    rw [read_unread_whole, pay3_at]
  · rw [outsAt0_B m c t h (by omega) h3]
    frame_out
    rw [read_unread_whole, pay3_at]

/-- The last point of a run writes out its accumulator. -/
theorem out_last (c : Dev nD) (t : Fin cfg0.N) (h3 : t.val % 4 = 3) (j : S768x1024.Idx) :
    (outsAt0 m c t.val t.isLt).1 j = ((outsAt0 m c t.val t.isLt).2 j : EReal) := by
  rw [outsAt0_C m c t (by omega) (by omega) h3]
  frame_out
  rw [pay4_at]

/-- The first operand's array, over the kernel's arguments. -/
abbrev left (c : Dev nD) : FVec Ideal Cert.Reference9Ideal.S1x8192x768 .f32 :=
  m ((c : Thread nD τ).loc main_arg3)

/-- The second operand's array, over the kernel's arguments. -/
abbrev right (c : Dev nD) : FVec Ideal Cert.Reference9Ideal.S1x8192x1024 .f32 :=
  Cert.Reference9Ideal.Read.val_main_v12 (F := Ideal) (m ((c : Thread nD τ).loc main_arg0)) (m ((c : Thread nD τ).loc main_arg1))

/-- The first operand of the call as its host operations make it. -/
theorem lhs_eq (c : Dev nD) : V m c main_v3 = truncf (F := Ideal) .bf16 (shapeCast S8192x768 (transpose S1x8192x768 [1, 0, 2] (shapeCast S8192x1x768 (left m c) shapeCasts_S1x8192x768_S8192x1x768)
      transposes_S8192x1x768_S1x8192x768_1_0_2) shapeCasts_S1x8192x768_S8192x768) bitsLt_bf16_f32 := by
  rfl

/-- The second operand of the call as its host operations make it. -/
theorem rhs_eq (c : Dev nD) : V m c main_v20 = truncf (F := Ideal) .bf16 (shapeCast S8192x1024 (transpose S1x8192x1024 [1, 0, 2] (shapeCast S8192x1x1024 (right m c) shapeCasts_S1x8192x1024_S8192x1x1024)
      transposes_S8192x1x1024_S1x8192x1024_1_0_2) shapeCasts_S1x8192x1024_S8192x1024) bitsLt_bf16_f32 := by
  rfl

/-- The first operand's row, the leading axis of size one dropped. -/
theorem drop_lhs (X : FVec Ideal Cert.Reference9Ideal.S1x8192x768 .f32) (i : S8192x768.Idx)
    (j : Cert.Reference9Ideal.S1x8192x768.Idx) (h1 : (j 1 : ℕ) = (i 0 : ℕ)) (h2 : (j 2 : ℕ) = i 1) :
    (truncf (F := Ideal) .bf16 (shapeCast S8192x768 (transpose S1x8192x768 [1, 0, 2] (shapeCast S8192x1x768 X shapeCasts_S1x8192x768_S8192x1x768)
      transposes_S8192x1x768_S1x8192x768_1_0_2) shapeCasts_S1x8192x768_S8192x768) bitsLt_bf16_f32 i : EReal) = X j := by
  pointwise
  blk_ext

/-- The second operand's row, the leading axis of size one dropped. -/
theorem drop_rhs (X : FVec Ideal Cert.Reference9Ideal.S1x8192x1024 .f32) (i : S8192x1024.Idx)
    (j : Cert.Reference9Ideal.S1x8192x1024.Idx) (h1 : (j 1 : ℕ) = (i 0 : ℕ)) (h2 : (j 2 : ℕ) = i 1) :
    (truncf (F := Ideal) .bf16 (shapeCast S8192x1024 (transpose S1x8192x1024 [1, 0, 2] (shapeCast S8192x1x1024 X shapeCasts_S1x8192x1024_S8192x1x1024)
      transposes_S8192x1x1024_S1x8192x1024_1_0_2) shapeCasts_S1x8192x1024_S8192x1024) bitsLt_bf16_f32 i : EReal) = X j := by
  pointwise
  blk_ext

/-- A block of the first operand, read at its place in the array. -/
theorem lhs_blk (c : Dev nD) (t : Fin cfg0.N) (x : S2048x768.Idx) (i : Cert.Reference9Ideal.S1x8192x768.Idx)
    (h1 : (i 1 : ℕ) = t.val * 2048 + (x 0 : ℕ)) (h2 : (i 2 : ℕ) = x 1) :
    (iblk m c 0 t x : EReal) = left m c i := by
  blk_simp [iblk]
  rw [lhs_eq]
  exact drop_lhs _ _ i (by blk_simp [idx t]; omega) (by blk_simp [idx t]; omega)

/-- A block of the second operand, read at its place in the array. -/
theorem rhs_blk (c : Dev nD) (t : Fin cfg0.N) (x : S2048x1024.Idx) (i : Cert.Reference9Ideal.S1x8192x1024.Idx)
    (h1 : (i 1 : ℕ) = t.val * 2048 + (x 0 : ℕ)) (h2 : (i 2 : ℕ) = x 1) :
    (iblk m c 1 t x : EReal) = right m c i := by
  blk_simp [iblk]
  rw [rhs_eq]
  exact drop_rhs _ _ i (by blk_simp [idx t]; omega) (by blk_simp [idx t]; omega)

/-- The reference's result over the two arrays. -/
def ref (A : FVec Ideal Cert.Reference9Ideal.S1x8192x768 .f32) (X : FVec Ideal Cert.Reference9Ideal.S1x8192x1024 .f32) :
    FVec Ideal Cert.Reference9Ideal.S768x1024 .bf16 :=
  truncf .bf16 (transpose Cert.Reference9Ideal.S768x1024 [1, 0] (transpose Cert.Reference9Ideal.S1024x768 [1, 0]
    (Host.dotGeneral Cert.Reference9Ideal.dot_S1x8192x768_S1x8192x1024_S768x1024_01_01_2_2_n_n none A X)
    Cert.Reference9Ideal.Gen.transposes_S768x1024_S1024x768_1_0) Cert.Reference9Ideal.Gen.transposes_S1024x768_S768x1024_1_0) Cert.Reference9Ideal.Gen.bitsLt_bf16_f32

/-- The reference's result at a cell, as one sum over the rows. -/
theorem ref_at (A : FVec Ideal Cert.Reference9Ideal.S1x8192x768 .f32) (X : FVec Ideal Cert.Reference9Ideal.S1x8192x1024 .f32)
    (i : Cert.Reference9Ideal.S768x1024.Idx) :
    ref A X i = ∑ l : Fin 8192, (A (ix3 0 l (i 0)) : EReal) * X (ix3 0 l (i 1)) := by
  pointwise [ref]
  rw [Fin.sum_univ_one]

set_option maxHeartbeats 1000000 in
/-- The result array after the run is the reference's result over the same two arrays. -/
theorem final (c : Dev nD) : (dats m 0 c).arrAt 2 (cfgs 0).N = ref (left m c) (right m c) := by
  refine (dats m 0 c).arrAt_eq_of_covers 2 _ (by decide +kernel) fun t hf y => ?_
  blk_simp
  rw [after0_2]
  have ht : t.val % 4 = 3 := (flush0_2 t).mp hf
  have hN : t.val < 4 := lt_of_lt_of_eq t.isLt N_0
  rw [out_last m c t ht]
  rw [Pipeline.eq_sum_fin_of_reset_step_apply_of_flush (fun n h => (outsAt0 m c n h).2) 4 (fun _ => (0 : EReal)) _
    (acc_first m c) (acc_next m c) t ht _, zero_add]
  simp only [pay1_at, ref_at]
  refine Fin.sum_mul_add_congr fun s k hl => ?_
  have hs := s.isLt
  have hrow : s.val * 2048 + k.val = (4 * (t.val / 4) + s.val) * 2048 + k.val := by omega
  have e0 := lhs_blk m c ⟨4 * (t.val / 4) + s.val, Pipeline.run_point_lt_of_flush t ht s⟩ (ix2 k (y 0))
    (ix3 0 ⟨s.val * 2048 + k.val, hl⟩ (((cfg0.win 2).blk t).view.emb y 0)) hrow (by blk_simp [idx t])
  have e1 := rhs_blk m c ⟨4 * (t.val / 4) + s.val, Pipeline.run_point_lt_of_flush t ht s⟩ (ix2 k (y 1))
    (ix3 0 ⟨s.val * 2048 + k.val, hl⟩ (((cfg0.win 2).blk t).view.emb y 1)) hrow (by blk_simp [idx t])
  exact congrArg₂ (fun a b : EReal => a * b) e0 e1

end Cert.Kernel9Ideal.Dw

end
-- ==== Proof.Dw10.lean ====
/- The value of the output projection's weight gradient `Cert.Kernel10Ideal` over the extended reals: its result array is the
   reference's contraction over all 8192 rows. -/
module

public import proofs.«01_k».proof.Proof.Gen.Kernel10Ideal.Value
public import proofs.«01_k».proof.Proof.Gen.Kernel10Ideal.Frame
public import proofs.«01_k».proof.Proof.Gen.Reference10Ideal.Run
public import proofs.«01_k».proof.Proof.Gen.Reference10Ideal.Read
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel10Ideal.Dw

open Cert.Kernel10Ideal Cert.Kernel10Ideal.Gen

variable (m : (ℓ : Loc nD τ sig) → Buf (Elt Ideal) ℓ)

/-- Each window's block index at each grid point. -/
theorem idx : ∀ t : Fin cfg0.N, win0_0.index t = ![t.val, 0]
    ∧ win0_1.index t = ![t.val, 0]
    ∧ win0_2.index t = ![0, 0] :=
  (by decide +kernel : ∀ t : Fin grid0.N, _)

/-- The product of one row block at a cell: a column of the first operand times a column of the second. -/
theorem pay1_at (v0 : FVec Ideal S2048x1024 .bf16) (v2 : FVec Ideal S2048x1024 .f32) (j : S1024x1024.Idx) :
    k0_pay1 (F := Ideal) v0 v2 j = ∑ k : Fin 2048, (v0 (ix2 k (j 0)) : EReal) * v2 (ix2 k (j 1)) := by
  pointwise [k0_pay1]

/-- The first point's store is its product. -/
theorem pay2_at (v0 : FVec Ideal S2048x1024 .bf16) (v2 : FVec Ideal S2048x1024 .f32) (j : S1024x1024.Idx) :
    k0_pay2 (F := Ideal) v0 v2 j = k0_pay1 (F := Ideal) v0 v2 j := by
  pointwise [k0_pay2, k0_pay1]

/-- A later point's store adds its product to what was there. -/
theorem pay3_at (v0 : FVec Ideal S2048x1024 .bf16) (v2 : FVec Ideal S2048x1024 .f32) (v14 : FVec Ideal S1024x1024 .f32)
    (j : S1024x1024.Idx) : k0_pay3 (F := Ideal) v0 v2 v14 j = (v14 j + k0_pay1 (F := Ideal) v0 v2 j : EReal) := by
  pointwise [k0_pay3, k0_pay1]

/-- The last point's store is the accumulator. -/
theorem pay4_at (v14 : FVec Ideal S1024x1024 .f32) (j : S1024x1024.Idx) : k0_pay4 (F := Ideal) v14 j = v14 j := by
  pointwise [k0_pay4]

/-- What the first point of a run leaves in the accumulator. -/
theorem acc_first (c : Dev nD) (t : Fin cfg0.N) (h : t.val % 4 = 0) (j : S1024x1024.Idx) :
    (outsAt0 m c t.val t.isLt).2 j = (0 + k0_pay1 (F := Ideal) (iblk m c 0 t) (iblk m c 1 t) j : EReal) := by
  have hN : t.val < 4 := lt_of_lt_of_eq t.isLt N_0
  rw [outsAt0_A m c t h (by omega) (by omega)]
  frame_out
  rw [pay2_at, zero_add]

/-- What a later point of a run leaves in the accumulator. -/
theorem acc_next (c : Dev nD) (t : Fin cfg0.N) (h : ¬ t.val % 4 = 0) (j : S1024x1024.Idx) :
    (outsAt0 m c t.val t.isLt).2 j
      = ((outsAt0 m c (t.val - 1) (Nat.lt_of_le_of_lt (Nat.sub_le _ _) t.isLt)).2 j
          + k0_pay1 (F := Ideal) (iblk m c 0 t) (iblk m c 1 t) j : EReal) := by
  by_cases h3 : t.val % 4 = 3
  · rw [outsAt0_C m c t h (by omega) h3]
    frame_out
    rw [read_unread_whole, pay3_at]
  · rw [outsAt0_B m c t h (by omega) h3]
    frame_out
    rw [read_unread_whole, pay3_at]

/-- The last point of a run writes out its accumulator. -/
theorem out_last (c : Dev nD) (t : Fin cfg0.N) (h3 : t.val % 4 = 3) (j : S1024x1024.Idx) :
    (outsAt0 m c t.val t.isLt).1 j = ((outsAt0 m c t.val t.isLt).2 j : EReal) := by
  rw [outsAt0_C m c t (by omega) (by omega) h3]
  frame_out
  rw [pay4_at]

/-- The first operand's array, over the kernel's arguments. -/
abbrev left (c : Dev nD) : FVec Ideal Cert.Reference10Ideal.S1x8192x1024 .f32 :=
  m ((c : Thread nD τ).loc main_arg0)

/-- The second operand's array, over the kernel's arguments. -/
abbrev right (c : Dev nD) : FVec Ideal Cert.Reference10Ideal.S1x8192x1024 .f32 :=
  m ((c : Thread nD τ).loc main_arg3)

/-- The first operand of the call as its host operations make it. -/
theorem lhs_eq (c : Dev nD) : V m c main_v1 = truncf (F := Ideal) .bf16 (shapeCast S8192x1024 (left m c) shapeCasts_S1x8192x1024_S8192x1024) bitsLt_bf16_f32 := by
  rfl

/-- The second operand of the call as its host operations make it. -/
theorem rhs_eq (c : Dev nD) : V m c main_v2 = shapeCast S8192x1024 (right m c) shapeCasts_S1x8192x1024_S8192x1024 := by
  rfl

/-- The first operand's row, the leading axis of size one dropped. -/
theorem drop_lhs (X : FVec Ideal Cert.Reference10Ideal.S1x8192x1024 .f32) (i : S8192x1024.Idx)
    (j : Cert.Reference10Ideal.S1x8192x1024.Idx) (h1 : (j 1 : ℕ) = (i 0 : ℕ)) (h2 : (j 2 : ℕ) = i 1) :
    (truncf (F := Ideal) .bf16 (shapeCast S8192x1024 X shapeCasts_S1x8192x1024_S8192x1024) bitsLt_bf16_f32 i : EReal) = X j := by
  pointwise
  blk_ext

/-- The second operand's row, the leading axis of size one dropped. -/
theorem drop_rhs (X : FVec Ideal Cert.Reference10Ideal.S1x8192x1024 .f32) (i : S8192x1024.Idx)
    (j : Cert.Reference10Ideal.S1x8192x1024.Idx) (h1 : (j 1 : ℕ) = (i 0 : ℕ)) (h2 : (j 2 : ℕ) = i 1) :
    (shapeCast S8192x1024 X shapeCasts_S1x8192x1024_S8192x1024 i : EReal) = X j := by
  pointwise
  blk_ext

/-- A block of the first operand, read at its place in the array. -/
theorem lhs_blk (c : Dev nD) (t : Fin cfg0.N) (x : S2048x1024.Idx) (i : Cert.Reference10Ideal.S1x8192x1024.Idx)
    (h1 : (i 1 : ℕ) = t.val * 2048 + (x 0 : ℕ)) (h2 : (i 2 : ℕ) = x 1) :
    (iblk m c 0 t x : EReal) = left m c i := by
  blk_simp [iblk]
  rw [lhs_eq]
  exact drop_lhs _ _ i (by blk_simp [idx t]; omega) (by blk_simp [idx t]; omega)

/-- A block of the second operand, read at its place in the array. -/
theorem rhs_blk (c : Dev nD) (t : Fin cfg0.N) (x : S2048x1024.Idx) (i : Cert.Reference10Ideal.S1x8192x1024.Idx)
    (h1 : (i 1 : ℕ) = t.val * 2048 + (x 0 : ℕ)) (h2 : (i 2 : ℕ) = x 1) :
    (iblk m c 1 t x : EReal) = right m c i := by
  blk_simp [iblk]
  rw [rhs_eq]
  exact drop_rhs _ _ i (by blk_simp [idx t]; omega) (by blk_simp [idx t]; omega)

/-- The reference's result over the two arrays. -/
def ref (A : FVec Ideal Cert.Reference10Ideal.S1x8192x1024 .f32) (X : FVec Ideal Cert.Reference10Ideal.S1x8192x1024 .f32) :
    FVec Ideal Cert.Reference10Ideal.S1024x1024 .bf16 :=
  truncf .bf16 (transpose Cert.Reference10Ideal.S1024x1024 [1, 0]
    (Host.dotGeneral Cert.Reference10Ideal.dot_S1x8192x1024_S1x8192x1024_S1024x1024_01_01_2_2_n_n none X A)
    Cert.Reference10Ideal.Gen.transposes_S1024x1024_S1024x1024_1_0) Cert.Reference10Ideal.Gen.bitsLt_bf16_f32

/-- The reference's result at a cell, as one sum over the rows. -/
theorem ref_at (A : FVec Ideal Cert.Reference10Ideal.S1x8192x1024 .f32) (X : FVec Ideal Cert.Reference10Ideal.S1x8192x1024 .f32)
    (i : Cert.Reference10Ideal.S1024x1024.Idx) :
    ref A X i = ∑ l : Fin 8192, (A (ix3 0 l (i 0)) : EReal) * X (ix3 0 l (i 1)) := by
  pointwise [ref]
  rw [Fin.sum_univ_one]
  exact Finset.sum_congr rfl fun l _ => mul_comm _ _

set_option maxHeartbeats 1000000 in
/-- The result array after the run is the reference's result over the same two arrays. -/
theorem final (c : Dev nD) : (dats m 0 c).arrAt 2 (cfgs 0).N = ref (left m c) (right m c) := by
  refine (dats m 0 c).arrAt_eq_of_covers 2 _ (by decide +kernel) fun t hf y => ?_
  blk_simp
  rw [after0_2]
  have ht : t.val % 4 = 3 := (flush0_2 t).mp hf
  have hN : t.val < 4 := lt_of_lt_of_eq t.isLt N_0
  rw [out_last m c t ht]
  rw [Pipeline.eq_sum_fin_of_reset_step_apply_of_flush (fun n h => (outsAt0 m c n h).2) 4 (fun _ => (0 : EReal)) _
    (acc_first m c) (acc_next m c) t ht _, zero_add]
  simp only [pay1_at, ref_at]
  refine Fin.sum_mul_add_congr fun s k hl => ?_
  have hs := s.isLt
  have hrow : s.val * 2048 + k.val = (4 * (t.val / 4) + s.val) * 2048 + k.val := by omega
  have e0 := lhs_blk m c ⟨4 * (t.val / 4) + s.val, Pipeline.run_point_lt_of_flush t ht s⟩ (ix2 k (y 0))
    (ix3 0 ⟨s.val * 2048 + k.val, hl⟩ (((cfg0.win 2).blk t).view.emb y 0)) hrow (by blk_simp [idx t])
  have e1 := rhs_blk m c ⟨4 * (t.val / 4) + s.val, Pipeline.run_point_lt_of_flush t ht s⟩ (ix2 k (y 1))
    (ix3 0 ⟨s.val * 2048 + k.val, hl⟩ (((cfg0.win 2).blk t).view.emb y 1)) hrow (by blk_simp [idx t])
  exact congrArg₂ (fun a b : EReal => a * b) e0 e1

end Cert.Kernel10Ideal.Dw

end
-- ==== Proof.Dw11.lean ====
/- The value of the cross attention's output weight gradient `Cert.Kernel11Ideal` over the extended reals: its result array is the
   reference's contraction over all 8192 rows. -/
module

public import proofs.«01_k».proof.Proof.Gen.Kernel11Ideal.Value
public import proofs.«01_k».proof.Proof.Gen.Kernel11Ideal.Frame
public import proofs.«01_k».proof.Proof.Gen.Reference11Ideal.Run
public import proofs.«01_k».proof.Proof.Gen.Reference11Ideal.Read
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel11Ideal.Dw

open Cert.Kernel11Ideal Cert.Kernel11Ideal.Gen

variable (m : (ℓ : Loc nD τ sig) → Buf (Elt Ideal) ℓ)

/-- Each window's block index at each grid point. -/
theorem idx : ∀ t : Fin cfg0.N, win0_0.index t = ![t.val, 0]
    ∧ win0_1.index t = ![t.val, 0]
    ∧ win0_2.index t = ![0, 0] :=
  (by decide +kernel : ∀ t : Fin grid0.N, _)

/-- The product of one row block at a cell: a column of the first operand times a column of the second. -/
theorem pay1_at (v0 : FVec Ideal S2048x1024 .bf16) (v2 : FVec Ideal S2048x1024 .f32) (j : S1024x1024.Idx) :
    k0_pay1 (F := Ideal) v0 v2 j = ∑ k : Fin 2048, (v0 (ix2 k (j 0)) : EReal) * v2 (ix2 k (j 1)) := by
  pointwise [k0_pay1]

/-- The first point's store is its product. -/
theorem pay2_at (v0 : FVec Ideal S2048x1024 .bf16) (v2 : FVec Ideal S2048x1024 .f32) (j : S1024x1024.Idx) :
    k0_pay2 (F := Ideal) v0 v2 j = k0_pay1 (F := Ideal) v0 v2 j := by
  pointwise [k0_pay2, k0_pay1]

/-- A later point's store adds its product to what was there. -/
theorem pay3_at (v0 : FVec Ideal S2048x1024 .bf16) (v2 : FVec Ideal S2048x1024 .f32) (v14 : FVec Ideal S1024x1024 .f32)
    (j : S1024x1024.Idx) : k0_pay3 (F := Ideal) v0 v2 v14 j = (v14 j + k0_pay1 (F := Ideal) v0 v2 j : EReal) := by
  pointwise [k0_pay3, k0_pay1]

/-- The last point's store is the accumulator. -/
theorem pay4_at (v14 : FVec Ideal S1024x1024 .f32) (j : S1024x1024.Idx) : k0_pay4 (F := Ideal) v14 j = v14 j := by
  pointwise [k0_pay4]

/-- What the first point of a run leaves in the accumulator. -/
theorem acc_first (c : Dev nD) (t : Fin cfg0.N) (h : t.val % 4 = 0) (j : S1024x1024.Idx) :
    (outsAt0 m c t.val t.isLt).2 j = (0 + k0_pay1 (F := Ideal) (iblk m c 0 t) (iblk m c 1 t) j : EReal) := by
  have hN : t.val < 4 := lt_of_lt_of_eq t.isLt N_0
  rw [outsAt0_A m c t h (by omega) (by omega)]
  frame_out
  rw [pay2_at, zero_add]

/-- What a later point of a run leaves in the accumulator. -/
theorem acc_next (c : Dev nD) (t : Fin cfg0.N) (h : ¬ t.val % 4 = 0) (j : S1024x1024.Idx) :
    (outsAt0 m c t.val t.isLt).2 j
      = ((outsAt0 m c (t.val - 1) (Nat.lt_of_le_of_lt (Nat.sub_le _ _) t.isLt)).2 j
          + k0_pay1 (F := Ideal) (iblk m c 0 t) (iblk m c 1 t) j : EReal) := by
  by_cases h3 : t.val % 4 = 3
  · rw [outsAt0_C m c t h (by omega) h3]
    frame_out
    rw [read_unread_whole, pay3_at]
  · rw [outsAt0_B m c t h (by omega) h3]
    frame_out
    rw [read_unread_whole, pay3_at]

/-- The last point of a run writes out its accumulator. -/
theorem out_last (c : Dev nD) (t : Fin cfg0.N) (h3 : t.val % 4 = 3) (j : S1024x1024.Idx) :
    (outsAt0 m c t.val t.isLt).1 j = ((outsAt0 m c t.val t.isLt).2 j : EReal) := by
  rw [outsAt0_C m c t (by omega) (by omega) h3]
  frame_out
  rw [pay4_at]

/-- The first operand's array, over the kernel's arguments. -/
abbrev left (c : Dev nD) : FVec Ideal Cert.Reference11Ideal.S1x8192x1024 .f32 :=
  m ((c : Thread nD τ).loc main_arg0)

/-- The second operand's array, over the kernel's arguments. -/
abbrev right (c : Dev nD) : FVec Ideal Cert.Reference11Ideal.S1x8192x1024 .f32 :=
  m ((c : Thread nD τ).loc main_arg3)

/-- The first operand of the call as its host operations make it. -/
theorem lhs_eq (c : Dev nD) : V m c main_v1 = truncf (F := Ideal) .bf16 (shapeCast S8192x1024 (left m c) shapeCasts_S1x8192x1024_S8192x1024) bitsLt_bf16_f32 := by
  rfl

/-- The second operand of the call as its host operations make it. -/
theorem rhs_eq (c : Dev nD) : V m c main_v2 = shapeCast S8192x1024 (right m c) shapeCasts_S1x8192x1024_S8192x1024 := by
  rfl

/-- The first operand's row, the leading axis of size one dropped. -/
theorem drop_lhs (X : FVec Ideal Cert.Reference11Ideal.S1x8192x1024 .f32) (i : S8192x1024.Idx)
    (j : Cert.Reference11Ideal.S1x8192x1024.Idx) (h1 : (j 1 : ℕ) = (i 0 : ℕ)) (h2 : (j 2 : ℕ) = i 1) :
    (truncf (F := Ideal) .bf16 (shapeCast S8192x1024 X shapeCasts_S1x8192x1024_S8192x1024) bitsLt_bf16_f32 i : EReal) = X j := by
  pointwise
  blk_ext

/-- The second operand's row, the leading axis of size one dropped. -/
theorem drop_rhs (X : FVec Ideal Cert.Reference11Ideal.S1x8192x1024 .f32) (i : S8192x1024.Idx)
    (j : Cert.Reference11Ideal.S1x8192x1024.Idx) (h1 : (j 1 : ℕ) = (i 0 : ℕ)) (h2 : (j 2 : ℕ) = i 1) :
    (shapeCast S8192x1024 X shapeCasts_S1x8192x1024_S8192x1024 i : EReal) = X j := by
  pointwise
  blk_ext

/-- A block of the first operand, read at its place in the array. -/
theorem lhs_blk (c : Dev nD) (t : Fin cfg0.N) (x : S2048x1024.Idx) (i : Cert.Reference11Ideal.S1x8192x1024.Idx)
    (h1 : (i 1 : ℕ) = t.val * 2048 + (x 0 : ℕ)) (h2 : (i 2 : ℕ) = x 1) :
    (iblk m c 0 t x : EReal) = left m c i := by
  blk_simp [iblk]
  rw [lhs_eq]
  exact drop_lhs _ _ i (by blk_simp [idx t]; omega) (by blk_simp [idx t]; omega)

/-- A block of the second operand, read at its place in the array. -/
theorem rhs_blk (c : Dev nD) (t : Fin cfg0.N) (x : S2048x1024.Idx) (i : Cert.Reference11Ideal.S1x8192x1024.Idx)
    (h1 : (i 1 : ℕ) = t.val * 2048 + (x 0 : ℕ)) (h2 : (i 2 : ℕ) = x 1) :
    (iblk m c 1 t x : EReal) = right m c i := by
  blk_simp [iblk]
  rw [rhs_eq]
  exact drop_rhs _ _ i (by blk_simp [idx t]; omega) (by blk_simp [idx t]; omega)

/-- The reference's result over the two arrays. -/
def ref (A : FVec Ideal Cert.Reference11Ideal.S1x8192x1024 .f32) (X : FVec Ideal Cert.Reference11Ideal.S1x8192x1024 .f32) :
    FVec Ideal Cert.Reference11Ideal.S1024x1024 .bf16 :=
  truncf .bf16 (transpose Cert.Reference11Ideal.S1024x1024 [1, 0]
    (Host.dotGeneral Cert.Reference11Ideal.dot_S1x8192x1024_S1x8192x1024_S1024x1024_01_01_2_2_n_n none X A)
    Cert.Reference11Ideal.Gen.transposes_S1024x1024_S1024x1024_1_0) Cert.Reference11Ideal.Gen.bitsLt_bf16_f32

/-- The reference's result at a cell, as one sum over the rows. -/
theorem ref_at (A : FVec Ideal Cert.Reference11Ideal.S1x8192x1024 .f32) (X : FVec Ideal Cert.Reference11Ideal.S1x8192x1024 .f32)
    (i : Cert.Reference11Ideal.S1024x1024.Idx) :
    ref A X i = ∑ l : Fin 8192, (A (ix3 0 l (i 0)) : EReal) * X (ix3 0 l (i 1)) := by
  pointwise [ref]
  rw [Fin.sum_univ_one]
  exact Finset.sum_congr rfl fun l _ => mul_comm _ _

set_option maxHeartbeats 1000000 in
/-- The result array after the run is the reference's result over the same two arrays. -/
theorem final (c : Dev nD) : (dats m 0 c).arrAt 2 (cfgs 0).N = ref (left m c) (right m c) := by
  refine (dats m 0 c).arrAt_eq_of_covers 2 _ (by decide +kernel) fun t hf y => ?_
  blk_simp
  rw [after0_2]
  have ht : t.val % 4 = 3 := (flush0_2 t).mp hf
  have hN : t.val < 4 := lt_of_lt_of_eq t.isLt N_0
  rw [out_last m c t ht]
  rw [Pipeline.eq_sum_fin_of_reset_step_apply_of_flush (fun n h => (outsAt0 m c n h).2) 4 (fun _ => (0 : EReal)) _
    (acc_first m c) (acc_next m c) t ht _, zero_add]
  simp only [pay1_at, ref_at]
  refine Fin.sum_mul_add_congr fun s k hl => ?_
  have hs := s.isLt
  have hrow : s.val * 2048 + k.val = (4 * (t.val / 4) + s.val) * 2048 + k.val := by omega
  have e0 := lhs_blk m c ⟨4 * (t.val / 4) + s.val, Pipeline.run_point_lt_of_flush t ht s⟩ (ix2 k (y 0))
    (ix3 0 ⟨s.val * 2048 + k.val, hl⟩ (((cfg0.win 2).blk t).view.emb y 0)) hrow (by blk_simp [idx t])
  have e1 := rhs_blk m c ⟨4 * (t.val / 4) + s.val, Pipeline.run_point_lt_of_flush t ht s⟩ (ix2 k (y 1))
    (ix3 0 ⟨s.val * 2048 + k.val, hl⟩ (((cfg0.win 2).blk t).view.emb y 1)) hrow (by blk_simp [idx t])
  exact congrArg₂ (fun a b : EReal => a * b) e0 e1

end Cert.Kernel11Ideal.Dw

end
-- ==== Proof.Dw12.lean ====
/- The value of the cross attention's query weight gradient `Cert.Kernel12Ideal` over the extended reals: its result array is the
   reference's contraction over all 8192 rows. -/
module

public import proofs.«01_k».proof.Proof.Gen.Kernel12Ideal.Value
public import proofs.«01_k».proof.Proof.Gen.Kernel12Ideal.Frame
public import proofs.«01_k».proof.Proof.Gen.Reference12Ideal.Run
public import proofs.«01_k».proof.Proof.Gen.Reference12Ideal.Read
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel12Ideal.Dw

open Cert.Kernel12Ideal Cert.Kernel12Ideal.Gen

variable (m : (ℓ : Loc nD τ sig) → Buf (Elt Ideal) ℓ)

/-- Each window's block index at each grid point. -/
theorem idx : ∀ t : Fin cfg0.N, win0_0.index t = ![t.val, 0]
    ∧ win0_1.index t = ![t.val, 0]
    ∧ win0_2.index t = ![0, 0] :=
  (by decide +kernel : ∀ t : Fin grid0.N, _)

/-- The product of one row block at a cell: a column of the first operand times a column of the second. -/
theorem pay1_at (v0 : FVec Ideal S2048x1024 .bf16) (v2 : FVec Ideal S2048x1024 .bf16) (j : S1024x1024.Idx) :
    k0_pay1 (F := Ideal) v0 v2 j = ∑ k : Fin 2048, (v0 (ix2 k (j 0)) : EReal) * v2 (ix2 k (j 1)) := by
  pointwise [k0_pay1]

/-- The first point's store is its product. -/
theorem pay2_at (v0 : FVec Ideal S2048x1024 .bf16) (v2 : FVec Ideal S2048x1024 .bf16) (j : S1024x1024.Idx) :
    k0_pay2 (F := Ideal) v0 v2 j = k0_pay1 (F := Ideal) v0 v2 j := by
  pointwise [k0_pay2, k0_pay1]

/-- A later point's store adds its product to what was there. -/
theorem pay3_at (v0 : FVec Ideal S2048x1024 .bf16) (v2 : FVec Ideal S2048x1024 .bf16) (v14 : FVec Ideal S1024x1024 .f32)
    (j : S1024x1024.Idx) : k0_pay3 (F := Ideal) v0 v2 v14 j = (v14 j + k0_pay1 (F := Ideal) v0 v2 j : EReal) := by
  pointwise [k0_pay3, k0_pay1]

/-- The last point's store is the accumulator. -/
theorem pay4_at (v14 : FVec Ideal S1024x1024 .f32) (j : S1024x1024.Idx) : k0_pay4 (F := Ideal) v14 j = v14 j := by
  pointwise [k0_pay4]

/-- What the first point of a run leaves in the accumulator. -/
theorem acc_first (c : Dev nD) (t : Fin cfg0.N) (h : t.val % 4 = 0) (j : S1024x1024.Idx) :
    (outsAt0 m c t.val t.isLt).2 j = (0 + k0_pay1 (F := Ideal) (iblk m c 0 t) (iblk m c 1 t) j : EReal) := by
  have hN : t.val < 4 := lt_of_lt_of_eq t.isLt N_0
  rw [outsAt0_A m c t h (by omega) (by omega)]
  frame_out
  rw [pay2_at, zero_add]

/-- What a later point of a run leaves in the accumulator. -/
theorem acc_next (c : Dev nD) (t : Fin cfg0.N) (h : ¬ t.val % 4 = 0) (j : S1024x1024.Idx) :
    (outsAt0 m c t.val t.isLt).2 j
      = ((outsAt0 m c (t.val - 1) (Nat.lt_of_le_of_lt (Nat.sub_le _ _) t.isLt)).2 j
          + k0_pay1 (F := Ideal) (iblk m c 0 t) (iblk m c 1 t) j : EReal) := by
  by_cases h3 : t.val % 4 = 3
  · rw [outsAt0_C m c t h (by omega) h3]
    frame_out
    rw [read_unread_whole, pay3_at]
  · rw [outsAt0_B m c t h (by omega) h3]
    frame_out
    rw [read_unread_whole, pay3_at]

/-- The last point of a run writes out its accumulator. -/
theorem out_last (c : Dev nD) (t : Fin cfg0.N) (h3 : t.val % 4 = 3) (j : S1024x1024.Idx) :
    (outsAt0 m c t.val t.isLt).1 j = ((outsAt0 m c t.val t.isLt).2 j : EReal) := by
  rw [outsAt0_C m c t (by omega) (by omega) h3]
  frame_out
  rw [pay4_at]

/-- The first operand's array, over the kernel's arguments. -/
abbrev left (c : Dev nD) : FVec Ideal Cert.Reference12Ideal.S1x8192x1024 .f32 :=
  Cert.Reference12Ideal.Read.val_main_v12 (F := Ideal) (m ((c : Thread nD τ).loc main_arg0)) (m ((c : Thread nD τ).loc main_arg1))

/-- The second operand's array, over the kernel's arguments. -/
abbrev right (c : Dev nD) : FVec Ideal Cert.Reference12Ideal.S1x8192x1024 .f32 :=
  m ((c : Thread nD τ).loc main_arg3)

/-- The first operand of the call as its host operations make it. -/
theorem lhs_eq (c : Dev nD) : V m c main_v14 = truncf (F := Ideal) .bf16 (shapeCast S8192x1024 (left m c) shapeCasts_S1x8192x1024_S8192x1024) bitsLt_bf16_f32 := by
  rfl

/-- The second operand of the call as its host operations make it. -/
theorem rhs_eq (c : Dev nD) : V m c main_v16 = truncf (F := Ideal) .bf16 (shapeCast S8192x1024 (right m c) shapeCasts_S1x8192x1024_S8192x1024) bitsLt_bf16_f32 := by
  rfl

/-- The first operand's row, the leading axis of size one dropped. -/
theorem drop_lhs (X : FVec Ideal Cert.Reference12Ideal.S1x8192x1024 .f32) (i : S8192x1024.Idx)
    (j : Cert.Reference12Ideal.S1x8192x1024.Idx) (h1 : (j 1 : ℕ) = (i 0 : ℕ)) (h2 : (j 2 : ℕ) = i 1) :
    (truncf (F := Ideal) .bf16 (shapeCast S8192x1024 X shapeCasts_S1x8192x1024_S8192x1024) bitsLt_bf16_f32 i : EReal) = X j := by
  pointwise
  blk_ext

/-- The second operand's row, the leading axis of size one dropped. -/
theorem drop_rhs (X : FVec Ideal Cert.Reference12Ideal.S1x8192x1024 .f32) (i : S8192x1024.Idx)
    (j : Cert.Reference12Ideal.S1x8192x1024.Idx) (h1 : (j 1 : ℕ) = (i 0 : ℕ)) (h2 : (j 2 : ℕ) = i 1) :
    (truncf (F := Ideal) .bf16 (shapeCast S8192x1024 X shapeCasts_S1x8192x1024_S8192x1024) bitsLt_bf16_f32 i : EReal) = X j := by
  pointwise
  blk_ext

/-- A block of the first operand, read at its place in the array. -/
theorem lhs_blk (c : Dev nD) (t : Fin cfg0.N) (x : S2048x1024.Idx) (i : Cert.Reference12Ideal.S1x8192x1024.Idx)
    (h1 : (i 1 : ℕ) = t.val * 2048 + (x 0 : ℕ)) (h2 : (i 2 : ℕ) = x 1) :
    (iblk m c 0 t x : EReal) = left m c i := by
  blk_simp [iblk]
  rw [lhs_eq]
  exact drop_lhs _ _ i (by blk_simp [idx t]; omega) (by blk_simp [idx t]; omega)

/-- A block of the second operand, read at its place in the array. -/
theorem rhs_blk (c : Dev nD) (t : Fin cfg0.N) (x : S2048x1024.Idx) (i : Cert.Reference12Ideal.S1x8192x1024.Idx)
    (h1 : (i 1 : ℕ) = t.val * 2048 + (x 0 : ℕ)) (h2 : (i 2 : ℕ) = x 1) :
    (iblk m c 1 t x : EReal) = right m c i := by
  blk_simp [iblk]
  rw [rhs_eq]
  exact drop_rhs _ _ i (by blk_simp [idx t]; omega) (by blk_simp [idx t]; omega)

/-- The reference's result over the two arrays. -/
def ref (A : FVec Ideal Cert.Reference12Ideal.S1x8192x1024 .f32) (X : FVec Ideal Cert.Reference12Ideal.S1x8192x1024 .f32) :
    FVec Ideal Cert.Reference12Ideal.S1024x1024 .bf16 :=
  truncf .bf16 (transpose Cert.Reference12Ideal.S1024x1024 [1, 0]
    (Host.dotGeneral Cert.Reference12Ideal.dot_S1x8192x1024_S1x8192x1024_S1024x1024_01_01_2_2_n_n none X A)
    Cert.Reference12Ideal.Gen.transposes_S1024x1024_S1024x1024_1_0) Cert.Reference12Ideal.Gen.bitsLt_bf16_f32

/-- The reference's result at a cell, as one sum over the rows. -/
theorem ref_at (A : FVec Ideal Cert.Reference12Ideal.S1x8192x1024 .f32) (X : FVec Ideal Cert.Reference12Ideal.S1x8192x1024 .f32)
    (i : Cert.Reference12Ideal.S1024x1024.Idx) :
    ref A X i = ∑ l : Fin 8192, (A (ix3 0 l (i 0)) : EReal) * X (ix3 0 l (i 1)) := by
  pointwise [ref]
  rw [Fin.sum_univ_one]
  exact Finset.sum_congr rfl fun l _ => mul_comm _ _

set_option maxHeartbeats 1000000 in
/-- The result array after the run is the reference's result over the same two arrays. -/
theorem final (c : Dev nD) : (dats m 0 c).arrAt 2 (cfgs 0).N = ref (left m c) (right m c) := by
  refine (dats m 0 c).arrAt_eq_of_covers 2 _ (by decide +kernel) fun t hf y => ?_
  blk_simp
  rw [after0_2]
  have ht : t.val % 4 = 3 := (flush0_2 t).mp hf
  have hN : t.val < 4 := lt_of_lt_of_eq t.isLt N_0
  rw [out_last m c t ht]
  rw [Pipeline.eq_sum_fin_of_reset_step_apply_of_flush (fun n h => (outsAt0 m c n h).2) 4 (fun _ => (0 : EReal)) _
    (acc_first m c) (acc_next m c) t ht _, zero_add]
  simp only [pay1_at, ref_at]
  refine Fin.sum_mul_add_congr fun s k hl => ?_
  have hs := s.isLt
  have hrow : s.val * 2048 + k.val = (4 * (t.val / 4) + s.val) * 2048 + k.val := by omega
  have e0 := lhs_blk m c ⟨4 * (t.val / 4) + s.val, Pipeline.run_point_lt_of_flush t ht s⟩ (ix2 k (y 0))
    (ix3 0 ⟨s.val * 2048 + k.val, hl⟩ (((cfg0.win 2).blk t).view.emb y 0)) hrow (by blk_simp [idx t])
  have e1 := rhs_blk m c ⟨4 * (t.val / 4) + s.val, Pipeline.run_point_lt_of_flush t ht s⟩ (ix2 k (y 1))
    (ix3 0 ⟨s.val * 2048 + k.val, hl⟩ (((cfg0.win 2).blk t).view.emb y 1)) hrow (by blk_simp [idx t])
  exact congrArg₂ (fun a b : EReal => a * b) e0 e1

end Cert.Kernel12Ideal.Dw

end
-- ==== Proof.MlpFwdBody.lean ====
/- The body of the MLP's forward call `Cert.Kernel13Ideal` over the extended reals: what each point leaves in the activation,
   in the gradient of the layer's output, in the loss and in the gradient of the last norm's gain. -/
module

public import proofs.«01_k».proof.Proof.Gen.Kernel13Ideal.Value
public import proofs.«01_k».proof.Proof.Gen.Kernel13Ideal.Frame
public import proofs.«01_k».proof.Proof.Gen.Reference13Ideal.Run
public import proofs.«01_k».proof.Proof.Gen.Reference13Ideal.Read
public import Idealize.ShloMosaic.Lib.Pipeline.ValueKit
public import Idealize.ShloMosaic.Lib.Pipeline.ReadBack
public import Idealize.ShloMosaic.Lib.Claim
public import proofs.«01_k».proof.Proof.Mlp

@[expose] public section

set_option maxRecDepth 16384

noncomputable section

open Idealize.ShloMosaic Idealize.ShloMosaic.TcCoe Idealize.SL.Sem
open Idealize.ShloMosaic.Pipeline (Dat)

namespace Cert.Kernel13Ideal.MlpFwd

open Cert.Kernel13Ideal Cert.Kernel13Ideal.Gen
open Cert.Real
open Cert.KernelIdeal.Mlp (rms)

variable (m : (ℓ : Loc nD τ sig) → Buf (Elt Ideal) ℓ)

/-- Each window's block index at each grid point: row block `t / 2`, half of the hidden columns `t % 2`. -/
theorem idx : ∀ t : Fin cfg0.N, win0_0.index t = ![t.val / 2, 0]
    ∧ win0_1.index t = ![t.val / 2, 0]
    ∧ win0_2.index t = ![t.val % 2, 0, 0]
    ∧ win0_3.index t = ![t.val % 2, 0]
    ∧ win0_4.index t = ![0, 0]
    ∧ win0_5.index t = ![t.val / 2, 0]
    ∧ win0_6.index t = ![t.val / 2, t.val % 2]
    ∧ win0_7.index t = ![t.val / 2, 0]
    ∧ win0_8.index t = ![0, 0]
    ∧ win0_9.index t = ![0, 0] :=
  (by decide +kernel : ∀ t : Fin grid0.N, _)

/-- A cell of the rectified pre-activation, from a row of the normalised input and a column of one shard of the first
    weight. -/
abbrev cell (h : FVec Ideal S512x1024 .bf16) (w : FVec Ideal S1x1024x512 .bf16) (a b : Fin 512) : EReal :=
  max (∑ k : Fin 1024, (h (ix2 a k) : EReal) * w (ix3 0 k b)) 0

/-- The first shard's rectified pre-activation at a cell. -/
theorem pay12_at (v0 : FVec Ideal S512x1024 .bf16) (v2 : FVec Ideal S1x1024x512 .bf16) (j : S512x512.Idx) :
    (k0_pay12 (F := Ideal) v0 v2 j : EReal) = cell v0 v2 (j 0) (j 1) := by
  pointwise [k0_pay12, k0_pay11]

/-- The second shard's rectified pre-activation at a cell. -/
theorem pay13_at (v0 : FVec Ideal S512x1024 .bf16) (v2 : FVec Ideal S1x1024x512 .bf16) (j : S512x512.Idx) :
    (k0_pay13 (F := Ideal) v0 v2 j : EReal) = cell v0 v2 (j 0) (j 1) := by
  pointwise [k0_pay13, k0_pay11]

/-- The third shard's rectified pre-activation at a cell. -/
theorem pay17_at (v0 : FVec Ideal S512x1024 .bf16) (v2 : FVec Ideal S1x1024x512 .bf16) (j : S512x512.Idx) :
    (k0_pay17 (F := Ideal) (k0_pay15 v0 v2) (k0_pay16 (F := Ideal)) j : EReal) = cell v0 v2 (j 0) (j 1) := by
  pointwise [k0_pay17, k0_pay15, k0_pay16, k0_pay11]

/-- The fourth shard's rectified pre-activation at a cell. -/
theorem pay18_at (v0 : FVec Ideal S512x1024 .bf16) (v2 : FVec Ideal S1x1024x512 .bf16) (j : S512x512.Idx) :
    (k0_pay18 (F := Ideal) (k0_pay11 v0) v2 j : EReal) = cell v0 v2 (j 0) (j 1) := by
  pointwise [k0_pay18, k0_pay11]

/-- A cell of the rectified pre-activation, from a row of the normalised input and a column of a shard of the first weight. -/
abbrev zs (x0 : FVec Ideal S512x1024 .bf16) (x2 : FVec Ideal S4x1024x512 .bf16) (a : Fin 512) (s : Fin 4) (b : Fin 512) :
    EReal :=
  max (∑ k : Fin 1024, (x0 (ix2 a k) : EReal) * x2 (ix3 s k b)) 0

/-- The first shard's block of the activation, at its place in the point's block. -/
theorem tile0 (x0 : FVec Ideal S512x1024 .bf16) (x2 : FVec Ideal S4x1024x512 .bf16)
    (x : S512x512.Idx) (y : S512x2048.Idx) (s : Fin 4) (b : Fin 512) (hb : (y 1 : ℕ) = s.val * 512 + b.val)
    (h0 : (y 0 : ℕ) = x 0) (h1 : (y 1 : ℕ) = x 1) :
    (k0_pay12 (F := Ideal) x0 (View.ld (Val := Elt Ideal) (e' := .bf16) x2 (Rect.unit ![0, 0, 0] ![1, 1024, 512] inb_S4x1024x512_S1x1024x512_0_0_0)) x : EReal) = zs x0 x2 (y 0) s b := by
  have hx : (x 1 : ℕ) < 512 := (x 1).isLt
  have hs : s = 0 := Fin.ext (by show s.val = 0; omega)
  have hs' : s.val = 0 := congrArg Fin.val hs
  have hb' : b = x 1 := Fin.ext (by omega)
  have hy : y 0 = x 0 := Fin.ext h0
  rw [hs, hb', hy, pay12_at]
  refine congrArg (fun z : EReal => max z 0) (Finset.sum_congr rfl fun r _ => congrArg₂ (fun a b : EReal => a * b) rfl ?_)
  pointwise
  blk_ext

/-- The second shard's block of the activation, at its place in the point's block. -/
theorem tile1 (x0 : FVec Ideal S512x1024 .bf16) (x2 : FVec Ideal S4x1024x512 .bf16)
    (x : S512x512.Idx) (y : S512x2048.Idx) (s : Fin 4) (b : Fin 512) (hb : (y 1 : ℕ) = s.val * 512 + b.val)
    (h0 : (y 0 : ℕ) = x 0) (h1 : (y 1 : ℕ) = 512 + x 1) :
    (k0_pay13 (F := Ideal) x0 (View.ld (Val := Elt Ideal) (e' := .bf16) x2 (Rect.unit ![1, 0, 0] ![1, 1024, 512] inb_S4x1024x512_S1x1024x512_1_0_0)) x : EReal) = zs x0 x2 (y 0) s b := by
  have hx : (x 1 : ℕ) < 512 := (x 1).isLt
  have hs : s = 1 := Fin.ext (by show s.val = 1; omega)
  have hs' : s.val = 1 := congrArg Fin.val hs
  have hb' : b = x 1 := Fin.ext (by omega)
  have hy : y 0 = x 0 := Fin.ext h0
  rw [hs, hb', hy, pay13_at]
  refine congrArg (fun z : EReal => max z 0) (Finset.sum_congr rfl fun r _ => congrArg₂ (fun a b : EReal => a * b) rfl ?_)
  pointwise
  blk_ext

/-- The third shard's block of the activation, at its place in the point's block. -/
theorem tile2 (x0 : FVec Ideal S512x1024 .bf16) (x2 : FVec Ideal S4x1024x512 .bf16)
    (x : S512x512.Idx) (y : S512x2048.Idx) (s : Fin 4) (b : Fin 512) (hb : (y 1 : ℕ) = s.val * 512 + b.val)
    (h0 : (y 0 : ℕ) = x 0) (h1 : (y 1 : ℕ) = 1024 + x 1) :
    (k0_pay17 (F := Ideal) (k0_pay15 x0 (View.ld (Val := Elt Ideal) (e' := .bf16) x2 (Rect.unit ![2, 0, 0] ![1, 1024, 512] inb_S4x1024x512_S1x1024x512_2_0_0))) (k0_pay16 (F := Ideal)) x : EReal) = zs x0 x2 (y 0) s b := by
  have hx : (x 1 : ℕ) < 512 := (x 1).isLt
  have hs : s = 2 := Fin.ext (by show s.val = 2; omega)
  have hs' : s.val = 2 := congrArg Fin.val hs
  have hb' : b = x 1 := Fin.ext (by omega)
  have hy : y 0 = x 0 := Fin.ext h0
  rw [hs, hb', hy, pay17_at]
  refine congrArg (fun z : EReal => max z 0) (Finset.sum_congr rfl fun r _ => congrArg₂ (fun a b : EReal => a * b) rfl ?_)
  pointwise
  blk_ext

/-- The fourth shard's block of the activation, at its place in the point's block. -/
theorem tile3 (x0 : FVec Ideal S512x1024 .bf16) (x2 : FVec Ideal S4x1024x512 .bf16)
    (x : S512x512.Idx) (y : S512x2048.Idx) (s : Fin 4) (b : Fin 512) (hb : (y 1 : ℕ) = s.val * 512 + b.val)
    (h0 : (y 0 : ℕ) = x 0) (h1 : (y 1 : ℕ) = 1536 + x 1) :
    (k0_pay18 (F := Ideal) (k0_pay11 x0) (View.ld (Val := Elt Ideal) (e' := .bf16) x2 (Rect.unit ![3, 0, 0] ![1, 1024, 512] inb_S4x1024x512_S1x1024x512_3_0_0)) x : EReal) = zs x0 x2 (y 0) s b := by
  have hx : (x 1 : ℕ) < 512 := (x 1).isLt
  have hs : s = 3 := Fin.ext (by show s.val = 3; omega)
  have hs' : s.val = 3 := congrArg Fin.val hs
  have hb' : b = x 1 := Fin.ext (by omega)
  have hy : y 0 = x 0 := Fin.ext h0
  rw [hs, hb', hy, pay18_at]
  refine congrArg (fun z : EReal => max z 0) (Finset.sum_congr rfl fun r _ => congrArg₂ (fun a b : EReal => a * b) rfl ?_)
  pointwise
  blk_ext

/-- Each point writes its block of the activation. -/
theorem act_out (c : Dev nD) (t : Fin cfg0.N) (y : S512x2048.Idx) (s : Fin 4) (b : Fin 512)
    (hb : (y 1 : ℕ) = s.val * 512 + b.val) :
    ((outsAt0 m c t.val t.isLt).1 y : EReal) = zs (iblk m c 0 t) (iblk m c 2 t) (y 0) s b := by
  have hN : t.val < 32 := lt_of_lt_of_eq t.isLt N_0
  by_cases h0 : t.val % 2 = 0
  · by_cases h2 : t.val % 32 = 0
    · rw [outsAt0_A m c t h0 (by omega) h2 (by omega)]
      frame_out
      canon_tiles x hx
      · exact tile3 _ _ x y s b hb hx0 hx1
      · exact tile2 _ _ x y s b hb hx0 hx1
      · exact tile1 _ _ x y s b hb hx0 hx1
      · exact tile0 _ _ x y s b hb hx0 hx1
    · rw [outsAt0_C m c t h0 (by omega) h2 (by omega)]
      frame_out
      canon_tiles x hx
      · exact tile3 _ _ x y s b hb hx0 hx1
      · exact tile2 _ _ x y s b hb hx0 hx1
      · exact tile1 _ _ x y s b hb hx0 hx1
      · exact tile0 _ _ x y s b hb hx0 hx1
  · rw [outsAt0_B m c t h0 (by omega) (by omega) (by omega)]
    frame_out
    canon_tiles x hx
    · exact tile3 _ _ x y s b hb hx0 hx1
    · exact tile2 _ _ x y s b hb hx0 hx1
    · exact tile1 _ _ x y s b hb hx0 hx1
    · exact tile0 _ _ x y s b hb hx0 hx1

/-- The product of the first two shards' squares with the second weight, at a cell. -/
theorem pay14_at (v0 : FVec Ideal S512x1024 .bf16) (v2 : FVec Ideal S1x1024x512 .bf16) (v10 : FVec Ideal S512x1024 .bf16)
    (v13 : FVec Ideal S1x1024x512 .bf16) (v21 : FVec Ideal S512x1024 .bf16) (j : S512x1024.Idx) :
    (k0_pay14 (F := Ideal) v0 v2 v10 v13 v21 j : EReal)
      = (∑ k : Fin 512, cell v0 v2 (j 0) k * cell v0 v2 (j 0) k * (v10 (ix2 k (j 1)) : EReal))
        + ∑ k : Fin 512, cell v0 v13 (j 0) k * cell v0 v13 (j 0) k * (v21 (ix2 k (j 1)) : EReal) := by
  pointwise [k0_pay14]
  simp only [pay12_at, pay13_at]
  rfl

/-- The four shards' product at a cell. -/
theorem pay19_at (v0 : FVec Ideal S512x1024 .bf16) (v24 : FVec Ideal S512x1024 .f32) (v26 : FVec Ideal S1x1024x512 .bf16)
    (v33 : FVec Ideal S512x1024 .bf16) (v37 : FVec Ideal S1x1024x512 .bf16) (v45 : FVec Ideal S512x1024 .bf16)
    (j : S512x1024.Idx) :
    (k0_pay19 (F := Ideal) (k0_pay11 v0) v24 (k0_pay15 v0 v26) (k0_pay16 (F := Ideal)) v33 v37 v45 j : EReal)
      = v24 j + (∑ k : Fin 512, cell v0 v26 (j 0) k * cell v0 v26 (j 0) k * (v33 (ix2 k (j 1)) : EReal))
        + ∑ k : Fin 512, cell v0 v37 (j 0) k * cell v0 v37 (j 0) k * (v45 (ix2 k (j 1)) : EReal) := by
  pointwise [k0_pay19]
  simp only [pay17_at, pay18_at]
  rfl

/-- One point's share of the layer's sum, as its body computes it. -/
abbrev part (c : Dev nD) (t : Fin cfg0.N) : FVec Ideal S512x1024 .f32 :=
  k0_pay19 (F := Ideal) (k0_pay11 (iblk m c 0 t))
          (k0_pay14 (iblk m c 0 t)
            (View.ld (iblk m c 2 t) (Rect.unit ![0, 0, 0] ![1, 1024, 512] inb_S4x1024x512_S1x1024x512_0_0_0))
            (View.ld (iblk m c 3 t) (Rect.unit ![0, 0] ![512, 1024] inb_S2048x1024_S512x1024_0_0))
            (View.ld (iblk m c 2 t) (Rect.unit ![1, 0, 0] ![1, 1024, 512] inb_S4x1024x512_S1x1024x512_1_0_0))
            (View.ld (iblk m c 3 t) (Rect.unit ![512, 0] ![512, 1024] inb_S2048x1024_S512x1024_512_0)))
          (k0_pay15 (iblk m c 0 t)
            (View.ld (iblk m c 2 t) (Rect.unit ![2, 0, 0] ![1, 1024, 512] inb_S4x1024x512_S1x1024x512_2_0_0)))
          (k0_pay16 (F := Ideal)) (View.ld (iblk m c 3 t) (Rect.unit ![1024, 0] ![512, 1024] inb_S2048x1024_S512x1024_1024_0))
          (View.ld (iblk m c 2 t) (Rect.unit ![3, 0, 0] ![1, 1024, 512] inb_S4x1024x512_S1x1024x512_3_0_0))
          (View.ld (iblk m c 3 t) (Rect.unit ![1536, 0] ![512, 1024] inb_S2048x1024_S512x1024_1536_0))

/-- A point's share at a cell is the sum over the four shards of the squared activation against the second weight. -/
theorem part_at (c : Dev nD) (t : Fin cfg0.N) (j : S512x1024.Idx) :
    (part m c t j : EReal) = ∑ s : Fin 4, ∑ k : Fin 512,
      zs (iblk m c 0 t) (iblk m c 2 t) (j 0) s k * zs (iblk m c 0 t) (iblk m c 2 t) (j 0) s k
        * ((iblk m c 3 t : FVec Ideal S2048x1024 .bf16) (ix2 ⟨s.val * 512 + k.val, by omega⟩ (j 1)) : EReal) := by
  unfold part
  rw [pay19_at, pay14_at, Fin.sum_univ_four]
  have hz : ∀ (p q : EReal), p = q → max p 0 * max p 0 = max q 0 * max q 0 := fun p q e => by rw [e]
  refine congrArg₂ (· + ·) (congrArg₂ (· + ·) (congrArg₂ (· + ·) ?_ ?_) ?_) ?_
  all_goals
    refine Finset.sum_congr rfl fun k _ => congrArg₂ (fun a b : EReal => a * b)
      (hz _ _ (Finset.sum_congr rfl fun r _ => congrArg₂ (fun a b : EReal => a * b) rfl ?_)) ?_
  all_goals (pointwise; blk_ext)

/-- The first of a row block's two points leaves its share in the accumulator. -/
theorem acc_even (c : Dev nD) (t : Fin cfg0.N) (h0 : t.val % 2 = 0) (j : S512x1024.Idx) :
    ((outsAt0 m c t.val t.isLt).2.2.2.2 j : EReal) = part m c t j := by
  by_cases h2 : t.val % 32 = 0
  · rw [outsAt0_A m c t h0 (by omega) h2 (by omega)]
    frame_out
    pointwise [k0_pay20]
    rfl
  · rw [outsAt0_C m c t h0 (by omega) h2 (by omega)]
    frame_out
    pointwise [k0_pay20]
    rfl

/-- What the accumulator holds after the second of a row block's two points. -/
abbrev accum (c : Dev nD) (t : Fin cfg0.N) : FVec Ideal S512x1024 .f32 :=
  k0_pay21 (F := Ideal) (k0_pay11 (iblk m c 0 t))
          (k0_pay14 (iblk m c 0 t)
            (View.ld (iblk m c 2 t) (Rect.unit ![0, 0, 0] ![1, 1024, 512] inb_S4x1024x512_S1x1024x512_0_0_0))
            (View.ld (iblk m c 3 t) (Rect.unit ![0, 0] ![512, 1024] inb_S2048x1024_S512x1024_0_0))
            (View.ld (iblk m c 2 t) (Rect.unit ![1, 0, 0] ![1, 1024, 512] inb_S4x1024x512_S1x1024x512_1_0_0))
            (View.ld (iblk m c 3 t) (Rect.unit ![512, 0] ![512, 1024] inb_S2048x1024_S512x1024_512_0)))
          (k0_pay15 (iblk m c 0 t)
            (View.ld (iblk m c 2 t) (Rect.unit ![2, 0, 0] ![1, 1024, 512] inb_S4x1024x512_S1x1024x512_2_0_0)))
          (k0_pay16 (F := Ideal)) (View.ld (iblk m c 3 t) (Rect.unit ![1024, 0] ![512, 1024] inb_S2048x1024_S512x1024_1024_0))
          (View.ld (iblk m c 2 t) (Rect.unit ![3, 0, 0] ![1, 1024, 512] inb_S4x1024x512_S1x1024x512_3_0_0))
          (View.ld (iblk m c 3 t) (Rect.unit ![1536, 0] ![512, 1024] inb_S2048x1024_S512x1024_1536_0))
          (outsAt0 m c (t.val - 1) (Nat.lt_of_le_of_lt (Nat.sub_le _ _) t.isLt)).2.2.2.2

/-- The accumulator's second store adds the point's share to what was there. -/
theorem accum_at (c : Dev nD) (t : Fin cfg0.N) (j : S512x1024.Idx) :
    (accum m c t j : EReal) = (outsAt0 m c (t.val - 1) (Nat.lt_of_le_of_lt (Nat.sub_le _ _) t.isLt)).2.2.2.2 j + part m c t j := by
  unfold accum
  pointwise [k0_pay21]

/-- The second of a row block's two points writes the gradient of the layer's output. -/
theorem dx_odd (c : Dev nD) (t : Fin cfg0.N) (h0 : t.val % 2 = 1) (j : S512x1024.Idx) :
    ((outsAt0 m c t.val t.isLt).2.1 j : EReal)
      = k0_pay2 (F := Ideal) (k0_pay4 (iblk m c 1 t) (accum m c t)) (k0_pay5 (iblk m c 1 t) (accum m c t))
          (k0_pay6 (iblk m c 4 t)) (k0_pay9 (iblk m c 1 t) (accum m c t) (iblk m c 4 t) (iblk m c 5 t))
          (k0_pay10 (iblk m c 1 t) (accum m c t)) j := by
  rw [outsAt0_B m c t (by omega) h0 (by omega) h0]
  frame_out
  rw [read_unread_whole]
  rfl

/-- The loss after a row block's second point. -/
theorem loss_odd (c : Dev nD) (t : Fin cfg0.N) (h0 : t.val % 2 = 1) (j : S1x128.Idx) :
    ((outsAt0 m c t.val t.isLt).2.2.1 j : EReal)
      = k0_pay8 (F := Ideal) (iblk m c 1 t) (accum m c t) (iblk m c 4 t) (iblk m c 5 t)
          (outsAt0 m c (t.val - 1) (Nat.lt_of_le_of_lt (Nat.sub_le _ _) t.isLt)).2.2.1 j := by
  rw [outsAt0_B m c t (by omega) h0 (by omega) h0]
  frame_out
  rw [read_unread_whole]
  rfl

/-- The gradient of the last norm's gain after a row block's second point. -/
theorem dg_odd (c : Dev nD) (t : Fin cfg0.N) (h0 : t.val % 2 = 1) (j : S1x1024.Idx) :
    ((outsAt0 m c t.val t.isLt).2.2.2.1 j : EReal)
      = k0_pay3 (F := Ideal) (k0_pay4 (iblk m c 1 t) (accum m c t))
          (k0_pay9 (iblk m c 1 t) (accum m c t) (iblk m c 4 t) (iblk m c 5 t))
          (k0_pay10 (iblk m c 1 t) (accum m c t))
          (outsAt0 m c (t.val - 1) (Nat.lt_of_le_of_lt (Nat.sub_le _ _) t.isLt)).2.2.2.1 j := by
  rw [outsAt0_B m c t (by omega) h0 (by omega) h0]
  frame_out
  rw [read_unread_whole]
  rfl

/-- The loss after the first point of all is zero. -/
theorem loss_start (c : Dev nD) (t : Fin cfg0.N) (h0 : t.val % 2 = 0) (h2 : t.val % 32 = 0) (j : S1x128.Idx) :
    (outsAt0 m c t.val t.isLt).2.2.1 j = (0 : EReal) := by
  rw [outsAt0_A m c t h0 (by omega) h2 (by omega)]
  frame_out
  pointwise [k0_pay22]

/-- A later row block's first point leaves the loss as it was. -/
theorem loss_even (c : Dev nD) (t : Fin cfg0.N) (h0 : t.val % 2 = 0) (h2 : ¬ t.val % 32 = 0) (j : S1x128.Idx) :
    (outsAt0 m c t.val t.isLt).2.2.1 j = (outsAt0 m c (t.val - 1) (Nat.lt_of_le_of_lt (Nat.sub_le _ _) t.isLt)).2.2.1 j := by
  rw [outsAt0_C m c t h0 (by omega) h2 (by omega)]
  rfl

/-- The gain's gradient after the first point of all is zero. -/
theorem dg_start (c : Dev nD) (t : Fin cfg0.N) (h0 : t.val % 2 = 0) (h2 : t.val % 32 = 0) (j : S1x1024.Idx) :
    (outsAt0 m c t.val t.isLt).2.2.2.1 j = (0 : EReal) := by
  rw [outsAt0_A m c t h0 (by omega) h2 (by omega)]
  frame_out
  pointwise [k0_pay23]

/-- A later row block's first point leaves the gain's gradient as it was. -/
theorem dg_even (c : Dev nD) (t : Fin cfg0.N) (h0 : t.val % 2 = 0) (h2 : ¬ t.val % 32 = 0) (j : S1x1024.Idx) :
    (outsAt0 m c t.val t.isLt).2.2.2.1 j = (outsAt0 m c (t.val - 1) (Nat.lt_of_le_of_lt (Nat.sub_le _ _) t.isLt)).2.2.2.1 j := by
  rw [outsAt0_C m c t h0 (by omega) h2 (by omega)]
  rfl

/-- A row's reciprocal root at any column. -/
theorem pay5_at (v63 v65 : FVec Ideal S512x1024 .f32) (i : S512x1.Idx) :
    (k0_pay5 (F := Ideal) v63 v65 i : EReal) = rms (fun k => v63 (ix2 (i 0) k) + v65 (ix2 (i 0) k)) := by
  pointwise [k0_pay5, k0_pay4]

/-- A cell of the difference of the normed output and the target. -/
abbrev diff (v63 v65 : FVec Ideal S512x1024 .f32) (v75 : FVec Ideal S1x1024 .f32) (v81 : FVec Ideal S512x1024 .f32)
    (a : Fin 512) (k : Fin 1024) : EReal :=
  (v63 (ix2 a k) + v65 (ix2 a k) : EReal) * rms (fun k => v63 (ix2 a k) + v65 (ix2 a k)) * v75 (ix2 0 k) - v81 (ix2 a k)

/-- The difference at a row and a column. -/
theorem pay7_ix (v63 v65 : FVec Ideal S512x1024 .f32) (v75 : FVec Ideal S1x1024 .f32) (v81 : FVec Ideal S512x1024 .f32)
    (a : Fin 512) (q : Fin 1024) :
    (k0_pay7 (F := Ideal) v63 v65 v75 v81 (ix2 a q) : EReal) = diff v63 v65 v75 v81 a q := by
  pointwise [k0_pay7, k0_pay4, k0_pay6]
  rw [pay5_at]
  rfl

/-- The difference at a cell. -/
theorem pay7_at (v63 v65 : FVec Ideal S512x1024 .f32) (v75 : FVec Ideal S1x1024 .f32) (v81 : FVec Ideal S512x1024 .f32)
    (j : S512x1024.Idx) :
    (k0_pay7 (F := Ideal) v63 v65 v75 v81 j : EReal) = diff v63 v65 v75 v81 (j 0) (j 1) := by
  have hj : j = ix2 (j 0) (j 1) := by
    funext a
    match a with
    | ⟨0, _⟩ => rfl
    | ⟨1, _⟩ => rfl
  exact (congrArg (k0_pay7 (F := Ideal) v63 v65 v75 v81) hj).trans (pay7_ix v63 v65 v75 v81 (j 0) (j 1))

/-- The loss at a lane: what was there and the row block's half sum of mean squares. -/
theorem pay8_at (v63 v65 : FVec Ideal S512x1024 .f32) (v75 : FVec Ideal S1x1024 .f32) (v81 : FVec Ideal S512x1024 .f32)
    (v84 : FVec Ideal S1x128 .f32) (j : S1x128.Idx) :
    (k0_pay8 (F := Ideal) v63 v65 v75 v81 v84 j : EReal)
      = v84 j + Ideal.ofBits .f32 0x3F000000#32 * ∑ x : Fin 512, Ideal.div
          (∑ k : Fin 1024, diff v63 v65 v75 v81 x k * diff v63 v65 v75 v81 x k) (Ideal.ofBits .f32 0x44800000#32) := by
  pointwise [k0_pay8]
  simp only [pay7_at, Finset.sum_const, Finset.card_univ, Fintype.card_fin, one_smul]
  rfl

/-- The gain's gradient at a column: what was there and the row block's share. -/
theorem pay3_at (v63 v65 : FVec Ideal S512x1024 .f32) (v75 : FVec Ideal S1x1024 .f32) (v81 : FVec Ideal S512x1024 .f32)
    (v119 : FVec Ideal S1x1024 .f32) (j : S1x1024.Idx) :
    (k0_pay3 (F := Ideal) (k0_pay4 v63 v65) (k0_pay9 v63 v65 v75 v81) (k0_pay10 v63 v65) v119 j : EReal)
      = v119 j + ∑ x : Fin 512, Ideal.div (diff v63 v65 v75 v81 x (j 1)) (Ideal.ofBits .f32 0x44800000#32)
          * ((v63 (ix2 x (j 1)) + v65 (ix2 x (j 1)) : EReal) * rms (fun k => v63 (ix2 x k) + v65 (ix2 x k))) := by
  pointwise [k0_pay3, k0_pay9, k0_pay10, k0_pay1, k0_pay4]
  simp only [pay7_at, pay5_at]
  rfl

/-- The gradient of the layer's output at a cell. -/
theorem pay2_at (v63 v65 : FVec Ideal S512x1024 .f32) (v75 : FVec Ideal S1x1024 .f32) (v81 : FVec Ideal S512x1024 .f32)
    (a : Fin 512) (q : Fin 1024) :
    (k0_pay2 (F := Ideal) (k0_pay4 v63 v65) (k0_pay5 v63 v65) (k0_pay6 v75) (k0_pay9 v63 v65 v75 v81) (k0_pay10 v63 v65)
        (ix2 a q) : EReal)
      = rms (fun k => v63 (ix2 a k) + v65 (ix2 a k))
        * (Ideal.div (diff v63 v65 v75 v81 a q) (Ideal.ofBits .f32 0x44800000#32) * v75 (ix2 0 q)
          - (v63 (ix2 a q) + v65 (ix2 a q) : EReal) * rms (fun k => v63 (ix2 a k) + v65 (ix2 a k))
            * Ideal.div (∑ l : Fin 1024, Ideal.div (diff v63 v65 v75 v81 a l) (Ideal.ofBits .f32 0x44800000#32) * v75 (ix2 0 l)
                * ((v63 (ix2 a l) + v65 (ix2 a l) : EReal) * rms (fun k => v63 (ix2 a k) + v65 (ix2 a k))))
                (Ideal.ofBits .f32 0x44800000#32)) := by
  pointwise [k0_pay2, k0_pay9, k0_pay10, k0_pay1, k0_pay4, k0_pay6]
  simp only [pay7_at, pay5_at]
  rfl

end Cert.Kernel13Ideal.MlpFwd

end
-- ==== Proof.MlpFwd.lean ====
/- The MLP's forward call `Cert.Kernel13Ideal` against its reference, array by array. -/
module

public import proofs.«01_k».proof.Proof.MlpFwdBody

@[expose] public section

set_option maxRecDepth 16384

noncomputable section

open Idealize.ShloMosaic Idealize.ShloMosaic.TcCoe Idealize.SL.Sem
open Idealize.ShloMosaic.Pipeline (Dat)

namespace Cert.Kernel13Ideal.MlpFwd

open Cert.Kernel13Ideal Cert.Kernel13Ideal.Gen
open Cert.Reference13Ideal.Read Cert.Real
open Cert.KernelIdeal.Mlp (rms norm_bwd two_halves reduce_one len_word two_word)

variable (m : (ℓ : Loc nD τ sig) → Buf (Elt Ideal) ℓ)

/-- The type of the layer's input and of the target. -/
abbrev TX : Type := FVec Ideal Cert.Reference13Ideal.S1x8192x1024 .f32
/-- The type of a gain. -/
abbrev TG : Type := FVec Ideal Cert.Reference13Ideal.S1024 .f32
/-- The type of the first weight. -/
abbrev TW : Type := FVec Ideal Cert.Reference13Ideal.S1024x4096 .f32
/-- The type of the second weight. -/
abbrev TU : Type := FVec Ideal Cert.Reference13Ideal.S4096x1024 .f32

/-- The kernel's first argument, the layer's input. -/
abbrev a0 (c : Dev nD) : TX := m ((c : Thread nD τ).loc main_arg0)
/-- The kernel's second argument, the layer's gain. -/
abbrev a1 (c : Dev nD) : TG := m ((c : Thread nD τ).loc main_arg1)
/-- The kernel's third argument, the first weight. -/
abbrev a2 (c : Dev nD) : TW := m ((c : Thread nD τ).loc main_arg2)
/-- The kernel's fourth argument, the second weight. -/
abbrev a3 (c : Dev nD) : TU := m ((c : Thread nD τ).loc main_arg3)
/-- The kernel's fifth argument, the last norm's gain. -/
abbrev a4 (c : Dev nD) : TG := m ((c : Thread nD τ).loc main_arg4)
/-- The kernel's sixth argument, the target. -/
abbrev a5 (c : Dev nD) : TX := m ((c : Thread nD τ).loc main_arg5)

/-- The zero word. -/
theorem zero_word : (FloatOps.ofBits (F := Ideal) .f32 0x00000000#32 : EReal) = 0 := by
  show Ideal.ofBits .f32 0x00000000#32 = 0
  simp [Ideal.ofBits, Ideal.ieee]

/-- The word of one half. -/
theorem hw : Ideal.ofBits .f32 0x3F000000#32 = ((1/2 : ℝ) : EReal) := by
  simp [Ideal.ofBits, Ideal.ieee, -EReal.coe_mul]; norm_num

/-- The word of one. -/
theorem ow : Ideal.ofBits .f32 0x3F800000#32 = ((1 : ℝ) : EReal) := by
  have e : Ideal.ofBits .f32 0x3F800000#32 = ((8388608 * (2 ^ 23)⁻¹ : ℝ) : EReal) := by
    simp [Ideal.ofBits, Ideal.ieee, -EReal.coe_mul]
  rw [e]; norm_num

/-- The rectified pre-activation over the kernel's arguments. -/
abbrev act (c : Dev nD) : FVec Ideal Cert.Reference13Ideal.S1x8192x4096 .f32 :=
  val_main_v14 (F := Ideal) (a0 m c) (a1 m c) (a2 m c)

/-- The reference's rectified pre-activation at a row and a hidden column. -/
theorem ref_act (x0 : TX) (x1 : TG) (x2 : TW) (n : Fin 8192) (f : Fin 4096) :
    (val_main_v14 (F := Ideal) x0 x1 x2 (ix3 0 n f) : EReal)
      = max (∑ k : Fin 1024, (val_main_v12 (F := Ideal) x0 x1 (ix3 0 n k) : EReal) * x2 (ix2 k f)) 0 := by
  have e : (val_main_v14 (F := Ideal) x0 x1 x2 (ix3 0 n f) : EReal) = max (val_main_v13 (F := Ideal) x0 x1 x2 (ix3 0 n f)) 0 := by
    rw [← zero_word]; rfl
  rw [e, val_main_v13_apply]
  refine congrArg (fun z : EReal => max z 0) (Finset.sum_congr rfl fun k _ => congrArg₂ (fun a b : EReal => a * b) ?_ ?_)
  · blk_ext
  · blk_ext

/-- The normalised input's block of a point, at its place. -/
theorem blk0 (c : Dev nD) (t : Fin cfg0.N) (x : S512x1024.Idx) (i : Cert.Reference13Ideal.S1x8192x1024.Idx)
    (h1 : (i 1 : ℕ) = t.val / 2 * 512 + x 0) (h2 : (i 2 : ℕ) = x 1) :
    (iblk m c 0 t x : EReal) = val_main_v12 (F := Ideal) (a0 m c) (a1 m c) i := by
  have e : V m c main_v14 = truncf (F := Ideal) .bf16 (shapeCast S8192x1024 (val_main_v12 (F := Ideal) (a0 m c) (a1 m c))
      shapeCasts_S1x8192x1024_S8192x1024) bitsLt_bf16_f32 := by rfl
  have d : ∀ (X : TX) (y : S8192x1024.Idx), (i 1 : ℕ) = y 0 → (i 2 : ℕ) = y 1 →
      (truncf (F := Ideal) .bf16 (shapeCast S8192x1024 X shapeCasts_S1x8192x1024_S8192x1024) bitsLt_bf16_f32 y : EReal) = X i := by
    intro X y g1 g2
    pointwise
    blk_ext
  blk_simp [iblk]
  rw [e]
  exact d _ _ (by blk_simp [idx t]; omega) (by blk_simp [idx t]; omega)

/-- The input's block of a point, at its place. -/
theorem blk1 (c : Dev nD) (t : Fin cfg0.N) (x : S512x1024.Idx) (i : Cert.Reference13Ideal.S1x8192x1024.Idx)
    (h1 : (i 1 : ℕ) = t.val / 2 * 512 + x 0) (h2 : (i 2 : ℕ) = x 1) :
    (iblk m c 1 t x : EReal) = a0 m c i := by
  have e : V m c main_v15 = shapeCast S8192x1024 (a0 m c) shapeCasts_S1x8192x1024_S8192x1024 := by rfl
  have d : ∀ (X : TX) (y : S8192x1024.Idx), (i 1 : ℕ) = y 0 → (i 2 : ℕ) = y 1 →
      (shapeCast S8192x1024 X shapeCasts_S1x8192x1024_S8192x1024 y : EReal) = X i := by
    intro X y g1 g2
    pointwise
    blk_ext
  blk_simp [iblk]
  rw [e]
  exact d _ _ (by blk_simp [idx t]; omega) (by blk_simp [idx t]; omega)

/-- The target's block of a point, at its place. -/
theorem blk5 (c : Dev nD) (t : Fin cfg0.N) (x : S512x1024.Idx) (i : Cert.Reference13Ideal.S1x8192x1024.Idx)
    (h1 : (i 1 : ℕ) = t.val / 2 * 512 + x 0) (h2 : (i 2 : ℕ) = x 1) :
    (iblk m c 5 t x : EReal) = a5 m c i := by
  have e : V m c main_v21 = shapeCast S8192x1024 (a5 m c) shapeCasts_S1x8192x1024_S8192x1024 := by rfl
  have d : ∀ (X : TX) (y : S8192x1024.Idx), (i 1 : ℕ) = y 0 → (i 2 : ℕ) = y 1 →
      (shapeCast S8192x1024 X shapeCasts_S1x8192x1024_S8192x1024 y : EReal) = X i := by
    intro X y g1 g2
    pointwise
    blk_ext
  blk_simp [iblk]
  rw [e]
  exact d _ _ (by blk_simp [idx t]; omega) (by blk_simp [idx t]; omega)

/-- The first weight's block of a point, at its place. -/
theorem blk2 (c : Dev nD) (t : Fin cfg0.N) (x : S4x1024x512.Idx) (i : Cert.Reference13Ideal.S1024x4096.Idx)
    (h0 : (i 0 : ℕ) = x 1) (h1 : (i 1 : ℕ) = (t.val % 2 * 4 + x 0) * 512 + x 2) :
    (iblk m c 2 t x : EReal) = a2 m c i := by
  have e : V m c main_v18
      = truncf (F := Ideal) .bf16 (transpose S8x1024x512 [1, 0, 2] (shapeCast S1024x8x512 (a2 m c) shapeCasts_S1024x4096_S1024x8x512)
          transposes_S1024x8x512_S8x1024x512_1_0_2) bitsLt_bf16_f32 := by rfl
  have d : ∀ (X : TW) (y : S8x1024x512.Idx), (i 0 : ℕ) = y 1 → (i 1 : ℕ) = (y 0 : ℕ) * 512 + y 2 →
      (truncf (F := Ideal) .bf16 (transpose S8x1024x512 [1, 0, 2] (shapeCast S1024x8x512 X shapeCasts_S1024x4096_S1024x8x512)
          transposes_S1024x8x512_S8x1024x512_1_0_2) bitsLt_bf16_f32 y : EReal) = X i := by
    intro X y g1 g2
    pointwise
    blk_ext
  blk_simp [iblk]
  rw [e]
  exact d _ _ (by blk_simp [idx t]; omega) (by blk_simp [idx t]; omega)

/-- The second weight's block of a point, at its place. -/
theorem blk3 (c : Dev nD) (t : Fin cfg0.N) (x : S2048x1024.Idx) (i : Cert.Reference13Ideal.S4096x1024.Idx)
    (h0 : (i 0 : ℕ) = t.val % 2 * 2048 + x 0) (h1 : (i 1 : ℕ) = x 1) :
    (iblk m c 3 t x : EReal) = a3 m c i := by
  have e : V m c main_v19 = truncf (F := Ideal) .bf16 (a3 m c) bitsLt_bf16_f32 := by rfl
  have d : ∀ (X : TU) (y : S4096x1024.Idx), (i 0 : ℕ) = y 0 → (i 1 : ℕ) = y 1 →
      (truncf (F := Ideal) .bf16 X bitsLt_bf16_f32 y : EReal) = X i := by
    intro X y g1 g2
    pointwise
    blk_ext
  blk_simp [iblk]
  rw [e]
  exact d _ _ (by blk_simp [idx t]; omega) (by blk_simp [idx t]; omega)

/-- The last gain's block, at its place. -/
theorem blk4 (c : Dev nD) (t : Fin cfg0.N) (x : S1x1024.Idx) (i : Cert.Reference13Ideal.S1024.Idx)
    (h0 : (i 0 : ℕ) = x 1) :
    (iblk m c 4 t x : EReal) = a4 m c i := by
  have e : V m c main_v20 = shapeCast S1x1024 (a4 m c) shapeCasts_S1024_S1x1024 := by rfl
  have d : ∀ (X : TG) (y : S1x1024.Idx), (i 0 : ℕ) = y 1 →
      (shapeCast S1x1024 X shapeCasts_S1024_S1x1024 y : EReal) = X i := by
    intro X y g1
    pointwise
    blk_ext
  blk_simp [iblk]
  rw [e]
  exact d _ _ (by blk_simp [idx t]; omega)

/-- A point's activation at a cell of a shard is the reference's. -/
theorem zs_ref (c : Dev nD) (t : Fin cfg0.N) (a : Fin 512) (s : Fin 4) (b : Fin 512) (n : Fin 8192)
    (hn : (n : ℕ) = t.val / 2 * 512 + a) (f : Fin 4096) (hf : (f : ℕ) = t.val % 2 * 2048 + (s.val * 512 + b.val)) :
    zs (iblk m c 0 t) (iblk m c 2 t) a s b = act m c (ix3 0 n f) := by
  refine Eq.trans ?_ (ref_act _ _ _ n f).symm
  refine congrArg (fun z : EReal => max z 0) (Finset.sum_congr rfl fun k _ => congrArg₂ (fun a b : EReal => a * b) ?_ ?_)
  · exact blk0 m c t _ (ix3 0 n k) hn rfl
  · exact blk2 m c t _ (ix2 k f) rfl (by show (f : ℕ) = (t.val % 2 * 4 + s.val) * 512 + b.val; omega)

/-- The reference's squared activation against the second weight, at a row and a column. -/
abbrev dh (A : FVec Ideal Cert.Reference13Ideal.S1x8192x4096 .f32) (x3 : TU) (n : Fin 8192) (f : Fin 4096) (q : Fin 1024) : EReal :=
  A (ix3 0 n f) * A (ix3 0 n f) * (x3 (ix2 f q) : EReal)

/-- The reference's layer sum at a row and a column. -/
theorem ref_mlp (x0 : TX) (x1 : TG) (x2 : TW) (x3 : TU) (n : Fin 8192) (q : Fin 1024) :
    (val_main_v31 (F := Ideal) x0 x1 x2 x3 (ix3 0 n q) : EReal)
      = ∑ f : Fin 4096, dh (val_main_v14 (F := Ideal) x0 x1 x2) x3 n f q := by
  have e : val_main_v29 (F := Ideal) x0 x1 x2 = val_main_v14 (F := Ideal) x0 x1 x2 := rfl
  have hs : ∀ (p q : EReal), p = q → (FloatOps.mulf (F := Ideal) (φ := .f32) p p : EReal) = q * q := fun p q h => by rw [h]; rfl
  rw [val_main_v31_apply]
  refine Finset.sum_congr rfl fun k _ => congrArg₂ (fun a b : EReal => a * b) ?_ ?_
  · rw [val_main_v30_apply, e]
    refine hs _ _ ?_
    blk_ext
  · blk_ext

/-- One point's share of the layer's sum, as a part of the reference's sum over the hidden columns. -/
theorem part_ref (c : Dev nD) (t : Fin cfg0.N) (j : S512x1024.Idx) (n : Fin 8192) (hn : (n : ℕ) = t.val / 2 * 512 + j 0)
    (q : Fin 1024) (hq : (q : ℕ) = j 1) :
    (part m c t j : EReal) = ∑ l : Fin 2048, dh (act m c) (a3 m c) n ⟨t.val % 2 * 2048 + l.val, by omega⟩ q := by
  rw [part_at]
  refine Fin.sum_mul_add_congr (S := 4) (n := 512) (L := 2048) fun s k hl => ?_
  have hb : (s.val * 512 + k.val) < 2048 := hl
  have hz := zs_ref m c t (j 0) s k n hn ⟨t.val % 2 * 2048 + (s.val * 512 + k.val), by omega⟩ rfl
  refine congrArg₂ (fun a b : EReal => a * b) (congrArg₂ (fun a b : EReal => a * b) hz hz) ?_
  exact blk3 m c t _ (ix2 ⟨t.val % 2 * 2048 + (s.val * 512 + k.val), by omega⟩ q) rfl hq

/-- After a row block's second point the accumulator holds the layer's sum. -/
theorem accum_ref (c : Dev nD) (t : Fin cfg0.N) (h0 : t.val % 2 = 1) (j : S512x1024.Idx) (n : Fin 8192)
    (hn : (n : ℕ) = t.val / 2 * 512 + j 0) (q : Fin 1024) (hq : (q : ℕ) = j 1) :
    (accum m c t j : EReal) = val_main_v31 (F := Ideal) (a0 m c) (a1 m c) (a2 m c) (a3 m c) (ix3 0 n q) := by
  rw [accum_at, acc_even m c ⟨t.val - 1, by omega⟩ (by show (t.val - 1) % 2 = 0; omega),
    part_ref m c ⟨t.val - 1, by omega⟩ j n (by show (n : ℕ) = (t.val - 1) / 2 * 512 + j 0; omega) q hq,
    part_ref m c t j n hn q hq, ref_mlp]
  exact two_halves (fun f => dh (act m c) (a3 m c) n f q) ((t.val - 1) % 2) (t.val % 2)
    (by omega) h0 (fun l => by omega) (fun l => by omega)

/-- The layer's output over the arguments, at a row and a column. -/
abbrev xr (x0 : TX) (x1 : TG) (x2 : TW) (x3 : TU) (n : Fin 8192) (k : Fin 1024) : EReal :=
  val_main_v32 (F := Ideal) x0 x1 x2 x3 (ix3 0 n k)

/-- The difference of the normed output and the target over the arguments, at a row and a column. -/
abbrev dr (x0 : TX) (x1 : TG) (x2 : TW) (x3 : TU) (x4 : TG) (x5 : TX) (n : Fin 8192) (k : Fin 1024) : EReal :=
  xr x0 x1 x2 x3 n k * rms (xr x0 x1 x2 x3 n) * (x4 (ix1 k) : EReal) - (x5 (ix3 0 n k) : EReal)

/-- The sum of two blocks at a row and a column. -/
abbrev xk (v63 v65 : FVec Ideal S512x1024 .f32) (a : Fin 512) (k : Fin 1024) : EReal := v63 (ix2 a k) + v65 (ix2 a k)

/-- A point's layer output at a cell is the reference's. -/
theorem x_ref (c : Dev nD) (t : Fin cfg0.N) (h0 : t.val % 2 = 1) (a : Fin 512) (n : Fin 8192)
    (hn : (n : ℕ) = t.val / 2 * 512 + a) (k : Fin 1024) :
    xk (iblk m c 1 t) (accum m c t) a k = xr (a0 m c) (a1 m c) (a2 m c) (a3 m c) n k :=
  congrArg₂ (fun a b : EReal => a + b) (blk1 m c t (ix2 a k) (ix3 0 n k) hn rfl) (accum_ref m c t h0 (ix2 a k) n hn k rfl)

/-- The difference at a cell, over rows that hold the given values. -/
theorem diff_eq (v63 v65 : FVec Ideal S512x1024 .f32) (v75 : FVec Ideal S1x1024 .f32) (v81 : FVec Ideal S512x1024 .f32)
    (a : Fin 512) (X G T : Fin 1024 → EReal) (hX : ∀ k, (v63 (ix2 a k) + v65 (ix2 a k) : EReal) = X k)
    (hG : ∀ k, (v75 (ix2 0 k) : EReal) = G k) (hT : ∀ k, (v81 (ix2 a k) : EReal) = T k) (k : Fin 1024) :
    diff v63 v65 v75 v81 a k = X k * rms X * G k - T k := by
  have hr : rms (fun k => v63 (ix2 a k) + v65 (ix2 a k)) = rms X := congrArg rms (funext hX)
  show (v63 (ix2 a k) + v65 (ix2 a k) : EReal) * rms (fun k => v63 (ix2 a k) + v65 (ix2 a k)) * v75 (ix2 0 k) - v81 (ix2 a k) = _
  rw [hr, hX, hG, hT]

/-- A point's difference at a cell is the reference's. -/
theorem d_ref (c : Dev nD) (t : Fin cfg0.N) (h0 : t.val % 2 = 1) (a : Fin 512) (n : Fin 8192)
    (hn : (n : ℕ) = t.val / 2 * 512 + a) (k : Fin 1024) :
    diff (iblk m c 1 t) (accum m c t) (iblk m c 4 t) (iblk m c 5 t) a k = dr (a0 m c) (a1 m c) (a2 m c) (a3 m c) (a4 m c) (a5 m c) n k :=
  diff_eq _ _ _ _ a (xr (a0 m c) (a1 m c) (a2 m c) (a3 m c) n) (fun k => (a4 m c (ix1 k) : EReal)) (fun k => (a5 m c (ix3 0 n k) : EReal))
    (x_ref m c t h0 a n hn) (fun k => blk4 m c t _ (ix1 k) rfl) (fun k => blk5 m c t _ (ix3 0 n k) hn rfl) k

/-- The reference's sum of a row's squares. -/
theorem ref_sq (x0 : TX) (x1 : TG) (x2 : TW) (x3 : TU) (n : Fin 8192) :
    (val_main_v35 (F := Ideal) x0 x1 x2 x3 (ix3 0 n 0) : EReal) = ∑ k : Fin 1024, xr x0 x1 x2 x3 n k * xr x0 x1 x2 x3 n k := by
  rw [val_main_v35_apply, val_main_v34_apply]
  refine (congrArg (fun z : EReal => z + _) zero_word).trans ((zero_add _).trans (Finset.sum_congr rfl fun k _ => ?_))
  have ei : idx_main_v34 (idx_main_v35 (ix3 0 n 0)) k = ix3 0 n k := by
    funext a
    match a with
    | ⟨0, _⟩ => rfl
    | ⟨1, _⟩ => rfl
    | ⟨2, _⟩ => rfl
  rw [ei]; rfl

/-- The reference's reciprocal root at a row. -/
theorem ref_rms (x0 : TX) (x1 : TG) (x2 : TW) (x3 : TU) (n : Fin 8192) :
    (val_main_v40 (F := Ideal) x0 x1 x2 x3 (ix3 0 n 0) : EReal) = rms (xr x0 x1 x2 x3 n) := by
  show Ideal.rsqrt (Ideal.div (val_main_v35 (F := Ideal) x0 x1 x2 x3 (ix3 0 n 0)) _ + _) = _
  rw [ref_sq]
  rfl

/-- The reference's normed output before the gain. -/
theorem ref_xhat (x0 : TX) (x1 : TG) (x2 : TW) (x3 : TU) (n : Fin 8192) (k : Fin 1024) :
    (val_main_v45 (F := Ideal) x0 x1 x2 x3 (ix3 0 n k) : EReal) = xr x0 x1 x2 x3 n k * rms (xr x0 x1 x2 x3 n) := by
  have ei : idx_main_v44 (ix3 0 n k) = ix3 0 n 0 := by
    funext a
    match a with
    | ⟨0, _⟩ => rfl
    | ⟨1, _⟩ => rfl
    | ⟨2, _⟩ => rfl
  rw [val_main_v45_apply, val_main_v44_apply, ei, ref_rms]
  rfl

/-- The reference's difference at a row and a column. -/
theorem ref_diff (x0 : TX) (x1 : TG) (x2 : TW) (x3 : TU) (x4 : TG) (x5 : TX) (n : Fin 8192) (k : Fin 1024) :
    (val_main_v49 (F := Ideal) x0 x1 x2 x3 x4 x5 (ix3 0 n k) : EReal) = dr x0 x1 x2 x3 x4 x5 n k := by
  have eg : (val_main_v47 (F := Ideal) x4 (ix3 0 n k) : EReal) = x4 (ix1 k) := by
    rw [val_main_v47_apply, val_main_v46_apply]
    refine congrArg x4 ?_
    funext a
    match a with
    | ⟨0, _⟩ => rfl
  rw [val_main_v49_apply, val_main_v48_apply, ref_xhat, eg]
  rfl

/-- The derivative of half a mean square at a difference. -/
theorem half_mean (d : EReal) :
    Ideal.div (Ideal.ofBits .f32 0x3F000000#32 * Ideal.ofBits .f32 0x3F800000#32) (Ideal.ofBits .f32 0x44800000#32)
      * (Ideal.ofBits .f32 0x40000000#32 * d) = Ideal.div d (Ideal.ofBits .f32 0x44800000#32) := by
  have h1024 : (1024 : ℝ) ≠ 0 := by norm_num
  rw [hw, ow, len_word, two_word, Ideal.div_coe h1024, Ideal.div_coe h1024, ← mul_assoc, ← EReal.coe_mul, ← EReal.coe_mul,
    ← EReal.coe_mul, mul_comm d]
  refine congrArg (fun r : ℝ => (r : EReal) * d) ?_
  norm_num

/-- The reference's gradient of the normed output at a row and a column. -/
theorem ref_dy (x0 : TX) (x1 : TG) (x2 : TW) (x3 : TU) (x4 : TG) (x5 : TX) (n : Fin 8192) (k : Fin 1024) :
    (val_main_v63 (F := Ideal) x0 x1 x2 x3 x4 x5 (ix3 0 n k) : EReal) = Ideal.div (dr x0 x1 x2 x3 x4 x5 n k) (Ideal.ofBits .f32 0x44800000#32) := by
  have e : (val_main_v62 (F := Ideal) (ix3 0 n k) : EReal)
      = Ideal.div (Ideal.ofBits .f32 0x3F000000#32 * Ideal.ofBits .f32 0x3F800000#32) (Ideal.ofBits .f32 0x44800000#32) := by
    rw [val_main_v62_apply, val_main_v61_apply, val_main_v59_apply, val_main_v60_apply]
    rfl
  have e2 : (val_main_v52 (F := Ideal) x0 x1 x2 x3 x4 x5 (ix3 0 n k) : EReal) = Ideal.ofBits .f32 0x40000000#32 * dr x0 x1 x2 x3 x4 x5 n k := by
    rw [val_main_v52_apply, val_main_v51_apply, ref_diff]
    rfl
  rw [val_main_v63_apply, e, e2]
  exact half_mean _

/-- The activation after the run is the reference's. -/
theorem final_6 (c : Dev nD) : (dats m 0 c).arrAt 6 (cfgs 0).N = val_main_v86 (F := Ideal) (a0 m c) (a1 m c) (a2 m c) := by
  refine (dats m 0 c).arrAt_eq_of_covers 6 _ (by decide +kernel) fun t hf y => ?_
  blk_simp
  rw [after0_6]
  have hN : t.val < 32 := lt_of_lt_of_eq t.isLt N_0
  have hy0 : (y 0 : ℕ) < 512 := (y 0).isLt
  have hy1 : (y 1 : ℕ) < 2048 := (y 1).isLt
  have hr : ∀ (i : Cert.Reference13Ideal.S8192x4096.Idx) (n : Fin 8192) (f : Fin 4096), (i 0 : ℕ) = n → (i 1 : ℕ) = f →
      (val_main_v86 (F := Ideal) (a0 m c) (a1 m c) (a2 m c) i : EReal) = act m c (ix3 0 n f) := by
    intro i n f e0 e1
    rw [val_main_v86_apply, val_main_v85_apply]
    have hn := n.isLt
    have hf := f.isLt
    refine congrArg (act m c) ?_
    funext a
    match a with
    | ⟨0, _⟩ => exact Subsingleton.elim (α := Fin 1) _ _
    | ⟨1, _⟩ => exact Fin.ext (by show ((i 0).val * 4096 + (i 1).val) / 4096 % 8192 = n.val; omega)
    | ⟨2, _⟩ => exact Fin.ext (by show ((i 0).val * 4096 + (i 1).val) % 4096 = f.val; omega)
  refine (act_out m c t y ⟨(y 1).val / 512, by omega⟩ ⟨(y 1).val % 512, by omega⟩
    (by show (y 1).val = (y 1).val / 512 * 512 + (y 1).val % 512; omega)).trans ?_
  refine (zs_ref m c t (y 0) _ _ ⟨t.val / 2 * 512 + y 0, by omega⟩ rfl ⟨t.val % 2 * 2048 + y 1, by omega⟩
    (by show t.val % 2 * 2048 + (y 1).val = t.val % 2 * 2048 + ((y 1).val / 512 * 512 + (y 1).val % 512); omega)).trans ?_
  exact (hr _ _ _ (by blk_simp [idx t]) (by blk_simp [idx t])).symm

/-- The gradient of the layer's output at a cell, over rows that hold the given values. -/
theorem pay2_eq (v63 v65 : FVec Ideal S512x1024 .f32) (v75 : FVec Ideal S1x1024 .f32) (v81 : FVec Ideal S512x1024 .f32)
    (a : Fin 512) (q : Fin 1024) (X G D : Fin 1024 → EReal) (hX : ∀ k, (v63 (ix2 a k) + v65 (ix2 a k) : EReal) = X k)
    (hG : ∀ k, (v75 (ix2 0 k) : EReal) = G k) (hD : ∀ k, diff v63 v65 v75 v81 a k = D k) :
    (k0_pay2 (F := Ideal) (k0_pay4 v63 v65) (k0_pay5 v63 v65) (k0_pay6 v75) (k0_pay9 v63 v65 v75 v81) (k0_pay10 v63 v65)
        (ix2 a q) : EReal)
      = rms X * (Ideal.div (D q) (Ideal.ofBits .f32 0x44800000#32) * G q - X q * rms X
          * Ideal.div (∑ l : Fin 1024, Ideal.div (D l) (Ideal.ofBits .f32 0x44800000#32) * G l * (X l * rms X))
            (Ideal.ofBits .f32 0x44800000#32)) := by
  have hr : rms (fun k => v63 (ix2 a k) + v65 (ix2 a k)) = rms X := congrArg rms (funext hX)
  rw [pay2_at, hr, hX, hG, hD]
  refine congrArg (fun z : EReal => rms X * (Ideal.div (D q) (Ideal.ofBits .f32 0x44800000#32) * G q - X q * rms X
    * Ideal.div z (Ideal.ofBits .f32 0x44800000#32))) (Finset.sum_congr rfl fun l _ => ?_)
  rw [hX, hG, hD]

/-- The reference's gradient of the layer's output at a row and a column. -/
theorem ref_dx (x0 : TX) (x1 : TG) (x2 : TW) (x3 : TU) (x4 : TG) (x5 : TX) (n : Fin 8192) (q : Fin 1024) (X P : Fin 1024 → EReal) (hX : ∀ k, X k = xr x0 x1 x2 x3 n k)
    (hP : ∀ k, P k = Ideal.div (dr x0 x1 x2 x3 x4 x5 n k) (Ideal.ofBits .f32 0x44800000#32) * (x4 (ix1 k) : EReal)) :
    (val_main_v84 (F := Ideal) x0 x1 x2 x3 x4 x5 (ix3 0 n q) : EReal)
      = P q * rms X
        + X q * Ideal.div ((∑ l : Fin 1024, X l * P l) * (Ideal.ofBits .f32 0xBF000000#32 * Ideal.div (rms X)
            (Ideal.div (∑ k : Fin 1024, X k * X k) (Ideal.ofBits .f32 0x44800000#32) + Ideal.ofBits .f32 0x358637BD#32)))
            (Ideal.ofBits .f32 0x44800000#32)
        + Ideal.div ((∑ l : Fin 1024, X l * P l) * (Ideal.ofBits .f32 0xBF000000#32 * Ideal.div (rms X)
            (Ideal.div (∑ k : Fin 1024, X k * X k) (Ideal.ofBits .f32 0x44800000#32) + Ideal.ofBits .f32 0x358637BD#32)))
            (Ideal.ofBits .f32 0x44800000#32) * X q := by
  obtain rfl : X = xr x0 x1 x2 x3 n := funext hX
  have e68 : ∀ k, (val_main_v68 (F := Ideal) x0 x1 x2 x3 x4 x5 (ix3 0 n k) : EReal) = P k := by
    intro k
    rw [val_main_v68_apply, ref_dy, val_main_v67_apply, val_main_v46_apply, hP]
    refine congrArg (fun z : EReal => _ * z) (congrArg x4 ?_)
    funext a
    match a with
    | ⟨0, _⟩ => rfl
  have e72 : (val_main_v72 (F := Ideal) x0 x1 x2 x3 x4 x5 (ix3 0 n 0) : EReal) = ∑ l : Fin 1024, xr x0 x1 x2 x3 n l * P l := by
    rw [val_main_v72_apply, val_main_v71_apply]
    refine (congrArg (fun z : EReal => z + _) zero_word).trans ((zero_add _).trans (Finset.sum_congr rfl fun k _ => ?_))
    have ei : idx_main_v71 (idx_main_v72 (ix3 0 n 0)) k = ix3 0 n k := by
      funext a
      match a with
      | ⟨0, _⟩ => rfl
      | ⟨1, _⟩ => exact Fin.ext (by show ((0 * 8192 + n.val) * 1 + 0) % 8192 = n.val; omega)
      | ⟨2, _⟩ => rfl
    rw [ei, val_main_v70_apply, e68]
    rfl
  have e77 : (val_main_v77 (F := Ideal) x0 x1 x2 x3 x4 x5 (ix3 0 n 0) : EReal)
      = Ideal.div ((∑ l : Fin 1024, xr x0 x1 x2 x3 n l * P l) * (Ideal.ofBits .f32 0xBF000000#32
          * Ideal.div (rms (xr x0 x1 x2 x3 n))
            (Ideal.div (∑ k : Fin 1024, xr x0 x1 x2 x3 n k * xr x0 x1 x2 x3 n k) (Ideal.ofBits .f32 0x44800000#32)
              + Ideal.ofBits .f32 0x358637BD#32))) (Ideal.ofBits .f32 0x44800000#32) := by
    rw [← e72, ← ref_rms, ← ref_sq]
    rfl
  have e78 : ∀ (j : Cert.Reference13Ideal.S8192.Idx), (j 0 : ℕ) = n → (val_main_v78 (F := Ideal) x0 x1 x2 x3 x4 x5 j : EReal)
      = val_main_v77 (F := Ideal) x0 x1 x2 x3 x4 x5 (ix3 0 n 0) := by
    intro j hj
    unfold val_main_v78 val_main_cst_21
    generalize val_main_v77 (F := Ideal) x0 x1 x2 x3 x4 x5 = Y
    refine (reduce_one _ Y _ j (ix3 0 n 0) ?_ ?_).trans ((congrArg (fun z : EReal => z + _) zero_word).trans (zero_add _))
    · intro k hk
      have e2 : (k 1 : ℕ) = j 0 := congrArg (fun y : Cert.Reference13Ideal.S8192.Idx => (y 0 : ℕ)) hk
      funext a
      match a with
      | ⟨0, _⟩ => exact Subsingleton.elim (α := Fin 1) _ _
      | ⟨1, _⟩ => exact Fin.ext (e2.trans hj)
      | ⟨2, _⟩ => exact Subsingleton.elim (α := Fin 1) _ _
    · funext b
      match b with
      | ⟨0, _⟩ => exact Fin.ext hj.symm
  have e80 : (val_main_v80 (F := Ideal) x0 x1 x2 x3 x4 x5 (ix3 0 n q) : EReal) = val_main_v77 (F := Ideal) x0 x1 x2 x3 x4 x5 (ix3 0 n 0) := by
    rw [val_main_v80_apply, val_main_v79_apply, e78 _ rfl]
  have e73 : (val_main_v73 (F := Ideal) x0 x1 x2 x3 (ix3 0 n q) : EReal) = rms (xr x0 x1 x2 x3 n) := by
    have ei : idx_main_v73 (ix3 0 n q) = ix3 0 n 0 := by
      funext a
      match a with
      | ⟨0, _⟩ => rfl
      | ⟨1, _⟩ => rfl
      | ⟨2, _⟩ => rfl
    rw [val_main_v73_apply, ei]
    exact ref_rms x0 x1 x2 x3 n
  rw [val_main_v84_apply, val_main_v82_apply, val_main_v74_apply, val_main_v81_apply, val_main_v83_apply, e68, e73, e80, e77]
  rfl

/-- The kernel's form of the gradient of the layer's output over a row of values. -/
abbrev form (X P : Fin 1024 → EReal) (q : Fin 1024) : EReal :=
  rms X * (P q - X q * rms X * Ideal.div (∑ l : Fin 1024, P l * (X l * rms X)) (Ideal.ofBits .f32 0x44800000#32))

/-- The gradient of a row of the normed output times the gain. -/
abbrev pr (x0 : TX) (x1 : TG) (x2 : TW) (x3 : TU) (x4 : TG) (x5 : TX) (n : Fin 8192) (k : Fin 1024) : EReal :=
  Ideal.div (dr x0 x1 x2 x3 x4 x5 n k) (Ideal.ofBits .f32 0x44800000#32) * (x4 (ix1 k) : EReal)

/-- The gradient of the layer's output at a cell of the last visit's block, in the values of the arguments. -/
theorem dx_cell (c : Dev nD) (t : Fin cfg0.N) (ht : t.val % 2 = 1) (a : Fin 512) (q : Fin 1024) (n : Fin 8192)
    (hn : n.val = t.val / 2 * 512 + a) :
    ((outsAt0 m c t.val t.isLt).2.1 (ix2 a q) : EReal) = form (xr (a0 m c) (a1 m c) (a2 m c) (a3 m c) n) (pr (a0 m c) (a1 m c) (a2 m c) (a3 m c) (a4 m c) (a5 m c) n) q :=
  (dx_odd m c t ht (ix2 a q)).trans (pay2_eq _ _ _ _ a q (xr (a0 m c) (a1 m c) (a2 m c) (a3 m c) n)
    (fun k => (a4 m c (ix1 k) : EReal)) (dr (a0 m c) (a1 m c) (a2 m c) (a3 m c) (a4 m c) (a5 m c) n)
    (x_ref m c t ht a n hn) (fun k => blk4 m c t _ (ix1 k) rfl) (d_ref m c t ht a n hn))

/-- The reference's gradient of the layer's output at a row and a column, in the same values. -/
theorem dx_ref (x0 : TX) (x1 : TG) (x2 : TW) (x3 : TU) (x4 : TG) (x5 : TX) (n : Fin 8192) (q : Fin 1024) :
    form (xr x0 x1 x2 x3 n) (pr x0 x1 x2 x3 x4 x5 n) q = val_main_v84 (F := Ideal) x0 x1 x2 x3 x4 x5 (ix3 0 n q) := by
  have e := norm_bwd (xr x0 x1 x2 x3 n) (pr x0 x1 x2 x3 x4 x5 n) 0 q
  rw [zero_add, zero_add] at e
  exact e.trans (ref_dx x0 x1 x2 x3 x4 x5 n q (xr x0 x1 x2 x3 n) (pr x0 x1 x2 x3 x4 x5 n) (fun k => rfl) (fun k => rfl)).symm

/-- The reference's result at a row and a column. -/
theorem res_dx (x0 : TX) (x1 : TG) (x2 : TW) (x3 : TU) (x4 : TG) (x5 : TX) (i : Cert.Reference13Ideal.S8192x1024.Idx) (n : Fin 8192) (q : Fin 1024) (e0 : (i 0 : ℕ) = n)
    (e1 : (i 1 : ℕ) = q) :
    (val_main_v87 (F := Ideal) x0 x1 x2 x3 x4 x5 i : EReal) = val_main_v84 (F := Ideal) x0 x1 x2 x3 x4 x5 (ix3 0 n q) := by
  rw [val_main_v87_apply]
  have hn := n.isLt
  have hq := q.isLt
  refine congrArg (val_main_v84 (F := Ideal) x0 x1 x2 x3 x4 x5) ?_
  funext a
  match a with
  | ⟨0, _⟩ => exact Subsingleton.elim (α := Fin 1) _ _
  | ⟨1, _⟩ => exact Fin.ext (by show ((i 0).val * 1024 + (i 1).val) / 1024 % 8192 = n.val; omega)
  | ⟨2, _⟩ => exact Fin.ext (by show ((i 0).val * 1024 + (i 1).val) % 1024 = q.val; omega)

/-- The gradient of the layer's output after the run is the reference's. -/
theorem final_7 (c : Dev nD) : (dats m 0 c).arrAt 7 (cfgs 0).N = val_main_v87 (F := Ideal) (a0 m c) (a1 m c) (a2 m c) (a3 m c) (a4 m c) (a5 m c) := by
  refine (dats m 0 c).arrAt_eq_of_covers 7 _ (by decide +kernel) fun t hf y => ?_
  blk_simp
  have ht : t.val % 2 = 1 := (flush0_7 t).mp hf
  have hN : t.val < 32 := lt_of_lt_of_eq t.isLt N_0
  have hy0 : (y 0 : ℕ) < 512 := (y 0).isLt
  have hy : y = ix2 (y 0) (y 1) := by
    funext a
    match a with
    | ⟨0, _⟩ => rfl
    | ⟨1, _⟩ => rfl
  rw [after0_7]
  have hk := (congrArg _ hy).trans (dx_cell m c t ht (y 0) (y 1) ⟨t.val / 2 * 512 + y 0, by omega⟩ rfl)
  refine hk.trans ((dx_ref (a0 m c) (a1 m c) (a2 m c) (a3 m c) (a4 m c) (a5 m c) _ _).trans ?_)
  exact (res_dx (a0 m c) (a1 m c) (a2 m c) (a3 m c) (a4 m c) (a5 m c) _ _ _ (by blk_simp [idx t]) (by blk_simp [idx t])).symm

/-- One row block's share of the last gain's gradient at a column. -/
abbrev gshare (c : Dev nD) (b : ℕ) (hb : b < 16) (q : Fin 1024) : EReal :=
  ∑ x : Fin 512, Ideal.div (dr (a0 m c) (a1 m c) (a2 m c) (a3 m c) (a4 m c) (a5 m c) ⟨b * 512 + x.val, by omega⟩ q) (Ideal.ofBits .f32 0x44800000#32)
    * (xr (a0 m c) (a1 m c) (a2 m c) (a3 m c) ⟨b * 512 + x.val, by omega⟩ q * rms (xr (a0 m c) (a1 m c) (a2 m c) (a3 m c) ⟨b * 512 + x.val, by omega⟩))

/-- One row block's share of the loss. -/
abbrev lshare (c : Dev nD) (b : ℕ) (hb : b < 16) : EReal :=
  Ideal.ofBits .f32 0x3F000000#32 * ∑ x : Fin 512, Ideal.div
    (∑ k : Fin 1024, dr (a0 m c) (a1 m c) (a2 m c) (a3 m c) (a4 m c) (a5 m c) ⟨b * 512 + x.val, by omega⟩ k * dr (a0 m c) (a1 m c) (a2 m c) (a3 m c) (a4 m c) (a5 m c) ⟨b * 512 + x.val, by omega⟩ k) (Ideal.ofBits .f32 0x44800000#32)

/-- The row of a row block. -/
theorem row_lt (t : Fin cfg0.N) (x : Fin 512) : t.val / 2 * 512 + x.val < 8192 := by
  have hN : t.val < 32 := lt_of_lt_of_eq t.isLt N_0
  omega

/-- The last gain's gradient after a row block's second point: what was there and the row block's share. -/
theorem dg_step (c : Dev nD) (t : Fin cfg0.N) (h0 : t.val % 2 = 1) (b : ℕ) (hb : b < 16) (e : t.val / 2 = b) (j : S1x1024.Idx)
    (q : Fin 1024) (hq : q = j 1) :
    ((outsAt0 m c t.val t.isLt).2.2.2.1 j : EReal) = (outsAt0 m c (t.val - 1) (Nat.lt_of_le_of_lt (Nat.sub_le _ _) t.isLt)).2.2.2.1 j + gshare m c b hb q := by
  subst e hq
  rw [dg_odd m c t h0, pay3_at]
  refine congrArg (fun z : EReal => _ + z) (Finset.sum_congr rfl fun x _ => congrArg₂ (fun a b : EReal => a * b) ?_
    (congrArg₂ (fun a b : EReal => a * b) ?_ (congrArg rms (funext fun k => ?_))))
  · exact congrArg (fun z : EReal => Ideal.div z _) (d_ref m c t h0 x ⟨t.val / 2 * 512 + x.val, row_lt t x⟩ rfl (j 1))
  · exact x_ref m c t h0 x ⟨t.val / 2 * 512 + x.val, row_lt t x⟩ rfl (j 1)
  · exact x_ref m c t h0 x ⟨t.val / 2 * 512 + x.val, row_lt t x⟩ rfl k

/-- The loss after a row block's second point: what was there and the row block's share. -/
theorem loss_step (c : Dev nD) (t : Fin cfg0.N) (h0 : t.val % 2 = 1) (b : ℕ) (hb : b < 16) (e : t.val / 2 = b) (j : S1x128.Idx) :
    ((outsAt0 m c t.val t.isLt).2.2.1 j : EReal) = (outsAt0 m c (t.val - 1) (Nat.lt_of_le_of_lt (Nat.sub_le _ _) t.isLt)).2.2.1 j + lshare m c b hb := by
  subst e
  rw [loss_odd m c t h0, pay8_at]
  refine congrArg (fun z : EReal => _ + Ideal.ofBits .f32 0x3F000000#32 * z) (Finset.sum_congr rfl fun x _ =>
    congrArg (fun z : EReal => Ideal.div z (Ideal.ofBits .f32 0x44800000#32)) (Finset.sum_congr rfl fun k _ => ?_))
  have e := d_ref m c t h0 x ⟨t.val / 2 * 512 + x.val, row_lt t x⟩ rfl k
  exact congrArg₂ (fun a b : EReal => a * b) e e

/-- The last gain's gradient after a row block's second point is the sum of the shares so far. -/
theorem dg_sum (c : Dev nD) (j : S1x1024.Idx) (q : Fin 1024) (hq : q = j 1) : ∀ (b : ℕ) (hb : b < 16)
    (ht : 2 * b + 1 < cfg0.N),
    ((outsAt0 m c (2 * b + 1) ht).2.2.2.1 j : EReal) = ∑ s : Fin (b + 1), gshare m c s.val (by omega) q
  | 0, hb, ht => by
    rw [dg_step m c ⟨2 * 0 + 1, ht⟩ (by rfl) 0 hb (by show (2 * 0 + 1) / 2 = 0; norm_num) j q hq]
    have e := dg_start m c ⟨0, by omega⟩ (by rfl) (by rfl) j
    exact ((congrArg (fun z : EReal => z + _) e).trans (zero_add _)).trans
      (Fin.sum_univ_one (fun s : Fin 1 => gshare m c s.val (by omega) q)).symm
  | b + 1, hb, ht => by
    rw [dg_step m c ⟨2 * (b + 1) + 1, ht⟩ (by show (2 * (b + 1) + 1) % 2 = 1; omega) (b + 1) hb
      (by show (2 * (b + 1) + 1) / 2 = b + 1; omega) j q hq, Fin.sum_univ_castSucc]
    have e := dg_even m c ⟨2 * (b + 1), by omega⟩ (by show (2 * (b + 1)) % 2 = 0; omega)
      (by show ¬ (2 * (b + 1)) % 32 = 0; omega) j
    exact congrArg (fun z : EReal => z + _) (e.trans (dg_sum c j q hq b (by omega) (by omega)))

/-- The loss after a row block's second point is the sum of the shares so far. -/
theorem loss_sum (c : Dev nD) (j : S1x128.Idx) : ∀ (b : ℕ) (hb : b < 16) (ht : 2 * b + 1 < cfg0.N),
    ((outsAt0 m c (2 * b + 1) ht).2.2.1 j : EReal) = ∑ s : Fin (b + 1), lshare m c s.val (by omega)
  | 0, hb, ht => by
    rw [loss_step m c ⟨2 * 0 + 1, ht⟩ (by rfl) 0 hb (by show (2 * 0 + 1) / 2 = 0; norm_num) j]
    have e := loss_start m c ⟨0, by omega⟩ (by rfl) (by rfl) j
    exact ((congrArg (fun z : EReal => z + _) e).trans (zero_add _)).trans
      (Fin.sum_univ_one (fun s : Fin 1 => lshare m c s.val (by omega))).symm
  | b + 1, hb, ht => by
    rw [loss_step m c ⟨2 * (b + 1) + 1, ht⟩ (by show (2 * (b + 1) + 1) % 2 = 1; omega) (b + 1) hb
      (by show (2 * (b + 1) + 1) / 2 = b + 1; omega) j, Fin.sum_univ_castSucc]
    have e := loss_even m c ⟨2 * (b + 1), by omega⟩ (by show (2 * (b + 1)) % 2 = 0; omega)
      (by show ¬ (2 * (b + 1)) % 32 = 0; omega) j
    exact congrArg (fun z : EReal => z + _) (e.trans (loss_sum c j b (by omega) (by omega)))

/-- The reference's gradient of the last gain at a column. -/
theorem ref_dg (x0 : TX) (x1 : TG) (x2 : TW) (x3 : TU) (x4 : TG) (x5 : TX) (i : Cert.Reference13Ideal.S1x1024.Idx) (q : Fin 1024) (hq : (q : ℕ) = i 1) :
    (val_main_v89 (F := Ideal) x0 x1 x2 x3 x4 x5 i : EReal) = ∑ n : Fin 8192, Ideal.div (dr x0 x1 x2 x3 x4 x5 n q) (Ideal.ofBits .f32 0x44800000#32)
      * (xr x0 x1 x2 x3 n q * rms (xr x0 x1 x2 x3 n)) := by
  have e69 : ∀ (j : Cert.Reference13Ideal.S1024.Idx), (val_main_v69 (F := Ideal) x0 x1 x2 x3 x4 x5 j : EReal)
      = val_main_v66 (F := Ideal) x0 x1 x2 x3 x4 x5 (ix3 0 0 (j 0)) := by
    intro j
    unfold val_main_v69 val_main_cst_18
    generalize val_main_v66 (F := Ideal) x0 x1 x2 x3 x4 x5 = Y
    refine (reduce_one _ Y _ j (ix3 0 0 (j 0)) ?_ ?_).trans ((congrArg (fun z : EReal => z + _) zero_word).trans (zero_add _))
    · intro k hk
      have e2 : (k 2 : ℕ) = j 0 := congrArg (fun y : Cert.Reference13Ideal.S1024.Idx => (y 0 : ℕ)) hk
      funext a
      match a with
      | ⟨0, _⟩ => exact Subsingleton.elim (α := Fin 1) _ _
      | ⟨1, _⟩ => exact Subsingleton.elim (α := Fin 1) _ _
      | ⟨2, _⟩ => exact Fin.ext e2
    · funext b
      match b with
      | ⟨0, _⟩ => rfl
  rw [val_main_v89_apply, e69, val_main_v66_apply, val_main_v65_apply]
  refine (congrArg (fun z : EReal => z + _) zero_word).trans ((zero_add _).trans (Finset.sum_congr rfl fun n _ => ?_))
  have ei : idx_main_v65 (idx_main_v66 (ix3 0 0 ((idx_main_v89 i) 0))) n = ix3 0 n q := by
    funext a
    match a with
    | ⟨0, _⟩ => rfl
    | ⟨1, _⟩ => rfl
    | ⟨2, _⟩ =>
      apply Fin.ext
      have hl : (i 1 : ℕ) < 1024 := (i 1).isLt
      show (((0 * 1 + 0) * 1024 + (i 1 : ℕ)) % 1024) = (q : ℕ)
      omega
  rw [ei, val_main_v64_apply, ref_dy, ref_xhat]
  exact mul_comm _ _

/-- The last gain's gradient after the run is the reference's. -/
theorem final_9 (c : Dev nD) : (dats m 0 c).arrAt 9 (cfgs 0).N = val_main_v89 (F := Ideal) (a0 m c) (a1 m c) (a2 m c) (a3 m c) (a4 m c) (a5 m c) := by
  refine (dats m 0 c).arrAt_eq_of_covers 9 _ (by decide +kernel) fun t hf y => ?_
  blk_simp
  rw [after0_9]
  have ht : t.val % 32 = 31 := (flush0_9 t).mp hf
  have hN : t.val < 32 := lt_of_lt_of_eq t.isLt N_0
  have h31 : t = ⟨2 * 15 + 1, by rw [N_0]; decide⟩ := Fin.ext (by show t.val = 2 * 15 + 1; omega)
  subst h31
  refine (dg_sum m c y (y 1) rfl 15 (by decide) _).trans ?_
  rw [ref_dg _ _ _ _ _ _ _ (y 1) (by blk_simp [idx])]
  exact Fin.sum_mul_add_congr (S := 16) (n := 512) (L := 8192) fun s k hl => rfl

/-- A sum over a one-row array is the sum over its columns. -/
theorem sum_rows (f : Cert.Reference13Ideal.S1x8192.Idx → EReal) : (∑ i, f i) = ∑ n : Fin 8192, f (ix2 0 n) := by
  refine (Fintype.sum_bijective (fun n : Fin 8192 => (ix2 0 n : Cert.Reference13Ideal.S1x8192.Idx)) ⟨?_, ?_⟩ _ _ (fun n => rfl)).symm
  · intro a b h
    exact congrFun h 1
  · intro i
    refine ⟨i 1, ?_⟩
    funext a
    match a with
    | ⟨0, _⟩ => exact Subsingleton.elim (α := Fin 1) _ _
    | ⟨1, _⟩ => rfl

/-- The reference's loss. -/
theorem ref_loss (x0 : TX) (x1 : TG) (x2 : TW) (x3 : TU) (x4 : TG) (x5 : TX) (i : Cert.Reference13Ideal.S1x128.Idx) :
    (val_main_v88 (F := Ideal) x0 x1 x2 x3 x4 x5 i : EReal) = Ideal.ofBits .f32 0x3F000000#32 * ∑ n : Fin 8192, Ideal.div
      (∑ k : Fin 1024, dr x0 x1 x2 x3 x4 x5 n k * dr x0 x1 x2 x3 x4 x5 n k) (Ideal.ofBits .f32 0x44800000#32) := by
  have e55 : ∀ n : Fin 8192, (val_main_v55 (F := Ideal) x0 x1 x2 x3 x4 x5 (ix2 0 n) : EReal)
      = Ideal.div (∑ k : Fin 1024, dr x0 x1 x2 x3 x4 x5 n k * dr x0 x1 x2 x3 x4 x5 n k) (Ideal.ofBits .f32 0x44800000#32) := by
    intro n
    have e53 : (val_main_v53 (F := Ideal) x0 x1 x2 x3 x4 x5 (ix2 0 n) : EReal) = ∑ k : Fin 1024, dr x0 x1 x2 x3 x4 x5 n k * dr x0 x1 x2 x3 x4 x5 n k := by
      rw [val_main_v53_apply]
      refine (congrArg (fun z : EReal => z + _) zero_word).trans ((zero_add _).trans (Finset.sum_congr rfl fun k _ => ?_))
      have ei : idx_main_v53 (ix2 0 n) k = ix3 0 n k := by
        funext a
        match a with
        | ⟨0, _⟩ => rfl
        | ⟨1, _⟩ => rfl
        | ⟨2, _⟩ => rfl
      rw [ei, val_main_v50_apply, ref_diff]
      rfl
    rw [val_main_v55_apply, e53, val_main_v54_apply]
    rfl
  have e56 : ∀ j, (val_main_v56 (F := Ideal) x0 x1 x2 x3 x4 x5 j : EReal) = ∑ n : Fin 8192, Ideal.div
      (∑ k : Fin 1024, dr x0 x1 x2 x3 x4 x5 n k * dr x0 x1 x2 x3 x4 x5 n k) (Ideal.ofBits .f32 0x44800000#32) := by
    intro j
    rw [val_main_v56_apply]
    refine (congrArg (fun z : EReal => z + _) zero_word).trans ((zero_add _).trans ?_)
    rw [sum_rows]
    exact Finset.sum_congr rfl fun n _ => e55 n
  rw [val_main_v88_apply, val_main_v57_apply, e56]
  rfl

/-- The loss after the run is the reference's, in every lane. -/
theorem final_8 (c : Dev nD) : (dats m 0 c).arrAt 8 (cfgs 0).N = val_main_v88 (F := Ideal) (a0 m c) (a1 m c) (a2 m c) (a3 m c) (a4 m c) (a5 m c) := by
  refine (dats m 0 c).arrAt_eq_of_covers 8 _ (by decide +kernel) fun t hf y => ?_
  blk_simp
  rw [after0_8]
  have ht : t.val % 32 = 31 := (flush0_8 t).mp hf
  have hN : t.val < 32 := lt_of_lt_of_eq t.isLt N_0
  have h31 : t = ⟨2 * 15 + 1, by rw [N_0]; decide⟩ := Fin.ext (by show t.val = 2 * 15 + 1; omega)
  subst h31
  refine (loss_sum m c y 15 (by decide) _).trans ?_
  rw [ref_loss, hw, mul_comm]
  have e : ∀ s : Fin (15 + 1), lshare m c s.val (by omega) = (∑ x : Fin 512, Ideal.div
      (∑ k : Fin 1024, dr (a0 m c) (a1 m c) (a2 m c) (a3 m c) (a4 m c) (a5 m c) ⟨s.val * 512 + x.val, by omega⟩ k * dr (a0 m c) (a1 m c) (a2 m c) (a3 m c) (a4 m c) (a5 m c) ⟨s.val * 512 + x.val, by omega⟩ k)
      (Ideal.ofBits .f32 0x44800000#32)) * ((1/2 : ℝ) : EReal) := fun s => by rw [← hw]; exact mul_comm _ _
  refine (Finset.sum_congr rfl fun s _ => e s).trans ((sum_mul_real _ _ (by norm_num)).trans ?_)
  refine congrArg (fun z : EReal => z * ((1/2 : ℝ) : EReal)) ?_
  exact Fin.sum_mul_add_congr (S := 16) (n := 512) (L := 8192) fun s k hl => rfl

end Cert.Kernel13Ideal.MlpFwd

end
-- ==== Proof.Merge.lean ====
/- The value of the merge's backward call `Cert.Kernel14Ideal` over the extended reals: the gradients of the gates'
   pre-activation, of the layer's input through the gates, of the two branches and of the bias, against the derivative of
   the reference's forward lines. -/
module

public import proofs.«01_k».proof.Proof.Gen.Kernel14Ideal.Value
public import proofs.«01_k».proof.Proof.Gen.Kernel14Ideal.Frame
public import proofs.«01_k».proof.Proof.Gen.Reference14Ideal.Run
public import proofs.«01_k».proof.Proof.Gen.Reference14Ideal.Read
public import Idealize.ShloMosaic.Lib.Pipeline.ValueKit
public import Idealize.ShloMosaic.Lib.Pipeline.ReadBack
public import Idealize.ShloMosaic.Lib.Claim
public import Idealize.ShloMosaic.Lib.KernelVsHost
public import proofs.«01_k».proof.Proof.Mlp

@[expose] public section

set_option maxRecDepth 16384

noncomputable section

open Idealize.ShloMosaic Idealize.ShloMosaic.TcCoe Idealize.SL.Sem
open Idealize.ShloMosaic.Pipeline (Dat)

namespace Cert.Kernel14Ideal.Merge

open Cert.Kernel14Ideal Cert.Kernel14Ideal.Gen
open Cert.Reference14Ideal.Read
open Cert.KernelIdeal.Mlp (reduce_one)

variable (m : (ℓ : Loc nD τ sig) → Buf (Elt Ideal) ℓ)

/-- Each window's block index at each grid point: the row block `t`, and the whole of each weight. -/
theorem idx : ∀ t : Fin cfg0.N, win0_0.index t = ![t.val, 0]
    ∧ win0_1.index t = ![t.val, 0]
    ∧ win0_2.index t = ![t.val, 0]
    ∧ win0_3.index t = ![t.val, 0]
    ∧ win0_4.index t = ![0, 0]
    ∧ win0_5.index t = ![0, 0]
    ∧ win0_6.index t = ![t.val, 0]
    ∧ win0_7.index t = ![t.val, 0]
    ∧ win0_8.index t = ![t.val, 0]
    ∧ win0_9.index t = ![t.val, 0]
    ∧ win0_10.index t = ![0, 0] :=
  (by decide +kernel : ∀ t : Fin grid0.N, _)

/-- The merge's input gradient at a cell: the incoming gradient's row against the merge's weight. -/
theorem pay6_at (v3 : FVec Ideal S512x1024 .f32) (v6 : FVec Ideal S1024x1024 .bf16) (j : S512x1024.Idx) :
    k0_pay6 (F := Ideal) v3 v6 j = (∑ r : Fin 1024, (v3 (ix2 (j 0) r) : EReal) * v6 (ix2 (j 1) r) : EReal) := by
  pointwise [k0_pay6]

/-- The second gate at a cell. -/
theorem pay8_at (v12 : FVec Ideal S512x1024 .bf16) (j : S512x1024.Idx) : (k0_pay8 (F := Ideal) v12 j : EReal) = v12 j := by
  pointwise [k0_pay8]

/-- The first gate's pre-activation gradient at a cell. -/
theorem pay11_at (v3 : FVec Ideal S512x1024 .f32) (v6 : FVec Ideal S1024x1024 .bf16) (v9 v21 : FVec Ideal S512x1024 .bf16)
    (j : S512x1024.Idx) :
    k0_pay11 (F := Ideal) v3 v6 v9 v21 j
      = ((∑ r : Fin 1024, (v3 (ix2 (j 0) r) : EReal) * v6 (ix2 (j 1) r)) * v21 j * v9 j * (1 - v9 j) : EReal) := by
  pointwise [k0_pay11, k0_pay7]
  rw [pay6_at]

/-- The second gate's pre-activation gradient at a cell, before its last factor. -/
theorem pay12_at (v3 : FVec Ideal S512x1024 .f32) (v6 : FVec Ideal S1024x1024 .bf16) (v12 v29 : FVec Ideal S512x1024 .bf16)
    (j : S512x1024.Idx) :
    k0_pay12 (F := Ideal) v3 v6 v12 v29 j
      = ((∑ r : Fin 1024, (v3 (ix2 (j 0) r) : EReal) * v6 (ix2 (j 1) r)) * v29 j * v12 j : EReal) := by
  pointwise [k0_pay12, k0_pay8]
  rw [pay6_at]

/-- The pre-activation's gradient of the point's rows, as its body computes it. -/
abbrev dpre (c : Dev nD) (t : Fin cfg0.N) : FVec Ideal S512x2048 .f32 :=
  k0_pay1 (F := Ideal)
    (k0_pay8 (View.ld (Val := Elt Ideal) (e' := .bf16) (iblk m c 3 t) (Rect.unit ![0, 1024] ![512, 1024] inb_S512x2048_S512x1024_0_1024)))
    (k0_pay11 (iblk m c 0 t) (iblk m c 4 t)
      (View.ld (Val := Elt Ideal) (e' := .bf16) (iblk m c 3 t) (Rect.unit ![0, 0] ![512, 1024] inb_S512x2048_S512x1024_0_0)) (iblk m c 1 t))
    (k0_pay12 (iblk m c 0 t) (iblk m c 4 t)
      (View.ld (Val := Elt Ideal) (e' := .bf16) (iblk m c 3 t) (Rect.unit ![0, 1024] ![512, 1024] inb_S512x2048_S512x1024_0_1024)) (iblk m c 2 t))
    (k0_pay13 (F := Ideal))

/-- Each point writes its rows of the pre-activation's gradient. -/
theorem out_6 (c : Dev nD) (t : Fin cfg0.N) (y : S512x2048.Idx) :
    (outsAt0 m c t.val t.isLt).1 y = dpre m c t y := by
  by_cases h : t.val % 16 = 0
  · rw [outsAt0_A m c t h]
    frame_out
    pointwise [k0_pay3]
    rfl
  · rw [outsAt0_B m c t h]
    frame_out
    pointwise [k0_pay3]
    rfl

/-- Each point writes its rows of the input's gradient: the pre-activation's gradient against the gates' weight. -/
theorem out_7 (c : Dev nD) (t : Fin cfg0.N) (y : S512x1024.Idx) :
    (outsAt0 m c t.val t.isLt).2.1 y
      = (∑ f : Fin 2048, (dpre m c t (ix2 (y 0) f) : EReal) * (iblk m c 5 t : FVec Ideal S2048x1024 .bf16) (ix2 f (y 1)) : EReal) := by
  by_cases h : t.val % 16 = 0
  · rw [outsAt0_A m c t h]
    frame_out
    pointwise [k0_pay4, k0_pay3]
    rfl
  · rw [outsAt0_B m c t h]
    frame_out
    pointwise [k0_pay4, k0_pay3]
    rfl

/-- The merge's input gradient at a cell, over a block of rows of the incoming gradient and the merge's weight. -/
abbrev dmk (v0 : FVec Ideal S512x1024 .f32) (v4 : FVec Ideal S1024x1024 .bf16) (a : Fin 512) (b : Fin 1024) : EReal :=
  ∑ r : Fin 1024, (v0 (ix2 a r) : EReal) * v4 (ix2 b r)

/-- Each point writes its rows of the first branch's gradient. -/
theorem out_8 (c : Dev nD) (t : Fin cfg0.N) (y : S512x1024.Idx) (k : Fin 2048) (hk : (k : ℕ) = y 1) :
    (outsAt0 m c t.val t.isLt).2.2.1 y
      = (dmk (iblk m c 0 t) (iblk m c 4 t) (y 0) (y 1) * (iblk m c 3 t : FVec Ideal S512x2048 .bf16) (ix2 (y 0) k) : EReal) := by
  by_cases h : t.val % 16 = 0
  · rw [outsAt0_A m c t h]
    frame_out
    pointwise [k0_pay9, k0_pay7]
    rw [pay6_at]
    refine congrArg (fun z : EReal => _ * z) ?_
    blk_ext
  · rw [outsAt0_B m c t h]
    frame_out
    pointwise [k0_pay9, k0_pay7]
    rw [pay6_at]
    refine congrArg (fun z : EReal => _ * z) ?_
    blk_ext

/-- Each point writes its rows of the second branch's gradient. -/
theorem out_9 (c : Dev nD) (t : Fin cfg0.N) (y : S512x1024.Idx) (k : Fin 2048) (hk : (k : ℕ) = 1024 + y 1) :
    (outsAt0 m c t.val t.isLt).2.2.2.1 y
      = (dmk (iblk m c 0 t) (iblk m c 4 t) (y 0) (y 1) * (iblk m c 3 t : FVec Ideal S512x2048 .bf16) (ix2 (y 0) k) : EReal) := by
  by_cases h : t.val % 16 = 0
  · rw [outsAt0_A m c t h]
    frame_out
    pointwise [k0_pay10, k0_pay8]
    rw [pay6_at]
    refine congrArg (fun z : EReal => _ * z) ?_
    blk_ext
  · rw [outsAt0_B m c t h]
    frame_out
    pointwise [k0_pay10, k0_pay8]
    rw [pay6_at]
    refine congrArg (fun z : EReal => _ * z) ?_
    blk_ext

/-- The first point leaves its column sums in the bias's gradient. -/
theorem out_10_first (c : Dev nD) (t : Fin cfg0.N) (h : t.val % 16 = 0) (y : S1x2048.Idx) :
    (outsAt0 m c t.val t.isLt).2.2.2.2 y = (∑ x : Fin 512, (dpre m c t (ix2 x (y 1)) : EReal) : EReal) := by
  rw [outsAt0_A m c t h]
  frame_out
  pointwise [k0_pay2, k0_pay5]
  rfl

/-- Each later point adds its column sums to the bias's gradient. -/
theorem out_10_next (c : Dev nD) (t : Fin cfg0.N) (h : ¬ t.val % 16 = 0) (y : S1x2048.Idx) :
    (outsAt0 m c t.val t.isLt).2.2.2.2 y
      = ((outsAt0 m c (t.val - 1) (Nat.lt_of_le_of_lt (Nat.sub_le _ _) t.isLt)).2.2.2.2 y
          + ∑ x : Fin 512, (dpre m c t (ix2 x (y 1)) : EReal) : EReal) := by
  rw [outsAt0_B m c t h]
  frame_out
  pointwise [k0_pay2]
  rfl

/-- A gate's derivative at its value. -/
abbrev gz (g : EReal) : EReal := g * (1 - g)

/-- The left half of the pre-activation's gradient, from the point's blocks. -/
theorem dpre_left (v0 : FVec Ideal S512x1024 .f32) (v1 v2 : FVec Ideal S512x1024 .bf16) (v3 : FVec Ideal S512x2048 .bf16)
    (v4 : FVec Ideal S1024x1024 .bf16) (y : S512x2048.Idx) (k : Fin 1024) (hk : (y 1 : ℕ) = k) :
    k0_pay1 (F := Ideal)
      (k0_pay8 (View.ld (Val := Elt Ideal) (e' := .bf16) v3 (Rect.unit ![0, 1024] ![512, 1024] inb_S512x2048_S512x1024_0_1024)))
      (k0_pay11 v0 v4 (View.ld (Val := Elt Ideal) (e' := .bf16) v3 (Rect.unit ![0, 0] ![512, 1024] inb_S512x2048_S512x1024_0_0)) v1)
      (k0_pay12 v0 v4 (View.ld (Val := Elt Ideal) (e' := .bf16) v3 (Rect.unit ![0, 1024] ![512, 1024] inb_S512x2048_S512x1024_0_1024)) v2)
      (k0_pay13 (F := Ideal)) y
      = (dmk v0 v4 (y 0) k * v1 (ix2 (y 0) k) * gz (v3 y) : EReal) := by
  have hlt : (y 1 : ℕ) < 1024 := hk ▸ k.isLt
  pointwise [k0_pay1]
  rw [dif_pos hlt, pay11_at]
  have e1 : (⟨(y 1).val, hlt⟩ : Fin 1024) = k := Fin.ext hk
  have e3 : (View.ld (Val := Elt Ideal) (e' := .bf16) v3 (Rect.unit ![0, 0] ![512, 1024] inb_S512x2048_S512x1024_0_0) (ix2 (y 0) k) : EReal)
      = v3 y := by
    pointwise
    blk_ext
  rw [e1, e3]
  exact mul_assoc _ _ _

/-- The right half of the pre-activation's gradient, from the point's blocks. -/
theorem dpre_right (v0 : FVec Ideal S512x1024 .f32) (v1 v2 : FVec Ideal S512x1024 .bf16) (v3 : FVec Ideal S512x2048 .bf16)
    (v4 : FVec Ideal S1024x1024 .bf16) (y : S512x2048.Idx) (k : Fin 1024) (hk : (y 1 : ℕ) = 1024 + k) :
    k0_pay1 (F := Ideal)
      (k0_pay8 (View.ld (Val := Elt Ideal) (e' := .bf16) v3 (Rect.unit ![0, 1024] ![512, 1024] inb_S512x2048_S512x1024_0_1024)))
      (k0_pay11 v0 v4 (View.ld (Val := Elt Ideal) (e' := .bf16) v3 (Rect.unit ![0, 0] ![512, 1024] inb_S512x2048_S512x1024_0_0)) v1)
      (k0_pay12 v0 v4 (View.ld (Val := Elt Ideal) (e' := .bf16) v3 (Rect.unit ![0, 1024] ![512, 1024] inb_S512x2048_S512x1024_0_1024)) v2)
      (k0_pay13 (F := Ideal)) y
      = (dmk v0 v4 (y 0) k * v2 (ix2 (y 0) k) * gz (v3 y) : EReal) := by
  have hge : ¬ (y 1 : ℕ) < 1024 := by omega
  pointwise [k0_pay1, k0_pay13]
  rw [dif_neg hge, pay12_at, pay8_at]
  have e1 : (⟨(y 1).val - 1024, by have := k.isLt; omega⟩ : Fin 1024) = k := Fin.ext (by show (y 1).val - 1024 = k.val; omega)
  have e3 : (View.ld (Val := Elt Ideal) (e' := .bf16) v3 (Rect.unit ![0, 1024] ![512, 1024] inb_S512x2048_S512x1024_0_1024) (ix2 (y 0) k) : EReal)
      = v3 y := by
    pointwise
    blk_ext
  rw [e1, e3]
  exact mul_assoc _ _ _

/-- The type of the layer's input, of the branches and of the incoming gradient. -/
abbrev TX : Type := FVec Ideal Cert.Reference14Ideal.S1x8192x1024 .f32
/-- The type of the gates' weight. -/
abbrev TW : Type := FVec Ideal Cert.Reference14Ideal.S1024x2048 .f32
/-- The type of the bias. -/
abbrev TB : Type := FVec Ideal Cert.Reference14Ideal.S2x1024 .f32
/-- The type of the merge's weight. -/
abbrev TO : Type := FVec Ideal Cert.Reference14Ideal.S1024x1024 .f32
/-- The type of the gates. -/
abbrev TGa : Type := FVec Ideal Cert.Reference14Ideal.S1x8192x2048 .f32

/-- The kernel's first argument, the gates' input. -/
abbrev a0 (c : Dev nD) : TX := m ((c : Thread nD τ).loc main_arg0)
/-- The kernel's second argument, the gates' weight. -/
abbrev a1 (c : Dev nD) : TW := m ((c : Thread nD τ).loc main_arg1)
/-- The kernel's third argument, the bias. -/
abbrev a2 (c : Dev nD) : TB := m ((c : Thread nD τ).loc main_arg2)
/-- The kernel's fourth argument, the first branch. -/
abbrev a3 (c : Dev nD) : TX := m ((c : Thread nD τ).loc main_arg3)
/-- The kernel's fifth argument, the second branch. -/
abbrev a4 (c : Dev nD) : TX := m ((c : Thread nD τ).loc main_arg4)
/-- The kernel's sixth argument, the merge's weight. -/
abbrev a5 (c : Dev nD) : TO := m ((c : Thread nD τ).loc main_arg5)
/-- The kernel's seventh argument, the incoming gradient. -/
abbrev a6 (c : Dev nD) : TX := m ((c : Thread nD τ).loc main_arg6)
/-- The gates over the kernel's arguments. -/
abbrev gates (c : Dev nD) : TGa := val_main_v10 (F := Ideal) (a0 m c) (a1 m c) (a2 m c)

/-- The incoming gradient's block of a point, at its place. -/
theorem blk0 (c : Dev nD) (t : Fin cfg0.N) (x : S512x1024.Idx) (i : Cert.Reference14Ideal.S1x8192x1024.Idx)
    (h1 : (i 1 : ℕ) = t.val * 512 + x 0) (h2 : (i 2 : ℕ) = x 1) :
    (iblk m c 0 t x : EReal) = a6 m c i := by
  have e : V m c main_v13 = shapeCast S8192x1024 (a6 m c) shapeCasts_S1x8192x1024_S8192x1024 := by rfl
  have d : ∀ (X : TX) (y : S8192x1024.Idx), (i 1 : ℕ) = y 0 → (i 2 : ℕ) = y 1 →
      (shapeCast S8192x1024 X shapeCasts_S1x8192x1024_S8192x1024 y : EReal) = X i := by
    intro X y g1 g2
    pointwise
    blk_ext
  blk_simp [iblk]
  rw [e]
  exact d _ _ (by blk_simp [idx t]; omega) (by blk_simp [idx t]; omega)

/-- A branch's array read at a row and a column, after its cast. -/
theorem drop (X : TX) (y : S8192x1024.Idx) (i : Cert.Reference14Ideal.S1x8192x1024.Idx) (h1 : (i 1 : ℕ) = y 0) (h2 : (i 2 : ℕ) = y 1) :
    (truncf (F := Ideal) .bf16 (shapeCast S8192x1024 X shapeCasts_S1x8192x1024_S8192x1024) bitsLt_bf16_f32 y : EReal) = X i := by
  pointwise
  blk_ext

/-- The first branch's block of a point, at its place. -/
theorem blk1 (c : Dev nD) (t : Fin cfg0.N) (x : S512x1024.Idx) (i : Cert.Reference14Ideal.S1x8192x1024.Idx)
    (h1 : (i 1 : ℕ) = t.val * 512 + x 0) (h2 : (i 2 : ℕ) = x 1) :
    (iblk m c 1 t x : EReal) = a3 m c i := by
  have e : V m c main_v15 = truncf (F := Ideal) .bf16 (shapeCast S8192x1024 (a3 m c) shapeCasts_S1x8192x1024_S8192x1024) bitsLt_bf16_f32 := by rfl
  blk_simp [iblk]
  rw [e]
  exact drop _ _ _ (by blk_simp [idx t]; omega) (by blk_simp [idx t]; omega)

/-- The second branch's block of a point, at its place. -/
theorem blk2 (c : Dev nD) (t : Fin cfg0.N) (x : S512x1024.Idx) (i : Cert.Reference14Ideal.S1x8192x1024.Idx)
    (h1 : (i 1 : ℕ) = t.val * 512 + x 0) (h2 : (i 2 : ℕ) = x 1) :
    (iblk m c 2 t x : EReal) = a4 m c i := by
  have e : V m c main_v17 = truncf (F := Ideal) .bf16 (shapeCast S8192x1024 (a4 m c) shapeCasts_S1x8192x1024_S8192x1024) bitsLt_bf16_f32 := by rfl
  blk_simp [iblk]
  rw [e]
  exact drop _ _ _ (by blk_simp [idx t]; omega) (by blk_simp [idx t]; omega)

/-- The gates' block of a point, at its place. -/
theorem blk3 (c : Dev nD) (t : Fin cfg0.N) (x : S512x2048.Idx) (i : Cert.Reference14Ideal.S1x8192x2048.Idx)
    (h1 : (i 1 : ℕ) = t.val * 512 + x 0) (h2 : (i 2 : ℕ) = x 1) :
    (iblk m c 3 t x : EReal) = gates m c i := by
  have e : V m c main_v12 = truncf (F := Ideal) .bf16 (shapeCast S8192x2048 (gates m c) shapeCasts_S1x8192x2048_S8192x2048) bitsLt_bf16_f32 := by rfl
  have d : ∀ (X : TGa) (y : S8192x2048.Idx), (i 1 : ℕ) = y 0 → (i 2 : ℕ) = y 1 →
      (truncf (F := Ideal) .bf16 (shapeCast S8192x2048 X shapeCasts_S1x8192x2048_S8192x2048) bitsLt_bf16_f32 y : EReal) = X i := by
    intro X y g1 g2
    pointwise
    blk_ext
  blk_simp [iblk]
  rw [e]
  exact d _ _ (by blk_simp [idx t]; omega) (by blk_simp [idx t]; omega)

/-- The merge's weight, at its place. -/
theorem blk4 (c : Dev nD) (t : Fin cfg0.N) (x : S1024x1024.Idx) (i : Cert.Reference14Ideal.S1024x1024.Idx)
    (h0 : (i 0 : ℕ) = x 0) (h1 : (i 1 : ℕ) = x 1) :
    (iblk m c 4 t x : EReal) = a5 m c i := by
  have e : V m c main_v18 = truncf (F := Ideal) .bf16 (a5 m c) bitsLt_bf16_f32 := by rfl
  have d : ∀ (X : TO) (y : S1024x1024.Idx), (i 0 : ℕ) = y 0 → (i 1 : ℕ) = y 1 →
      (truncf (F := Ideal) .bf16 X bitsLt_bf16_f32 y : EReal) = X i := by
    intro X y g1 g2
    pointwise
    blk_ext
  blk_simp [iblk]
  rw [e]
  exact d _ _ (by blk_simp [idx t]; omega) (by blk_simp [idx t]; omega)

/-- The gates' weight, at its place: the block holds it transposed. -/
theorem blk5 (c : Dev nD) (t : Fin cfg0.N) (x : S2048x1024.Idx) (i : Cert.Reference14Ideal.S1024x2048.Idx)
    (h0 : (i 0 : ℕ) = x 1) (h1 : (i 1 : ℕ) = x 0) :
    (iblk m c 5 t x : EReal) = a1 m c i := by
  have e : V m c main_v20 = truncf (F := Ideal) .bf16 (transpose S2048x1024 [1, 0] (a1 m c) transposes_S1024x2048_S2048x1024_1_0) bitsLt_bf16_f32 := by rfl
  have d : ∀ (X : TW) (y : S2048x1024.Idx), (i 0 : ℕ) = y 1 → (i 1 : ℕ) = y 0 →
      (truncf (F := Ideal) .bf16 (transpose S2048x1024 [1, 0] X transposes_S1024x2048_S2048x1024_1_0) bitsLt_bf16_f32 y : EReal) = X i := by
    intro X y g1 g2
    pointwise
    blk_ext
  blk_simp [iblk]
  rw [e]
  exact d _ _ (by blk_simp [idx t]; omega) (by blk_simp [idx t]; omega)

/-- The merge's input gradient at a row and a column. -/
abbrev dm (x5 : TO) (x6 : TX) (n : Fin 8192) (k : Fin 1024) : EReal := ∑ r : Fin 1024, (x6 (ix3 0 n r) : EReal) * x5 (ix2 k r)

/-- The pre-activation's gradient at a row and a column, from the gates, the branches, the weight and the incoming
    gradient: the first branch to the left, the second to the right. -/
abbrev dp (G : TGa) (x3 x4 : TX) (x5 : TO) (x6 : TX) (n : Fin 8192) (f : Fin 2048) : EReal :=
  if h : f.val < 1024 then dm x5 x6 n ⟨f.val, h⟩ * x3 (ix3 0 n ⟨f.val, h⟩) * gz (G (ix3 0 n f))
  else dm x5 x6 n ⟨f.val - 1024, by omega⟩ * x4 (ix3 0 n ⟨f.val - 1024, by omega⟩) * gz (G (ix3 0 n f))

/-- The row of a point's block among all rows. -/
theorem row_lt (t : Fin cfg0.N) (x : Fin 512) : t.val * 512 + x.val < 8192 := by
  have hN : t.val < 16 := lt_of_lt_of_eq t.isLt N_0
  omega

/-- The reference's merge gradient at a cell. -/
theorem ref_dm (x5 : TO) (x6 : TX) (i : Cert.Reference14Ideal.S1x8192x1024.Idx) (n : Fin 8192) (k : Fin 1024)
    (hn : (i 1 : ℕ) = n) (hk : (i 2 : ℕ) = k) :
    (val_main_v23 (F := Ideal) x5 x6 i : EReal) = dm x5 x6 n k := by
  rw [val_main_v23_apply]
  refine Finset.sum_congr rfl fun r _ => congrArg₂ (fun a b : EReal => a * b) ?_ ?_
  · blk_ext
  · blk_ext

/-- The reference's gradient of the gates' pre-activation, in the first gate's columns. -/
theorem ref_left (x3 x4 : TX) (x5 : TO) (x6 : TX) (i : Cert.Reference14Ideal.S1x8192x2048.Idx)
    (n : Fin 8192) (hn : (i 1 : ℕ) = n) (k : Fin 1024) (hk : (i 2 : ℕ) = k) :
    (val_main_v33 (F := Ideal) x3 x4 x5 x6 i : EReal) = dm x5 x6 n k * x3 (ix3 0 n k) := by
  have h0 : (FloatOps.ofBits (F := Ideal) .f32 0x00000000#32 : EReal) = 0 := by
    show Ideal.ofBits .f32 0x00000000#32 = 0
    simp [Ideal.ofBits, Ideal.ieee]
  have hl0 : (i 0 : ℕ) < 1 := (i 0).isLt
  have hl1 := n.isLt
  have hl2 := k.isLt
  have ei : idx_main_v33 i = ix4 0 n 0 k := by
    funext a
    match a with
    | ⟨0, _⟩ => rfl
    | ⟨1, _⟩ => exact Fin.ext (by show (((i 0).val * 8192 + (i 1).val) * 2048 + (i 2).val) / 2048 % 8192 = n.val; omega)
    | ⟨2, _⟩ => exact Fin.ext (by show (((i 0).val * 8192 + (i 1).val) * 2048 + (i 2).val) / 1024 % 2 = 0; omega)
    | ⟨3, _⟩ => exact Fin.ext (by show (((i 0).val * 8192 + (i 1).val) * 2048 + (i 2).val) % 1024 = k.val; omega)
  have e27 : (val_main_v27 (F := Ideal) x4 x5 x6 (ix4 0 n 0 k) : EReal) = 0 := by
    unfold val_main_v27
    refine (pad_apply_of_not_inside _ _ _ _ _ _ _ _ 2 ?_).trans h0
    rintro ⟨h, -⟩
    exact absurd (show 1 ≤ 0 from h) (by decide)
  have e31 : (val_main_v31 (F := Ideal) x3 x5 x6 (ix4 0 n 0 k) : EReal) = dm x5 x6 n k * x3 (ix3 0 n k) := by
    unfold val_main_v31
    refine (pad_apply_of_inside _ _ _ _ _ _ _ _ (ix4 0 n 0 k) ?_).trans ?_
    · intro a
      match a with
      | ⟨0, _⟩ => rfl
      | ⟨1, _⟩ => show (n : ℕ) = 0 + (n : ℕ) * (0 + 1); omega
      | ⟨2, _⟩ => rfl
      | ⟨3, _⟩ => show (k : ℕ) = 0 + (k : ℕ) * (0 + 1); omega
    · rw [val_main_v30_apply, val_main_v29_apply, ref_dm x5 x6 _ n k rfl rfl]
      refine congrArg (fun z : EReal => _ * z) ?_
      blk_ext
  rw [val_main_v33_apply, ei, val_main_v32_apply, e27, e31]
  exact zero_add _

/-- The reference's gradient of the gates' pre-activation, in the second gate's columns. -/
theorem ref_right (x3 x4 : TX) (x5 : TO) (x6 : TX) (i : Cert.Reference14Ideal.S1x8192x2048.Idx)
    (n : Fin 8192) (hn : (i 1 : ℕ) = n) (k : Fin 1024) (hk : (i 2 : ℕ) = 1024 + k) :
    (val_main_v33 (F := Ideal) x3 x4 x5 x6 i : EReal) = dm x5 x6 n k * x4 (ix3 0 n k) := by
  have h0 : (FloatOps.ofBits (F := Ideal) .f32 0x00000000#32 : EReal) = 0 := by
    show Ideal.ofBits .f32 0x00000000#32 = 0
    simp [Ideal.ofBits, Ideal.ieee]
  have hl0 : (i 0 : ℕ) < 1 := (i 0).isLt
  have hl1 := n.isLt
  have hl2 := k.isLt
  have ei : idx_main_v33 i = ix4 0 n 1 k := by
    funext a
    match a with
    | ⟨0, _⟩ => rfl
    | ⟨1, _⟩ => exact Fin.ext (by show (((i 0).val * 8192 + (i 1).val) * 2048 + (i 2).val) / 2048 % 8192 = n.val; omega)
    | ⟨2, _⟩ => exact Fin.ext (by show (((i 0).val * 8192 + (i 1).val) * 2048 + (i 2).val) / 1024 % 2 = 1; omega)
    | ⟨3, _⟩ => exact Fin.ext (by show (((i 0).val * 8192 + (i 1).val) * 2048 + (i 2).val) % 1024 = k.val; omega)
  have e31 : (val_main_v31 (F := Ideal) x3 x5 x6 (ix4 0 n 1 k) : EReal) = 0 := by
    unfold val_main_v31
    refine (pad_apply_of_not_inside _ _ _ _ _ _ _ _ 2 ?_).trans h0
    rintro ⟨-, -, h⟩
    exact absurd (show (1 - 0) / (0 + 1) < 1 from h) (by decide)
  have e27 : (val_main_v27 (F := Ideal) x4 x5 x6 (ix4 0 n 1 k) : EReal) = dm x5 x6 n k * x4 (ix3 0 n k) := by
    unfold val_main_v27
    refine (pad_apply_of_inside _ _ _ _ _ _ _ _ (ix4 0 n 0 k) ?_).trans ?_
    · intro a
      match a with
      | ⟨0, _⟩ => rfl
      | ⟨1, _⟩ => show (n : ℕ) = 0 + (n : ℕ) * (0 + 1); omega
      | ⟨2, _⟩ => rfl
      | ⟨3, _⟩ => show (k : ℕ) = 0 + (k : ℕ) * (0 + 1); omega
    · rw [val_main_v26_apply, val_main_v25_apply, ref_dm x5 x6 _ n k rfl rfl]
      refine congrArg (fun z : EReal => _ * z) ?_
      blk_ext
  rw [val_main_v33_apply, ei, val_main_v32_apply, e27, e31]
  exact add_zero _

/-- A gate's derivative in the reference, at a cell. -/
theorem ref_gz (x0 : TX) (x1 : TW) (x2 : TB) (i : Cert.Reference14Ideal.S1x8192x2048.Idx) :
    (val_main_v13 (F := Ideal) x0 x1 x2 i : EReal) = gz (val_main_v10 (F := Ideal) x0 x1 x2 i) := by
  have h1 : (FloatOps.ofBits (F := Ideal) .f32 0x3F800000#32 : EReal) = 1 := by
    show Ideal.ofBits .f32 0x3F800000#32 = 1
    have e : Ideal.ofBits .f32 0x3F800000#32 = ((8388608 * (2 ^ 23)⁻¹ : ℝ) : EReal) := by
      simp [Ideal.ofBits, Ideal.ieee, -EReal.coe_mul]
    rw [e, ← EReal.coe_one]
    norm_num
  rw [val_main_v13_apply, val_main_v12_apply, val_main_v11_apply]
  show _ * ((FloatOps.ofBits (F := Ideal) .f32 0x3F800000#32 : EReal) - _) = _
  rw [h1]

/-- The reference's gradient of the gates' pre-activation at a cell. -/
theorem ref_dp (x0 : TX) (x1 : TW) (x2 : TB) (x3 x4 : TX) (x5 : TO) (x6 : TX) (i : Cert.Reference14Ideal.S1x8192x2048.Idx)
    (n : Fin 8192) (hn : (i 1 : ℕ) = n) (f : Fin 2048) (hf : (i 2 : ℕ) = f) :
    (val_main_v34 (F := Ideal) x0 x1 x2 x3 x4 x5 x6 i : EReal) = dp (val_main_v10 (F := Ideal) x0 x1 x2) x3 x4 x5 x6 n f := by
  have hi : i = ix3 0 n f := by
    funext a
    match a with
    | ⟨0, _⟩ => exact Subsingleton.elim (α := Fin 1) _ _
    | ⟨1, _⟩ => exact Fin.ext hn
    | ⟨2, _⟩ => exact Fin.ext hf
  rw [val_main_v34_apply, ref_gz]
  unfold dp
  by_cases h : f.val < 1024
  · rw [dif_pos h, ref_left x3 x4 x5 x6 i n hn ⟨f.val, h⟩ hf]
    exact congrArg (fun z => _ * gz (val_main_v10 (F := Ideal) x0 x1 x2 z)) hi
  · rw [dif_neg h, ref_right x3 x4 x5 x6 i n hn ⟨f.val - 1024, by omega⟩ (by show (i 2 : ℕ) = 1024 + (f.val - 1024); omega)]
    exact congrArg (fun z => _ * gz (val_main_v10 (F := Ideal) x0 x1 x2 z)) hi

/-- The kernel's gradient of the gates' pre-activation at a cell of a point's rows. -/
theorem dpre_ref (c : Dev nD) (t : Fin cfg0.N) (y : S512x2048.Idx) (n : Fin 8192) (hn : (n : ℕ) = t.val * 512 + y 0)
    (f : Fin 2048) (hf : (f : ℕ) = y 1) :
    (dpre m c t y : EReal) = dp (gates m c) (a3 m c) (a4 m c) (a5 m c) (a6 m c) n f := by
  have hm : ∀ k : Fin 1024, dmk (iblk m c 0 t) (iblk m c 4 t) (y 0) k = dm (a5 m c) (a6 m c) n k := fun k =>
    Finset.sum_congr rfl fun r _ => congrArg₂ (fun a b : EReal => a * b) (blk0 m c t _ (ix3 0 n r) hn rfl) (blk4 m c t _ (ix2 k r) rfl rfl)
  have hg : ((iblk m c 3 t : FVec Ideal S512x2048 .bf16) y : EReal) = gates m c (ix3 0 n f) := blk3 m c t y (ix3 0 n f) hn hf
  unfold dp
  by_cases h : f.val < 1024
  · rw [dif_pos h]
    refine (dpre_left _ _ _ _ _ y ⟨f.val, h⟩ hf.symm).trans ?_
    rw [hm, hg]
    exact congrArg (fun z : EReal => _ * z * _) (blk1 m c t _ (ix3 0 n ⟨f.val, h⟩) hn rfl)
  · rw [dif_neg h]
    refine (dpre_right _ _ _ _ _ y ⟨f.val - 1024, by omega⟩ (by show (y 1 : ℕ) = 1024 + (f.val - 1024); omega)).trans ?_
    rw [hm, hg]
    exact congrArg (fun z : EReal => _ * z * _) (blk2 m c t _ (ix3 0 n ⟨f.val - 1024, by omega⟩) hn rfl)

/-- The pre-activation's gradient after the run is the reference's. -/
theorem final_6 (c : Dev nD) : (dats m 0 c).arrAt 6 (cfgs 0).N
    = val_main_v41 (F := Ideal) (a0 m c) (a1 m c) (a2 m c) (a3 m c) (a4 m c) (a5 m c) (a6 m c) := by
  refine (dats m 0 c).arrAt_eq_of_covers 6 _ (by decide +kernel) fun t hf y => ?_
  blk_simp
  rw [after0_6, out_6]
  have hr : ∀ (i : Cert.Reference14Ideal.S8192x2048.Idx) (n : Fin 8192) (f : Fin 2048), (i 0 : ℕ) = n → (i 1 : ℕ) = f →
      (val_main_v41 (F := Ideal) (a0 m c) (a1 m c) (a2 m c) (a3 m c) (a4 m c) (a5 m c) (a6 m c) i : EReal)
        = dp (gates m c) (a3 m c) (a4 m c) (a5 m c) (a6 m c) n f := by
    intro i n f e0 e1
    have hn := n.isLt
    have hf := f.isLt
    rw [val_main_v41_apply, val_main_v40_apply]
    exact ref_dp _ _ _ _ _ _ _ _ n (by show ((i 0).val * 2048 + (i 1).val) / 2048 % 8192 = n.val; omega)
      f (by show ((i 0).val * 2048 + (i 1).val) % 2048 = f.val; omega)
  refine Eq.trans ?_ (hr _ ⟨t.val * 512 + y 0, row_lt t (y 0)⟩ (y 1) (by blk_simp [idx t]) (by blk_simp [idx t])).symm
  exact dpre_ref m c t y _ rfl _ rfl

/-- The kernel's gradient of the gates' input at a cell of a point's rows. -/
theorem dhp_cell (c : Dev nD) (t : Fin cfg0.N) (y : S512x1024.Idx) (n : Fin 8192) (hn : (n : ℕ) = t.val * 512 + y 0) :
    (∑ f : Fin 2048, (dpre m c t (ix2 (y 0) f) : EReal) * (iblk m c 5 t : FVec Ideal S2048x1024 .bf16) (ix2 f (y 1)) : EReal)
      = ∑ f : Fin 2048, dp (gates m c) (a3 m c) (a4 m c) (a5 m c) (a6 m c) n f * (a1 m c (ix2 (y 1) f) : EReal) :=
  Finset.sum_congr rfl fun f _ => congrArg₂ (fun a b : EReal => a * b) (dpre_ref m c t (ix2 (y 0) f) n hn f rfl)
    (blk5 m c t _ (ix2 (y 1) f) rfl rfl)

/-- The input's gradient through the gates after the run is the reference's. -/
theorem final_7 (c : Dev nD) : (dats m 0 c).arrAt 7 (cfgs 0).N
    = val_main_v42 (F := Ideal) (a0 m c) (a1 m c) (a2 m c) (a3 m c) (a4 m c) (a5 m c) (a6 m c) := by
  refine (dats m 0 c).arrAt_eq_of_covers 7 _ (by decide +kernel) fun t hf y => ?_
  blk_simp
  rw [after0_7, out_7]
  have hr : ∀ (i : Cert.Reference14Ideal.S8192x1024.Idx) (n : Fin 8192) (q : Fin 1024), (i 0 : ℕ) = n → (i 1 : ℕ) = q →
      (val_main_v42 (F := Ideal) (a0 m c) (a1 m c) (a2 m c) (a3 m c) (a4 m c) (a5 m c) (a6 m c) i : EReal)
        = ∑ f : Fin 2048, dp (gates m c) (a3 m c) (a4 m c) (a5 m c) (a6 m c) n f * (a1 m c (ix2 q f) : EReal) := by
    intro i n q e0 e1
    have hn := n.isLt
    have hq := q.isLt
    rw [val_main_v42_apply, val_main_v39_apply]
    refine Finset.sum_congr rfl fun f _ => congrArg₂ (fun a b : EReal => a * b) ?_ (congrArg (a1 m c) ?_)
    · exact ref_dp _ _ _ _ _ _ _ _ n (by show ((i 0).val * 1024 + (i 1).val) / 1024 % 8192 = n.val; omega) f rfl
    · funext a
      match a with
      | ⟨0, _⟩ => exact Fin.ext (by show ((i 0).val * 1024 + (i 1).val) % 1024 = q.val; omega)
      | ⟨1, _⟩ => rfl
  refine Eq.trans ?_ (hr _ ⟨t.val * 512 + y 0, row_lt t (y 0)⟩ (y 1) (by blk_simp [idx t]) (by blk_simp [idx t])).symm
  exact dhp_cell m c t y _ rfl

/-- A branch's gradient at a cell of a point's rows. -/
theorem branch_cell (c : Dev nD) (t : Fin cfg0.N) (y : S512x1024.Idx) (n : Fin 8192) (hn : (n : ℕ) = t.val * 512 + y 0) (f : Fin 2048) :
    (dmk (iblk m c 0 t) (iblk m c 4 t) (y 0) (y 1) * (iblk m c 3 t : FVec Ideal S512x2048 .bf16) (ix2 (y 0) f) : EReal)
      = gates m c (ix3 0 n f) * dm (a5 m c) (a6 m c) n (y 1) := by
  have hm : dmk (iblk m c 0 t) (iblk m c 4 t) (y 0) (y 1) = dm (a5 m c) (a6 m c) n (y 1) :=
    Finset.sum_congr rfl fun r _ => congrArg₂ (fun a b : EReal => a * b) (blk0 m c t _ (ix3 0 n r) hn rfl) (blk4 m c t _ (ix2 (y 1) r) rfl rfl)
  have hg : ((iblk m c 3 t : FVec Ideal S512x2048 .bf16) (ix2 (y 0) f) : EReal) = gates m c (ix3 0 n f) :=
    blk3 m c t (ix2 (y 0) f) (ix3 0 n f) hn rfl
  rw [hm, hg]
  exact mul_comm _ _

/-- The first gate in the reference, at a row and a column. -/
theorem ref_gate_a (x0 : TX) (x1 : TW) (x2 : TB) (i : Cert.Reference14Ideal.S1x8192x1024.Idx) (n : Fin 8192) (k : Fin 1024)
    (hn : (i 1 : ℕ) = n) (hk : (i 2 : ℕ) = k) (f : Fin 2048) (hf : (f : ℕ) = k) :
    val_main_v16 (F := Ideal) x0 x1 x2 i = val_main_v10 (F := Ideal) x0 x1 x2 (ix3 0 n f) := by
  have hl0 : (i 0 : ℕ) < 1 := (i 0).isLt
  have hl1 := n.isLt
  have hl2 := k.isLt
  rw [val_main_v16_apply, val_main_v15_apply, val_main_v14_apply]
  refine congrArg (val_main_v10 (F := Ideal) x0 x1 x2) ?_
  blk_ext

/-- The second gate in the reference, at a row and a column. -/
theorem ref_gate_b (x0 : TX) (x1 : TW) (x2 : TB) (i : Cert.Reference14Ideal.S1x8192x1024.Idx) (n : Fin 8192) (k : Fin 1024)
    (hn : (i 1 : ℕ) = n) (hk : (i 2 : ℕ) = k) (f : Fin 2048) (hf : (f : ℕ) = 1024 + k) :
    val_main_v19 (F := Ideal) x0 x1 x2 i = val_main_v10 (F := Ideal) x0 x1 x2 (ix3 0 n f) := by
  have hl0 : (i 0 : ℕ) < 1 := (i 0).isLt
  have hl1 := n.isLt
  have hl2 := k.isLt
  rw [val_main_v19_apply, val_main_v18_apply, val_main_v14_apply]
  refine congrArg (val_main_v10 (F := Ideal) x0 x1 x2) ?_
  blk_ext

/-- The first branch's gradient after the run is the reference's. -/
theorem final_8 (c : Dev nD) : (dats m 0 c).arrAt 8 (cfgs 0).N
    = val_main_v44 (F := Ideal) (a0 m c) (a1 m c) (a2 m c) (a5 m c) (a6 m c) := by
  refine (dats m 0 c).arrAt_eq_of_covers 8 _ (by decide +kernel) fun t hf y => ?_
  blk_simp
  have hy1 : (y 1 : ℕ) < 1024 := (y 1).isLt
  rw [after0_8, out_8 m c t y ⟨y 1, by omega⟩ rfl]
  have hr : ∀ (i : Cert.Reference14Ideal.S8192x1024.Idx) (n : Fin 8192) (q : Fin 1024) (f : Fin 2048), (i 0 : ℕ) = n → (i 1 : ℕ) = q →
      (f : ℕ) = q → (val_main_v44 (F := Ideal) (a0 m c) (a1 m c) (a2 m c) (a5 m c) (a6 m c) i : EReal)
        = gates m c (ix3 0 n f) * dm (a5 m c) (a6 m c) n q := by
    intro i n q f e0 e1 e2
    have hn := n.isLt
    have hq := q.isLt
    have r1 : ((idx_main_v43 i) 1 : ℕ) = n := by show ((i 0).val * 1024 + (i 1).val) / 1024 % 8192 = n.val; omega
    have r2 : ((idx_main_v43 i) 2 : ℕ) = q := by show ((i 0).val * 1024 + (i 1).val) % 1024 = q.val; omega
    rw [val_main_v44_apply, val_main_v43_apply, val_main_v28_apply, ref_gate_a _ _ _ _ n q r1 r2 f e2, ref_dm _ _ _ n q r1 r2]
    rfl
  refine (branch_cell m c t y ⟨t.val * 512 + y 0, row_lt t (y 0)⟩ rfl _).trans
    (hr _ ⟨t.val * 512 + y 0, row_lt t (y 0)⟩ (y 1) ⟨y 1, by omega⟩ (by blk_simp [idx t]) (by blk_simp [idx t]) rfl).symm

/-- The second branch's gradient after the run is the reference's. -/
theorem final_9 (c : Dev nD) : (dats m 0 c).arrAt 9 (cfgs 0).N
    = val_main_v46 (F := Ideal) (a0 m c) (a1 m c) (a2 m c) (a5 m c) (a6 m c) := by
  refine (dats m 0 c).arrAt_eq_of_covers 9 _ (by decide +kernel) fun t hf y => ?_
  blk_simp
  have hy1 : (y 1 : ℕ) < 1024 := (y 1).isLt
  rw [after0_9, out_9 m c t y ⟨1024 + y 1, by omega⟩ rfl]
  have hr : ∀ (i : Cert.Reference14Ideal.S8192x1024.Idx) (n : Fin 8192) (q : Fin 1024) (f : Fin 2048), (i 0 : ℕ) = n → (i 1 : ℕ) = q →
      (f : ℕ) = 1024 + q → (val_main_v46 (F := Ideal) (a0 m c) (a1 m c) (a2 m c) (a5 m c) (a6 m c) i : EReal)
        = gates m c (ix3 0 n f) * dm (a5 m c) (a6 m c) n q := by
    intro i n q f e0 e1 e2
    have hn := n.isLt
    have hq := q.isLt
    have r1 : ((idx_main_v45 i) 1 : ℕ) = n := by show ((i 0).val * 1024 + (i 1).val) / 1024 % 8192 = n.val; omega
    have r2 : ((idx_main_v45 i) 2 : ℕ) = q := by show ((i 0).val * 1024 + (i 1).val) % 1024 = q.val; omega
    rw [val_main_v46_apply, val_main_v45_apply, val_main_v24_apply, ref_gate_b _ _ _ _ n q r1 r2 f e2, ref_dm _ _ _ n q r1 r2]
    rfl
  refine (branch_cell m c t y ⟨t.val * 512 + y 0, row_lt t (y 0)⟩ rfl _).trans
    (hr _ ⟨t.val * 512 + y 0, row_lt t (y 0)⟩ (y 1) ⟨1024 + y 1, by omega⟩ (by blk_simp [idx t]) (by blk_simp [idx t]) rfl).symm

/-- One row block's share of the bias's gradient at a column. -/
abbrev bshare (c : Dev nD) (b : ℕ) (hb : b < 16) (f : Fin 2048) : EReal :=
  ∑ x : Fin 512, dp (gates m c) (a3 m c) (a4 m c) (a5 m c) (a6 m c) ⟨b * 512 + x.val, by omega⟩ f

/-- The bias's gradient after a point is the sum of the row blocks' shares so far. -/
theorem db_sum (c : Dev nD) (y : S1x2048.Idx) : ∀ (b : ℕ) (hb : b < 16) (ht : b < cfg0.N),
    (outsAt0 m c b ht).2.2.2.2 y = ∑ s : Fin (b + 1), bshare m c s.val (by omega) (y 1)
  | 0, hb, ht => by
    refine (out_10_first m c ⟨0, ht⟩ rfl y).trans ?_
    refine Eq.trans ?_ (Fin.sum_univ_one (fun s : Fin 1 => bshare m c s.val (by omega) (y 1))).symm
    exact Finset.sum_congr rfl fun x _ => dpre_ref m c ⟨0, ht⟩ (ix2 x (y 1)) ⟨0 * 512 + x.val, by omega⟩ rfl (y 1) rfl
  | b + 1, hb, ht => by
    refine (out_10_next m c ⟨b + 1, ht⟩ (by show ¬ (b + 1) % 16 = 0; omega) y).trans ?_
    refine Eq.trans ?_ (Fin.sum_univ_castSucc (fun s : Fin (b + 1 + 1) => bshare m c s.val (by omega) (y 1))).symm
    exact congrArg₂ (fun p q : EReal => p + q) (db_sum c y b (by omega) (by omega))
      (Finset.sum_congr rfl fun x _ => dpre_ref m c ⟨b + 1, ht⟩ (ix2 x (y 1)) ⟨(b + 1) * 512 + x.val, by omega⟩ rfl (y 1) rfl)

/-- The reference's gradient of the bias at a column. -/
theorem ref_db (x0 : TX) (x1 : TW) (x2 : TB) (x3 x4 : TX) (x5 : TO) (x6 : TX) (i : Cert.Reference14Ideal.S1x2048.Idx)
    (f : Fin 2048) (hf : (i 1 : ℕ) = f) :
    (val_main_v47 (F := Ideal) x0 x1 x2 x3 x4 x5 x6 i : EReal)
      = ∑ n : Fin 8192, dp (val_main_v10 (F := Ideal) x0 x1 x2) x3 x4 x5 x6 n f := by
  have h0 : (FloatOps.ofBits (F := Ideal) .f32 0x00000000#32 : EReal) = 0 := by
    show Ideal.ofBits .f32 0x00000000#32 = 0
    simp [Ideal.ofBits, Ideal.ieee]
  have e37 : ∀ (j : Cert.Reference14Ideal.S2048.Idx), (val_main_v37 (F := Ideal) x0 x1 x2 x3 x4 x5 x6 j : EReal)
      = val_main_v36 (F := Ideal) x0 x1 x2 x3 x4 x5 x6 (ix3 0 0 (j 0)) := by
    intro j
    unfold val_main_v37 val_main_cst_5
    generalize val_main_v36 (F := Ideal) x0 x1 x2 x3 x4 x5 x6 = Y
    refine (reduce_one _ Y _ j (ix3 0 0 (j 0)) ?_ ?_).trans ((congrArg (fun z : EReal => z + _) h0).trans (zero_add _))
    · intro k hk
      have e2 : (k 2 : ℕ) = j 0 := congrArg (fun y : Cert.Reference14Ideal.S2048.Idx => (y 0 : ℕ)) hk
      funext a
      match a with
      | ⟨0, _⟩ => exact Subsingleton.elim (α := Fin 1) _ _
      | ⟨1, _⟩ => exact Subsingleton.elim (α := Fin 1) _ _
      | ⟨2, _⟩ => exact Fin.ext e2
    · funext b
      match b with
      | ⟨0, _⟩ => rfl
  rw [val_main_v47_apply, val_main_v38_apply, e37, val_main_v36_apply, val_main_v35_apply]
  refine (congrArg (fun z : EReal => z + _) h0).trans ((zero_add _).trans (Finset.sum_congr rfl fun n _ => ?_))
  refine ref_dp _ _ _ _ _ _ _ _ n rfl f ?_
  have hi0 : (i 0 : ℕ) < 1 := (i 0).isLt
  have hl := f.isLt
  show ((0 * 1 + 0) * 2048 + ((((i 0).val * 2048 + (i 1).val) / 1024) * 1024 + ((i 0).val * 2048 + (i 1).val) % 1024)) % 2048 = f.val
  omega

/-- The bias's gradient after the run is the reference's. -/
theorem final_10 (c : Dev nD) : (dats m 0 c).arrAt 10 (cfgs 0).N
    = val_main_v47 (F := Ideal) (a0 m c) (a1 m c) (a2 m c) (a3 m c) (a4 m c) (a5 m c) (a6 m c) := by
  refine (dats m 0 c).arrAt_eq_of_covers 10 _ (by decide +kernel) fun t hf y => ?_
  blk_simp
  rw [after0_10]
  refine Eq.trans ?_ (ref_db _ _ _ _ _ _ _ _ (y 1) (by blk_simp [idx t])).symm
  have ht : t.val % 16 = 15 := (flush0_10 t).mp hf
  have hN : t.val < 16 := lt_of_lt_of_eq t.isLt N_0
  have h15 : t = ⟨15, by rw [N_0]; decide⟩ := Fin.ext (by show t.val = 15; omega)
  subst h15
  refine (db_sum m c y 15 (by decide) _).trans ?_
  exact Fin.sum_mul_add_congr (S := 16) (n := 512) (L := 8192) fun s k hl => rfl

end Cert.Kernel14Ideal.Merge

end
-- ==== Proof.Dw15.lean ====
/- The value of the first branch's output weights' gradient `Cert.Kernel15Ideal` over the extended reals: its result array is the
   reference's contraction over all 8192 rows. -/
module

public import proofs.«01_k».proof.Proof.Gen.Kernel15Ideal.Value
public import proofs.«01_k».proof.Proof.Gen.Kernel15Ideal.Frame
public import proofs.«01_k».proof.Proof.Gen.Reference15Ideal.Run
public import proofs.«01_k».proof.Proof.Gen.Reference15Ideal.Read
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel15Ideal.Dw

open Cert.Kernel15Ideal Cert.Kernel15Ideal.Gen

variable (m : (ℓ : Loc nD τ sig) → Buf (Elt Ideal) ℓ)

/-- Each window's block index at each grid point. -/
theorem idx : ∀ t : Fin cfg0.N, win0_0.index t = ![t.val, 0]
    ∧ win0_1.index t = ![t.val, 0]
    ∧ win0_2.index t = ![0, 0] :=
  (by decide +kernel : ∀ t : Fin grid0.N, _)

/-- The product of one row block at a cell: a column of the first operand times a column of the second. -/
theorem pay1_at (v0 : FVec Ideal S2048x512 .bf16) (v2 : FVec Ideal S2048x1024 .bf16) (j : S512x1024.Idx) :
    k0_pay1 (F := Ideal) v0 v2 j = ∑ k : Fin 2048, (v0 (ix2 k (j 0)) : EReal) * v2 (ix2 k (j 1)) := by
  pointwise [k0_pay1]

/-- The first point's store is its product. -/
theorem pay2_at (v0 : FVec Ideal S2048x512 .bf16) (v2 : FVec Ideal S2048x1024 .bf16) (j : S512x1024.Idx) :
    k0_pay2 (F := Ideal) v0 v2 j = k0_pay1 (F := Ideal) v0 v2 j := by
  pointwise [k0_pay2, k0_pay1]

/-- A later point's store adds its product to what was there. -/
theorem pay3_at (v0 : FVec Ideal S2048x512 .bf16) (v2 : FVec Ideal S2048x1024 .bf16) (v14 : FVec Ideal S512x1024 .f32)
    (j : S512x1024.Idx) : k0_pay3 (F := Ideal) v0 v2 v14 j = (v14 j + k0_pay1 (F := Ideal) v0 v2 j : EReal) := by
  pointwise [k0_pay3, k0_pay1]

/-- The last point's store is the accumulator. -/
theorem pay4_at (v14 : FVec Ideal S512x1024 .f32) (j : S512x1024.Idx) : k0_pay4 (F := Ideal) v14 j = v14 j := by
  pointwise [k0_pay4]

/-- What the first point of a run leaves in the accumulator. -/
theorem acc_first (c : Dev nD) (t : Fin cfg0.N) (h : t.val % 4 = 0) (j : S512x1024.Idx) :
    (outsAt0 m c t.val t.isLt).2 j = (0 + k0_pay1 (F := Ideal) (iblk m c 0 t) (iblk m c 1 t) j : EReal) := by
  have hN : t.val < 4 := lt_of_lt_of_eq t.isLt N_0
  rw [outsAt0_A m c t h (by omega) (by omega)]
  frame_out
  rw [pay2_at, zero_add]

/-- What a later point of a run leaves in the accumulator. -/
theorem acc_next (c : Dev nD) (t : Fin cfg0.N) (h : ¬ t.val % 4 = 0) (j : S512x1024.Idx) :
    (outsAt0 m c t.val t.isLt).2 j
      = ((outsAt0 m c (t.val - 1) (Nat.lt_of_le_of_lt (Nat.sub_le _ _) t.isLt)).2 j
          + k0_pay1 (F := Ideal) (iblk m c 0 t) (iblk m c 1 t) j : EReal) := by
  by_cases h3 : t.val % 4 = 3
  · rw [outsAt0_C m c t h (by omega) h3]
    frame_out
    rw [read_unread_whole, pay3_at]
  · rw [outsAt0_B m c t h (by omega) h3]
    frame_out
    rw [read_unread_whole, pay3_at]

/-- The last point of a run writes out its accumulator. -/
theorem out_last (c : Dev nD) (t : Fin cfg0.N) (h3 : t.val % 4 = 3) (j : S512x1024.Idx) :
    (outsAt0 m c t.val t.isLt).1 j = ((outsAt0 m c t.val t.isLt).2 j : EReal) := by
  rw [outsAt0_C m c t (by omega) (by omega) h3]
  frame_out
  rw [pay4_at]

/-- The first operand's array, over the kernel's arguments. -/
abbrev left (c : Dev nD) : FVec Ideal Cert.Reference15Ideal.S1x8192x512 .f32 :=
  m ((c : Thread nD τ).loc main_arg0)

/-- The second operand's array, over the kernel's arguments. -/
abbrev right (c : Dev nD) : FVec Ideal Cert.Reference15Ideal.S1x8192x1024 .f32 :=
  m ((c : Thread nD τ).loc main_arg2)

/-- The first operand of the call as its host operations make it. -/
theorem lhs_eq (c : Dev nD) : V m c main_v1 = truncf (F := Ideal) .bf16 (shapeCast S8192x512 (left m c) shapeCasts_S1x8192x512_S8192x512) bitsLt_bf16_f32 := by
  rfl

/-- The second operand of the call as its host operations make it. -/
theorem rhs_eq (c : Dev nD) : V m c main_v3 = truncf (F := Ideal) .bf16 (shapeCast S8192x1024 (right m c) shapeCasts_S1x8192x1024_S8192x1024) bitsLt_bf16_f32 := by
  rfl

/-- The first operand's row, the leading axis of size one dropped. -/
theorem drop_lhs (X : FVec Ideal Cert.Reference15Ideal.S1x8192x512 .f32) (i : S8192x512.Idx)
    (j : Cert.Reference15Ideal.S1x8192x512.Idx) (h1 : (j 1 : ℕ) = (i 0 : ℕ)) (h2 : (j 2 : ℕ) = i 1) :
    (truncf (F := Ideal) .bf16 (shapeCast S8192x512 X shapeCasts_S1x8192x512_S8192x512) bitsLt_bf16_f32 i : EReal) = X j := by
  pointwise
  blk_ext

/-- The second operand's row, the leading axis of size one dropped. -/
theorem drop_rhs (X : FVec Ideal Cert.Reference15Ideal.S1x8192x1024 .f32) (i : S8192x1024.Idx)
    (j : Cert.Reference15Ideal.S1x8192x1024.Idx) (h1 : (j 1 : ℕ) = (i 0 : ℕ)) (h2 : (j 2 : ℕ) = i 1) :
    (truncf (F := Ideal) .bf16 (shapeCast S8192x1024 X shapeCasts_S1x8192x1024_S8192x1024) bitsLt_bf16_f32 i : EReal) = X j := by
  pointwise
  blk_ext

/-- A block of the first operand, read at its place in the array. -/
theorem lhs_blk (c : Dev nD) (t : Fin cfg0.N) (x : S2048x512.Idx) (i : Cert.Reference15Ideal.S1x8192x512.Idx)
    (h1 : (i 1 : ℕ) = t.val * 2048 + (x 0 : ℕ)) (h2 : (i 2 : ℕ) = x 1) :
    (iblk m c 0 t x : EReal) = left m c i := by
  blk_simp [iblk]
  rw [lhs_eq]
  exact drop_lhs _ _ i (by blk_simp [idx t]; omega) (by blk_simp [idx t]; omega)

/-- A block of the second operand, read at its place in the array. -/
theorem rhs_blk (c : Dev nD) (t : Fin cfg0.N) (x : S2048x1024.Idx) (i : Cert.Reference15Ideal.S1x8192x1024.Idx)
    (h1 : (i 1 : ℕ) = t.val * 2048 + (x 0 : ℕ)) (h2 : (i 2 : ℕ) = x 1) :
    (iblk m c 1 t x : EReal) = right m c i := by
  blk_simp [iblk]
  rw [rhs_eq]
  exact drop_rhs _ _ i (by blk_simp [idx t]; omega) (by blk_simp [idx t]; omega)

/-- The reference's result over the two arrays. -/
def ref (A : FVec Ideal Cert.Reference15Ideal.S1x8192x512 .f32) (X : FVec Ideal Cert.Reference15Ideal.S1x8192x1024 .f32) :
    FVec Ideal Cert.Reference15Ideal.S512x1024 .bf16 :=
  truncf .bf16 (transpose Cert.Reference15Ideal.S512x1024 [1, 0]
    (Host.dotGeneral Cert.Reference15Ideal.dot_S1x8192x1024_S1x8192x512_S1024x512_01_01_2_2_n_n none X A)
    Cert.Reference15Ideal.Gen.transposes_S1024x512_S512x1024_1_0) Cert.Reference15Ideal.Gen.bitsLt_bf16_f32

/-- The reference's result at a cell, as one sum over the rows. -/
theorem ref_at (A : FVec Ideal Cert.Reference15Ideal.S1x8192x512 .f32) (X : FVec Ideal Cert.Reference15Ideal.S1x8192x1024 .f32)
    (i : Cert.Reference15Ideal.S512x1024.Idx) :
    ref A X i = ∑ l : Fin 8192, (A (ix3 0 l (i 0)) : EReal) * X (ix3 0 l (i 1)) := by
  pointwise [ref]
  rw [Fin.sum_univ_one]
  exact Finset.sum_congr rfl fun l _ => mul_comm _ _

set_option maxHeartbeats 1000000 in
/-- The result array after the run is the reference's result over the same two arrays. -/
theorem final (c : Dev nD) : (dats m 0 c).arrAt 2 (cfgs 0).N = ref (left m c) (right m c) := by
  refine (dats m 0 c).arrAt_eq_of_covers 2 _ (by decide +kernel) fun t hf y => ?_
  blk_simp
  rw [after0_2]
  have ht : t.val % 4 = 3 := (flush0_2 t).mp hf
  have hN : t.val < 4 := lt_of_lt_of_eq t.isLt N_0
  rw [out_last m c t ht]
  rw [Pipeline.eq_sum_fin_of_reset_step_apply_of_flush (fun n h => (outsAt0 m c n h).2) 4 (fun _ => (0 : EReal)) _
    (acc_first m c) (acc_next m c) t ht _, zero_add]
  simp only [pay1_at, ref_at]
  refine Fin.sum_mul_add_congr fun s k hl => ?_
  have hs := s.isLt
  have hrow : s.val * 2048 + k.val = (4 * (t.val / 4) + s.val) * 2048 + k.val := by omega
  have e0 := lhs_blk m c ⟨4 * (t.val / 4) + s.val, Pipeline.run_point_lt_of_flush t ht s⟩ (ix2 k (y 0))
    (ix3 0 ⟨s.val * 2048 + k.val, hl⟩ (((cfg0.win 2).blk t).view.emb y 0)) hrow (by blk_simp [idx t])
  have e1 := rhs_blk m c ⟨4 * (t.val / 4) + s.val, Pipeline.run_point_lt_of_flush t ht s⟩ (ix2 k (y 1))
    (ix3 0 ⟨s.val * 2048 + k.val, hl⟩ (((cfg0.win 2).blk t).view.emb y 1)) hrow (by blk_simp [idx t])
  exact congrArg₂ (fun a b : EReal => a * b) e0 e1

end Cert.Kernel15Ideal.Dw

end
-- ==== Proof.Dw16.lean ====
/- The value of the second branch's output weights' gradient `Cert.Kernel16Ideal` over the extended reals: its result array is the
   reference's contraction over all 8192 rows. -/
module

public import proofs.«01_k».proof.Proof.Gen.Kernel16Ideal.Value
public import proofs.«01_k».proof.Proof.Gen.Kernel16Ideal.Frame
public import proofs.«01_k».proof.Proof.Gen.Reference16Ideal.Run
public import proofs.«01_k».proof.Proof.Gen.Reference16Ideal.Read
public import Idealize.ShloMosaic.Lib.Pipeline.ValueKit
public import Idealize.ShloMosaic.Lib.Pipeline.ReadBack
public import Idealize.ShloMosaic.Lib.Claim

@[expose] public section

set_option maxRecDepth 16384

noncomputable section

open Idealize.ShloMosaic Idealize.ShloMosaic.TcCoe Idealize.SL.Sem
open Idealize.ShloMosaic.Pipeline (Dat)

namespace Cert.Kernel16Ideal.Dw

open Cert.Kernel16Ideal Cert.Kernel16Ideal.Gen

variable (m : (ℓ : Loc nD τ sig) → Buf (Elt Ideal) ℓ)

/-- Each window's block index at each grid point. -/
theorem idx : ∀ t : Fin cfg0.N, win0_0.index t = ![t.val, 0]
    ∧ win0_1.index t = ![t.val, 0]
    ∧ win0_2.index t = ![0, 0] :=
  (by decide +kernel : ∀ t : Fin grid0.N, _)

/-- The product of one row block at a cell: a column of the first operand times a column of the second. -/
theorem pay1_at (v0 : FVec Ideal S2048x512 .bf16) (v2 : FVec Ideal S2048x1024 .bf16) (j : S512x1024.Idx) :
    k0_pay1 (F := Ideal) v0 v2 j = ∑ k : Fin 2048, (v0 (ix2 k (j 0)) : EReal) * v2 (ix2 k (j 1)) := by
  pointwise [k0_pay1]

/-- The first point's store is its product. -/
theorem pay2_at (v0 : FVec Ideal S2048x512 .bf16) (v2 : FVec Ideal S2048x1024 .bf16) (j : S512x1024.Idx) :
    k0_pay2 (F := Ideal) v0 v2 j = k0_pay1 (F := Ideal) v0 v2 j := by
  pointwise [k0_pay2, k0_pay1]

/-- A later point's store adds its product to what was there. -/
theorem pay3_at (v0 : FVec Ideal S2048x512 .bf16) (v2 : FVec Ideal S2048x1024 .bf16) (v14 : FVec Ideal S512x1024 .f32)
    (j : S512x1024.Idx) : k0_pay3 (F := Ideal) v0 v2 v14 j = (v14 j + k0_pay1 (F := Ideal) v0 v2 j : EReal) := by
  pointwise [k0_pay3, k0_pay1]

/-- The last point's store is the accumulator. -/
theorem pay4_at (v14 : FVec Ideal S512x1024 .f32) (j : S512x1024.Idx) : k0_pay4 (F := Ideal) v14 j = v14 j := by
  pointwise [k0_pay4]

/-- What the first point of a run leaves in the accumulator. -/
theorem acc_first (c : Dev nD) (t : Fin cfg0.N) (h : t.val % 4 = 0) (j : S512x1024.Idx) :
    (outsAt0 m c t.val t.isLt).2 j = (0 + k0_pay1 (F := Ideal) (iblk m c 0 t) (iblk m c 1 t) j : EReal) := by
  have hN : t.val < 4 := lt_of_lt_of_eq t.isLt N_0
  rw [outsAt0_A m c t h (by omega) (by omega)]
  frame_out
  rw [pay2_at, zero_add]

/-- What a later point of a run leaves in the accumulator. -/
theorem acc_next (c : Dev nD) (t : Fin cfg0.N) (h : ¬ t.val % 4 = 0) (j : S512x1024.Idx) :
    (outsAt0 m c t.val t.isLt).2 j
      = ((outsAt0 m c (t.val - 1) (Nat.lt_of_le_of_lt (Nat.sub_le _ _) t.isLt)).2 j
          + k0_pay1 (F := Ideal) (iblk m c 0 t) (iblk m c 1 t) j : EReal) := by
  by_cases h3 : t.val % 4 = 3
  · rw [outsAt0_C m c t h (by omega) h3]
    frame_out
    rw [read_unread_whole, pay3_at]
  · rw [outsAt0_B m c t h (by omega) h3]
    frame_out
    rw [read_unread_whole, pay3_at]

/-- The last point of a run writes out its accumulator. -/
theorem out_last (c : Dev nD) (t : Fin cfg0.N) (h3 : t.val % 4 = 3) (j : S512x1024.Idx) :
    (outsAt0 m c t.val t.isLt).1 j = ((outsAt0 m c t.val t.isLt).2 j : EReal) := by
  rw [outsAt0_C m c t (by omega) (by omega) h3]
  frame_out
  rw [pay4_at]

/-- The first operand's array, over the kernel's arguments. -/
abbrev left (c : Dev nD) : FVec Ideal Cert.Reference16Ideal.S1x8192x512 .f32 :=
  m ((c : Thread nD τ).loc main_arg0)

/-- The second operand's array, over the kernel's arguments. -/
abbrev right (c : Dev nD) : FVec Ideal Cert.Reference16Ideal.S1x8192x1024 .f32 :=
  m ((c : Thread nD τ).loc main_arg2)

/-- The first operand of the call as its host operations make it. -/
theorem lhs_eq (c : Dev nD) : V m c main_v1 = truncf (F := Ideal) .bf16 (shapeCast S8192x512 (left m c) shapeCasts_S1x8192x512_S8192x512) bitsLt_bf16_f32 := by
  rfl

/-- The second operand of the call as its host operations make it. -/
theorem rhs_eq (c : Dev nD) : V m c main_v3 = truncf (F := Ideal) .bf16 (shapeCast S8192x1024 (right m c) shapeCasts_S1x8192x1024_S8192x1024) bitsLt_bf16_f32 := by
  rfl

/-- The first operand's row, the leading axis of size one dropped. -/
theorem drop_lhs (X : FVec Ideal Cert.Reference16Ideal.S1x8192x512 .f32) (i : S8192x512.Idx)
    (j : Cert.Reference16Ideal.S1x8192x512.Idx) (h1 : (j 1 : ℕ) = (i 0 : ℕ)) (h2 : (j 2 : ℕ) = i 1) :
    (truncf (F := Ideal) .bf16 (shapeCast S8192x512 X shapeCasts_S1x8192x512_S8192x512) bitsLt_bf16_f32 i : EReal) = X j := by
  pointwise
  blk_ext

/-- The second operand's row, the leading axis of size one dropped. -/
theorem drop_rhs (X : FVec Ideal Cert.Reference16Ideal.S1x8192x1024 .f32) (i : S8192x1024.Idx)
    (j : Cert.Reference16Ideal.S1x8192x1024.Idx) (h1 : (j 1 : ℕ) = (i 0 : ℕ)) (h2 : (j 2 : ℕ) = i 1) :
    (truncf (F := Ideal) .bf16 (shapeCast S8192x1024 X shapeCasts_S1x8192x1024_S8192x1024) bitsLt_bf16_f32 i : EReal) = X j := by
  pointwise
  blk_ext

/-- A block of the first operand, read at its place in the array. -/
theorem lhs_blk (c : Dev nD) (t : Fin cfg0.N) (x : S2048x512.Idx) (i : Cert.Reference16Ideal.S1x8192x512.Idx)
    (h1 : (i 1 : ℕ) = t.val * 2048 + (x 0 : ℕ)) (h2 : (i 2 : ℕ) = x 1) :
    (iblk m c 0 t x : EReal) = left m c i := by
  blk_simp [iblk]
  rw [lhs_eq]
  exact drop_lhs _ _ i (by blk_simp [idx t]; omega) (by blk_simp [idx t]; omega)

/-- A block of the second operand, read at its place in the array. -/
theorem rhs_blk (c : Dev nD) (t : Fin cfg0.N) (x : S2048x1024.Idx) (i : Cert.Reference16Ideal.S1x8192x1024.Idx)
    (h1 : (i 1 : ℕ) = t.val * 2048 + (x 0 : ℕ)) (h2 : (i 2 : ℕ) = x 1) :
    (iblk m c 1 t x : EReal) = right m c i := by
  blk_simp [iblk]
  rw [rhs_eq]
  exact drop_rhs _ _ i (by blk_simp [idx t]; omega) (by blk_simp [idx t]; omega)

/-- The reference's result over the two arrays. -/
def ref (A : FVec Ideal Cert.Reference16Ideal.S1x8192x512 .f32) (X : FVec Ideal Cert.Reference16Ideal.S1x8192x1024 .f32) :
    FVec Ideal Cert.Reference16Ideal.S512x1024 .bf16 :=
  truncf .bf16 (transpose Cert.Reference16Ideal.S512x1024 [1, 0]
    (Host.dotGeneral Cert.Reference16Ideal.dot_S1x8192x1024_S1x8192x512_S1024x512_01_01_2_2_n_n none X A)
    Cert.Reference16Ideal.Gen.transposes_S1024x512_S512x1024_1_0) Cert.Reference16Ideal.Gen.bitsLt_bf16_f32

/-- The reference's result at a cell, as one sum over the rows. -/
theorem ref_at (A : FVec Ideal Cert.Reference16Ideal.S1x8192x512 .f32) (X : FVec Ideal Cert.Reference16Ideal.S1x8192x1024 .f32)
    (i : Cert.Reference16Ideal.S512x1024.Idx) :
    ref A X i = ∑ l : Fin 8192, (A (ix3 0 l (i 0)) : EReal) * X (ix3 0 l (i 1)) := by
  pointwise [ref]
  rw [Fin.sum_univ_one]
  exact Finset.sum_congr rfl fun l _ => mul_comm _ _

set_option maxHeartbeats 1000000 in
/-- The result array after the run is the reference's result over the same two arrays. -/
theorem final (c : Dev nD) : (dats m 0 c).arrAt 2 (cfgs 0).N = ref (left m c) (right m c) := by
  refine (dats m 0 c).arrAt_eq_of_covers 2 _ (by decide +kernel) fun t hf y => ?_
  blk_simp
  rw [after0_2]
  have ht : t.val % 4 = 3 := (flush0_2 t).mp hf
  have hN : t.val < 4 := lt_of_lt_of_eq t.isLt N_0
  rw [out_last m c t ht]
  rw [Pipeline.eq_sum_fin_of_reset_step_apply_of_flush (fun n h => (outsAt0 m c n h).2) 4 (fun _ => (0 : EReal)) _
    (acc_first m c) (acc_next m c) t ht _, zero_add]
  simp only [pay1_at, ref_at]
  refine Fin.sum_mul_add_congr fun s k hl => ?_
  have hs := s.isLt
  have hrow : s.val * 2048 + k.val = (4 * (t.val / 4) + s.val) * 2048 + k.val := by omega
  have e0 := lhs_blk m c ⟨4 * (t.val / 4) + s.val, Pipeline.run_point_lt_of_flush t ht s⟩ (ix2 k (y 0))
    (ix3 0 ⟨s.val * 2048 + k.val, hl⟩ (((cfg0.win 2).blk t).view.emb y 0)) hrow (by blk_simp [idx t])
  have e1 := rhs_blk m c ⟨4 * (t.val / 4) + s.val, Pipeline.run_point_lt_of_flush t ht s⟩ (ix2 k (y 1))
    (ix3 0 ⟨s.val * 2048 + k.val, hl⟩ (((cfg0.win 2).blk t).view.emb y 1)) hrow (by blk_simp [idx t])
  exact congrArg₂ (fun a b : EReal => a * b) e0 e1

end Cert.Kernel16Ideal.Dw

end
-- ==== Proof.Gates.lean ====
/- The value of the gates' forward call `Cert.Kernel17Ideal` over the extended reals: the logistic function of the gates'
   pre-activation, which the call computes by the hyperbolic tangent of half of it. -/
module

public import proofs.«01_k».proof.Proof.Gen.Kernel17Ideal.Value
public import proofs.«01_k».proof.Proof.Gen.Kernel17Ideal.Frame
public import proofs.«01_k».proof.Proof.Gen.Reference17Ideal.Run
public import proofs.«01_k».proof.Proof.Gen.Reference17Ideal.Read
public import Idealize.ShloMosaic.Lib.Pipeline.ValueKit
public import Idealize.ShloMosaic.Lib.Pipeline.ReadBack
public import Idealize.ShloMosaic.Lib.Claim
public import Idealize.ShloMosaic.Lib.KernelVsHost
public import proofs.«01_k».proof.Proof.MlpFwd

@[expose] public section

set_option maxRecDepth 16384

noncomputable section

open Idealize.ShloMosaic Idealize.ShloMosaic.TcCoe Idealize.SL.Sem
open Idealize.ShloMosaic.Pipeline (Dat)

namespace Cert.Kernel17Ideal.Gates

open Cert.Kernel17Ideal Cert.Kernel17Ideal.Gen
open Cert.Reference17Ideal.Read
open Cert.Kernel13Ideal.MlpFwd (hw ow)

variable (m : (ℓ : Loc nD τ sig) → Buf (Elt Ideal) ℓ)

/-- Each window's block index at each grid point: the row block `t / 2` and the column block `t % 2`. -/
theorem idx : ∀ t : Fin cfg0.N, win0_0.index t = ![t.val / 2, 0]
    ∧ win0_1.index t = ![t.val % 2, 0]
    ∧ win0_2.index t = ![0, t.val % 2]
    ∧ win0_3.index t = ![t.val / 2, t.val % 2] :=
  (by decide +kernel : ∀ t : Fin grid0.N, _)

/-- Half the hyperbolic tangent of half a real number, and a half, is the logistic function of the number. -/
theorem half_tanh (r : ℝ) : 1 / 2 * Real.tanh (1 / 2 * r) + 1 / 2 = (1 + Real.exp (-r))⁻¹ := by
  have e1 : Real.exp (-r) = (Real.exp (1 / 2 * r))⁻¹ * (Real.exp (1 / 2 * r))⁻¹ := by
    rw [← Real.exp_neg, ← Real.exp_add]; congr 1; ring
  have hp : (0 : ℝ) < Real.exp (1 / 2 * r) := Real.exp_pos _
  rw [Real.tanh_eq_sinh_div_cosh, Real.sinh_eq, Real.cosh_eq, e1, Real.exp_neg]
  generalize Real.exp (1 / 2 * r) = a at hp ⊢
  have h1 : a + a⁻¹ ≠ 0 := by positivity
  have h2 : 1 + a⁻¹ * a⁻¹ ≠ 0 := by positivity
  have h3 : a * a + 1 ≠ 0 := by positivity
  field_simp
  ring

/-- Half the hyperbolic tangent of half an extended real, and a half, is one over one and the exponential of its negative. -/
theorem gate_cell (z : EReal) :
    Ideal.ofBits .f32 0x3F000000#32 * Ideal.tanh (Ideal.ofBits .f32 0x3F000000#32 * z) + Ideal.ofBits .f32 0x3F000000#32
      = Ideal.div (Ideal.ofBits .f32 0x3F800000#32) (Ideal.ofBits .f32 0x3F800000#32 + Ideal.exp (-z)) := by
  rw [hw, ow, EReal.coe_one]
  show _ = Ideal.logistic z
  have h0 : ((1 / 2 : ℝ) : EReal) * (-1) + ((1 / 2 : ℝ) : EReal) = 0 := by
    rw [show (-1 : EReal) = ((-1 : ℝ) : EReal) by rw [EReal.coe_neg, EReal.coe_one], ← EReal.coe_mul, ← EReal.coe_add, ← EReal.coe_zero]
    norm_num
  have h1 : ((1 / 2 : ℝ) : EReal) * 1 + ((1 / 2 : ℝ) : EReal) = 1 := by
    rw [mul_one, ← EReal.coe_add, ← EReal.coe_one]
    norm_num
  induction z using EReal.rec with
  | bot => rw [EReal.coe_mul_bot_of_pos (by norm_num), Ideal.tanh_bot, Ideal.logistic_bot, h0]
  | top => rw [EReal.coe_mul_top_of_pos (by norm_num), Ideal.tanh_top, Ideal.logistic_top, h1]
  | coe r => rw [← EReal.coe_mul, Ideal.tanh_coe, Ideal.logistic_coe, ← EReal.coe_mul, ← EReal.coe_add, half_tanh]

/-- The store's value at a cell: of a row of the input against a row of the transposed weight, and the bias. -/
theorem pay1_at (v0 v2 : FVec Ideal S1024x1024 .bf16) (v5 : FVec Ideal S1x1024 .f32) (j : S1024x1024.Idx) :
    (k0_pay1 (F := Ideal) v0 v2 v5 j : EReal)
      = Ideal.ofBits .f32 0x3F000000#32 * Ideal.tanh (Ideal.ofBits .f32 0x3F000000#32
          * ((∑ k : Fin 1024, (v0 (ix2 (j 0) k) : EReal) * v2 (ix2 (j 1) k)) + v5 (ix2 0 (j 1)))) + Ideal.ofBits .f32 0x3F000000#32 := by
  pointwise [k0_pay1]

/-- The type of the gates' input. -/
abbrev TX : Type := FVec Ideal Cert.Reference17Ideal.S1x8192x1024 .f32
/-- The type of the gates' weight. -/
abbrev TW : Type := FVec Ideal Cert.Reference17Ideal.S1024x2048 .f32
/-- The type of the gates' bias. -/
abbrev TB : Type := FVec Ideal Cert.Reference17Ideal.S2x1024 .f32

/-- The kernel's first argument, the gates' input. -/
abbrev a0 (c : Dev nD) : TX := m ((c : Thread nD τ).loc main_arg0)
/-- The kernel's second argument, the gates' weight. -/
abbrev a1 (c : Dev nD) : TW := m ((c : Thread nD τ).loc main_arg1)
/-- The kernel's third argument, the gates' bias. -/
abbrev a2 (c : Dev nD) : TB := m ((c : Thread nD τ).loc main_arg2)

/-- The input's block of a point, at its place. -/
theorem blk0 (c : Dev nD) (t : Fin cfg0.N) (x : S1024x1024.Idx) (i : Cert.Reference17Ideal.S1x8192x1024.Idx)
    (h1 : (i 1 : ℕ) = t.val / 2 * 1024 + x 0) (h2 : (i 2 : ℕ) = x 1) :
    (iblk m c 0 t x : EReal) = a0 m c i := by
  have e : V m c main_v1 = truncf (F := Ideal) .bf16 (shapeCast S8192x1024 (a0 m c) shapeCasts_S1x8192x1024_S8192x1024) bitsLt_bf16_f32 := by rfl
  have d : ∀ (X : TX) (y : S8192x1024.Idx), (i 1 : ℕ) = y 0 → (i 2 : ℕ) = y 1 →
      (truncf (F := Ideal) .bf16 (shapeCast S8192x1024 X shapeCasts_S1x8192x1024_S8192x1024) bitsLt_bf16_f32 y : EReal) = X i := by
    intro X y g1 g2
    pointwise
    blk_ext
  blk_simp [iblk]
  rw [e]
  exact d _ _ (by blk_simp [idx t]; omega) (by blk_simp [idx t]; omega)

/-- The weight's block of a point, at its place: the block holds it transposed. -/
theorem blk1 (c : Dev nD) (t : Fin cfg0.N) (x : S1024x1024.Idx) (i : Cert.Reference17Ideal.S1024x2048.Idx)
    (h0 : (i 0 : ℕ) = x 1) (h1 : (i 1 : ℕ) = t.val % 2 * 1024 + x 0) :
    (iblk m c 1 t x : EReal) = a1 m c i := by
  have e : V m c main_v3 = truncf (F := Ideal) .bf16 (transpose S2048x1024 [1, 0] (a1 m c) transposes_S1024x2048_S2048x1024_1_0) bitsLt_bf16_f32 := by rfl
  have d : ∀ (X : TW) (y : S2048x1024.Idx), (i 0 : ℕ) = y 1 → (i 1 : ℕ) = y 0 →
      (truncf (F := Ideal) .bf16 (transpose S2048x1024 [1, 0] X transposes_S1024x2048_S2048x1024_1_0) bitsLt_bf16_f32 y : EReal) = X i := by
    intro X y g1 g2
    pointwise
    blk_ext
  blk_simp [iblk]
  rw [e]
  exact d _ _ (by blk_simp [idx t]; omega) (by blk_simp [idx t]; omega)

/-- The bias's block of a point, at its place: the two gates' biases one after the other. -/
theorem blk2 (c : Dev nD) (t : Fin cfg0.N) (x : S1x1024.Idx) (i : Cert.Reference17Ideal.S2x1024.Idx)
    (h : (i 0 : ℕ) * 1024 + i 1 = t.val % 2 * 1024 + x 1) :
    (iblk m c 2 t x : EReal) = a2 m c i := by
  have e : V m c main_v4 = shapeCast S1x2048 (a2 m c) shapeCasts_S2x1024_S1x2048 := by rfl
  have d : ∀ (X : TB) (y : S1x2048.Idx), (i 0 : ℕ) * 1024 + i 1 = y 1 →
      (shapeCast S1x2048 X shapeCasts_S2x1024_S1x2048 y : EReal) = X i := by
    intro X y g1
    have b1 : (i 1 : ℕ) < 1024 := (i 1).isLt
    have b0 : (i 0 : ℕ) < 2 := (i 0).isLt
    have hy : (y 0 : ℕ) < 1 := (y 0).isLt
    pointwise
    blk_ext
  blk_simp [iblk]
  rw [e]
  exact d _ _ (by blk_simp [idx t]; omega)

/-- The gates at a row and a column, by the reference's formula. -/
abbrev gate (x0 : TX) (x1 : TW) (x2 : TB) (n : Fin 8192) (f : Fin 2048) : EReal :=
  Ideal.div (Ideal.ofBits .f32 0x3F800000#32) (Ideal.ofBits .f32 0x3F800000#32
    + Ideal.exp (-((∑ k : Fin 1024, (x0 (ix3 0 n k) : EReal) * x1 (ix2 k f))
        + x2 (ix2 ⟨f.val / 1024, by omega⟩ ⟨f.val % 1024, by omega⟩))))

/-- The reference's result at a cell. -/
theorem ref_at (x0 : TX) (x1 : TW) (x2 : TB) (i : Cert.Reference17Ideal.S8192x2048.Idx) (n : Fin 8192) (f : Fin 2048)
    (hn : (i 0 : ℕ) = n) (hf : (i 1 : ℕ) = f) : (val_main_v12 (F := Ideal) x0 x1 x2 i : EReal) = gate x0 x1 x2 n f := by
  have bn := n.isLt
  have bf := f.isLt
  have hi : idx_main_v11 i = ix3 0 n f := by
    funext a
    match a with
    | ⟨0, _⟩ => rfl
    | ⟨1, _⟩ => exact Fin.ext (by show ((i 0).val * 2048 + (i 1).val) / 2048 % 8192 = n.val; omega)
    | ⟨2, _⟩ => exact Fin.ext (by show ((i 0).val * 2048 + (i 1).val) % 2048 = f.val; omega)
  have hz : (val_main_v4 (F := Ideal) x0 x1 x2 (ix3 0 n f) : EReal)
      = (∑ k : Fin 1024, (x0 (ix3 0 n k) : EReal) * x1 (ix2 k f)) + x2 (ix2 ⟨f.val / 1024, by omega⟩ ⟨f.val % 1024, by omega⟩) := by
    rw [val_main_v4_apply, val_main_v0_apply, val_main_v3_apply, val_main_v2_apply, val_main_v1_apply]
    refine congrArg₂ (fun a b : EReal => a + b) (Finset.sum_congr rfl fun k _ => congrArg₂ (fun a b : EReal => a * b) ?_ ?_) ?_
    · blk_ext
    · blk_ext
    · blk_ext
  rw [val_main_v12_apply, val_main_v11_apply, hi, val_main_v10_apply, val_main_v9_apply, val_main_v8_apply, val_main_v7_apply,
    val_main_v6_apply, val_main_v5_apply, hz]
  rfl

/-- The row of a point's block among all rows. -/
theorem row_lt (t : Fin cfg0.N) (x : Fin 1024) : t.val / 2 * 1024 + x.val < 8192 := by
  have hN : t.val < 16 := lt_of_lt_of_eq t.isLt N_0
  omega

/-- The gates after the run are the reference's. -/
theorem final_3 (c : Dev nD) : (dats m 0 c).arrAt 3 (cfgs 0).N = val_main_v12 (F := Ideal) (a0 m c) (a1 m c) (a2 m c) := by
  refine (dats m 0 c).arrAt_eq_of_covers 3 _ (by decide +kernel) fun t hf y => ?_
  blk_simp
  rw [after0_3]
  frame_out
  have hy1 : (y 1 : ℕ) < 1024 := (y 1).isLt
  refine (pay1_at _ _ _ y).trans ((gate_cell _).trans ?_)
  refine Eq.trans ?_ (ref_at (a0 m c) (a1 m c) (a2 m c) _ ⟨t.val / 2 * 1024 + y 0, row_lt t (y 0)⟩ ⟨t.val % 2 * 1024 + y 1, by omega⟩
    (by blk_simp [idx t]) (by blk_simp [idx t])).symm
  refine congrArg (fun z : EReal => Ideal.div _ (_ + Ideal.exp (-z))) (congrArg₂ (fun a b : EReal => a + b)
    (Finset.sum_congr rfl fun k _ => congrArg₂ (fun a b : EReal => a * b) ?_ ?_) ?_)
  · exact blk0 m c t _ (ix3 0 _ k) rfl rfl
  · exact blk1 m c t _ (ix2 k _) rfl rfl
  · exact blk2 m c t _ (ix2 _ _) (by show (t.val % 2 * 1024 + (y 1 : ℕ)) / 1024 * 1024 + (t.val % 2 * 1024 + (y 1 : ℕ)) % 1024 = _; rw [Nat.div_add_mod']; rfl)

end Cert.Kernel17Ideal.Gates

end
-- ==== Proof.Cross.lean ====
/- The value of the cross attention's forward call `Cert.Kernel18Ideal` over the extended reals: the scaled queries, the
   heads' output, the sublayer's result and its norm, against the reference's lines. -/
module

public import proofs.«01_k».proof.Proof.Gen.Kernel18Ideal.Value
public import proofs.«01_k».proof.Proof.Gen.Kernel18Ideal.Frame
public import proofs.«01_k».proof.Proof.Gen.Reference18Ideal.Run
public import proofs.«01_k».proof.Proof.Gen.Reference18Ideal.Read
public import Idealize.ShloMosaic.Lib.Pipeline.ValueKit
public import Idealize.ShloMosaic.Lib.Pipeline.ReadBack
public import Idealize.ShloMosaic.Lib.Claim
public import Idealize.ShloMosaic.Lib.KernelVsHost
public import proofs.«01_k».proof.Proof.Real

@[expose] public section

set_option maxRecDepth 16384

noncomputable section

open Idealize.ShloMosaic Idealize.ShloMosaic.TcCoe Idealize.SL.Sem
open Idealize.ShloMosaic.Pipeline (Dat)

namespace Cert.Kernel18Ideal.Cross

open Cert.Kernel18Ideal Cert.Kernel18Ideal.Gen
open Cert.Reference18Ideal.Read Cert.Real

variable (m : (ℓ : Loc nD τ sig) → Buf (Elt Ideal) ℓ)

/-- Each window's block index at each grid point: the row block `t`, and the whole of every other array. -/
theorem idx : ∀ t : Fin cfg0.N, win0_0.index t = ![t.val, 0]
    ∧ win0_1.index t = ![t.val, 0]
    ∧ win0_2.index t = ![0, 0]
    ∧ win0_3.index t = ![0, 0]
    ∧ win0_4.index t = ![0, 0]
    ∧ win0_5.index t = ![0, 0]
    ∧ win0_6.index t = ![t.val, 0]
    ∧ win0_7.index t = ![t.val, 0]
    ∧ win0_8.index t = ![t.val, 0]
    ∧ win0_9.index t = ![t.val, 0] :=
  (by decide +kernel : ∀ t : Fin grid0.N, _)

/-- The largest of a row of scores. -/
abbrev top (s : Fin 256 → EReal) : EReal := (Finset.univ : Finset (Fin 256)).fold max (Ideal.ofBits .f32 0xFF800000#32) s

/-- A row's softmax at a key. -/
abbrev soft (s : Fin 256 → EReal) (k : Fin 256) : EReal :=
  Ideal.div (Ideal.exp (s k - top s)) (∑ l : Fin 256, Ideal.exp (s l - top s))

/-- A head's score of a query row and a key row, over a block of queries whose head's columns begin at `off`. -/
abbrev score (q : FVec Ideal S512x1024 .bf16) (K : FVec Ideal S256x256 .bf16) (off : ℕ) (h : off + 256 ≤ 1024) (a : Fin 512) (l : Fin 256) : EReal :=
  ∑ d : Fin 256, (q (ix2 a ⟨off + d.val, by omega⟩) : EReal) * K (ix2 l d)

/-- A head's output at a query row and a column of the head. -/
abbrev hout (q : FVec Ideal S512x1024 .bf16) (K V : FVec Ideal S256x256 .bf16) (off : ℕ) (h : off + 256 ≤ 1024) (a : Fin 512) (e : Fin 256) : EReal :=
  ∑ l : Fin 256, soft (score q K off h a) l * (V (ix2 l e) : EReal)

/-- The scaled queries at a cell. -/
theorem pay4_at (v0 : FVec Ideal S512x1024 .bf16) (v2 : FVec Ideal S1024x1024 .bf16) (j : S512x1024.Idx) :
    (k0_pay4 (F := Ideal) v0 v2 j : EReal) = (∑ k : Fin 1024, (v0 (ix2 (j 0) k) : EReal) * v2 (ix2 k (j 1))) * Ideal.ofBits .f32 0x3D800000#32 := by
  pointwise [k0_pay4]

/-- The first head's output at a cell. -/
theorem pay5_at (v0 : FVec Ideal S512x1024 .bf16) (v2 : FVec Ideal S1024x1024 .bf16) (v9 v22 : FVec Ideal S256x256 .bf16) (j : S512x256.Idx) :
    (k0_pay5 (F := Ideal) v0 v2 v9 v22 j : EReal) = hout (k0_pay4 (F := Ideal) v0 v2) v9 v22 0 (by omega) (j 0) (j 1) := by
  pointwise [k0_pay5]
  simp only [hout, soft, top, score, Nat.zero_add]

/-- The second head's exponentials at a cell. -/
theorem pay6_at (v0 : FVec Ideal S512x1024 .bf16) (v2 : FVec Ideal S1024x1024 .bf16) (v26 : FVec Ideal S256x256 .bf16) (j : S512x256.Idx) :
    (k0_pay6 (F := Ideal) v0 v2 v26 j : EReal)
      = Ideal.exp (score (k0_pay4 (F := Ideal) v0 v2) v26 256 (by omega) (j 0) (j 1) - top (score (k0_pay4 (F := Ideal) v0 v2) v26 256 (by omega) (j 0))) := by
  pointwise [k0_pay6]

/-- The second head's sums of exponentials. -/
theorem pay7_at (v0 : FVec Ideal S512x1024 .bf16) (v2 : FVec Ideal S1024x1024 .bf16) (v26 : FVec Ideal S256x256 .bf16) (i : S512x1.Idx) :
    (k0_pay7 (F := Ideal) v0 v2 v26 i : EReal) = ∑ l : Fin 256, (k0_pay6 (F := Ideal) v0 v2 v26 (ix2 (i 0) l) : EReal) := by
  pointwise [k0_pay7]

/-- The four heads' outputs side by side, at a cell. -/
theorem pay8_at (v7 : FVec Ideal S512x1024 .bf16) (v25 v34 : FVec Ideal S512x256 .f32) (v36 : FVec Ideal S512x1 .f32)
    (v39 v43 v56 v60 v73 : FVec Ideal S256x256 .bf16) (j : S512x1024.Idx) :
    (k0_pay8 (F := Ideal) v7 v25 v34 v36 v39 v43 v56 v60 v73 j : EReal)
      = if h0 : (j 1 : ℕ) < 256 then v25 (ix2 (j 0) ⟨(j 1 : ℕ), h0⟩)
        else if h1 : (j 1 : ℕ) - 256 < 256 then
          ∑ l : Fin 256, Ideal.div (v34 (ix2 (j 0) l)) (v36 (ix2 (j 0) 0)) * (v39 (ix2 l ⟨(j 1 : ℕ) - 256, h1⟩) : EReal)
        else if h2 : (j 1 : ℕ) - 256 - 256 < 256 then hout v7 v43 v56 512 (by omega) (j 0) ⟨(j 1 : ℕ) - 256 - 256, h2⟩
        else hout v7 v60 v73 768 (by omega) (j 0) ⟨(j 1 : ℕ) - 256 - 256 - 256, by have := (j 1).isLt; have : (j 1 : ℕ) < 1024 := this; omega⟩ := by
  pointwise [k0_pay8]

/-- The store of the heads' output at a cell. -/
theorem pay1_at (v77 : FVec Ideal S512x1024 .f32) (j : S512x1024.Idx) : (k0_pay1 (F := Ideal) v77 j : EReal) = v77 j := by
  pointwise [k0_pay1]

/-- The sublayer's result at a cell: its input and the heads' output against the output weight. -/
theorem pay2_at (v77 v80 : FVec Ideal S512x1024 .f32) (v82 : FVec Ideal S1024x1024 .bf16) (j : S512x1024.Idx) :
    (k0_pay2 (F := Ideal) v77 v80 v82 j : EReal) = v80 j + ∑ k : Fin 1024, (v77 (ix2 (j 0) k) : EReal) * v82 (ix2 k (j 1)) := by
  pointwise [k0_pay2, k0_pay1]

/-- The reciprocal root of a row's mean square and the small summand, over a row. -/
abbrev rms (x : Fin 1024 → EReal) : EReal :=
  Ideal.rsqrt (Ideal.div (∑ k : Fin 1024, x k * x k) (Ideal.ofBits .f32 0x44800000#32) + Ideal.ofBits .f32 0x358637BD#32)

/-- The norm of the sublayer's result at a cell. -/
theorem pay3_at (v77 v80 : FVec Ideal S512x1024 .f32) (v82 : FVec Ideal S1024x1024 .bf16) (v97 : FVec Ideal S1x1024 .f32) (j : S512x1024.Idx) :
    (k0_pay3 (F := Ideal) v77 v80 v82 v97 j : EReal)
      = k0_pay2 (F := Ideal) v77 v80 v82 j * rms (fun k => k0_pay2 (F := Ideal) v77 v80 v82 (ix2 (j 0) k)) * v97 (ix2 0 (j 1)) := by
  pointwise [k0_pay3]

/-- The type of the sublayer's input and of its norm. -/
abbrev TX : Type := FVec Ideal Cert.Reference18Ideal.S1x8192x1024 .f32
/-- The type of the memory's keys and values. -/
abbrev TK : Type := FVec Ideal Cert.Reference18Ideal.S1x256x2048 .f32
/-- The type of the query and output weights. -/
abbrev TO : Type := FVec Ideal Cert.Reference18Ideal.S1024x1024 .f32
/-- The type of the gain. -/
abbrev TG : Type := FVec Ideal Cert.Reference18Ideal.S1024 .f32

/-- The kernel's first argument, the sublayer's normalised input. -/
abbrev a0 (c : Dev nD) : TX := m ((c : Thread nD τ).loc main_arg0)
/-- The kernel's second argument, the sublayer's input. -/
abbrev a1 (c : Dev nD) : TX := m ((c : Thread nD τ).loc main_arg1)
/-- The kernel's third argument, the memory's keys and values. -/
abbrev a2 (c : Dev nD) : TK := m ((c : Thread nD τ).loc main_arg2)
/-- The kernel's fourth argument, the query weight. -/
abbrev a3 (c : Dev nD) : TO := m ((c : Thread nD τ).loc main_arg3)
/-- The kernel's fifth argument, the output weight. -/
abbrev a4 (c : Dev nD) : TO := m ((c : Thread nD τ).loc main_arg4)
/-- The kernel's sixth argument, the next norm's gain. -/
abbrev a5 (c : Dev nD) : TG := m ((c : Thread nD τ).loc main_arg5)

/-- The normalised input's block of a point, at its place. -/
theorem blk0 (c : Dev nD) (t : Fin cfg0.N) (x : S512x1024.Idx) (i : Cert.Reference18Ideal.S1x8192x1024.Idx)
    (h1 : (i 1 : ℕ) = t.val * 512 + x 0) (h2 : (i 2 : ℕ) = x 1) :
    (iblk m c 0 t x : EReal) = a0 m c i := by
  have e : V m c main_v1 = truncf (F := Ideal) .bf16 (shapeCast S8192x1024 (a0 m c) shapeCasts_S1x8192x1024_S8192x1024) bitsLt_bf16_f32 := by rfl
  have d : ∀ (X : TX) (y : S8192x1024.Idx), (i 1 : ℕ) = y 0 → (i 2 : ℕ) = y 1 →
      (truncf (F := Ideal) .bf16 (shapeCast S8192x1024 X shapeCasts_S1x8192x1024_S8192x1024) bitsLt_bf16_f32 y : EReal) = X i := by
    intro X y g1 g2
    pointwise
    blk_ext
  blk_simp [iblk]
  rw [e]
  exact d _ _ (by blk_simp [idx t]; omega) (by blk_simp [idx t]; omega)

/-- The input's block of a point, at its place. -/
theorem blk1 (c : Dev nD) (t : Fin cfg0.N) (x : S512x1024.Idx) (i : Cert.Reference18Ideal.S1x8192x1024.Idx)
    (h1 : (i 1 : ℕ) = t.val * 512 + x 0) (h2 : (i 2 : ℕ) = x 1) :
    (iblk m c 1 t x : EReal) = a1 m c i := by
  have e : V m c main_v2 = shapeCast S8192x1024 (a1 m c) shapeCasts_S1x8192x1024_S8192x1024 := by rfl
  have d : ∀ (X : TX) (y : S8192x1024.Idx), (i 1 : ℕ) = y 0 → (i 2 : ℕ) = y 1 →
      (shapeCast S8192x1024 X shapeCasts_S1x8192x1024_S8192x1024 y : EReal) = X i := by
    intro X y g1 g2
    pointwise
    blk_ext
  blk_simp [iblk]
  rw [e]
  exact d _ _ (by blk_simp [idx t]; omega) (by blk_simp [idx t]; omega)

/-- The memory's keys and values, at their place. -/
theorem blk2 (c : Dev nD) (t : Fin cfg0.N) (x : S256x2048.Idx) (i : Cert.Reference18Ideal.S1x256x2048.Idx)
    (h1 : (i 1 : ℕ) = x 0) (h2 : (i 2 : ℕ) = x 1) :
    (iblk m c 2 t x : EReal) = a2 m c i := by
  have e : V m c main_v4 = truncf (F := Ideal) .bf16 (shapeCast S256x2048 (a2 m c) shapeCasts_S1x256x2048_S256x2048) bitsLt_bf16_f32 := by rfl
  have d : ∀ (X : TK) (y : S256x2048.Idx), (i 1 : ℕ) = y 0 → (i 2 : ℕ) = y 1 →
      (truncf (F := Ideal) .bf16 (shapeCast S256x2048 X shapeCasts_S1x256x2048_S256x2048) bitsLt_bf16_f32 y : EReal) = X i := by
    intro X y g1 g2
    pointwise
    blk_ext
  blk_simp [iblk]
  rw [e]
  exact d _ _ (by blk_simp [idx t]; omega) (by blk_simp [idx t]; omega)

/-- A weight read after its cast. -/
theorem cast_at (X : TO) (y : S1024x1024.Idx) (i : Cert.Reference18Ideal.S1024x1024.Idx) (h0 : (i 0 : ℕ) = y 0) (h1 : (i 1 : ℕ) = y 1) :
    (truncf (F := Ideal) .bf16 X bitsLt_bf16_f32 y : EReal) = X i := by
  pointwise
  blk_ext

/-- The query weight, at its place. -/
theorem blk3 (c : Dev nD) (t : Fin cfg0.N) (x : S1024x1024.Idx) (i : Cert.Reference18Ideal.S1024x1024.Idx)
    (h0 : (i 0 : ℕ) = x 0) (h1 : (i 1 : ℕ) = x 1) :
    (iblk m c 3 t x : EReal) = a3 m c i := by
  have e : V m c main_v5 = truncf (F := Ideal) .bf16 (a3 m c) bitsLt_bf16_f32 := by rfl
  blk_simp [iblk]
  rw [e]
  exact cast_at _ _ _ (by blk_simp [idx t]; omega) (by blk_simp [idx t]; omega)

/-- The output weight, at its place. -/
theorem blk4 (c : Dev nD) (t : Fin cfg0.N) (x : S1024x1024.Idx) (i : Cert.Reference18Ideal.S1024x1024.Idx)
    (h0 : (i 0 : ℕ) = x 0) (h1 : (i 1 : ℕ) = x 1) :
    (iblk m c 4 t x : EReal) = a4 m c i := by
  have e : V m c main_v6 = truncf (F := Ideal) .bf16 (a4 m c) bitsLt_bf16_f32 := by rfl
  blk_simp [iblk]
  rw [e]
  exact cast_at _ _ _ (by blk_simp [idx t]; omega) (by blk_simp [idx t]; omega)

/-- The gain, at its place. -/
theorem blk5 (c : Dev nD) (t : Fin cfg0.N) (x : S1x1024.Idx) (i : Cert.Reference18Ideal.S1024.Idx) (h : (i 0 : ℕ) = x 1) :
    (iblk m c 5 t x : EReal) = a5 m c i := by
  have e : V m c main_v7 = shapeCast S1x1024 (a5 m c) shapeCasts_S1024_S1x1024 := by rfl
  have d : ∀ (X : TG) (y : S1x1024.Idx), (i 0 : ℕ) = y 1 → (shapeCast S1x1024 X shapeCasts_S1024_S1x1024 y : EReal) = X i := by
    intro X y g1
    have hy : (y 0 : ℕ) < 1 := (y 0).isLt
    pointwise
    blk_ext
  blk_simp [iblk]
  rw [e]
  exact d _ _ (by blk_simp [idx t]; omega)

/-- The scaled queries at a row and a column. -/
abbrev qs (x0 : TX) (x3 : TO) (n : Fin 8192) (g : Fin 1024) : EReal :=
  (∑ k : Fin 1024, (x0 (ix3 0 n k) : EReal) * x3 (ix2 k g)) * Ideal.ofBits .f32 0x3D800000#32

/-- A head's scores of a row against each key. -/
abbrev rscore (x0 : TX) (x2 : TK) (x3 : TO) (n : Fin 8192) (h : Fin 4) (l : Fin 256) : EReal :=
  ∑ d : Fin 256, qs x0 x3 n ⟨h.val * 256 + d.val, by omega⟩ * (x2 (ix3 0 l ⟨h.val * 256 + d.val, by omega⟩) : EReal)

/-- The heads' output at a row and a column: the column's head is its quotient by the head's width. -/
abbrev orow (x0 : TX) (x2 : TK) (x3 : TO) (n : Fin 8192) (f : Fin 1024) : EReal :=
  ∑ l : Fin 256, soft (rscore x0 x2 x3 n ⟨f.val / 256, by omega⟩) l * (x2 (ix3 0 l ⟨1024 + f.val, by omega⟩) : EReal)

/-- A head's output in a block of queries, keys and values read at their places. -/
theorem head_cell (x0 : TX) (x2 : TK) (x3 : TO) (q : FVec Ideal S512x1024 .bf16) (K V : FVec Ideal S256x256 .bf16)
    (off : ℕ) (h : off + 256 ≤ 1024) (a : Fin 512) (e : Fin 256) (n : Fin 8192) (f : Fin 1024) (hh : off % 256 = 0) (hf : f.val = off + e.val)
    (hq : ∀ g : Fin 1024, (q (ix2 a g) : EReal) = qs x0 x3 n g)
    (hK : ∀ (l d : Fin 256), (K (ix2 l d) : EReal) = x2 (ix3 0 l ⟨off + d.val, by omega⟩))
    (hV : ∀ (l d : Fin 256), (V (ix2 l d) : EReal) = x2 (ix3 0 l ⟨1024 + off + d.val, by omega⟩)) :
    hout q K V off h a e = orow x0 x2 x3 n f := by
  have hs : score q K off h a = rscore x0 x2 x3 n ⟨f.val / 256, by omega⟩ := by
    funext l
    refine Finset.sum_congr rfl fun d _ => ?_
    rw [hq, hK]
    have ed : (⟨off + d.val, by omega⟩ : Fin 1024) = ⟨f.val / 256 * 256 + d.val, by omega⟩ := Fin.ext (by show off + d.val = f.val / 256 * 256 + d.val; omega)
    have ek : (⟨off + d.val, by omega⟩ : Fin 2048) = ⟨f.val / 256 * 256 + d.val, by omega⟩ := Fin.ext (by show off + d.val = f.val / 256 * 256 + d.val; omega)
    rw [ed, ek]
  have ev : (⟨1024 + off + e.val, by omega⟩ : Fin 2048) = ⟨1024 + f.val, by omega⟩ := Fin.ext (by show 1024 + off + e.val = 1024 + f.val; omega)
  refine Finset.sum_congr rfl fun l _ => ?_
  rw [hs, hV, ev]

/-- The kernel's scaled queries at a cell of a point's rows. -/
theorem q_cell (c : Dev nD) (t : Fin cfg0.N) (a : Fin 512) (n : Fin 8192) (hn : (n : ℕ) = t.val * 512 + a) (g : Fin 1024) :
    (k0_pay4 (F := Ideal) (View.ld (Val := Elt Ideal) (e' := .bf16) (iblk m c 0 t) r0_0) (View.ld (Val := Elt Ideal) (e' := .bf16) (iblk m c 3 t) r0_1) (ix2 a g) : EReal)
      = qs (a0 m c) (a3 m c) n g := by
  rw [pay4_at]
  refine congrArg (fun z : EReal => z * _) (Finset.sum_congr rfl fun k _ => congrArg₂ (fun a b : EReal => a * b) ?_ ?_)
  · exact blk0 m c t _ (ix3 0 n k) (by rw [Rect.idx_unit_val]; blk_simp; omega) (by rw [Rect.idx_unit_val]; blk_simp)
  · exact blk3 m c t _ (ix2 k g) (by rw [Rect.idx_unit_val]; blk_simp) (by rw [Rect.idx_unit_val]; blk_simp)

/-- The kernel's heads side by side at a cell of a point's rows are the reference's heads' output. -/
theorem o_cell (c : Dev nD) (t : Fin cfg0.N) (y : S512x1024.Idx) (n : Fin 8192) (hn : (n : ℕ) = t.val * 512 + y 0) (f : Fin 1024) (hf : (f : ℕ) = y 1) :
    (k0_pay9 (F := Ideal) (iblk m c 0 t) (iblk m c 1 t) (iblk m c 2 t) (iblk m c 3 t) (iblk m c 4 t) (iblk m c 5 t) y : EReal)
      = orow (a0 m c) (a2 m c) (a3 m c) n f := by
  have hy : (y 1 : ℕ) < 1024 := (y 1).isLt
  have hq := q_cell m c t (y 0) n hn
  unfold k0_pay9
  rw [pay8_at]
  split_ifs with h0 h1 h2
  · rw [pay5_at]
    exact head_cell _ _ _ _ _ _ 0 (by omega) _ _ n f (by omega) (by show f.val = 0 + (y 1 : ℕ); omega) hq
      (fun l d => blk2 m c t _ (ix3 0 l _) (by rw [Rect.idx_unit_val]; blk_simp) (by rw [Rect.idx_unit_val]; blk_simp))
      (fun l d => blk2 m c t _ (ix3 0 l _) (by rw [Rect.idx_unit_val]; blk_simp) (by rw [Rect.idx_unit_val]; blk_simp))
  · simp only [pay7_at, pay6_at]
    exact head_cell (a0 m c) (a2 m c) (a3 m c) _ _ _ 256 (by omega) (y 0) ⟨(y 1 : ℕ) - 256, h1⟩ n f (by omega) (by show f.val = 256 + ((y 1 : ℕ) - 256); omega) hq
      (fun l d => blk2 m c t _ (ix3 0 l _) (by rw [Rect.idx_unit_val]; blk_simp) (by rw [Rect.idx_unit_val]; blk_simp))
      (fun l d => blk2 m c t _ (ix3 0 l _) (by rw [Rect.idx_unit_val]; blk_simp) (by rw [Rect.idx_unit_val]; blk_simp))
  · exact head_cell _ _ _ _ _ _ 512 (by omega) _ _ n f (by omega) (by show f.val = 512 + ((y 1 : ℕ) - 256 - 256); omega) hq
      (fun l d => blk2 m c t _ (ix3 0 l _) (by rw [Rect.idx_unit_val]; blk_simp) (by rw [Rect.idx_unit_val]; blk_simp))
      (fun l d => blk2 m c t _ (ix3 0 l _) (by rw [Rect.idx_unit_val]; blk_simp) (by rw [Rect.idx_unit_val]; blk_simp))
  · exact head_cell _ _ _ _ _ _ 768 (by omega) _ _ n f (by omega) (by show f.val = 768 + ((y 1 : ℕ) - 256 - 256 - 256); omega) hq
      (fun l d => blk2 m c t _ (ix3 0 l _) (by rw [Rect.idx_unit_val]; blk_simp) (by rw [Rect.idx_unit_val]; blk_simp))
      (fun l d => blk2 m c t _ (ix3 0 l _) (by rw [Rect.idx_unit_val]; blk_simp) (by rw [Rect.idx_unit_val]; blk_simp))

/-- The sublayer's result at a row and a column. -/
abbrev xrow (x0 x1 : TX) (x2 : TK) (x3 x4 : TO) (n : Fin 8192) (q : Fin 1024) : EReal :=
  (x1 (ix3 0 n q) : EReal) + ∑ k : Fin 1024, orow x0 x2 x3 n k * (x4 (ix2 k q) : EReal)

/-- The kernel's result of the sublayer at a cell of a point's rows. -/
theorem x_cell (c : Dev nD) (t : Fin cfg0.N) (y : S512x1024.Idx) (n : Fin 8192) (hn : (n : ℕ) = t.val * 512 + y 0) (q : Fin 1024) (hq : (q : ℕ) = y 1) :
    (k0_pay2 (F := Ideal) (k0_pay9 (F := Ideal) (iblk m c 0 t) (iblk m c 1 t) (iblk m c 2 t) (iblk m c 3 t) (iblk m c 4 t) (iblk m c 5 t))
        (iblk m c 1 t) (iblk m c 4 t) y : EReal)
      = xrow (a0 m c) (a1 m c) (a2 m c) (a3 m c) (a4 m c) n q := by
  rw [pay2_at]
  refine congrArg₂ (fun a b : EReal => a + b) ?_ (Finset.sum_congr rfl fun k _ => congrArg₂ (fun a b : EReal => a * b) ?_ ?_)
  · exact blk1 m c t _ (ix3 0 n q) hn hq
  · exact o_cell m c t (ix2 (y 0) k) n hn k rfl
  · exact blk4 m c t _ (ix2 k q) rfl hq

/-- The word of the scores' scale. -/
theorem sw : Ideal.ofBits .f32 0x3D800000#32 = ((1/16 : ℝ) : EReal) := by
  simp [Ideal.ofBits, Ideal.ieee, -EReal.coe_mul]; norm_num

/-- The word of minus infinity. -/
theorem nw : Ideal.ofBits .f32 0xFF800000#32 = (⊥ : EReal) := by
  simp [Ideal.ofBits, Ideal.ieee]

/-- The zero word. -/
theorem zw : Ideal.ofBits .f32 0x00000000#32 = (0 : EReal) := by
  simp [Ideal.ofBits, Ideal.ieee]

/-- The reference's queries at a cell, before their scale. -/
theorem ref_q (x0 : TX) (x3 : TO) (i : Cert.Reference18Ideal.S1x8192x4x256.Idx) (n : Fin 8192) (g : Fin 1024) (hn : (i 1 : ℕ) = n)
    (hg : (i 2 : ℕ) * 256 + i 3 = g) :
    (val_main_v1 (F := Ideal) x0 x3 i : EReal) = ∑ k : Fin 1024, (x0 (ix3 0 n k) : EReal) * x3 (ix2 k g) := by
  have b0 : (i 0 : ℕ) < 1 := (i 0).isLt
  have b1 : (i 1 : ℕ) < 8192 := (i 1).isLt
  have b2 : (i 2 : ℕ) < 4 := (i 2).isLt
  have b3 : (i 3 : ℕ) < 256 := (i 3).isLt
  have hi : idx_main_v1 i = ix3 0 n g := by
    funext a
    match a with
    | ⟨0, _⟩ => rfl
    | ⟨1, _⟩ => exact Fin.ext (by show ((((i 0).val * 8192 + (i 1).val) * 4 + (i 2).val) * 256 + (i 3).val) / 1024 % 8192 = n.val; omega)
    | ⟨2, _⟩ => exact Fin.ext (by show ((((i 0).val * 8192 + (i 1).val) * 4 + (i 2).val) * 256 + (i 3).val) % 1024 = g.val; omega)
  rw [val_main_v1_apply, hi, val_main_v0_apply]
  refine Finset.sum_congr rfl fun k _ => congrArg₂ (fun a b : EReal => a * b) ?_ ?_
  · blk_ext
  · blk_ext

/-- The reference's keys at a cell. -/
theorem ref_k (x2 : TK) (i : Cert.Reference18Ideal.S1x256x4x256.Idx) (l : Fin 256) (g : Fin 2048) (hl : (i 1 : ℕ) = l)
    (hg : (i 2 : ℕ) * 256 + i 3 = g) :
    (val_main_v4 (F := Ideal) x2 i : EReal) = x2 (ix3 0 l g) := by
  have b0 : (i 0 : ℕ) < 1 := (i 0).isLt
  have b1 : (i 1 : ℕ) < 256 := (i 1).isLt
  have b2 : (i 2 : ℕ) < 4 := (i 2).isLt
  have b3 : (i 3 : ℕ) < 256 := (i 3).isLt
  have hi : idx_main_v2 (idx_main_v4 i) = ix3 0 l g := by
    funext a
    match a with
    | ⟨0, _⟩ => rfl
    | ⟨1, _⟩ => exact Fin.ext (by show ((((i 0).val * 256 + (i 1).val) * 4 + (i 2).val) * 256 + (i 3).val) / 1024 % 256 = l.val; omega)
    | ⟨2, _⟩ => exact Fin.ext (by show ((((i 0).val * 256 + (i 1).val) * 4 + (i 2).val) * 256 + (i 3).val) % 1024 = g.val; omega)
  rw [val_main_v4_apply, val_main_v2_apply, hi]

/-- The reference's values at a cell. -/
theorem ref_v (x2 : TK) (i : Cert.Reference18Ideal.S1x256x4x256.Idx) (l : Fin 256) (g : Fin 2048) (hl : (i 1 : ℕ) = l)
    (hg : 1024 + ((i 2 : ℕ) * 256 + i 3) = g) :
    (val_main_v5 (F := Ideal) x2 i : EReal) = x2 (ix3 0 l g) := by
  have b0 : (i 0 : ℕ) < 1 := (i 0).isLt
  have b1 : (i 1 : ℕ) < 256 := (i 1).isLt
  have b2 : (i 2 : ℕ) < 4 := (i 2).isLt
  have b3 : (i 3 : ℕ) < 256 := (i 3).isLt
  have hi : idx_main_v3 (idx_main_v5 i) = ix3 0 l g := by
    funext a
    match a with
    | ⟨0, _⟩ => rfl
    | ⟨1, _⟩ => exact Fin.ext (by show ((((i 0).val * 256 + (i 1).val) * 4 + (i 2).val) * 256 + (i 3).val) / 1024 % 256 = l.val; omega)
    | ⟨2, _⟩ => exact Fin.ext (by show 1024 + ((((i 0).val * 256 + (i 1).val) * 4 + (i 2).val) * 256 + (i 3).val) % 1024 = g.val; omega)
  rw [val_main_v5_apply, val_main_v3_apply, hi]

/-- The reference's scaled scores at a cell: the scale of a product's sum is the scale of its first factor. -/
theorem ref_score (x0 : TX) (x2 : TK) (x3 : TO) (j : Cert.Reference18Ideal.S1x4x8192x256.Idx) (n : Fin 8192) (h : Fin 4) (l : Fin 256)
    (hh : (j 1 : ℕ) = h) (hn : (j 2 : ℕ) = n) (hl : (j 3 : ℕ) = l) :
    (val_main_v8 (F := Ideal) x0 x2 x3 j : EReal) = rscore x0 x2 x3 n h l := by
  have es : rscore x0 x2 x3 n h l = (∑ d : Fin 256, (∑ k : Fin 1024, (x0 (ix3 0 n k) : EReal) * x3 (ix2 k ⟨h.val * 256 + d.val, by omega⟩))
      * (x2 (ix3 0 l ⟨h.val * 256 + d.val, by omega⟩) : EReal)) * Ideal.ofBits .f32 0x3D800000#32 := by
    rw [sw, ← sum_mul_real _ _ (by norm_num)]
    refine Finset.sum_congr rfl fun d _ => ?_
    rw [qs, sw]
    exact mul_right_comm _ _ _
  rw [es, val_main_v8_apply, val_main_v7_apply, val_main_v6_apply]
  refine congrArg₂ (fun a b : EReal => a * b) (Finset.sum_congr rfl fun d _ => congrArg₂ (fun a b : EReal => a * b) ?_ ?_) rfl
  · exact ref_q x0 x3 _ n ⟨h.val * 256 + d.val, by omega⟩ hn (by show (j 1 : ℕ) * 256 + d.val = h.val * 256 + d.val; omega)
  · exact ref_k x2 _ l ⟨h.val * 256 + d.val, by omega⟩ hl (by show (j 1 : ℕ) * 256 + d.val = h.val * 256 + d.val; omega)

/-- The reference's largest score of a row: the maximum with minus infinity changes nothing. -/
theorem ref_top (x0 : TX) (x2 : TK) (x3 : TO) (j : Cert.Reference18Ideal.S1x4x8192.Idx) (n : Fin 8192) (h : Fin 4)
    (hh : (j 1 : ℕ) = h) (hn : (j 2 : ℕ) = n) :
    (val_main_v11 (F := Ideal) x0 x2 x3 j : EReal) = top (rscore x0 x2 x3 n h) := by
  have e9 : (val_main_v9 (F := Ideal) x0 x2 x3 j : EReal) = top (rscore x0 x2 x3 n h) := by
    have g : ∀ (X : FVec Ideal Cert.Reference18Ideal.S1x4x8192x256 .f32) (s : Fin 256 → EReal),
        (∀ l : Fin 256, (X (ix4 0 (j 1) (j 2) l) : EReal) = s l) →
        (Host.reduce (FloatOps.maximumf (F := Ideal) (φ := .f32)) X (val_main_cst_0 (F := Ideal)) Cert.Reference18Ideal.Gen.reducesTo_S1x4x8192x256_S1x4x8192_d3 Cert.Reference18Ideal.Gen.h_S_ j : EReal) = top s := by
      intro X s hs
      rw [Host.reduce_eq_fold]
      pointwise [val_main_cst_0]
      rw [show s = fun l => (X (ix4 0 (j 1) (j 2) l) : EReal) from funext fun l => (hs l).symm]
    exact g _ _ fun l => ref_score x0 x2 x3 _ n h l hh hn rfl
  rw [val_main_v11_apply, val_main_v10_apply, e9]
  show max (Ideal.ofBits .f32 0xFF800000#32) _ = _
  rw [nw]
  exact max_eq_right bot_le

/-- The reference's softmax at a cell. -/
theorem ref_soft (x0 : TX) (x2 : TK) (x3 : TO) (j : Cert.Reference18Ideal.S1x4x8192x256.Idx) (n : Fin 8192) (h : Fin 4) (l : Fin 256)
    (hh : (j 1 : ℕ) = h) (hn : (j 2 : ℕ) = n) (hl : (j 3 : ℕ) = l) :
    (val_main_v19 (F := Ideal) x0 x2 x3 j : EReal) = soft (rscore x0 x2 x3 n h) l := by
  have ee : ∀ (j : Cert.Reference18Ideal.S1x4x8192x256.Idx) (l : Fin 256), (j 1 : ℕ) = h → (j 2 : ℕ) = n → (j 3 : ℕ) = l →
      (val_main_v15 (F := Ideal) x0 x2 x3 j : EReal) = Ideal.exp (rscore x0 x2 x3 n h l - top (rscore x0 x2 x3 n h)) := by
    intro j l hh hn hl
    rw [val_main_v15_apply, val_main_v14_apply, val_main_v13_apply, val_main_v12_apply, ref_score x0 x2 x3 j n h l hh hn hl,
      ref_top x0 x2 x3 _ n h hh hn]
    rfl
  have e18 : (val_main_v18 (F := Ideal) x0 x2 x3 j : EReal) = ∑ l : Fin 256, Ideal.exp (rscore x0 x2 x3 n h l - top (rscore x0 x2 x3 n h)) := by
    rw [val_main_v18_apply, val_main_v17_apply, val_main_v16_apply]
    have h0 : (val_main_cst_2 (F := Ideal) (Shape.Idx.first Cert.Reference18Ideal.Gen.h_S_) : EReal) = 0 := zw
    rw [h0, zero_add]
    exact Finset.sum_congr rfl fun k _ => ee _ k hh hn rfl
  rw [val_main_v19_apply, e18, ee j l hh hn hl]
  rfl

/-- The reference's heads' output at a cell. -/
theorem ref_o (x0 : TX) (x2 : TK) (x3 : TO) (i : Cert.Reference18Ideal.S1x8192x1024.Idx) (n : Fin 8192) (f : Fin 1024)
    (hn : (i 1 : ℕ) = n) (hf : (i 2 : ℕ) = f) : (val_main_v22 (F := Ideal) x0 x2 x3 i : EReal) = orow x0 x2 x3 n f := by
  have b0 : (i 0 : ℕ) < 1 := (i 0).isLt
  have b1 : (i 1 : ℕ) < 8192 := (i 1).isLt
  have b2 : (i 2 : ℕ) < 1024 := (i 2).isLt
  have hr : (((i 0).val * 8192 + (i 1).val) * 1024 + (i 2).val) / 1024 % 8192 = n.val := by omega
  have hh : (((i 0).val * 8192 + (i 1).val) * 1024 + (i 2).val) / 256 % 4 = f.val / 256 := by omega
  have he : (((i 0).val * 8192 + (i 1).val) * 1024 + (i 2).val) % 256 = f.val % 256 := by omega
  rw [val_main_v22_apply, val_main_v21_apply, val_main_v20_apply]
  refine Finset.sum_congr rfl fun l _ => (mul_comm _ _).trans (congrArg₂ (fun a b : EReal => a * b) ?_ ?_)
  · exact ref_soft x0 x2 x3 _ n ⟨f.val / 256, by omega⟩ l hh hr rfl
  · refine ref_v x2 _ l ⟨1024 + f.val, by omega⟩ rfl ?_
    show 1024 + ((((i 0).val * 8192 + (i 1).val) * 1024 + (i 2).val) / 256 % 4 * 256 + (((i 0).val * 8192 + (i 1).val) * 1024 + (i 2).val) % 256) = 1024 + f.val
    omega

/-- The reference's result of the sublayer at a cell. -/
theorem ref_x (x0 x1 : TX) (x2 : TK) (x3 x4 : TO) (i : Cert.Reference18Ideal.S1x8192x1024.Idx) (n : Fin 8192) (q : Fin 1024)
    (hn : (i 1 : ℕ) = n) (hq : (i 2 : ℕ) = q) : (val_main_v24 (F := Ideal) x0 x1 x2 x3 x4 i : EReal) = xrow x0 x1 x2 x3 x4 n q := by
  have hi : i = ix3 0 n q := by
    funext a
    match a with
    | ⟨0, _⟩ => exact Subsingleton.elim (α := Fin 1) _ _
    | ⟨1, _⟩ => exact Fin.ext hn
    | ⟨2, _⟩ => exact Fin.ext hq
  rw [val_main_v24_apply, val_main_v23_apply]
  refine congrArg₂ (fun a b : EReal => a + b) (congrArg x1 hi) (Finset.sum_congr rfl fun k _ => congrArg₂ (fun a b : EReal => a * b) ?_ ?_)
  · exact ref_o x0 x2 x3 _ n k hn rfl
  · blk_ext

/-- The reference's norm of the sublayer's result at a cell. -/
theorem ref_h (x0 x1 : TX) (x2 : TK) (x3 x4 : TO) (x5 : TG) (i : Cert.Reference18Ideal.S1x8192x1024.Idx) (n : Fin 8192) (q : Fin 1024)
    (hn : (i 1 : ℕ) = n) (hq : (i 2 : ℕ) = q) :
    (val_main_v45 (F := Ideal) x0 x1 x2 x3 x4 x5 i : EReal)
      = xrow x0 x1 x2 x3 x4 n q * rms (xrow x0 x1 x2 x3 x4 n) * (x5 (ix1 q) : EReal) := by
  have e34 : ∀ j : Cert.Reference18Ideal.S1x8192.Idx, (j 1 : ℕ) = n →
      (val_main_v34 (F := Ideal) x0 x1 x2 x3 x4 j : EReal) = ∑ k : Fin 1024, xrow x0 x1 x2 x3 x4 n k * xrow x0 x1 x2 x3 x4 n k := by
    intro j hj
    have h0 : (val_main_cst_4 (F := Ideal) (Shape.Idx.first Cert.Reference18Ideal.Gen.h_S_) : EReal) = 0 := zw
    rw [val_main_v34_apply, h0, zero_add]
    refine Finset.sum_congr rfl fun k _ => ?_
    rw [val_main_v33_apply, ref_x x0 x1 x2 x3 x4 _ n k hj rfl]
    rfl
  rw [val_main_v45_apply, val_main_v42_apply, val_main_v41_apply, val_main_v40_apply, val_main_v39_apply, val_main_v38_apply,
    val_main_v37_apply, val_main_v36_apply, val_main_v35_apply, val_main_v44_apply, val_main_v43_apply, ref_x x0 x1 x2 x3 x4 i n q hn hq, e34 _ hn]
  refine congrArg₂ (fun a b : EReal => a * b) rfl ?_
  blk_ext

/-- The row of a point's block among all rows. -/
theorem row_lt (t : Fin cfg0.N) (x : Fin 512) : t.val * 512 + x.val < 8192 := by
  have hN : t.val < 16 := lt_of_lt_of_eq t.isLt N_0
  omega

/-- The scaled queries after the run are the reference's. -/
theorem final_6 (c : Dev nD) : (dats m 0 c).arrAt 6 (cfgs 0).N = val_main_v29 (F := Ideal) (a0 m c) (a3 m c) := by
  refine (dats m 0 c).arrAt_eq_of_covers 6 _ (by decide +kernel) fun t hf y => ?_
  blk_simp
  rw [after0_6]
  frame_out
  have hr : ∀ (i : Cert.Reference18Ideal.S8192x1024.Idx) (n : Fin 8192) (q : Fin 1024), (i 0 : ℕ) = n → (i 1 : ℕ) = q →
      (val_main_v29 (F := Ideal) (a0 m c) (a3 m c) i : EReal) = qs (a0 m c) (a3 m c) n q := by
    intro i n q e0 e1
    have hn := n.isLt
    have hq := q.isLt
    have d1 : (idx_main_v28 i 1 : ℕ) = n := by show ((i 0).val * 1024 + (i 1).val) / 1024 % 8192 = n.val; omega
    have d2 : (idx_main_v28 i 2 : ℕ) = q := by show ((i 0).val * 1024 + (i 1).val) % 1024 = q.val; omega
    rw [val_main_v29_apply, val_main_v28_apply, val_main_v27_apply, val_main_v26_apply, val_main_v25_apply]
    generalize idx_main_v28 i = w at d1 d2
    have w0 : (w 0 : ℕ) < 1 := (w 0).isLt
    refine congrArg₂ (fun a b : EReal => a * b) (ref_q _ _ _ n q ?_ ?_) rfl
    · show (((w 0).val * 8192 + (w 1).val) * 1024 + (w 2).val) / 1024 % 8192 = n.val
      omega
    · show (((w 0).val * 8192 + (w 1).val) * 1024 + (w 2).val) / 256 % 4 * 256 + (((w 0).val * 8192 + (w 1).val) * 1024 + (w 2).val) % 256 = q.val
      omega
  refine Eq.trans ?_ (hr _ ⟨t.val * 512 + y 0, row_lt t (y 0)⟩ (y 1) (by blk_simp [idx t]) (by blk_simp [idx t])).symm
  rw [pay4_at]
  refine congrArg (fun z : EReal => z * _) (Finset.sum_congr rfl fun k _ => congrArg₂ (fun a b : EReal => a * b) ?_ ?_)
  · exact blk0 m c t _ (ix3 0 _ k) rfl rfl
  · exact blk3 m c t _ (ix2 k (y 1)) rfl rfl

/-- The heads' output after the run is the reference's. -/
theorem final_7 (c : Dev nD) : (dats m 0 c).arrAt 7 (cfgs 0).N = val_main_v31 (F := Ideal) (a0 m c) (a2 m c) (a3 m c) := by
  refine (dats m 0 c).arrAt_eq_of_covers 7 _ (by decide +kernel) fun t hf y => ?_
  blk_simp
  rw [after0_7]
  frame_out
  have hr : ∀ (i : Cert.Reference18Ideal.S8192x1024.Idx) (n : Fin 8192) (q : Fin 1024), (i 0 : ℕ) = n → (i 1 : ℕ) = q →
      (val_main_v31 (F := Ideal) (a0 m c) (a2 m c) (a3 m c) i : EReal) = orow (a0 m c) (a2 m c) (a3 m c) n q := by
    intro i n q e0 e1
    have hn := n.isLt
    have hq := q.isLt
    rw [val_main_v31_apply, val_main_v30_apply]
    exact ref_o _ _ _ _ n q (by show ((i 0).val * 1024 + (i 1).val) / 1024 % 8192 = n.val; omega) (by show ((i 0).val * 1024 + (i 1).val) % 1024 = q.val; omega)
  refine Eq.trans ?_ (hr _ ⟨t.val * 512 + y 0, row_lt t (y 0)⟩ (y 1) (by blk_simp [idx t]) (by blk_simp [idx t])).symm
  exact (pay1_at _ y).trans (o_cell m c t y _ rfl _ rfl)

/-- The sublayer's result after the run is the reference's. -/
theorem final_8 (c : Dev nD) : (dats m 0 c).arrAt 8 (cfgs 0).N = val_main_v32 (F := Ideal) (a0 m c) (a1 m c) (a2 m c) (a3 m c) (a4 m c) := by
  refine (dats m 0 c).arrAt_eq_of_covers 8 _ (by decide +kernel) fun t hf y => ?_
  blk_simp
  rw [after0_8]
  frame_out
  have hr : ∀ (i : Cert.Reference18Ideal.S8192x1024.Idx) (n : Fin 8192) (q : Fin 1024), (i 0 : ℕ) = n → (i 1 : ℕ) = q →
      (val_main_v32 (F := Ideal) (a0 m c) (a1 m c) (a2 m c) (a3 m c) (a4 m c) i : EReal) = xrow (a0 m c) (a1 m c) (a2 m c) (a3 m c) (a4 m c) n q := by
    intro i n q e0 e1
    have hn := n.isLt
    have hq := q.isLt
    rw [val_main_v32_apply]
    exact ref_x _ _ _ _ _ _ n q (by show ((i 0).val * 1024 + (i 1).val) / 1024 % 8192 = n.val; omega) (by show ((i 0).val * 1024 + (i 1).val) % 1024 = q.val; omega)
  refine Eq.trans ?_ (hr _ ⟨t.val * 512 + y 0, row_lt t (y 0)⟩ (y 1) (by blk_simp [idx t]) (by blk_simp [idx t])).symm
  exact x_cell m c t y _ rfl _ rfl

/-- The norm of the sublayer's result after the run is the reference's. -/
theorem final_9 (c : Dev nD) : (dats m 0 c).arrAt 9 (cfgs 0).N = val_main_v47 (F := Ideal) (a0 m c) (a1 m c) (a2 m c) (a3 m c) (a4 m c) (a5 m c) := by
  refine (dats m 0 c).arrAt_eq_of_covers 9 _ (by decide +kernel) fun t hf y => ?_
  blk_simp
  rw [after0_9]
  frame_out
  have hr : ∀ (i : Cert.Reference18Ideal.S8192x1024.Idx) (n : Fin 8192) (q : Fin 1024), (i 0 : ℕ) = n → (i 1 : ℕ) = q →
      (val_main_v47 (F := Ideal) (a0 m c) (a1 m c) (a2 m c) (a3 m c) (a4 m c) (a5 m c) i : EReal)
        = xrow (a0 m c) (a1 m c) (a2 m c) (a3 m c) (a4 m c) n q * rms (xrow (a0 m c) (a1 m c) (a2 m c) (a3 m c) (a4 m c) n) * (a5 m c (ix1 q) : EReal) := by
    intro i n q e0 e1
    have hn := n.isLt
    have hq := q.isLt
    rw [val_main_v47_apply, val_main_v46_apply]
    exact ref_h _ _ _ _ _ _ _ n q (by show ((i 0).val * 1024 + (i 1).val) / 1024 % 8192 = n.val; omega) (by show ((i 0).val * 1024 + (i 1).val) % 1024 = q.val; omega)
  refine Eq.trans ?_ (hr _ ⟨t.val * 512 + y 0, row_lt t (y 0)⟩ (y 1) (by blk_simp [idx t]) (by blk_simp [idx t])).symm
  have hx : ∀ k : Fin 1024, _ = xrow (a0 m c) (a1 m c) (a2 m c) (a3 m c) (a4 m c) ⟨t.val * 512 + y 0, row_lt t (y 0)⟩ k :=
    fun k => x_cell m c t (ix2 (y 0) k) ⟨t.val * 512 + y 0, row_lt t (y 0)⟩ rfl k rfl
  refine (pay3_at _ _ _ _ y).trans (congrArg₂ (fun a b : EReal => a * b) (congrArg₂ (fun a b : EReal => a * b) ?_ (congrArg rms (funext hx))) ?_)
  · exact x_cell m c t y _ rfl _ rfl
  · exact blk5 m c t _ (ix1 (y 1)) rfl

end Cert.Kernel18Ideal.Cross

end
-- ==== Proof.lean ====
module

public import proofs.«01_k».proof.Defs
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel4Ideal.Frame
public import proofs.«01_k».proof.Proof.Gen.Kernel
public import proofs.«01_k».proof.Proof.Gen.KernelIdeal
public import proofs.«01_k».proof.Proof.Gen.ReferenceIdeal
public import proofs.«01_k».proof.Proof.Gen.Kernel2
public import proofs.«01_k».proof.Proof.Gen.Kernel2Ideal
public import proofs.«01_k».proof.Proof.Gen.Reference2Ideal
public import proofs.«01_k».proof.Proof.Gen.Kernel3
public import proofs.«01_k».proof.Proof.Gen.Kernel3Ideal
public import proofs.«01_k».proof.Proof.Gen.Reference3Ideal
public import proofs.«01_k».proof.Proof.Gen.Kernel4
public import proofs.«01_k».proof.Proof.Gen.Kernel4Ideal
public import proofs.«01_k».proof.Proof.Gen.KernelIdeal.Frame
public import proofs.«01_k».proof.Proof.Gen.Kernel2Ideal.Frame
public import proofs.«01_k».proof.Proof.Gen.Kernel3Ideal.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel5
public import proofs.«01_k».proof.Proof.Gen.Kernel5Ideal
public import proofs.«01_k».proof.Proof.Gen.Reference5Ideal
public import proofs.«01_k».proof.Proof.Gen.Kernel5Ideal.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Kernel6
public import proofs.«01_k».proof.Proof.Gen.Kernel6Ideal
public import proofs.«01_k».proof.Proof.Gen.Reference6Ideal
public import proofs.«01_k».proof.Proof.Gen.Kernel6Ideal.Frame
public import proofs.«01_k».proof.Proof.Gen.Kernel7Ideal.Value
public import proofs.«01_k».proof.Proof.Gen.Reference7Ideal.Run
public import proofs.«01_k».proof.Proof.Gen.Reference7Ideal.Read
public import proofs.«01_k».proof.Proof.Gen.Kernel7
public import proofs.«01_k».proof.Proof.Gen.Kernel7Ideal
public import proofs.«01_k».proof.Proof.Gen.Reference7Ideal
public import proofs.«01_k».proof.Proof.Gen.Kernel7Ideal.Frame
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel8
public import proofs.«01_k».proof.Proof.Gen.Kernel8Ideal
public import proofs.«01_k».proof.Proof.Gen.Reference8Ideal
public import proofs.«01_k».proof.Proof.Gen.Kernel8Ideal.Frame
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel9
public import proofs.«01_k».proof.Proof.Gen.Kernel9Ideal
public import proofs.«01_k».proof.Proof.Gen.Reference9Ideal
public import proofs.«01_k».proof.Proof.Gen.Kernel9Ideal.Frame
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Kernel10
public import proofs.«01_k».proof.Proof.Gen.Kernel10Ideal
public import proofs.«01_k».proof.Proof.Gen.Reference10Ideal
public import proofs.«01_k».proof.Proof.Gen.Kernel10Ideal.Frame
public import proofs.«01_k».proof.Proof.Gen.Kernel11Ideal.Value
public import proofs.«01_k».proof.Proof.Gen.Reference11Ideal.Run
public import proofs.«01_k».proof.Proof.Gen.Reference11Ideal.Read
public import proofs.«01_k».proof.Proof.Gen.Kernel11
public import proofs.«01_k».proof.Proof.Gen.Kernel11Ideal
public import proofs.«01_k».proof.Proof.Gen.Reference11Ideal
public import proofs.«01_k».proof.Proof.Gen.Kernel11Ideal.Frame
public import proofs.«01_k».proof.Proof.Gen.Kernel12Ideal.Value
public import proofs.«01_k».proof.Proof.Gen.Reference12Ideal.Run
public import proofs.«01_k».proof.Proof.Gen.Reference12Ideal.Read
public import proofs.«01_k».proof.Proof.Gen.Kernel12
public import proofs.«01_k».proof.Proof.Gen.Kernel12Ideal
public import proofs.«01_k».proof.Proof.Gen.Reference12Ideal
public import proofs.«01_k».proof.Proof.Gen.Kernel12Ideal.Frame
public import proofs.«01_k».proof.Proof.Gen.Kernel13Ideal.Value
public import proofs.«01_k».proof.Proof.Gen.Reference13Ideal.Run
public import proofs.«01_k».proof.Proof.Gen.Reference13Ideal.Read
public import proofs.«01_k».proof.Proof.Gen.Kernel13
public import proofs.«01_k».proof.Proof.Gen.Kernel13Ideal
public import proofs.«01_k».proof.Proof.Gen.Reference13Ideal
public import proofs.«01_k».proof.Proof.Gen.Kernel13Ideal.Frame
public import proofs.«01_k».proof.Proof.Gen.Kernel14Ideal.Value
public import proofs.«01_k».proof.Proof.Gen.Reference14Ideal.Run
public import proofs.«01_k».proof.Proof.Gen.Reference14Ideal.Read
public import proofs.«01_k».proof.Proof.Gen.Kernel14
public import proofs.«01_k».proof.Proof.Gen.Kernel14Ideal
public import proofs.«01_k».proof.Proof.Gen.Reference14Ideal
public import proofs.«01_k».proof.Proof.Gen.Kernel14Ideal.Frame

public import proofs.«01_k».proof.Proof.Frames
public import proofs.«01_k».proof.Proof.FramesIn
public import proofs.«01_k».proof.Proof.FramesOut
public import proofs.«01_k».proof.Proof.FramesMlp
public import proofs.«01_k».proof.Proof.FramesFwd
public import proofs.«01_k».proof.Proof.Dw1
public import proofs.«01_k».proof.Proof.Dw2
public import proofs.«01_k».proof.Proof.Mlp
public import proofs.«01_k».proof.Proof.Dw5
public import proofs.«01_k».proof.Proof.Dw6
public import proofs.«01_k».proof.Proof.Dw7
public import proofs.«01_k».proof.Proof.Dw8
public import proofs.«01_k».proof.Proof.Dw9
public import proofs.«01_k».proof.Proof.Dw10
public import proofs.«01_k».proof.Proof.Dw11
public import proofs.«01_k».proof.Proof.Dw12
public import proofs.«01_k».proof.Proof.MlpFwd
public import proofs.«01_k».proof.Proof.Merge
public import proofs.«01_k».proof.Proof.Dw15
public import proofs.«01_k».proof.Proof.Dw16
public import proofs.«01_k».proof.Proof.Gates
public import proofs.«01_k».proof.Proof.Cross

public import Idealize.ShloMosaic.Adequacy
public import Idealize.ShloMosaic.Init

@[expose] public section

noncomputable section

namespace Cert.Proof

open Idealize.ShloMosaic Idealize.SL.Sem

/-- The MLP's three gradients equal their reference over the extended reals. -/
theorem algebraic1 : Cert.algebraic_KernelIdeal_ReferenceIdeal := by
  intro m g m' g' _ hag
  refine ⟨fun c => Cert.KernelIdeal.Value.G6 m c, fun c => Cert.KernelIdeal.Value.G7 m c, fun c => Cert.KernelIdeal.Value.G8 m c,
    Cert.KernelIdeal.Value.run m g, ?_⟩
  refine (θ_run Cert.ReferenceIdeal.defs _ _).mono (fun r h c => ⟨?_, ?_, ?_, (h c).2.2.2⟩)
    (Cert.ReferenceIdeal.Value.run (F := Ideal) m' g')
  all_goals obtain ⟨h0, h1, h2, h3, h4⟩ := hag c
  · refine ((h c).1.trans (Cert.ReferenceIdeal.Read.val_main_v81_eq _ _ _ _ _)).trans ?_
    rw [h0, h1, h2, h3, h4]
    exact ((Cert.KernelIdeal.Value.final6 m c).symm.trans (Cert.KernelIdeal.Mlp.final_6 m c)).symm
  · refine ((h c).2.1.trans (Cert.ReferenceIdeal.Read.val_main_v82_eq m' c)).trans ?_
    rw [h0, h1, h2, h3, h4]
    exact ((Cert.KernelIdeal.Value.final7 m c).symm.trans (Cert.KernelIdeal.Mlp.final_7 m c)).symm
  · refine ((h c).2.2.1.trans (Cert.ReferenceIdeal.Read.val_main_v83_eq m' c)).trans ?_
    rw [h0, h1, h2, h3, h4]
    exact ((Cert.KernelIdeal.Value.final8 m c).symm.trans (Cert.KernelIdeal.Mlp.final_8 m c)).symm

/-- The down-projection's weight gradient equals its reference over the extended reals. -/
theorem algebraic2 : Cert.algebraic_Kernel2Ideal_Reference2Ideal := by
  intro m g m' g' _ hag
  refine ⟨fun c => Cert.Kernel2Ideal.Value.G2 m c, Cert.Kernel2Ideal.Value.run m g, ?_⟩
  refine (θ_run Cert.Reference2Ideal.defs _ _).mono (fun r h c => ⟨?_, (h c).2⟩) (Cert.Reference2Ideal.Value.run (F := Ideal) m' g')
  obtain ⟨h0, h1, h2, h3, h4⟩ := hag c
  rw [(h c).1, h0, h1, h2, h4]
  exact ((Cert.Kernel2Ideal.Value.final2 m c).symm.trans (Cert.Kernel2Ideal.Dw.final m c)).symm

/-- The up-projection's weight gradient equals its reference over the extended reals. -/
theorem algebraic3 : Cert.algebraic_Kernel3Ideal_Reference3Ideal := by
  intro m g m' g' _ hag
  refine ⟨fun c => Cert.Kernel3Ideal.Value.G2 m c, Cert.Kernel3Ideal.Value.run m g, ?_⟩
  refine (θ_run Cert.Reference3Ideal.defs _ _).mono (fun r h c => ⟨?_, (h c).2⟩) (Cert.Reference3Ideal.Value.run (F := Ideal) m' g')
  obtain ⟨h0, h1, h2, h3, h4⟩ := hag c
  refine ((h c).1.trans (Cert.Reference3Ideal.Read.val_main_v31_eq m' c)).trans ?_
  rw [h0, h1, h2, h3, h4]
  exact ((Cert.Kernel3Ideal.Value.final2 m c).symm.trans (Cert.Kernel3Ideal.Dw.final m c)).symm

/-- The gate projection's weight gradient equals its reference over the extended reals. -/
theorem algebraic5 : Cert.algebraic_Kernel5Ideal_Reference5Ideal := by
  intro m g m' g' _ hag
  refine ⟨fun c => Cert.Kernel5Ideal.Value.G2 m c, Cert.Kernel5Ideal.Value.run m g, ?_⟩
  refine (θ_run Cert.Reference5Ideal.defs _ _).mono (fun r h c => ⟨?_, (h c).2⟩) (Cert.Reference5Ideal.Value.run (F := Ideal) m' g')
  obtain ⟨h0, h1, h2, h3⟩ := hag c
  refine ((h c).1.trans (Cert.Reference5Ideal.Read.val_main_v17_eq _ _ _)).trans ?_
  rw [h0, h1, h3]
  exact ((Cert.Kernel5Ideal.Value.final2 m c).symm.trans (Cert.Kernel5Ideal.Dw.final m c)).symm

/-- The first dilation group's projection weight gradient equals its reference over the extended reals. -/
theorem algebraic6 : Cert.algebraic_Kernel6Ideal_Reference6Ideal := by
  intro m g m' g' _ hag
  refine ⟨fun c => Cert.Kernel6Ideal.Value.G2 m c, Cert.Kernel6Ideal.Value.run m g, ?_⟩
  refine (θ_run Cert.Reference6Ideal.defs _ _).mono (fun r h c => ⟨?_, (h c).2⟩) (Cert.Reference6Ideal.Value.run (F := Ideal) m' g')
  obtain ⟨h0, h1, h2, h3⟩ := hag c
  refine ((h c).1.trans (Cert.Reference6Ideal.Read.val_main_v17_eq _ _ _)).trans ?_
  rw [h0, h1, h3]
  exact ((Cert.Kernel6Ideal.Value.final2 m c).symm.trans (Cert.Kernel6Ideal.Dw.final m c)).symm

/-- The second dilation group's projection weight gradient equals its reference over the extended reals. -/
theorem algebraic7 : Cert.algebraic_Kernel7Ideal_Reference7Ideal := by
  intro m g m' g' _ hag
  refine ⟨fun c => Cert.Kernel7Ideal.Value.G2 m c, Cert.Kernel7Ideal.Value.run m g, ?_⟩
  refine (θ_run Cert.Reference7Ideal.defs _ _).mono (fun r h c => ⟨?_, (h c).2⟩) (Cert.Reference7Ideal.Value.run (F := Ideal) m' g')
  obtain ⟨h0, h1, h2, h3⟩ := hag c
  refine ((h c).1.trans (Cert.Reference7Ideal.Read.val_main_v17_eq _ _ _)).trans ?_
  rw [h0, h1, h3]
  exact ((Cert.Kernel7Ideal.Value.final2 m c).symm.trans (Cert.Kernel7Ideal.Dw.final m c)).symm

/-- The third dilation group's projection weight gradient equals its reference over the extended reals. -/
theorem algebraic8 : Cert.algebraic_Kernel8Ideal_Reference8Ideal := by
  intro m g m' g' _ hag
  refine ⟨fun c => Cert.Kernel8Ideal.Value.G2 m c, Cert.Kernel8Ideal.Value.run m g, ?_⟩
  refine (θ_run Cert.Reference8Ideal.defs _ _).mono (fun r h c => ⟨?_, (h c).2⟩) (Cert.Reference8Ideal.Value.run (F := Ideal) m' g')
  obtain ⟨h0, h1, h2, h3⟩ := hag c
  refine ((h c).1.trans (Cert.Reference8Ideal.Read.val_main_v17_eq _ _ _)).trans ?_
  rw [h0, h1, h3]
  exact ((Cert.Kernel8Ideal.Value.final2 m c).symm.trans (Cert.Kernel8Ideal.Dw.final m c)).symm

/-- The sliding-window group's projection weight gradient equals its reference over the extended reals. -/
theorem algebraic9 : Cert.algebraic_Kernel9Ideal_Reference9Ideal := by
  intro m g m' g' _ hag
  refine ⟨fun c => Cert.Kernel9Ideal.Value.G2 m c, Cert.Kernel9Ideal.Value.run m g, ?_⟩
  refine (θ_run Cert.Reference9Ideal.defs _ _).mono (fun r h c => ⟨?_, (h c).2⟩) (Cert.Reference9Ideal.Value.run (F := Ideal) m' g')
  obtain ⟨h0, h1, h2, h3⟩ := hag c
  refine ((h c).1.trans (Cert.Reference9Ideal.Read.val_main_v17_eq _ _ _)).trans ?_
  rw [h0, h1, h3]
  exact ((Cert.Kernel9Ideal.Value.final2 m c).symm.trans (Cert.Kernel9Ideal.Dw.final m c)).symm

/-- The output projection's weight gradient equals its reference over the extended reals. -/
theorem algebraic10 : Cert.algebraic_Kernel10Ideal_Reference10Ideal := by
  intro m g m' g' _ hag
  refine ⟨fun c => Cert.Kernel10Ideal.Value.G2 m c, Cert.Kernel10Ideal.Value.run m g, ?_⟩
  refine (θ_run Cert.Reference10Ideal.defs _ _).mono (fun r h c => ⟨?_, (h c).2⟩) (Cert.Reference10Ideal.Value.run (F := Ideal) m' g')
  obtain ⟨h0, h1, h2, h3⟩ := hag c
  rw [(h c).1, h0, h3]
  exact ((Cert.Kernel10Ideal.Value.final2 m c).symm.trans (Cert.Kernel10Ideal.Dw.final m c)).symm

/-- The cross attention's output weight gradient equals its reference over the extended reals. -/
theorem algebraic11 : Cert.algebraic_Kernel11Ideal_Reference11Ideal := by
  intro m g m' g' _ hag
  refine ⟨fun c => Cert.Kernel11Ideal.Value.G2 m c, Cert.Kernel11Ideal.Value.run m g, ?_⟩
  refine (θ_run Cert.Reference11Ideal.defs _ _).mono (fun r h c => ⟨?_, (h c).2⟩) (Cert.Reference11Ideal.Value.run (F := Ideal) m' g')
  obtain ⟨h0, h1, h2, h3⟩ := hag c
  rw [(h c).1, h0, h3]
  exact ((Cert.Kernel11Ideal.Value.final2 m c).symm.trans (Cert.Kernel11Ideal.Dw.final m c)).symm

/-- The cross attention's query weight gradient equals its reference over the extended reals. -/
theorem algebraic12 : Cert.algebraic_Kernel12Ideal_Reference12Ideal := by
  intro m g m' g' _ hag
  refine ⟨fun c => Cert.Kernel12Ideal.Value.G2 m c, Cert.Kernel12Ideal.Value.run m g, ?_⟩
  refine (θ_run Cert.Reference12Ideal.defs _ _).mono (fun r h c => ⟨?_, (h c).2⟩) (Cert.Reference12Ideal.Value.run (F := Ideal) m' g')
  obtain ⟨h0, h1, h2, h3⟩ := hag c
  refine ((h c).1.trans (Cert.Reference12Ideal.Read.val_main_v16_eq _ _ _)).trans ?_
  rw [h0, h1, h3]
  exact ((Cert.Kernel12Ideal.Value.final2 m c).symm.trans (Cert.Kernel12Ideal.Dw.final m c)).symm

/-- The MLP's forward call's activation, output gradient, loss and last gain's gradient equal their reference over the extended reals. -/
theorem algebraic13 : Cert.algebraic_Kernel13Ideal_Reference13Ideal := by
  intro m g m' g' _ hag
  refine ⟨fun c => Cert.Kernel13Ideal.Value.G6 m c, fun c => Cert.Kernel13Ideal.Value.G7 m c, fun c => Cert.Kernel13Ideal.Value.G8 m c, fun c => Cert.Kernel13Ideal.Value.G9 m c,
    Cert.Kernel13Ideal.Value.run m g, ?_⟩
  refine (θ_run Cert.Reference13Ideal.defs _ _).mono (fun r h c => ⟨?_, ?_, ?_, ?_, (h c).2.2.2.2⟩)
    (Cert.Reference13Ideal.Value.run (F := Ideal) m' g')
  all_goals obtain ⟨h0, h1, h2, h3, h4, h5⟩ := hag c
  · refine ((h c).1.trans (Cert.Reference13Ideal.Read.val_main_v86_eq _ _ _)).trans ?_
    rw [h0, h1, h2]
    exact ((Cert.Kernel13Ideal.Value.final6 m c).symm.trans (Cert.Kernel13Ideal.MlpFwd.final_6 m c)).symm
  · refine ((h c).2.1.trans (Cert.Reference13Ideal.Read.val_main_v87_eq m' c)).trans ?_
    rw [h0, h1, h2, h3, h4, h5]
    exact ((Cert.Kernel13Ideal.Value.final7 m c).symm.trans (Cert.Kernel13Ideal.MlpFwd.final_7 m c)).symm
  · refine ((h c).2.2.1.trans (Cert.Reference13Ideal.Read.val_main_v88_eq m' c)).trans ?_
    rw [h0, h1, h2, h3, h4, h5]
    exact ((Cert.Kernel13Ideal.Value.final8 m c).symm.trans (Cert.Kernel13Ideal.MlpFwd.final_8 m c)).symm
  · refine ((h c).2.2.2.1.trans (Cert.Reference13Ideal.Read.val_main_v89_eq m' c)).trans ?_
    rw [h0, h1, h2, h3, h4, h5]
    exact ((Cert.Kernel13Ideal.Value.final9 m c).symm.trans (Cert.Kernel13Ideal.MlpFwd.final_9 m c)).symm

/-- The merge's five gradients equal their reference over the extended reals. -/
theorem algebraic14 : Cert.algebraic_Kernel14Ideal_Reference14Ideal := by
  intro m g m' g' _ hag
  refine ⟨fun c => (Cert.Kernel14Ideal.Gen.dats m 0 c).arrAt 6 Cert.Kernel14Ideal.cfg0.N,
    fun c => (Cert.Kernel14Ideal.Gen.dats m 0 c).arrAt 7 Cert.Kernel14Ideal.cfg0.N,
    fun c => (Cert.Kernel14Ideal.Gen.dats m 0 c).arrAt 8 Cert.Kernel14Ideal.cfg0.N,
    fun c => (Cert.Kernel14Ideal.Gen.dats m 0 c).arrAt 9 Cert.Kernel14Ideal.cfg0.N,
    fun c => (Cert.Kernel14Ideal.Gen.dats m 0 c).arrAt 10 Cert.Kernel14Ideal.cfg0.N,
    Cert.Kernel14Ideal.Value.run_blocks m g, ?_⟩
  refine (θ_run Cert.Reference14Ideal.defs _ _).mono (fun r h c => ⟨?_, ?_, ?_, ?_, ?_, (h c).2.2.2.2.2⟩)
    (Cert.Reference14Ideal.Value.run (F := Ideal) m' g')
  all_goals obtain ⟨h0, h1, h2, h3, h4, h5, h6⟩ := hag c
  · refine ((h c).1.trans (Cert.Reference14Ideal.Read.val_main_v41_eq _ _ _ _ _ _ _)).trans ?_
    rw [h0, h1, h2, h3, h4, h5, h6]
    exact (Cert.Kernel14Ideal.Merge.final_6 m c).symm
  · refine ((h c).2.1.trans (Cert.Reference14Ideal.Read.val_main_v42_eq _ _ _ _ _ _ _)).trans ?_
    rw [h0, h1, h2, h3, h4, h5, h6]
    exact (Cert.Kernel14Ideal.Merge.final_7 m c).symm
  · refine ((h c).2.2.1.trans (Cert.Reference14Ideal.Read.val_main_v44_eq _ _ _ _ _)).trans ?_
    rw [h0, h1, h2, h5, h6]
    exact (Cert.Kernel14Ideal.Merge.final_8 m c).symm
  · refine ((h c).2.2.2.1.trans (Cert.Reference14Ideal.Read.val_main_v46_eq _ _ _ _ _)).trans ?_
    rw [h0, h1, h2, h5, h6]
    exact (Cert.Kernel14Ideal.Merge.final_9 m c).symm
  · refine ((h c).2.2.2.2.1.trans (Cert.Reference14Ideal.Read.val_main_v47_eq _ _ _ _ _ _ _)).trans ?_
    rw [h0, h1, h2, h3, h4, h5, h6]
    exact (Cert.Kernel14Ideal.Merge.final_10 m c).symm

/-- The first branch's weight gradient equals its reference over the extended reals. -/
theorem algebraic15 : Cert.algebraic_Kernel15Ideal_Reference15Ideal := by
  intro m g m' g' _ hag
  refine ⟨fun c => Cert.Kernel15Ideal.Value.G2 m c, Cert.Kernel15Ideal.Value.run m g, ?_⟩
  refine (θ_run Cert.Reference15Ideal.defs _ _).mono (fun r h c => ⟨?_, (h c).2⟩) (Cert.Reference15Ideal.Value.run (F := Ideal) m' g')
  obtain ⟨h0, h1, h2⟩ := hag c
  refine ((h c).1.trans (Cert.Reference15Ideal.Read.val_main_v3_eq _ _)).trans ?_
  rw [h0, h2]
  exact ((Cert.Kernel15Ideal.Value.final2 m c).symm.trans (Cert.Kernel15Ideal.Dw.final m c)).symm

/-- The second branch's weight gradient equals its reference over the extended reals. -/
theorem algebraic16 : Cert.algebraic_Kernel16Ideal_Reference16Ideal := by
  intro m g m' g' _ hag
  refine ⟨fun c => Cert.Kernel16Ideal.Value.G2 m c, Cert.Kernel16Ideal.Value.run m g, ?_⟩
  refine (θ_run Cert.Reference16Ideal.defs _ _).mono (fun r h c => ⟨?_, (h c).2⟩) (Cert.Reference16Ideal.Value.run (F := Ideal) m' g')
  obtain ⟨h0, h1, h2⟩ := hag c
  refine ((h c).1.trans (Cert.Reference16Ideal.Read.val_main_v3_eq _ _)).trans ?_
  rw [h0, h2]
  exact ((Cert.Kernel16Ideal.Value.final2 m c).symm.trans (Cert.Kernel16Ideal.Dw.final m c)).symm

/-- The gates equal their reference over the extended reals. -/
theorem algebraic17 : Cert.algebraic_Kernel17Ideal_Reference17Ideal := by
  intro m g m' g' _ hag
  refine ⟨fun c => (Cert.Kernel17Ideal.Gen.dats m 0 c).arrAt 3 Cert.Kernel17Ideal.cfg0.N, Cert.Kernel17Ideal.Value.run_blocks m g, ?_⟩
  refine (θ_run Cert.Reference17Ideal.defs _ _).mono (fun r h c => ⟨?_, (h c).2⟩) (Cert.Reference17Ideal.Value.run (F := Ideal) m' g')
  obtain ⟨h0, h1, h2⟩ := hag c
  refine ((h c).1.trans (Cert.Reference17Ideal.Read.val_main_v12_eq _ _ _)).trans ?_
  rw [h0, h1, h2]
  exact (Cert.Kernel17Ideal.Gates.final_3 m c).symm

/-- The cross-attention sublayer's four results equal their reference over the extended reals. -/
theorem algebraic18 : Cert.algebraic_Kernel18Ideal_Reference18Ideal := by
  intro m g m' g' _ hag
  refine ⟨fun c => (Cert.Kernel18Ideal.Gen.dats m 0 c).arrAt 6 Cert.Kernel18Ideal.cfg0.N,
    fun c => (Cert.Kernel18Ideal.Gen.dats m 0 c).arrAt 7 Cert.Kernel18Ideal.cfg0.N,
    fun c => (Cert.Kernel18Ideal.Gen.dats m 0 c).arrAt 8 Cert.Kernel18Ideal.cfg0.N,
    fun c => (Cert.Kernel18Ideal.Gen.dats m 0 c).arrAt 9 Cert.Kernel18Ideal.cfg0.N,
    Cert.Kernel18Ideal.Value.run_blocks m g, ?_⟩
  refine (θ_run Cert.Reference18Ideal.defs _ _).mono (fun r h c => ⟨?_, ?_, ?_, ?_, (h c).2.2.2.2⟩)
    (Cert.Reference18Ideal.Value.run (F := Ideal) m' g')
  all_goals obtain ⟨h0, h1, h2, h3, h4, h5⟩ := hag c
  · refine ((h c).1.trans (Cert.Reference18Ideal.Read.val_main_v29_eq _ _)).trans ?_
    rw [h0, h3]
    exact (Cert.Kernel18Ideal.Cross.final_6 m c).symm
  · refine ((h c).2.1.trans (Cert.Reference18Ideal.Read.val_main_v31_eq _ _ _)).trans ?_
    rw [h0, h2, h3]
    exact (Cert.Kernel18Ideal.Cross.final_7 m c).symm
  · refine ((h c).2.2.1.trans (Cert.Reference18Ideal.Read.val_main_v32_eq _ _ _ _ _)).trans ?_
    rw [h0, h1, h2, h3, h4]
    exact (Cert.Kernel18Ideal.Cross.final_8 m c).symm
  · refine ((h c).2.2.2.1.trans (Cert.Reference18Ideal.Read.val_main_v47_eq m' c)).trans ?_
    rw [h0, h1, h2, h3, h4, h5]
    exact (Cert.Kernel18Ideal.Cross.final_9 m c).symm

/-- The claims. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    frame_kernel, frame_kernelIdeal, frame_reference,
    frame_kernel2, frame_kernel2Ideal, frame_reference2,
    frame_kernel3, frame_kernel3Ideal, frame_reference3,
    frame_kernel4, frame_kernel4Ideal,
    frame_kernel5, frame_kernel5Ideal, frame_reference5,
    frame_kernel6, frame_kernel6Ideal, frame_reference6,
    frame_kernel7, frame_kernel7Ideal, frame_reference7,
    frame_kernel8, frame_kernel8Ideal, frame_reference8,
    frame_kernel9, frame_kernel9Ideal, frame_reference9,
    frame_kernel10, frame_kernel10Ideal, frame_reference10,
    frame_kernel11, frame_kernel11Ideal, frame_reference11,
    frame_kernel12, frame_kernel12Ideal, frame_reference12,
    frame_kernel13, frame_kernel13Ideal, frame_reference13,
    frame_kernel14, frame_kernel14Ideal, frame_reference14,
    frame_kernel15, frame_kernel15Ideal, frame_reference15,
    frame_kernel16, frame_kernel16Ideal, frame_reference16,
    frame_kernel17, frame_kernel17Ideal, frame_reference17,
    frame_kernel18, frame_kernel18Ideal, frame_reference18,
    trivial, algebraic1, trivial, algebraic2, trivial, algebraic3, trivial,
    trivial, algebraic5, trivial, algebraic6, trivial, algebraic7, trivial, algebraic8, trivial, algebraic9, trivial, algebraic10, trivial, algebraic11, trivial, algebraic12,
    trivial, algebraic13, trivial, algebraic14, trivial, algebraic15, trivial, algebraic16, trivial, algebraic17, trivial, algebraic18⟩

end Cert.Proof

end
